-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_in [hPre_finite_in : Cert.Pre_finite_in.Facts] (m : (ℓ : Loc Cert.InProjIdeal.nD Cert.InProjIdeal.τ Cert.InProjIdeal.sig) → Buf (Elt Ideal) ℓ) : Prop :=
  ∀ c : Dev Cert.InProjIdeal.nD,
    (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))).1 = (fun _ => 1#1)
    ∧ (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))).2.1 = (fun _ => 1#1)
    ∧ (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))).2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_in [hPre_finite_in : Cert.Pre_finite_in.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_in.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2))).1 = (fun _ => 1#1)
    ∧ (Cert.Pre_finite_in.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2))).2.1 = (fun _ => 1#1)
    ∧ (Cert.Pre_finite_in.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2))).2.2 = (fun _ => 1#1)

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaIdeal_finite_delta [hPre_finite_delta : Cert.Pre_finite_delta.Facts] (m : (ℓ : Loc Cert.DeltaIdeal.nD Cert.DeltaIdeal.τ Cert.DeltaIdeal.sig) → Buf (Elt Ideal) ℓ) : Prop :=
  ∀ c : Dev Cert.DeltaIdeal.nD,
    (Cert.Pre_finite_delta.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2))).1 = (fun _ => 1#1)
    ∧ (Cert.Pre_finite_delta.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2))).2.1 = (fun _ => 1#1)
    ∧ (Cert.Pre_finite_delta.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2))).2.2 = (fun _ => 1#1)

def Pre_DeltaRefIdeal (m : (ℓ : Loc Cert.DeltaRefIdeal.nD Cert.DeltaRefIdeal.τ Cert.DeltaRefIdeal.sig) → Buf (Elt Ideal) ℓ) : Prop :=
  True

def Pre_DeltaRefIdeal_finite_delta [hPre_finite_delta : Cert.Pre_finite_delta.Facts] (m : (ℓ : Loc Cert.DeltaRefIdeal.nD Cert.DeltaRefIdeal.τ Cert.DeltaRefIdeal.sig) → Buf (Elt Ideal) ℓ) : Prop :=
  ∀ c : Dev Cert.DeltaRefIdeal.nD,
    (Cert.Pre_finite_delta.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2))).1 = (fun _ => 1#1)
    ∧ (Cert.Pre_finite_delta.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2))).2.1 = (fun _ => 1#1)
    ∧ (Cert.Pre_finite_delta.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2))).2.2 = (fun _ => 1#1)

def Pre_MoeS (m : (ℓ : Loc Cert.MoeS.nD Cert.MoeS.τ Cert.MoeS.sig) → Buf (Elt Bits) ℓ) : Prop :=
  True

def Pre_MoeSIdeal (m : (ℓ : Loc Cert.MoeSIdeal.nD Cert.MoeSIdeal.τ Cert.MoeSIdeal.sig) → Buf (Elt Ideal) ℓ) : Prop :=
  True

def Pre_MoeSRefIdeal (m : (ℓ : Loc Cert.MoeSRefIdeal.nD Cert.MoeSRefIdeal.τ Cert.MoeSRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_PreS (m : (ℓ : Loc Cert.PreS.nD Cert.PreS.τ Cert.PreS.sig) → Buf (Elt Bits) ℓ) : Prop :=
  True

def Pre_PreSIdeal (m : (ℓ : Loc Cert.PreSIdeal.nD Cert.PreSIdeal.τ Cert.PreSIdeal.sig) → Buf (Elt Ideal) ℓ) : Prop :=
  True

def Pre_PreSRefIdeal (m : (ℓ : Loc Cert.PreSRefIdeal.nD Cert.PreSRefIdeal.τ Cert.PreSRefIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5)
      ∧ r.2.mem ((c.tc : Thread Cert.DenseRefIdeal.nD Cert.DenseRefIdeal.τ).loc Cert.DenseRefIdeal.main_arg6) = m ((c.tc : Thread Cert.DenseRefIdeal.nD Cert.DenseRefIdeal.τ).loc Cert.DenseRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjIdeal_pre_finite_in [hInProjIdeal : Cert.InProjIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_in m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjRefIdeal_pre_finite_in [hInProjRefIdeal : Cert.InProjRefIdeal.Facts] [hPre_finite_in : Cert.Pre_finite_in.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_in m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2))
      ∧ r.2.sem = fun _ => 0)

def quiescent_DeltaIdeal_pre_finite_delta [hDeltaIdeal : Cert.DeltaIdeal.Facts] [hPre_finite_delta : Cert.Pre_finite_delta.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal_finite_delta m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2))
      ∧ r.2.sem = fun _ => 0)

def quiescent_DeltaRefIdeal_pre_finite_delta [hDeltaRefIdeal : Cert.DeltaRefIdeal.Facts] [hPre_finite_delta : Cert.Pre_finite_delta.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal_finite_delta m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2))
      ∧ r.2.sem = fun _ => 0)

def quiescent_MoeS [hMoeS : Cert.MoeS.Facts] : Prop :=
  ∀ (m : (ℓ : Loc Cert.MoeS.nD Cert.MoeS.τ Cert.MoeS.sig) → Buf (Elt Bits) ℓ) (g : Dev Cert.MoeS.nD → PrngReg), Pre_MoeS m →
    θ_run (Cert.MoeS.defs (F := Bits)) (onTc (τ := Cert.MoeS.τ) (Cert.MoeS.main (F := Bits))) ⟨m, fun _ => 0, g⟩ (fun r => (∀ c : Dev Cert.MoeS.nD,
      r.2.mem ((c.tc : Thread Cert.MoeS.nD Cert.MoeS.τ).loc Cert.MoeS.main_arg0) = m ((c.tc : Thread Cert.MoeS.nD Cert.MoeS.τ).loc Cert.MoeS.main_arg0)
      ∧ r.2.mem ((c.tc : Thread Cert.MoeS.nD Cert.MoeS.τ).loc Cert.MoeS.main_arg1) = m ((c.tc : Thread Cert.MoeS.nD Cert.MoeS.τ).loc Cert.MoeS.main_arg1)
      ∧ r.2.mem ((c.tc : Thread Cert.MoeS.nD Cert.MoeS.τ).loc Cert.MoeS.main_arg2) = m ((c.tc : Thread Cert.MoeS.nD Cert.MoeS.τ).loc Cert.MoeS.main_arg2)
      ∧ r.2.mem ((c.tc : Thread Cert.MoeS.nD Cert.MoeS.τ).loc Cert.MoeS.main_arg3) = m ((c.tc : Thread Cert.MoeS.nD Cert.MoeS.τ).loc Cert.MoeS.main_arg3)
      ∧ r.2.mem ((c.tc : Thread Cert.MoeS.nD Cert.MoeS.τ).loc Cert.MoeS.main_arg4) = m ((c.tc : Thread Cert.MoeS.nD Cert.MoeS.τ).loc Cert.MoeS.main_arg4)
      ∧ r.2.mem ((c.tc : Thread Cert.MoeS.nD Cert.MoeS.τ).loc Cert.MoeS.main_arg5) = m ((c.tc : Thread Cert.MoeS.nD Cert.MoeS.τ).loc Cert.MoeS.main_arg5)
      ∧ r.2.mem ((c.tc : Thread Cert.MoeS.nD Cert.MoeS.τ).loc Cert.MoeS.main_arg6) = m ((c.tc : Thread Cert.MoeS.nD Cert.MoeS.τ).loc Cert.MoeS.main_arg6)
      ∧ r.2.mem ((c.tc : Thread Cert.MoeS.nD Cert.MoeS.τ).loc Cert.MoeS.main_arg7) = m ((c.tc : Thread Cert.MoeS.nD Cert.MoeS.τ).loc Cert.MoeS.main_arg7))
      ∧ r.2.sem = fun _ => 0)

def quiescent_MoeSIdeal [hMoeSIdeal : Cert.MoeSIdeal.Facts] : Prop :=
  ∀ (m : (ℓ : Loc Cert.MoeSIdeal.nD Cert.MoeSIdeal.τ Cert.MoeSIdeal.sig) → Buf (Elt Ideal) ℓ) (g : Dev Cert.MoeSIdeal.nD → PrngReg), Pre_MoeSIdeal m →
    θ_run (Cert.MoeSIdeal.defs (F := Ideal)) (onTc (τ := Cert.MoeSIdeal.τ) (Cert.MoeSIdeal.main (F := Ideal))) ⟨m, fun _ => 0, g⟩ (fun r => (∀ c : Dev Cert.MoeSIdeal.nD,
      r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
      ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
      ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
      ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
      ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
      ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
      ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6)
      ∧ r.2.mem ((c.tc : Thread Cert.MoeSIdeal.nD Cert.MoeSIdeal.τ).loc Cert.MoeSIdeal.main_arg7) = m ((c.tc : Thread Cert.MoeSIdeal.nD Cert.MoeSIdeal.τ).loc Cert.MoeSIdeal.main_arg7))
      ∧ r.2.sem = fun _ => 0)

def quiescent_MoeSRefIdeal [hMoeSRefIdeal : Cert.MoeSRefIdeal.Facts] : Prop :=
  ∀ (m : (ℓ : Loc Cert.MoeSRefIdeal.nD Cert.MoeSRefIdeal.τ Cert.MoeSRefIdeal.sig) → Buf (Elt Ideal) ℓ) (g : Dev Cert.MoeSRefIdeal.nD → PrngReg), Pre_MoeSRefIdeal m →
    θ_run (Cert.MoeSRefIdeal.defs (F := Ideal)) (onTc (τ := Cert.MoeSRefIdeal.τ) (Cert.MoeSRefIdeal.main (F := Ideal))) ⟨m, fun _ => 0, g⟩ (fun r => (∀ c : Dev Cert.MoeSRefIdeal.nD,
      r.2.mem ((c.tc : Thread Cert.MoeSRefIdeal.nD Cert.MoeSRefIdeal.τ).loc Cert.MoeSRefIdeal.main_arg0) = m ((c.tc : Thread Cert.MoeSRefIdeal.nD Cert.MoeSRefIdeal.τ).loc Cert.MoeSRefIdeal.main_arg0)
      ∧ r.2.mem ((c.tc : Thread Cert.MoeSRefIdeal.nD Cert.MoeSRefIdeal.τ).loc Cert.MoeSRefIdeal.main_arg1) = m ((c.tc : Thread Cert.MoeSRefIdeal.nD Cert.MoeSRefIdeal.τ).loc Cert.MoeSRefIdeal.main_arg1)
      ∧ r.2.mem ((c.tc : Thread Cert.MoeSRefIdeal.nD Cert.MoeSRefIdeal.τ).loc Cert.MoeSRefIdeal.main_arg2) = m ((c.tc : Thread Cert.MoeSRefIdeal.nD Cert.MoeSRefIdeal.τ).loc Cert.MoeSRefIdeal.main_arg2)
      ∧ r.2.mem ((c.tc : Thread Cert.MoeSRefIdeal.nD Cert.MoeSRefIdeal.τ).loc Cert.MoeSRefIdeal.main_arg3) = m ((c.tc : Thread Cert.MoeSRefIdeal.nD Cert.MoeSRefIdeal.τ).loc Cert.MoeSRefIdeal.main_arg3)
      ∧ r.2.mem ((c.tc : Thread Cert.MoeSRefIdeal.nD Cert.MoeSRefIdeal.τ).loc Cert.MoeSRefIdeal.main_arg4) = m ((c.tc : Thread Cert.MoeSRefIdeal.nD Cert.MoeSRefIdeal.τ).loc Cert.MoeSRefIdeal.main_arg4)
      ∧ r.2.mem ((c.tc : Thread Cert.MoeSRefIdeal.nD Cert.MoeSRefIdeal.τ).loc Cert.MoeSRefIdeal.main_arg5) = m ((c.tc : Thread Cert.MoeSRefIdeal.nD Cert.MoeSRefIdeal.τ).loc Cert.MoeSRefIdeal.main_arg5)
      ∧ r.2.mem ((c.tc : Thread Cert.MoeSRefIdeal.nD Cert.MoeSRefIdeal.τ).loc Cert.MoeSRefIdeal.main_arg6) = m ((c.tc : Thread Cert.MoeSRefIdeal.nD Cert.MoeSRefIdeal.τ).loc Cert.MoeSRefIdeal.main_arg6)
      ∧ r.2.mem ((c.tc : Thread Cert.MoeSRefIdeal.nD Cert.MoeSRefIdeal.τ).loc Cert.MoeSRefIdeal.main_arg7) = m ((c.tc : Thread Cert.MoeSRefIdeal.nD Cert.MoeSRefIdeal.τ).loc Cert.MoeSRefIdeal.main_arg7))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6))
      ∧ r.2.sem = fun _ => 0)

def quiescent_PreS [hPreS : Cert.PreS.Facts] : Prop :=
  ∀ (m : (ℓ : Loc Cert.PreS.nD Cert.PreS.τ Cert.PreS.sig) → Buf (Elt Bits) ℓ) (g : Dev Cert.PreS.nD → PrngReg), Pre_PreS m →
    θ_run (Cert.PreS.defs (F := Bits)) (onTc (τ := Cert.PreS.τ) (Cert.PreS.main (F := Bits))) ⟨m, fun _ => 0, g⟩ (fun r => (∀ c : Dev Cert.PreS.nD,
      r.2.mem ((c.tc : Thread Cert.PreS.nD Cert.PreS.τ).loc Cert.PreS.main_arg0) = m ((c.tc : Thread Cert.PreS.nD Cert.PreS.τ).loc Cert.PreS.main_arg0)
      ∧ r.2.mem ((c.tc : Thread Cert.PreS.nD Cert.PreS.τ).loc Cert.PreS.main_arg1) = m ((c.tc : Thread Cert.PreS.nD Cert.PreS.τ).loc Cert.PreS.main_arg1)
      ∧ r.2.mem ((c.tc : Thread Cert.PreS.nD Cert.PreS.τ).loc Cert.PreS.main_arg2) = m ((c.tc : Thread Cert.PreS.nD Cert.PreS.τ).loc Cert.PreS.main_arg2)
      ∧ r.2.mem ((c.tc : Thread Cert.PreS.nD Cert.PreS.τ).loc Cert.PreS.main_arg3) = m ((c.tc : Thread Cert.PreS.nD Cert.PreS.τ).loc Cert.PreS.main_arg3)
      ∧ r.2.mem ((c.tc : Thread Cert.PreS.nD Cert.PreS.τ).loc Cert.PreS.main_arg4) = m ((c.tc : Thread Cert.PreS.nD Cert.PreS.τ).loc Cert.PreS.main_arg4)
      ∧ r.2.mem ((c.tc : Thread Cert.PreS.nD Cert.PreS.τ).loc Cert.PreS.main_arg5) = m ((c.tc : Thread Cert.PreS.nD Cert.PreS.τ).loc Cert.PreS.main_arg5)
      ∧ r.2.mem ((c.tc : Thread Cert.PreS.nD Cert.PreS.τ).loc Cert.PreS.main_arg6) = m ((c.tc : Thread Cert.PreS.nD Cert.PreS.τ).loc Cert.PreS.main_arg6))
      ∧ r.2.sem = fun _ => 0)

def quiescent_PreSIdeal [hPreSIdeal : Cert.PreSIdeal.Facts] : Prop :=
  ∀ (m : (ℓ : Loc Cert.PreSIdeal.nD Cert.PreSIdeal.τ Cert.PreSIdeal.sig) → Buf (Elt Ideal) ℓ) (g : Dev Cert.PreSIdeal.nD → PrngReg), Pre_PreSIdeal m →
    θ_run (Cert.PreSIdeal.defs (F := Ideal)) (onTc (τ := Cert.PreSIdeal.τ) (Cert.PreSIdeal.main (F := Ideal))) ⟨m, fun _ => 0, g⟩ (fun r => (∀ c : Dev Cert.PreSIdeal.nD,
      r.2.mem ((c.tc : Thread Cert.PreSIdeal.nD Cert.PreSIdeal.τ).loc Cert.PreSIdeal.main_arg0) = m ((c.tc : Thread Cert.PreSIdeal.nD Cert.PreSIdeal.τ).loc Cert.PreSIdeal.main_arg0)
      ∧ r.2.mem ((c.tc : Thread Cert.PreSIdeal.nD Cert.PreSIdeal.τ).loc Cert.PreSIdeal.main_arg1) = m ((c.tc : Thread Cert.PreSIdeal.nD Cert.PreSIdeal.τ).loc Cert.PreSIdeal.main_arg1)
      ∧ r.2.mem ((c.tc : Thread Cert.PreSIdeal.nD Cert.PreSIdeal.τ).loc Cert.PreSIdeal.main_arg2) = m ((c.tc : Thread Cert.PreSIdeal.nD Cert.PreSIdeal.τ).loc Cert.PreSIdeal.main_arg2)
      ∧ r.2.mem ((c.tc : Thread Cert.PreSIdeal.nD Cert.PreSIdeal.τ).loc Cert.PreSIdeal.main_arg3) = m ((c.tc : Thread Cert.PreSIdeal.nD Cert.PreSIdeal.τ).loc Cert.PreSIdeal.main_arg3)
      ∧ r.2.mem ((c.tc : Thread Cert.PreSIdeal.nD Cert.PreSIdeal.τ).loc Cert.PreSIdeal.main_arg4) = m ((c.tc : Thread Cert.PreSIdeal.nD Cert.PreSIdeal.τ).loc Cert.PreSIdeal.main_arg4)
      ∧ r.2.mem ((c.tc : Thread Cert.PreSIdeal.nD Cert.PreSIdeal.τ).loc Cert.PreSIdeal.main_arg5) = m ((c.tc : Thread Cert.PreSIdeal.nD Cert.PreSIdeal.τ).loc Cert.PreSIdeal.main_arg5)
      ∧ r.2.mem ((c.tc : Thread Cert.PreSIdeal.nD Cert.PreSIdeal.τ).loc Cert.PreSIdeal.main_arg6) = m ((c.tc : Thread Cert.PreSIdeal.nD Cert.PreSIdeal.τ).loc Cert.PreSIdeal.main_arg6))
      ∧ r.2.sem = fun _ => 0)

def quiescent_PreSRefIdeal [hPreSRefIdeal : Cert.PreSRefIdeal.Facts] : Prop :=
  ∀ (m : (ℓ : Loc Cert.PreSRefIdeal.nD Cert.PreSRefIdeal.τ Cert.PreSRefIdeal.sig) → Buf (Elt Ideal) ℓ) (g : Dev Cert.PreSRefIdeal.nD → PrngReg), Pre_PreSRefIdeal m →
    θ_run (Cert.PreSRefIdeal.defs (F := Ideal)) (onTc (τ := Cert.PreSRefIdeal.τ) (Cert.PreSRefIdeal.main (F := Ideal))) ⟨m, fun _ => 0, g⟩ (fun r => (∀ c : Dev Cert.PreSRefIdeal.nD,
      r.2.mem ((c.tc : Thread Cert.PreSRefIdeal.nD Cert.PreSRefIdeal.τ).loc Cert.PreSRefIdeal.main_arg0) = m ((c.tc : Thread Cert.PreSRefIdeal.nD Cert.PreSRefIdeal.τ).loc Cert.PreSRefIdeal.main_arg0)
      ∧ r.2.mem ((c.tc : Thread Cert.PreSRefIdeal.nD Cert.PreSRefIdeal.τ).loc Cert.PreSRefIdeal.main_arg1) = m ((c.tc : Thread Cert.PreSRefIdeal.nD Cert.PreSRefIdeal.τ).loc Cert.PreSRefIdeal.main_arg1)
      ∧ r.2.mem ((c.tc : Thread Cert.PreSRefIdeal.nD Cert.PreSRefIdeal.τ).loc Cert.PreSRefIdeal.main_arg2) = m ((c.tc : Thread Cert.PreSRefIdeal.nD Cert.PreSRefIdeal.τ).loc Cert.PreSRefIdeal.main_arg2)
      ∧ r.2.mem ((c.tc : Thread Cert.PreSRefIdeal.nD Cert.PreSRefIdeal.τ).loc Cert.PreSRefIdeal.main_arg3) = m ((c.tc : Thread Cert.PreSRefIdeal.nD Cert.PreSRefIdeal.τ).loc Cert.PreSRefIdeal.main_arg3)
      ∧ r.2.mem ((c.tc : Thread Cert.PreSRefIdeal.nD Cert.PreSRefIdeal.τ).loc Cert.PreSRefIdeal.main_arg4) = m ((c.tc : Thread Cert.PreSRefIdeal.nD Cert.PreSRefIdeal.τ).loc Cert.PreSRefIdeal.main_arg4)
      ∧ r.2.mem ((c.tc : Thread Cert.PreSRefIdeal.nD Cert.PreSRefIdeal.τ).loc Cert.PreSRefIdeal.main_arg5) = m ((c.tc : Thread Cert.PreSRefIdeal.nD Cert.PreSRefIdeal.τ).loc Cert.PreSRefIdeal.main_arg5)
      ∧ r.2.mem ((c.tc : Thread Cert.PreSRefIdeal.nD Cert.PreSRefIdeal.τ).loc Cert.PreSRefIdeal.main_arg6) = m ((c.tc : Thread Cert.PreSRefIdeal.nD Cert.PreSRefIdeal.τ).loc Cert.PreSRefIdeal.main_arg6))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v56) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)
      ∧ m' ((c.tc : Thread Cert.DenseRefIdeal.nD Cert.DenseRefIdeal.τ).loc Cert.DenseRefIdeal.main_arg6) = m ((c.tc : Thread Cert.DenseIdeal.nD Cert.DenseIdeal.τ).loc Cert.DenseIdeal.main_arg6)) →
    ∃ (v0 : (c : Dev Cert.DenseIdeal.nD) → Buf (Elt Ideal) ((c.tc : Thread Cert.DenseIdeal.nD Cert.DenseIdeal.τ).loc Cert.DenseIdeal.main_v4)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v4) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v52) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5)
          ∧ r.2.mem ((c.tc : Thread Cert.DenseRefIdeal.nD Cert.DenseRefIdeal.τ).loc Cert.DenseRefIdeal.main_arg6) = m' ((c.tc : Thread Cert.DenseRefIdeal.nD Cert.DenseRefIdeal.τ).loc Cert.DenseRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v61) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_InProj_InProjIdeal : Prop :=
  True

def algebraic_InProjIdeal_InProjRefIdeal_pre_finite_in [hInProjIdeal : Cert.InProjIdeal.Facts] [hInProjRefIdeal : Cert.InProjRefIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_in m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Delta_DeltaIdeal : Prop :=
  True

def algebraic_DeltaIdeal_DeltaRefIdeal_pre_finite_delta [hDeltaIdeal : Cert.DeltaIdeal.Facts] [hDeltaRefIdeal : Cert.DeltaRefIdeal.Facts] [hPre_finite_delta : Cert.Pre_finite_delta.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal_finite_delta m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)
      ∧ m' ((c.tc : Thread Cert.DeltaRefIdeal.nD Cert.DeltaRefIdeal.τ).loc Cert.DeltaRefIdeal.main_arg2) = m ((c.tc : Thread Cert.DeltaIdeal.nD Cert.DeltaIdeal.τ).loc Cert.DeltaIdeal.main_arg2)) →
    ∃ (v0 : (c : Dev Cert.DeltaIdeal.nD) → Buf (Elt Ideal) ((c.tc : Thread Cert.DeltaIdeal.nD Cert.DeltaIdeal.τ).loc Cert.DeltaIdeal.main_v0_0)) (v1 : (c : Dev Cert.DeltaIdeal.nD) → Buf (Elt Ideal) ((c.tc : Thread Cert.DeltaIdeal.nD Cert.DeltaIdeal.τ).loc Cert.DeltaIdeal.main_v0_1)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v0_0) = v0 c
          ∧ r.2.mem ((c.tc : Thread Cert.DeltaIdeal.nD Cert.DeltaIdeal.τ).loc Cert.DeltaIdeal.main_v0_1) = v1 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
          ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v18) = v0 c
          ∧ r.2.mem ((c.tc : Thread Cert.DeltaRefIdeal.nD Cert.DeltaRefIdeal.τ).loc Cert.DeltaRefIdeal.main_v16_6) = v1 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1)
          ∧ r.2.mem ((c.tc : Thread Cert.DeltaRefIdeal.nD Cert.DeltaRefIdeal.τ).loc Cert.DeltaRefIdeal.main_arg2) = m' ((c.tc : Thread Cert.DeltaRefIdeal.nD Cert.DeltaRefIdeal.τ).loc Cert.DeltaRefIdeal.main_arg2))

def preserves_MoeS_MoeSIdeal : Prop :=
  True

def algebraic_MoeSIdeal_MoeSRefIdeal [hMoeSIdeal : Cert.MoeSIdeal.Facts] [hMoeSRefIdeal : Cert.MoeSRefIdeal.Facts] : Prop :=
  ∀ (m : (ℓ : Loc Cert.MoeSIdeal.nD Cert.MoeSIdeal.τ Cert.MoeSIdeal.sig) → Buf (Elt Ideal) ℓ) (g : Dev Cert.MoeSIdeal.nD → PrngReg)
    (m' : (ℓ : Loc Cert.MoeSRefIdeal.nD Cert.MoeSRefIdeal.τ Cert.MoeSRefIdeal.sig) → Buf (Elt Ideal) ℓ) (g' : Dev Cert.MoeSRefIdeal.nD → PrngReg), Pre_MoeSIdeal m →
    (∀ c : Dev Cert.MoeSIdeal.nD,
      m' ((c.tc : Thread Cert.MoeSRefIdeal.nD Cert.MoeSRefIdeal.τ).loc Cert.MoeSRefIdeal.main_arg0) = m ((c.tc : Thread Cert.MoeSIdeal.nD Cert.MoeSIdeal.τ).loc Cert.MoeSIdeal.main_arg0)
      ∧ m' ((c.tc : Thread Cert.MoeSRefIdeal.nD Cert.MoeSRefIdeal.τ).loc Cert.MoeSRefIdeal.main_arg1) = m ((c.tc : Thread Cert.MoeSIdeal.nD Cert.MoeSIdeal.τ).loc Cert.MoeSIdeal.main_arg1)
      ∧ m' ((c.tc : Thread Cert.MoeSRefIdeal.nD Cert.MoeSRefIdeal.τ).loc Cert.MoeSRefIdeal.main_arg2) = m ((c.tc : Thread Cert.MoeSIdeal.nD Cert.MoeSIdeal.τ).loc Cert.MoeSIdeal.main_arg2)
      ∧ m' ((c.tc : Thread Cert.MoeSRefIdeal.nD Cert.MoeSRefIdeal.τ).loc Cert.MoeSRefIdeal.main_arg3) = m ((c.tc : Thread Cert.MoeSIdeal.nD Cert.MoeSIdeal.τ).loc Cert.MoeSIdeal.main_arg3)
      ∧ m' ((c.tc : Thread Cert.MoeSRefIdeal.nD Cert.MoeSRefIdeal.τ).loc Cert.MoeSRefIdeal.main_arg4) = m ((c.tc : Thread Cert.MoeSIdeal.nD Cert.MoeSIdeal.τ).loc Cert.MoeSIdeal.main_arg4)
      ∧ m' ((c.tc : Thread Cert.MoeSRefIdeal.nD Cert.MoeSRefIdeal.τ).loc Cert.MoeSRefIdeal.main_arg5) = m ((c.tc : Thread Cert.MoeSIdeal.nD Cert.MoeSIdeal.τ).loc Cert.MoeSIdeal.main_arg5)
      ∧ m' ((c.tc : Thread Cert.MoeSRefIdeal.nD Cert.MoeSRefIdeal.τ).loc Cert.MoeSRefIdeal.main_arg6) = m ((c.tc : Thread Cert.MoeSIdeal.nD Cert.MoeSIdeal.τ).loc Cert.MoeSIdeal.main_arg6)
      ∧ m' ((c.tc : Thread Cert.MoeSRefIdeal.nD Cert.MoeSRefIdeal.τ).loc Cert.MoeSRefIdeal.main_arg7) = m ((c.tc : Thread Cert.MoeSIdeal.nD Cert.MoeSIdeal.τ).loc Cert.MoeSIdeal.main_arg7)) →
    ∃ (v0 : (c : Dev Cert.MoeSIdeal.nD) → Buf (Elt Ideal) ((c.tc : Thread Cert.MoeSIdeal.nD Cert.MoeSIdeal.τ).loc Cert.MoeSIdeal.main_v3)),
      θ_run (Cert.MoeSIdeal.defs (F := Ideal)) (onTc (τ := Cert.MoeSIdeal.τ) (Cert.MoeSIdeal.main (F := Ideal))) ⟨m, fun _ => 0, g⟩ (fun r => ∀ c : Dev Cert.MoeSIdeal.nD,
          r.2.mem ((c.tc : Thread Cert.MoeSIdeal.nD Cert.MoeSIdeal.τ).loc Cert.MoeSIdeal.main_v3) = v0 c
          ∧ r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
          ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
          ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
          ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
          ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
          ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
          ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6)
          ∧ r.2.mem ((c.tc : Thread Cert.MoeSIdeal.nD Cert.MoeSIdeal.τ).loc Cert.MoeSIdeal.main_arg7) = m ((c.tc : Thread Cert.MoeSIdeal.nD Cert.MoeSIdeal.τ).loc Cert.MoeSIdeal.main_arg7))
      ∧ θ_run (Cert.MoeSRefIdeal.defs (F := Ideal)) (onTc (τ := Cert.MoeSRefIdeal.τ) (Cert.MoeSRefIdeal.main (F := Ideal))) ⟨m', fun _ => 0, g'⟩ (fun r => ∀ c : Dev Cert.MoeSRefIdeal.nD,
          r.2.mem ((c.tc : Thread Cert.MoeSRefIdeal.nD Cert.MoeSRefIdeal.τ).loc Cert.MoeSRefIdeal.main_v56) = v0 c
          ∧ r.2.mem ((c.tc : Thread Cert.MoeSRefIdeal.nD Cert.MoeSRefIdeal.τ).loc Cert.MoeSRefIdeal.main_arg0) = m' ((c.tc : Thread Cert.MoeSRefIdeal.nD Cert.MoeSRefIdeal.τ).loc Cert.MoeSRefIdeal.main_arg0)
          ∧ r.2.mem ((c.tc : Thread Cert.MoeSRefIdeal.nD Cert.MoeSRefIdeal.τ).loc Cert.MoeSRefIdeal.main_arg1) = m' ((c.tc : Thread Cert.MoeSRefIdeal.nD Cert.MoeSRefIdeal.τ).loc Cert.MoeSRefIdeal.main_arg1)
          ∧ r.2.mem ((c.tc : Thread Cert.MoeSRefIdeal.nD Cert.MoeSRefIdeal.τ).loc Cert.MoeSRefIdeal.main_arg2) = m' ((c.tc : Thread Cert.MoeSRefIdeal.nD Cert.MoeSRefIdeal.τ).loc Cert.MoeSRefIdeal.main_arg2)
          ∧ r.2.mem ((c.tc : Thread Cert.MoeSRefIdeal.nD Cert.MoeSRefIdeal.τ).loc Cert.MoeSRefIdeal.main_arg3) = m' ((c.tc : Thread Cert.MoeSRefIdeal.nD Cert.MoeSRefIdeal.τ).loc Cert.MoeSRefIdeal.main_arg3)
          ∧ r.2.mem ((c.tc : Thread Cert.MoeSRefIdeal.nD Cert.MoeSRefIdeal.τ).loc Cert.MoeSRefIdeal.main_arg4) = m' ((c.tc : Thread Cert.MoeSRefIdeal.nD Cert.MoeSRefIdeal.τ).loc Cert.MoeSRefIdeal.main_arg4)
          ∧ r.2.mem ((c.tc : Thread Cert.MoeSRefIdeal.nD Cert.MoeSRefIdeal.τ).loc Cert.MoeSRefIdeal.main_arg5) = m' ((c.tc : Thread Cert.MoeSRefIdeal.nD Cert.MoeSRefIdeal.τ).loc Cert.MoeSRefIdeal.main_arg5)
          ∧ r.2.mem ((c.tc : Thread Cert.MoeSRefIdeal.nD Cert.MoeSRefIdeal.τ).loc Cert.MoeSRefIdeal.main_arg6) = m' ((c.tc : Thread Cert.MoeSRefIdeal.nD Cert.MoeSRefIdeal.τ).loc Cert.MoeSRefIdeal.main_arg6)
          ∧ r.2.mem ((c.tc : Thread Cert.MoeSRefIdeal.nD Cert.MoeSRefIdeal.τ).loc Cert.MoeSRefIdeal.main_arg7) = m' ((c.tc : Thread Cert.MoeSRefIdeal.nD Cert.MoeSRefIdeal.τ).loc Cert.MoeSRefIdeal.main_arg7))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)
      ∧ m' ((c.tc : Thread Cert.PreRefIdeal.nD Cert.PreRefIdeal.τ).loc Cert.PreRefIdeal.main_arg6) = m ((c.tc : Thread Cert.PreIdeal.nD Cert.PreIdeal.τ).loc Cert.PreIdeal.main_arg6)) →
    ∃ (v0 : (c : Dev Cert.PreIdeal.nD) → Buf (Elt Ideal) ((c.tc : Thread Cert.PreIdeal.nD Cert.PreIdeal.τ).loc Cert.PreIdeal.main_v0_3)) (v1 : (c : Dev Cert.PreIdeal.nD) → Buf (Elt Ideal) ((c.tc : Thread Cert.PreIdeal.nD Cert.PreIdeal.τ).loc Cert.PreIdeal.main_v0_4)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v0_3) = v0 c
          ∧ r.2.mem ((c.tc : Thread Cert.PreIdeal.nD Cert.PreIdeal.τ).loc Cert.PreIdeal.main_v0_4) = v1 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v7) = v0 c
          ∧ r.2.mem ((c.tc : Thread Cert.PreRefIdeal.nD Cert.PreRefIdeal.τ).loc Cert.PreRefIdeal.main_v8) = v1 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6))

def preserves_PreS_PreSIdeal : Prop :=
  True

def algebraic_PreSIdeal_PreSRefIdeal [hPreSIdeal : Cert.PreSIdeal.Facts] [hPreSRefIdeal : Cert.PreSRefIdeal.Facts] : Prop :=
  ∀ (m : (ℓ : Loc Cert.PreSIdeal.nD Cert.PreSIdeal.τ Cert.PreSIdeal.sig) → Buf (Elt Ideal) ℓ) (g : Dev Cert.PreSIdeal.nD → PrngReg)
    (m' : (ℓ : Loc Cert.PreSRefIdeal.nD Cert.PreSRefIdeal.τ Cert.PreSRefIdeal.sig) → Buf (Elt Ideal) ℓ) (g' : Dev Cert.PreSRefIdeal.nD → PrngReg), Pre_PreSIdeal m →
    (∀ c : Dev Cert.PreSIdeal.nD,
      m' ((c.tc : Thread Cert.PreSRefIdeal.nD Cert.PreSRefIdeal.τ).loc Cert.PreSRefIdeal.main_arg0) = m ((c.tc : Thread Cert.PreSIdeal.nD Cert.PreSIdeal.τ).loc Cert.PreSIdeal.main_arg0)
      ∧ m' ((c.tc : Thread Cert.PreSRefIdeal.nD Cert.PreSRefIdeal.τ).loc Cert.PreSRefIdeal.main_arg1) = m ((c.tc : Thread Cert.PreSIdeal.nD Cert.PreSIdeal.τ).loc Cert.PreSIdeal.main_arg1)
      ∧ m' ((c.tc : Thread Cert.PreSRefIdeal.nD Cert.PreSRefIdeal.τ).loc Cert.PreSRefIdeal.main_arg2) = m ((c.tc : Thread Cert.PreSIdeal.nD Cert.PreSIdeal.τ).loc Cert.PreSIdeal.main_arg2)
      ∧ m' ((c.tc : Thread Cert.PreSRefIdeal.nD Cert.PreSRefIdeal.τ).loc Cert.PreSRefIdeal.main_arg3) = m ((c.tc : Thread Cert.PreSIdeal.nD Cert.PreSIdeal.τ).loc Cert.PreSIdeal.main_arg3)
      ∧ m' ((c.tc : Thread Cert.PreSRefIdeal.nD Cert.PreSRefIdeal.τ).loc Cert.PreSRefIdeal.main_arg4) = m ((c.tc : Thread Cert.PreSIdeal.nD Cert.PreSIdeal.τ).loc Cert.PreSIdeal.main_arg4)
      ∧ m' ((c.tc : Thread Cert.PreSRefIdeal.nD Cert.PreSRefIdeal.τ).loc Cert.PreSRefIdeal.main_arg5) = m ((c.tc : Thread Cert.PreSIdeal.nD Cert.PreSIdeal.τ).loc Cert.PreSIdeal.main_arg5)
      ∧ m' ((c.tc : Thread Cert.PreSRefIdeal.nD Cert.PreSRefIdeal.τ).loc Cert.PreSRefIdeal.main_arg6) = m ((c.tc : Thread Cert.PreSIdeal.nD Cert.PreSIdeal.τ).loc Cert.PreSIdeal.main_arg6)) →
    ∃ (v0 : (c : Dev Cert.PreSIdeal.nD) → Buf (Elt Ideal) ((c.tc : Thread Cert.PreSIdeal.nD Cert.PreSIdeal.τ).loc Cert.PreSIdeal.main_v2_3)) (v1 : (c : Dev Cert.PreSIdeal.nD) → Buf (Elt Ideal) ((c.tc : Thread Cert.PreSIdeal.nD Cert.PreSIdeal.τ).loc Cert.PreSIdeal.main_v2_4)),
      θ_run (Cert.PreSIdeal.defs (F := Ideal)) (onTc (τ := Cert.PreSIdeal.τ) (Cert.PreSIdeal.main (F := Ideal))) ⟨m, fun _ => 0, g⟩ (fun r => ∀ c : Dev Cert.PreSIdeal.nD,
          r.2.mem ((c.tc : Thread Cert.PreSIdeal.nD Cert.PreSIdeal.τ).loc Cert.PreSIdeal.main_v2_3) = v0 c
          ∧ r.2.mem ((c.tc : Thread Cert.PreSIdeal.nD Cert.PreSIdeal.τ).loc Cert.PreSIdeal.main_v2_4) = v1 c
          ∧ r.2.mem ((c.tc : Thread Cert.PreSIdeal.nD Cert.PreSIdeal.τ).loc Cert.PreSIdeal.main_arg0) = m ((c.tc : Thread Cert.PreSIdeal.nD Cert.PreSIdeal.τ).loc Cert.PreSIdeal.main_arg0)
          ∧ r.2.mem ((c.tc : Thread Cert.PreSIdeal.nD Cert.PreSIdeal.τ).loc Cert.PreSIdeal.main_arg1) = m ((c.tc : Thread Cert.PreSIdeal.nD Cert.PreSIdeal.τ).loc Cert.PreSIdeal.main_arg1)
          ∧ r.2.mem ((c.tc : Thread Cert.PreSIdeal.nD Cert.PreSIdeal.τ).loc Cert.PreSIdeal.main_arg2) = m ((c.tc : Thread Cert.PreSIdeal.nD Cert.PreSIdeal.τ).loc Cert.PreSIdeal.main_arg2)
          ∧ r.2.mem ((c.tc : Thread Cert.PreSIdeal.nD Cert.PreSIdeal.τ).loc Cert.PreSIdeal.main_arg3) = m ((c.tc : Thread Cert.PreSIdeal.nD Cert.PreSIdeal.τ).loc Cert.PreSIdeal.main_arg3)
          ∧ r.2.mem ((c.tc : Thread Cert.PreSIdeal.nD Cert.PreSIdeal.τ).loc Cert.PreSIdeal.main_arg4) = m ((c.tc : Thread Cert.PreSIdeal.nD Cert.PreSIdeal.τ).loc Cert.PreSIdeal.main_arg4)
          ∧ r.2.mem ((c.tc : Thread Cert.PreSIdeal.nD Cert.PreSIdeal.τ).loc Cert.PreSIdeal.main_arg5) = m ((c.tc : Thread Cert.PreSIdeal.nD Cert.PreSIdeal.τ).loc Cert.PreSIdeal.main_arg5)
          ∧ r.2.mem ((c.tc : Thread Cert.PreSIdeal.nD Cert.PreSIdeal.τ).loc Cert.PreSIdeal.main_arg6) = m ((c.tc : Thread Cert.PreSIdeal.nD Cert.PreSIdeal.τ).loc Cert.PreSIdeal.main_arg6))
      ∧ θ_run (Cert.PreSRefIdeal.defs (F := Ideal)) (onTc (τ := Cert.PreSRefIdeal.τ) (Cert.PreSRefIdeal.main (F := Ideal))) ⟨m', fun _ => 0, g'⟩ (fun r => ∀ c : Dev Cert.PreSRefIdeal.nD,
          r.2.mem ((c.tc : Thread Cert.PreSRefIdeal.nD Cert.PreSRefIdeal.τ).loc Cert.PreSRefIdeal.main_v12) = v0 c
          ∧ r.2.mem ((c.tc : Thread Cert.PreSRefIdeal.nD Cert.PreSRefIdeal.τ).loc Cert.PreSRefIdeal.main_v13) = v1 c
          ∧ r.2.mem ((c.tc : Thread Cert.PreSRefIdeal.nD Cert.PreSRefIdeal.τ).loc Cert.PreSRefIdeal.main_arg0) = m' ((c.tc : Thread Cert.PreSRefIdeal.nD Cert.PreSRefIdeal.τ).loc Cert.PreSRefIdeal.main_arg0)
          ∧ r.2.mem ((c.tc : Thread Cert.PreSRefIdeal.nD Cert.PreSRefIdeal.τ).loc Cert.PreSRefIdeal.main_arg1) = m' ((c.tc : Thread Cert.PreSRefIdeal.nD Cert.PreSRefIdeal.τ).loc Cert.PreSRefIdeal.main_arg1)
          ∧ r.2.mem ((c.tc : Thread Cert.PreSRefIdeal.nD Cert.PreSRefIdeal.τ).loc Cert.PreSRefIdeal.main_arg2) = m' ((c.tc : Thread Cert.PreSRefIdeal.nD Cert.PreSRefIdeal.τ).loc Cert.PreSRefIdeal.main_arg2)
          ∧ r.2.mem ((c.tc : Thread Cert.PreSRefIdeal.nD Cert.PreSRefIdeal.τ).loc Cert.PreSRefIdeal.main_arg3) = m' ((c.tc : Thread Cert.PreSRefIdeal.nD Cert.PreSRefIdeal.τ).loc Cert.PreSRefIdeal.main_arg3)
          ∧ r.2.mem ((c.tc : Thread Cert.PreSRefIdeal.nD Cert.PreSRefIdeal.τ).loc Cert.PreSRefIdeal.main_arg4) = m' ((c.tc : Thread Cert.PreSRefIdeal.nD Cert.PreSRefIdeal.τ).loc Cert.PreSRefIdeal.main_arg4)
          ∧ r.2.mem ((c.tc : Thread Cert.PreSRefIdeal.nD Cert.PreSRefIdeal.τ).loc Cert.PreSRefIdeal.main_arg5) = m' ((c.tc : Thread Cert.PreSRefIdeal.nD Cert.PreSRefIdeal.τ).loc Cert.PreSRefIdeal.main_arg5)
          ∧ r.2.mem ((c.tc : Thread Cert.PreSRefIdeal.nD Cert.PreSRefIdeal.τ).loc Cert.PreSRefIdeal.main_arg6) = m' ((c.tc : Thread Cert.PreSRefIdeal.nD Cert.PreSRefIdeal.τ).loc Cert.PreSRefIdeal.main_arg6))

def Claim : Prop :=
  ∃ (hMoe : Cert.Moe.Facts) (hMoeIdeal : Cert.MoeIdeal.Facts) (hMoeRefIdeal : Cert.MoeRefIdeal.Facts) (hDense : Cert.Dense.Facts) (hDenseIdeal : Cert.DenseIdeal.Facts) (hDenseRefIdeal : Cert.DenseRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hDelta : Cert.Delta.Facts) (hDeltaIdeal : Cert.DeltaIdeal.Facts) (hDeltaRefIdeal : Cert.DeltaRefIdeal.Facts) (hMoeS : Cert.MoeS.Facts) (hMoeSIdeal : Cert.MoeSIdeal.Facts) (hMoeSRefIdeal : Cert.MoeSRefIdeal.Facts) (hPre : Cert.Pre.Facts) (hPreIdeal : Cert.PreIdeal.Facts) (hPreRefIdeal : Cert.PreRefIdeal.Facts) (hPreS : Cert.PreS.Facts) (hPreSIdeal : Cert.PreSIdeal.Facts) (hPreSRefIdeal : Cert.PreSRefIdeal.Facts) (hPre_finite_in : Cert.Pre_finite_in.Facts) (hPre_finite_delta : Cert.Pre_finite_delta.Facts),
    quiescent_Moe (hMoe := hMoe)
    ∧ quiescent_MoeIdeal (hMoeIdeal := hMoeIdeal)
    ∧ quiescent_MoeRefIdeal (hMoeRefIdeal := hMoeRefIdeal)
    ∧ quiescent_Dense (hDense := hDense)
    ∧ quiescent_DenseIdeal (hDenseIdeal := hDenseIdeal)
    ∧ quiescent_DenseRefIdeal (hDenseRefIdeal := hDenseRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjIdeal_pre_finite_in (hInProjIdeal := hInProjIdeal) (hPre_finite_in := hPre_finite_in)
    ∧ quiescent_InProjRefIdeal (hInProjRefIdeal := hInProjRefIdeal)
    ∧ quiescent_InProjRefIdeal_pre_finite_in (hInProjRefIdeal := hInProjRefIdeal) (hPre_finite_in := hPre_finite_in)
    ∧ quiescent_Delta (hDelta := hDelta)
    ∧ quiescent_DeltaIdeal (hDeltaIdeal := hDeltaIdeal)
    ∧ quiescent_DeltaIdeal_pre_finite_delta (hDeltaIdeal := hDeltaIdeal) (hPre_finite_delta := hPre_finite_delta)
    ∧ quiescent_DeltaRefIdeal (hDeltaRefIdeal := hDeltaRefIdeal)
    ∧ quiescent_DeltaRefIdeal_pre_finite_delta (hDeltaRefIdeal := hDeltaRefIdeal) (hPre_finite_delta := hPre_finite_delta)
    ∧ quiescent_MoeS (hMoeS := hMoeS)
    ∧ quiescent_MoeSIdeal (hMoeSIdeal := hMoeSIdeal)
    ∧ quiescent_MoeSRefIdeal (hMoeSRefIdeal := hMoeSRefIdeal)
    ∧ quiescent_Pre (hPre := hPre)
    ∧ quiescent_PreIdeal (hPreIdeal := hPreIdeal)
    ∧ quiescent_PreRefIdeal (hPreRefIdeal := hPreRefIdeal)
    ∧ quiescent_PreS (hPreS := hPreS)
    ∧ quiescent_PreSIdeal (hPreSIdeal := hPreSIdeal)
    ∧ quiescent_PreSRefIdeal (hPreSRefIdeal := hPreSRefIdeal)
    ∧ preserves_Moe_MoeIdeal
    ∧ algebraic_MoeIdeal_MoeRefIdeal (hMoeIdeal := hMoeIdeal) (hMoeRefIdeal := hMoeRefIdeal)
    ∧ preserves_Dense_DenseIdeal
    ∧ algebraic_DenseIdeal_DenseRefIdeal (hDenseIdeal := hDenseIdeal) (hDenseRefIdeal := hDenseRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal_pre_finite_in (hInProjIdeal := hInProjIdeal) (hInProjRefIdeal := hInProjRefIdeal) (hPre_finite_in := hPre_finite_in)
    ∧ preserves_Delta_DeltaIdeal
    ∧ algebraic_DeltaIdeal_DeltaRefIdeal_pre_finite_delta (hDeltaIdeal := hDeltaIdeal) (hDeltaRefIdeal := hDeltaRefIdeal) (hPre_finite_delta := hPre_finite_delta)
    ∧ preserves_MoeS_MoeSIdeal
    ∧ algebraic_MoeSIdeal_MoeSRefIdeal (hMoeSIdeal := hMoeSIdeal) (hMoeSRefIdeal := hMoeSRefIdeal)
    ∧ preserves_Pre_PreIdeal
    ∧ algebraic_PreIdeal_PreRefIdeal (hPreIdeal := hPreIdeal) (hPreRefIdeal := hPreRefIdeal)
    ∧ preserves_PreS_PreSIdeal
    ∧ algebraic_PreSIdeal_PreSRefIdeal (hPreSIdeal := hPreSIdeal) (hPreSRefIdeal := hPreSRefIdeal)
-- ==== Pre_finite_delta.lean ====
abbrev S16384x1536 : Shape := ⟨2, ![16384, 1536]⟩
abbrev S16384x128 : Shape := ⟨2, ![16384, 128]⟩
abbrev S8x4x128x128 : Shape := ⟨4, ![8, 4, 128, 128]⟩
abbrev S_ : Shape := ⟨0, ![]⟩

class Facts : Prop where
  bcast_S_S16384x1536 : S_.BroadcastsInDim S16384x1536 (![] : Fin 0 → Fin S16384x1536.rank)
  bcast_S_S16384x128 : S_.BroadcastsInDim S16384x128 (![] : Fin 0 → Fin S16384x128.rank)
  bcast_S_S8x4x128x128 : S_.BroadcastsInDim S8x4x128x128 (![] : Fin 0 → Fin S8x4x128x128.rank)

variable [Facts]

def fn {F : FTy → Type} [FloatOps F] (main_arg0 : FVec F S16384x1536 .f32) (main_arg1 : FVec F S16384x128 .f32) (main_arg2 : FVec F S8x4x128x128 .f32) : IVec S16384x1536 1 × IVec S16384x128 1 × IVec S8x4x128x128 1 :=
  let main_cst : FVec F S_ .f32 := constant S_ .f32 0x7F800000#32
  let main_v0 : FVec F S16384x1536 .f32 := broadcastInDim S16384x1536 ![] bcast_S_S16384x1536 main_cst
  let main_v1 : IVec S16384x1536 1 := cmpf .olt main_arg0 main_v0
  let main_cst_0 : FVec F S_ .f32 := constant S_ .f32 0xFF800000#32
  let main_v2 : FVec F S16384x1536 .f32 := broadcastInDim S16384x1536 ![] bcast_S_S16384x1536 main_cst_0
  let main_v3 : IVec S16384x1536 1 := cmpf .ogt main_arg0 main_v2
  let main_v4 : IVec S16384x1536 1 := andi main_v1 main_v3
  let main_cst_1 : FVec F S_ .f32 := constant S_ .f32 0x7F800000#32
  let main_v5 : FVec F S16384x128 .f32 := broadcastInDim S16384x128 ![] bcast_S_S16384x128 main_cst_1
  let main_v6 : IVec S16384x128 1 := cmpf .olt main_arg1 main_v5
  let main_cst_2 : FVec F S_ .f32 := constant S_ .f32 0xFF800000#32
  let main_v7 : FVec F S16384x128 .f32 := broadcastInDim S16384x128 ![] bcast_S_S16384x128 main_cst_2
  let main_v8 : IVec S16384x128 1 := cmpf .ogt main_arg1 main_v7
  let main_v9 : IVec S16384x128 1 := andi main_v6 main_v8
  let main_cst_3 : FVec F S_ .f32 := constant S_ .f32 0x7F800000#32
  let main_v10 : FVec F S8x4x128x128 .f32 := broadcastInDim S8x4x128x128 ![] bcast_S_S8x4x128x128 main_cst_3
  let main_v11 : IVec S8x4x128x128 1 := cmpf .olt main_arg2 main_v10
  let main_cst_4 : FVec F S_ .f32 := constant S_ .f32 0xFF800000#32
  let main_v12 : FVec F S8x4x128x128 .f32 := broadcastInDim S8x4x128x128 ![] bcast_S_S8x4x128x128 main_cst_4
  let main_v13 : IVec S8x4x128x128 1 := cmpf .ogt main_arg2 main_v12
  let main_v14 : IVec S8x4x128x128 1 := andi main_v11 main_v13
  (main_v4, main_v9, main_v14)
-- ==== Pre_finite_in.lean ====
abbrev S16384x1024 : Shape := ⟨2, ![16384, 1024]⟩
abbrev S8x1x6144 : Shape := ⟨3, ![8, 1, 6144]⟩
abbrev S1024x3592 : Shape := ⟨2, ![1024, 3592]⟩
abbrev S_ : Shape := ⟨0, ![]⟩

class Facts : Prop where
  bcast_S_S16384x1024 : S_.BroadcastsInDim S16384x1024 (![] : Fin 0 → Fin S16384x1024.rank)
  bcast_S_S8x1x6144 : S_.BroadcastsInDim S8x1x6144 (![] : Fin 0 → Fin S8x1x6144.rank)
  bcast_S_S1024x3592 : S_.BroadcastsInDim S1024x3592 (![] : Fin 0 → Fin S1024x3592.rank)

variable [Facts]

def fn {F : FTy → Type} [FloatOps F] (main_arg0 : FVec F S16384x1024 .f32) (main_arg1 : FVec F S8x1x6144 .f32) (main_arg2 : FVec F S1024x3592 .f32) : IVec S16384x1024 1 × IVec S8x1x6144 1 × IVec S1024x3592 1 :=
  let main_cst : FVec F S_ .f32 := constant S_ .f32 0x7F800000#32
  let main_v0 : FVec F S16384x1024 .f32 := broadcastInDim S16384x1024 ![] bcast_S_S16384x1024 main_cst
  let main_v1 : IVec S16384x1024 1 := cmpf .olt main_arg0 main_v0
  let main_cst_0 : FVec F S_ .f32 := constant S_ .f32 0xFF800000#32
  let main_v2 : FVec F S16384x1024 .f32 := broadcastInDim S16384x1024 ![] bcast_S_S16384x1024 main_cst_0
  let main_v3 : IVec S16384x1024 1 := cmpf .ogt main_arg0 main_v2
  let main_v4 : IVec S16384x1024 1 := andi main_v1 main_v3
  let main_cst_1 : FVec F S_ .f32 := constant S_ .f32 0x7F800000#32
  let main_v5 : FVec F S8x1x6144 .f32 := broadcastInDim S8x1x6144 ![] bcast_S_S8x1x6144 main_cst_1
  let main_v6 : IVec S8x1x6144 1 := cmpf .olt main_arg1 main_v5
  let main_cst_2 : FVec F S_ .f32 := constant S_ .f32 0xFF800000#32
  let main_v7 : FVec F S8x1x6144 .f32 := broadcastInDim S8x1x6144 ![] bcast_S_S8x1x6144 main_cst_2
  let main_v8 : IVec S8x1x6144 1 := cmpf .ogt main_arg1 main_v7
  let main_v9 : IVec S8x1x6144 1 := andi main_v6 main_v8
  let main_cst_3 : FVec F S_ .f32 := constant S_ .f32 0x7F800000#32
  let main_v10 : FVec F S1024x3592 .f32 := broadcastInDim S1024x3592 ![] bcast_S_S1024x3592 main_cst_3
  let main_v11 : IVec S1024x3592 1 := cmpf .olt main_arg2 main_v10
  let main_cst_4 : FVec F S_ .f32 := constant S_ .f32 0xFF800000#32
  let main_v12 : FVec F S1024x3592 .f32 := broadcastInDim S1024x3592 ![] bcast_S_S1024x3592 main_cst_4
  let main_v13 : IVec S1024x3592 1 := cmpf .ogt main_arg2 main_v12
  let main_v14 : IVec S1024x3592 1 := andi main_v11 main_v13
  (main_v4, main_v9, main_v14)
-- ==== Moe.lean ====
abbrev S16384x1024 : Shape := ⟨2, ![16384, 1024]⟩
abbrev S8x1x6144 : Shape := ⟨3, ![8, 1, 6144]⟩
abbrev S16384x128 : Shape := ⟨2, ![16384, 128]⟩
abbrev S8x1024x1408 : Shape := ⟨3, ![8, 1024, 1408]⟩
abbrev S8x1408x1024 : Shape := ⟨3, ![8, 1408, 1024]⟩
abbrev S1x1024 : Shape := ⟨2, ![1, 1024]⟩
abbrev S512x1024 : Shape := ⟨2, ![512, 1024]⟩
abbrev S1x1x1024 : Shape := ⟨3, ![1, 1, 1024]⟩
abbrev S512x128 : Shape := ⟨2, ![512, 128]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 12
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S16384x128, .f32⟩
  | .hbm, ⟨3, _⟩ => ⟨S8x1024x1408, .f32⟩
  | .hbm, ⟨4, _⟩ => ⟨S8x1024x1408, .f32⟩
  | .hbm, ⟨5, _⟩ => ⟨S8x1408x1024, .f32⟩
  | .hbm, ⟨6, _⟩ => ⟨S1x1024, .f32⟩
  | .hbm, ⟨7, _⟩ => ⟨S1x1024, .f32⟩
  | .hbm, ⟨8, _⟩ => ⟨S8x1024x1408, .bf16⟩
  | .hbm, ⟨9, _⟩ => ⟨S8x1024x1408, .bf16⟩
  | .hbm, ⟨10, _⟩ => ⟨S8x1408x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x128, .f32⟩
  | .local _ .vmem, ⟨9, _⟩ => ⟨S512x128, .f32⟩
  | .local _ .vmem, ⟨10, _⟩ => ⟨S1x1024x1408, .bf16⟩
  | .local _ .vmem, ⟨11, _⟩ => ⟨S1x1024x1408, .bf16⟩
  | .local _ .vmem, ⟨12, _⟩ => ⟨S1x1024x1408, .bf16⟩
  | .local _ .vmem, ⟨13, _⟩ => ⟨S1x1024x1408, .bf16⟩
  | .local _ .vmem, ⟨14, _⟩ => ⟨S1x1408x1024, .bf16⟩
  | .local _ .vmem, ⟨15, _⟩ => ⟨S1x1408x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![32, 8, 1], ![false, false, false]⟩

def k0_cond2 (i : grid0.Coords) : BitVec 1 :=
  let arg1 : BitVec 32 := BitVec.ofNat 32 (i 1).val
  let c7_i32 : BitVec 32 := 7#32
  let v3 : BitVec 1 := Scalar.cmpi .eq arg1 c7_i32
  let arg2 : BitVec 32 := BitVec.ofNat 32 (i 2).val
  let c0_i32_1 : BitVec 32 := 0#32
  let v4 : BitVec 1 := Scalar.cmpi .eq arg2 c0_i32_1
  let v5 : BitVec 1 := Scalar.andi v3 v4
  let v37 : BitVec 32 := Scalar.extui v5
  let c0_i32_23 : BitVec 32 := 0#32
  let v38 : BitVec 1 := Scalar.cmpi .ne v37 c0_i32_23
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  ![v16.toNat, c0_i32_4.toNat, c4_i32_5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== MoeRefIdeal.lean ====
abbrev S16384x1024 : Shape := ⟨2, ![16384, 1024]⟩
abbrev S8x1x6144 : Shape := ⟨3, ![8, 1, 6144]⟩
abbrev S16384x128 : Shape := ⟨2, ![16384, 128]⟩
abbrev S8x1024x1408 : Shape := ⟨3, ![8, 1024, 1408]⟩
abbrev S8x1408x1024 : Shape := ⟨3, ![8, 1408, 1024]⟩
abbrev S1x1024 : Shape := ⟨2, ![1, 1024]⟩
abbrev S8x2048x1024 : Shape := ⟨3, ![8, 2048, 1024]⟩
abbrev S8x2048x128 : Shape := ⟨3, ![8, 2048, 128]⟩
abbrev S8x2048x8 : Shape := ⟨3, ![8, 2048, 8]⟩
abbrev S8x1x1024 : Shape := ⟨3, ![8, 1, 1024]⟩
abbrev S_ : Shape := ⟨0, ![]⟩
abbrev S8x2048x8x1408 : Shape := ⟨4, ![8, 2048, 8, 1408]⟩
abbrev S8x2048x8x1 : Shape := ⟨4, ![8, 2048, 8, 1]⟩
abbrev S8x1024x8x2048 : Shape := ⟨4, ![8, 1024, 8, 2048]⟩
abbrev S8x2048x8x1024 : Shape := ⟨4, ![8, 2048, 8, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S16384x128, .f32⟩
  | .hbm, ⟨3, _⟩ => ⟨S8x1024x1408, .f32⟩
  | .hbm, ⟨4, _⟩ => ⟨S8x1024x1408, .f32⟩
  | .hbm, ⟨5, _⟩ => ⟨S8x1408x1024, .f32⟩
  | .hbm, ⟨6, _⟩ => ⟨S1x1024, .f32⟩
  | .hbm, ⟨7, _⟩ => ⟨S1x1024, .f32⟩
  | .hbm, ⟨8, _⟩ => ⟨S8x2048x1024, .f32⟩
  | .hbm, ⟨9, _⟩ => ⟨S8x2048x128, .f32⟩
  | .hbm, ⟨10, _⟩ => ⟨S8x2048x8, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S_, .f32⟩
  | .hbm, ⟨18, _⟩ => ⟨S8x1x1024, .f32⟩
  | .hbm, ⟨19, _⟩ => ⟨S8x1x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x8x1408, .f32⟩
  | .hbm, ⟨25, _⟩ => ⟨S8x2048x8x1408, .f32⟩
  | .hbm, ⟨26, _⟩ => ⟨S8x2048x8x1408, .f32⟩
  | .hbm, ⟨27, _⟩ => ⟨S_, .f32⟩
  | .hbm, ⟨28, _⟩ => ⟨S8x2048x8x1408, .f32⟩
  | .hbm, ⟨29, _⟩ => ⟨S8x2048x8x1408, .f32⟩
  | .hbm, ⟨30, _⟩ => ⟨S_, .f32⟩
  | .hbm, ⟨31, _⟩ => ⟨S8x2048x8x1408, .f32⟩
  | .hbm, ⟨32, _⟩ => ⟨S8x2048x8x1408, .f32⟩
  | .hbm, ⟨33, _⟩ => ⟨S8x2048x8x1408, .f32⟩
  | .hbm, ⟨34, _⟩ => ⟨S8x2048x8x1408, .f32⟩
  | .hbm, ⟨35, _⟩ => ⟨S8x2048x8x1408, .f32⟩
  | .hbm, ⟨36, _⟩ => ⟨S8x2048x8x1, .f32⟩
  | .hbm, ⟨37, _⟩ => ⟨S8x1024x8x2048, .f32⟩
  | .hbm, ⟨38, _⟩ => ⟨S8x2048x8x1024, .f32⟩
  | .hbm, ⟨39, _⟩ => ⟨S8x2048x8x1024, .f32⟩
  | .hbm, ⟨40, _⟩ => ⟨S8x2048x8x1024, .f32⟩
  | .hbm, ⟨41, _⟩ => ⟨S_, .f32⟩
  | .hbm, ⟨42, _⟩ => ⟨S8x2048x1024, .f32⟩
  | .hbm, ⟨43, _⟩ => ⟨S_, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x1x1024, .f32⟩
  | .hbm, ⟨48, _⟩ => ⟨S8x1x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x2048x1, .f32⟩
  | .hbm, ⟨73, _⟩ => ⟨S8x2048x1024, .f32⟩
  | .hbm, ⟨74, _⟩ => ⟨S8x2048x1024, .f32⟩
  | .hbm, ⟨75, _⟩ => ⟨S1x1x1024, .f32⟩
  | .hbm, ⟨76, _⟩ => ⟨S8x2048x1024, .f32⟩
  | .hbm, ⟨77, _⟩ => ⟨S8x2048x1024, .f32⟩
  | .hbm, ⟨78, _⟩ => ⟨S1x1x1024, .f32⟩
  | .hbm, ⟨79, _⟩ => ⟨S8x2048x1024, .f32⟩
  | .hbm, ⟨80, _⟩ => ⟨S8x2048x1024, .f32⟩
  | .hbm, ⟨81, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Dense.lean ====
abbrev S16384x1024 : Shape := ⟨2, ![16384, 1024]⟩
abbrev S8x1x6144 : Shape := ⟨3, ![8, 1, 6144]⟩
abbrev S1x1024x2816 : Shape := ⟨3, ![1, 1024, 2816]⟩
abbrev S1x2816x1024 : Shape := ⟨3, ![1, 2816, 1024]⟩
abbrev S1x1024 : Shape := ⟨2, ![1, 1024]⟩
abbrev S_ : Shape := ⟨0, ![]⟩
abbrev S16384x128 : Shape := ⟨2, ![16384, 128]⟩
abbrev S512x1024 : Shape := ⟨2, ![512, 1024]⟩
abbrev S1x1x1024 : Shape := ⟨3, ![1, 1, 1024]⟩
abbrev S512x128 : Shape := ⟨2, ![512, 128]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 13
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S16384x128, .f32⟩
  | .hbm, ⟨9, _⟩ => ⟨S1x1024x2816, .bf16⟩
  | .hbm, ⟨10, _⟩ => ⟨S1x1024x2816, .bf16⟩
  | .hbm, ⟨11, _⟩ => ⟨S1x2816x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x128, .f32⟩
  | .local _ .vmem, ⟨9, _⟩ => ⟨S512x128, .f32⟩
  | .local _ .vmem, ⟨10, _⟩ => ⟨S1x1024x1408, .bf16⟩
  | .local _ .vmem, ⟨11, _⟩ => ⟨S1x1024x1408, .bf16⟩
  | .local _ .vmem, ⟨12, _⟩ => ⟨S1x1024x1408, .bf16⟩
  | .local _ .vmem, ⟨13, _⟩ => ⟨S1x1024x1408, .bf16⟩
  | .local _ .vmem, ⟨14, _⟩ => ⟨S1x1408x1024, .bf16⟩
  | .local _ .vmem, ⟨15, _⟩ => ⟨S1x1408x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![32, 1, 2], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg2 : BitVec 32 := BitVec.ofNat 32 (i 2).val
  let c1_i32 : BitVec 32 := 1#32
  let v4 : BitVec 1 := Scalar.cmpi .eq arg2 c1_i32
  let v5 : BitVec 1 := Scalar.andi v3 v4
  let v27 : BitVec 32 := Scalar.extui v5
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  ![v16.toNat, c0_i32_4.toNat, c4_i32_5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== DenseRefIdeal.lean ====
abbrev S16384x1024 : Shape := ⟨2, ![16384, 1024]⟩
abbrev S8x1x6144 : Shape := ⟨3, ![8, 1, 6144]⟩
abbrev S1x1024x2816 : Shape := ⟨3, ![1, 1024, 2816]⟩
abbrev S1x2816x1024 : Shape := ⟨3, ![1, 2816, 1024]⟩
abbrev S1x1024 : Shape := ⟨2, ![1, 1024]⟩
abbrev S8x2048x1024 : Shape := ⟨3, ![8, 2048, 1024]⟩
abbrev S8x1x1024 : Shape := ⟨3, ![8, 1, 1024]⟩
abbrev S_ : Shape := ⟨0, ![]⟩
abbrev S1024x2816 : Shape := ⟨2, ![1024, 2816]⟩
abbrev S8x2048x2816 : Shape := ⟨3, ![8, 2048, 2816]⟩
abbrev S2816x1024 : Shape := ⟨2, ![2816, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S8x2048x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S_, .f32⟩
  | .hbm, ⟨15, _⟩ => ⟨S8x1x1024, .f32⟩
  | .hbm, ⟨16, _⟩ => ⟨S8x1x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S1024x2816, .f32⟩
  | .hbm, ⟨22, _⟩ => ⟨S8x2048x2816, .f32⟩
  | .hbm, ⟨23, _⟩ => ⟨S8x2048x2816, .f32⟩
  | .hbm, ⟨24, _⟩ => ⟨S8x2048x2816, .f32⟩
  | .hbm, ⟨25, _⟩ => ⟨S_, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S1024x2816, .f32⟩
  | .hbm, ⟨33, _⟩ => ⟨S8x2048x2816, .f32⟩
  | .hbm, ⟨34, _⟩ => ⟨S8x2048x2816, .f32⟩
  | .hbm, ⟨35, _⟩ => ⟨S2816x1024, .f32⟩
  | .hbm, ⟨36, _⟩ => ⟨S8x2048x1024, .f32⟩
  | .hbm, ⟨37, _⟩ => ⟨S_, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1, .f32⟩
  | .hbm, ⟨67, _⟩ => ⟨S8x2048x1024, .f32⟩
  | .hbm, ⟨68, _⟩ => ⟨S8x2048x1024, .f32⟩
  | .hbm, ⟨69, _⟩ => ⟨S1x1x1024, .f32⟩
  | .hbm, ⟨70, _⟩ => ⟨S8x2048x1024, .f32⟩
  | .hbm, ⟨71, _⟩ => ⟨S8x2048x1024, .f32⟩
  | .hbm, ⟨72, _⟩ => ⟨S1x1x1024, .f32⟩
  | .hbm, ⟨73, _⟩ => ⟨S8x2048x1024, .f32⟩
  | .hbm, ⟨74, _⟩ => ⟨S8x2048x1024, .f32⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]
-- ==== OutProj.lean ====
abbrev S16384x512 : Shape := ⟨2, ![16384, 512]⟩
abbrev S16384x3584 : Shape := ⟨2, ![16384, 3584]⟩
abbrev S16384x1024 : Shape := ⟨2, ![16384, 1024]⟩
abbrev S8x1x6144 : Shape := ⟨3, ![8, 1, 6144]⟩
abbrev S1x128 : Shape := ⟨2, ![1, 128]⟩
abbrev S1024x1024 : Shape := ⟨2, ![1024, 1024]⟩
abbrev S1x1024 : Shape := ⟨2, ![1, 1024]⟩
abbrev S512x512 : Shape := ⟨2, ![512, 512]⟩
abbrev S512x1024 : Shape := ⟨2, ![512, 1024]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x3584, .f32⟩
  | .hbm, ⟨3, _⟩ => ⟨S16384x1024, .f32⟩
  | .hbm, ⟨4, _⟩ => ⟨S8x1x6144, .f32⟩
  | .hbm, ⟨5, _⟩ => ⟨S1x128, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x128, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S16384x512 : Shape := ⟨2, ![16384, 512]⟩
abbrev S16384x3584 : Shape := ⟨2, ![16384, 3584]⟩
abbrev S16384x1024 : Shape := ⟨2, ![16384, 1024]⟩
abbrev S8x1x6144 : Shape := ⟨3, ![8, 1, 6144]⟩
abbrev S1x128 : Shape := ⟨2, ![1, 128]⟩
abbrev S1024x1024 : Shape := ⟨2, ![1024, 1024]⟩
abbrev S1x1024 : Shape := ⟨2, ![1, 1024]⟩
abbrev S8x2048x1024 : Shape := ⟨3, ![8, 2048, 1024]⟩
abbrev S8x2048x512 : Shape := ⟨3, ![8, 2048, 512]⟩
abbrev S8x2048x4x128 : Shape := ⟨4, ![8, 2048, 4, 128]⟩
abbrev S8x2048x3584 : Shape := ⟨3, ![8, 2048, 3584]⟩
abbrev S8x1x1024 : Shape := ⟨3, ![8, 1, 1024]⟩
abbrev S_ : Shape := ⟨0, ![]⟩
abbrev S8x2048x4 : Shape := ⟨3, ![8, 2048, 4]⟩
abbrev S8x2048x4x1 : Shape := ⟨4, ![8, 2048, 4, 1]⟩
abbrev S128 : Shape := ⟨1, ![128]⟩
abbrev S1x1x1x128 : Shape := ⟨4, ![1, 1, 1, 128]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x3584, .f32⟩
  | .hbm, ⟨3, _⟩ => ⟨S16384x1024, .f32⟩
  | .hbm, ⟨4, _⟩ => ⟨S8x1x6144, .f32⟩
  | .hbm, ⟨5, _⟩ => ⟨S1x128, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S8x2048x1024, .f32⟩
  | .hbm, ⟨10, _⟩ => ⟨S8x2048x512, .f32⟩
  | .hbm, ⟨11, _⟩ => ⟨S8x2048x4x128, .f32⟩
  | .hbm, ⟨12, _⟩ => ⟨S8x2048x3584, .f32⟩
  | .hbm, ⟨13, _⟩ => ⟨S8x2048x512, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x2048x4x128, .f32⟩
  | .hbm, ⟨21, _⟩ => ⟨S_, .f32⟩
  | .hbm, ⟨22, _⟩ => ⟨S8x2048x4, .f32⟩
  | .hbm, ⟨23, _⟩ => ⟨S8x2048x4x1, .f32⟩
  | .hbm, ⟨24, _⟩ => ⟨S_, .f32⟩
  | .hbm, ⟨25, _⟩ => ⟨S8x2048x4x1, .f32⟩
  | .hbm, ⟨26, _⟩ => ⟨S8x2048x4x1, .f32⟩
  | .hbm, ⟨27, _⟩ => ⟨S_, .f32⟩
  | .hbm, ⟨28, _⟩ => ⟨S8x2048x4x1, .f32⟩
  | .hbm, ⟨29, _⟩ => ⟨S8x2048x4x1, .f32⟩
  | .hbm, ⟨30, _⟩ => ⟨S8x2048x4x1, .f32⟩
  | .hbm, ⟨31, _⟩ => ⟨S8x2048x4x128, .f32⟩
  | .hbm, ⟨32, _⟩ => ⟨S8x2048x4x128, .f32⟩
  | .hbm, ⟨33, _⟩ => ⟨S128, .f32⟩
  | .hbm, ⟨34, _⟩ => ⟨S1x1x1x128, .f32⟩
  | .hbm, ⟨35, _⟩ => ⟨S8x2048x4x128, .f32⟩
  | .hbm, ⟨36, _⟩ => ⟨S8x2048x4x128, .f32⟩
  | .hbm, ⟨37, _⟩ => ⟨S8x2048x512, .f32⟩
  | .hbm, ⟨38, _⟩ => ⟨S8x2048x512, .f32⟩
  | .hbm, ⟨39, _⟩ => ⟨S8x2048x512, .f32⟩
  | .hbm, ⟨40, _⟩ => ⟨S_, .f32⟩
  | .hbm, ⟨41, _⟩ => ⟨S8x2048x512, .f32⟩
  | .hbm, ⟨42, _⟩ => ⟨S8x2048x512, .f32⟩
  | .hbm, ⟨43, _⟩ => ⟨S_, .f32⟩
  | .hbm, ⟨44, _⟩ => ⟨S8x2048x512, .f32⟩
  | .hbm, ⟨45, _⟩ => ⟨S8x2048x512, .f32⟩
  | .hbm, ⟨46, _⟩ => ⟨S8x2048x512, .f32⟩
  | .hbm, ⟨47, _⟩ => ⟨S8x2048x512, .f32⟩
  | .hbm, ⟨48, _⟩ => ⟨S8x2048x1024, .f32⟩
  | .hbm, ⟨49, _⟩ => ⟨S8x2048x1024, .f32⟩
  | .hbm, ⟨50, _⟩ => ⟨S_, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x1x1024, .f32⟩
  | .hbm, ⟨55, _⟩ => ⟨S8x1x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S_, .f32⟩
  | .hbm, ⟨71, _⟩ => ⟨S8x2048, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S8x2048x1, .f32⟩
  | .hbm, ⟨80, _⟩ => ⟨S8x2048x1024, .f32⟩
  | .hbm, ⟨81, _⟩ => ⟨S8x2048x1024, .f32⟩
  | .hbm, ⟨82, _⟩ => ⟨S1x1x1024, .f32⟩
  | .hbm, ⟨83, _⟩ => ⟨S8x2048x1024, .f32⟩
  | .hbm, ⟨84, _⟩ => ⟨S8x2048x1024, .f32⟩
  | .hbm, ⟨85, _⟩ => ⟨S1x1x1024, .f32⟩
  | .hbm, ⟨86, _⟩ => ⟨S8x2048x1024, .f32⟩
  | .hbm, ⟨87, _⟩ => ⟨S8x2048x1024, .f32⟩
  | .hbm, ⟨88, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]
-- ==== InProj.lean ====
abbrev S16384x1024 : Shape := ⟨2, ![16384, 1024]⟩
abbrev S8x1x6144 : Shape := ⟨3, ![8, 1, 6144]⟩
abbrev S1024x3592 : Shape := ⟨2, ![1024, 3592]⟩
abbrev S1024x3584 : Shape := ⟨2, ![1024, 3584]⟩
abbrev S1024x128 : Shape := ⟨2, ![1024, 128]⟩
abbrev S16384x3584 : Shape := ⟨2, ![16384, 3584]⟩
abbrev S16384x128 : Shape := ⟨2, ![16384, 128]⟩
abbrev S512x1024 : Shape := ⟨2, ![512, 1024]⟩
abbrev S1x1x1024 : Shape := ⟨3, ![1, 1, 1024]⟩
abbrev S512x3584 : Shape := ⟨2, ![512, 3584]⟩
abbrev S512x128 : Shape := ⟨2, ![512, 128]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S1024x3592, .f32⟩
  | .hbm, ⟨3, _⟩ => ⟨S1024x3584, .f32⟩
  | .hbm, ⟨4, _⟩ => ⟨S1024x3584, .bf16⟩
  | .hbm, ⟨5, _⟩ => ⟨S1024x128, .f32⟩
  | .hbm, ⟨6, _⟩ => ⟨S16384x3584, .f32⟩
  | .hbm, ⟨7, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3584, .bf16⟩
  | .local _ .vmem, ⟨7, _⟩ => ⟨S1024x128, .f32⟩
  | .local _ .vmem, ⟨8, _⟩ => ⟨S512x3584, .f32⟩
  | .local _ .vmem, ⟨9, _⟩ => ⟨S512x3584, .f32⟩
  | .local _ .vmem, ⟨10, _⟩ => ⟨S512x128, .f32⟩
  | .local _ .vmem, ⟨11, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjRefIdeal.lean ====
abbrev S16384x1024 : Shape := ⟨2, ![16384, 1024]⟩
abbrev S8x1x6144 : Shape := ⟨3, ![8, 1, 6144]⟩
abbrev S1024x3592 : Shape := ⟨2, ![1024, 3592]⟩
abbrev S8x2048x1024 : Shape := ⟨3, ![8, 2048, 1024]⟩
abbrev S8x1x1024 : Shape := ⟨3, ![8, 1, 1024]⟩
abbrev S_ : Shape := ⟨0, ![]⟩
abbrev S8x2048x3592 : Shape := ⟨3, ![8, 2048, 3592]⟩
abbrev S16384x3592 : Shape := ⟨2, ![16384, 3592]⟩
abbrev S16384x3584 : Shape := ⟨2, ![16384, 3584]⟩
abbrev S16384x128 : Shape := ⟨2, ![16384, 128]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S1024x3592, .f32⟩
  | .hbm, ⟨3, _⟩ => ⟨S8x2048x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S_, .f32⟩
  | .hbm, ⟨11, _⟩ => ⟨S8x1x1024, .f32⟩
  | .hbm, ⟨12, _⟩ => ⟨S8x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x3592, .f32⟩
  | .hbm, ⟨18, _⟩ => ⟨S16384x3592, .f32⟩
  | .hbm, ⟨19, _⟩ => ⟨S16384x3584, .f32⟩
  | .hbm, ⟨20, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Delta.lean ====
abbrev S16384x1536 : Shape := ⟨2, ![16384, 1536]⟩
abbrev S16384x128 : Shape := ⟨2, ![16384, 128]⟩
abbrev S8x4x128x128 : Shape := ⟨4, ![8, 4, 128, 128]⟩
abbrev S16384x512 : Shape := ⟨2, ![16384, 512]⟩
abbrev S256x1536 : Shape := ⟨2, ![256, 1536]⟩
abbrev S256x128 : Shape := ⟨2, ![256, 128]⟩
abbrev S1x4x128x128 : Shape := ⟨4, ![1, 4, 128, 128]⟩
abbrev S256x512 : Shape := ⟨2, ![256, 512]⟩
abbrev S4x128x128 : Shape := ⟨3, ![4, 128, 128]⟩
abbrev S64x128 : Shape := ⟨2, ![64, 128]⟩
abbrev S64x1 : Shape := ⟨2, ![64, 1]⟩
abbrev S1x64x128 : Shape := ⟨3, ![1, 64, 128]⟩
abbrev S16x64x128 : Shape := ⟨3, ![16, 64, 128]⟩
abbrev S16x64x64 : Shape := ⟨3, ![16, 64, 64]⟩
abbrev S16x64 : Shape := ⟨2, ![16, 64]⟩
abbrev S16x1x64 : Shape := ⟨3, ![16, 1, 64]⟩
abbrev S16x128x128 : Shape := ⟨3, ![16, 128, 128]⟩
abbrev S16x128x64 : Shape := ⟨3, ![16, 128, 64]⟩
abbrev S16x64x256 : Shape := ⟨3, ![16, 64, 256]⟩
abbrev S16x64x320 : Shape := ⟨3, ![16, 64, 320]⟩
abbrev S16x1x128 : Shape := ⟨3, ![16, 1, 128]⟩
abbrev S16x128x256 : Shape := ⟨3, ![16, 128, 256]⟩
abbrev S4x64x128 : Shape := ⟨3, ![4, 64, 128]⟩
abbrev S4x1x128 : Shape := ⟨3, ![4, 1, 128]⟩
abbrev S4x192x128 : Shape := ⟨3, ![4, 192, 128]⟩

abbrev nBuf : Space → Nat
  | .hbm => 5
  | .vmem => 11
  | .smem => 0
  | _ => 0

abbrev bufTy : (tb : Table) → Fin (tcTables nBuf tb) → BufTy
  | .hbm, ⟨0, _⟩ => ⟨S16384x1536, .f32⟩
  | .hbm, ⟨1, _⟩ => ⟨S16384x128, .f32⟩
  | .hbm, ⟨2, _⟩ => ⟨S8x4x128x128, .f32⟩
  | .hbm, ⟨3, _⟩ => ⟨S16384x512, .f32⟩
  | .hbm, ⟨4, _⟩ => ⟨S8x4x128x128, .f32⟩
  | .local _ .vmem, ⟨0, _⟩ => ⟨S256x1536, .f32⟩
  | .local _ .vmem, ⟨1, _⟩ => ⟨S256x1536, .f32⟩
  | .local _ .vmem, ⟨2, _⟩ => ⟨S256x128, .f32⟩
  | .local _ .vmem, ⟨3, _⟩ => ⟨S256x128, .f32⟩
  | .local _ .vmem, ⟨4, _⟩ => ⟨S1x4x128x128, .f32⟩
  | .local _ .vmem, ⟨5, _⟩ => ⟨S1x4x128x128, .f32⟩
  | .local _ .vmem, ⟨6, _⟩ => ⟨S256x512, .f32⟩
  | .local _ .vmem, ⟨7, _⟩ => ⟨S256x512, .f32⟩
  | .local _ .vmem, ⟨8, _⟩ => ⟨S1x4x128x128, .f32⟩
  | .local _ .vmem, ⟨9, _⟩ => ⟨S1x4x128x128, .f32⟩
  | .local _ .vmem, ⟨10, _⟩ => ⟨S4x128x128, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v548 : BitVec 1 := Scalar.cmpi .eq arg1 c7_i32
  let v549 : BitVec 32 := Scalar.extui v548
  let c0_i32_80 : BitVec 32 := 0#32
  let v550 : BitVec 1 := Scalar.cmpi .ne v549 c0_i32_80
  v550

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DeltaRefIdeal.lean ====
abbrev S16384x1536 : Shape := ⟨2, ![16384, 1536]⟩
abbrev S16384x128 : Shape := ⟨2, ![16384, 128]⟩
abbrev S8x4x128x128 : Shape := ⟨4, ![8, 4, 128, 128]⟩
abbrev S16384x512 : Shape := ⟨2, ![16384, 512]⟩
abbrev S8x2048x4x128 : Shape := ⟨4, ![8, 2048, 4, 128]⟩
abbrev S16384x4 : Shape := ⟨2, ![16384, 4]⟩
abbrev S8x2048x4 : Shape := ⟨3, ![8, 2048, 4]⟩
abbrev S2048x8x4x128 : Shape := ⟨4, ![2048, 8, 4, 128]⟩
abbrev S2048x8x4 : Shape := ⟨3, ![2048, 8, 4]⟩
abbrev S_ : Shape := ⟨0, ![]⟩
abbrev S1x8x4x128 : Shape := ⟨4, ![1, 8, 4, 128]⟩
abbrev S8x4x128 : Shape := ⟨3, ![8, 4, 128]⟩
abbrev S1x8x4 : Shape := ⟨3, ![1, 8, 4]⟩
abbrev S8x4 : Shape := ⟨2, ![8, 4]⟩
abbrev S8x4x1x1 : Shape := ⟨4, ![8, 4, 1, 1]⟩
abbrev S8x4x128x1 : Shape := ⟨4, ![8, 4, 128, 1]⟩
abbrev S8x4x1 : Shape := ⟨3, ![8, 4, 1]⟩
abbrev S8x4x1x128 : Shape := ⟨4, ![8, 4, 1, 128]⟩

abbrev nBuf : Space → Nat
  | .hbm => 79
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S16384x128, .f32⟩
  | .hbm, ⟨2, _⟩ => ⟨S8x4x128x128, .f32⟩
  | .hbm, ⟨3, _⟩ => ⟨S16384x512, .f32⟩
  | .hbm, ⟨4, _⟩ => ⟨S8x2048x4x128, .f32⟩
  | .hbm, ⟨5, _⟩ => ⟨S16384x512, .f32⟩
  | .hbm, ⟨6, _⟩ => ⟨S8x2048x4x128, .f32⟩
  | .hbm, ⟨7, _⟩ => ⟨S16384x512, .f32⟩
  | .hbm, ⟨8, _⟩ => ⟨S8x2048x4x128, .f32⟩
  | .hbm, ⟨9, _⟩ => ⟨S16384x4, .f32⟩
  | .hbm, ⟨10, _⟩ => ⟨S8x2048x4, .f32⟩
  | .hbm, ⟨11, _⟩ => ⟨S16384x4, .f32⟩
  | .hbm, ⟨12, _⟩ => ⟨S8x2048x4, .f32⟩
  | .hbm, ⟨13, _⟩ => ⟨S2048x8x4x128, .f32⟩
  | .hbm, ⟨14, _⟩ => ⟨S2048x8x4x128, .f32⟩
  | .hbm, ⟨15, _⟩ => ⟨S2048x8x4x128, .f32⟩
  | .hbm, ⟨16, _⟩ => ⟨S2048x8x4, .f32⟩
  | .hbm, ⟨17, _⟩ => ⟨S2048x8x4, .f32⟩
  | .hbm, ⟨18, _⟩ => ⟨S_, .f32⟩
  | .hbm, ⟨19, _⟩ => ⟨S2048x8x4x128, .f32⟩
  | .hbm, ⟨20, _⟩ => ⟨S_, .i32⟩
  | .hbm, ⟨21, _⟩ => ⟨S2048x8x4x128, .f32⟩
  | .hbm, ⟨22, _⟩ => ⟨S2048x8x4x128, .f32⟩
  | .hbm, ⟨23, _⟩ => ⟨S2048x8x4x128, .f32⟩
  | .hbm, ⟨24, _⟩ => ⟨S2048x8x4, .f32⟩
  | .hbm, ⟨25, _⟩ => ⟨S2048x8x4, .f32⟩
  | .hbm, ⟨26, _⟩ => ⟨S_, .i32⟩
  | .hbm, ⟨27, _⟩ => ⟨S8x4x128x128, .f32⟩
  | .hbm, ⟨28, _⟩ => ⟨S2048x8x4x128, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x8x4x128, .f32⟩
  | .hbm, ⟨35, _⟩ => ⟨S8x4x128, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x8x4x128, .f32⟩
  | .hbm, ⟨40, _⟩ => ⟨S8x4x128, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x8x4x128, .f32⟩
  | .hbm, ⟨45, _⟩ => ⟨S8x4x128, .f32⟩
  | .hbm, ⟨46, _⟩ => ⟨S_, .i32⟩
  | .hbm, ⟨47, _⟩ => ⟨S_, .i32⟩
  | .hbm, ⟨48, _⟩ => ⟨S1x8x4, .f32⟩
  | .hbm, ⟨49, _⟩ => ⟨S8x4, .f32⟩
  | .hbm, ⟨50, _⟩ => ⟨S_, .i32⟩
  | .hbm, ⟨51, _⟩ => ⟨S_, .i32⟩
  | .hbm, ⟨52, _⟩ => ⟨S1x8x4, .f32⟩
  | .hbm, ⟨53, _⟩ => ⟨S8x4, .f32⟩
  | .hbm, ⟨54, _⟩ => ⟨S8x4, .f32⟩
  | .hbm, ⟨55, _⟩ => ⟨S8x4x1x1, .f32⟩
  | .hbm, ⟨56, _⟩ => ⟨S8x4x128x128, .f32⟩
  | .hbm, ⟨57, _⟩ => ⟨S8x4x128x128, .f32⟩
  | .hbm, ⟨58, _⟩ => ⟨S8x4x128, .f32⟩
  | .hbm, ⟨59, _⟩ => ⟨S8x4x128x1, .f32⟩
  | .hbm, ⟨60, _⟩ => ⟨S8x4x1, .f32⟩
  | .hbm, ⟨61, _⟩ => ⟨S8x4x128, .f32⟩
  | .hbm, ⟨62, _⟩ => ⟨S8x4x128, .f32⟩
  | .hbm, ⟨63, _⟩ => ⟨S8x4x128, .f32⟩
  | .hbm, ⟨64, _⟩ => ⟨S8x4x1x128, .f32⟩
  | .hbm, ⟨65, _⟩ => ⟨S8x4x128x128, .f32⟩
  | .hbm, ⟨66, _⟩ => ⟨S8x4x128x128, .f32⟩
  | .hbm, ⟨67, _⟩ => ⟨S8x4x128x128, .f32⟩
  | .hbm, ⟨68, _⟩ => ⟨S8x4x128x128, .f32⟩
  | .hbm, ⟨69, _⟩ => ⟨S8x4x128, .f32⟩
  | .hbm, ⟨70, _⟩ => ⟨S1x8x4x128, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S2048x8x4x128, .f32⟩
  | .hbm, ⟨75, _⟩ => ⟨S_, .i32⟩
  | .hbm, ⟨76, _⟩ => ⟨S_, .i32⟩
  | .hbm, ⟨77, _⟩ => ⟨S8x2048x4x128, .f32⟩
  | .hbm, ⟨78, _⟩ => ⟨S16384x512, .f32⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_c : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_v16_4 : Ref sig .tc := ⟨.hbm, 25, rfl⟩
abbrev main_v16_5 : Ref sig .tc := ⟨.hbm, 26, rfl⟩
abbrev main_v16_6 : Ref sig .tc := ⟨.hbm, 27, rfl⟩
abbrev main_v16_7 : Ref sig .tc := ⟨.hbm, 28, rfl⟩
abbrev main_while0c_c_7 : Ref sig .tc := ⟨.hbm, 29, rfl⟩
abbrev main_while0c_v19 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_c_1 : Ref sig .tc := ⟨.hbm, 33, rfl⟩
abbrev main_while0b_call0_v0 : Ref sig .tc := ⟨.hbm, 34, rfl⟩
abbrev main_while0b_v19 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_c_1 : Ref sig .tc := ⟨.hbm, 38, rfl⟩
abbrev main_while0b_call1_v0 : Ref sig .tc := ⟨.hbm, 39, rfl⟩
abbrev main_while0b_v20 : Ref sig .tc := ⟨.hbm, 40, rfl⟩
abbrev main_while0b_call2_c : Ref sig .tc := ⟨.hbm, 41, rfl⟩
abbrev main_while0b_call2_c_0 : Ref sig .tc := ⟨.hbm, 42, rfl⟩
abbrev main_while0b_call2_c_1 : Ref sig .tc := ⟨.hbm, 43, rfl⟩
abbrev main_while0b_call2_v0 : Ref sig .tc := ⟨.hbm, 44, rfl⟩
abbrev main_while0b_v21 : Ref sig .tc := ⟨.hbm, 45, rfl⟩
abbrev main_while0b_call3_c : Ref sig .tc := ⟨.hbm, 46, rfl⟩
abbrev main_while0b_call3_c_0 : Ref sig .tc := ⟨.hbm, 47, rfl⟩
abbrev main_while0b_call3_v0 : Ref sig .tc := ⟨.hbm, 48, rfl⟩
abbrev main_while0b_v22 : Ref sig .tc := ⟨.hbm, 49, rfl⟩
abbrev main_while0b_call4_c : Ref sig .tc := ⟨.hbm, 50, rfl⟩
abbrev main_while0b_call4_c_0 : Ref sig .tc := ⟨.hbm, 51, rfl⟩
abbrev main_while0b_call4_v0 : Ref sig .tc := ⟨.hbm, 52, rfl⟩
abbrev main_while0b_v23 : Ref sig .tc := ⟨.hbm, 53, rfl⟩
abbrev main_while0b_v24 : Ref sig .tc := ⟨.hbm, 54, rfl⟩
abbrev main_while0b_v25 : Ref sig .tc := ⟨.hbm, 55, rfl⟩
abbrev main_while0b_v26 : Ref sig .tc := ⟨.hbm, 56, rfl⟩
abbrev main_while0b_v27 : Ref sig .tc := ⟨.hbm, 57, rfl⟩
abbrev main_while0b_v28 : Ref sig .tc := ⟨.hbm, 58, rfl⟩
abbrev main_while0b_v29 : Ref sig .tc := ⟨.hbm, 59, rfl⟩
abbrev main_while0b_v30 : Ref sig .tc := ⟨.hbm, 60, rfl⟩
abbrev main_while0b_v31 : Ref sig .tc := ⟨.hbm, 61, rfl⟩
abbrev main_while0b_v32 : Ref sig .tc := ⟨.hbm, 62, rfl⟩
abbrev main_while0b_v33 : Ref sig .tc := ⟨.hbm, 63, rfl⟩
abbrev main_while0b_v34 : Ref sig .tc := ⟨.hbm, 64, rfl⟩
abbrev main_while0b_v35 : Ref sig .tc := ⟨.hbm, 65, rfl⟩
abbrev main_while0b_v36 : Ref sig .tc := ⟨.hbm, 66, rfl⟩
abbrev main_while0b_v37 : Ref sig .tc := ⟨.hbm, 67, rfl⟩
abbrev main_while0b_v38 : Ref sig .tc := ⟨.hbm, 68, rfl⟩
abbrev main_while0b_v39 : Ref sig .tc := ⟨.hbm, 69, rfl⟩
abbrev main_while0b_call5_v0 : Ref sig .tc := ⟨.hbm, 70, rfl⟩
abbrev main_while0b_call5_c : Ref sig .tc := ⟨.hbm, 71, rfl⟩
abbrev main_while0b_call5_c_0 : Ref sig .tc := ⟨.hbm, 72, rfl⟩
abbrev main_while0b_call5_c_1 : Ref sig .tc := ⟨.hbm, 73, rfl⟩
abbrev main_while0b_v40 : Ref sig .tc := ⟨.hbm, 74, rfl⟩
abbrev main_while0b_c_7 : Ref sig .tc := ⟨.hbm, 75, rfl⟩
abbrev main_while0b_v41 : Ref sig .tc := ⟨.hbm, 76, rfl⟩
abbrev main_v17 : Ref sig .tc := ⟨.hbm, 77, rfl⟩
abbrev main_v18 : Ref sig .tc := ⟨.hbm, 78, rfl⟩

abbrev nD : Nat := 1
abbrev τ : Topo := Topo.v7x

variable {F : FTy → Type} [FloatOps F]

abbrev main_while0_count : Scf.Loop 32 := ⟨0#32, 2048#32, 1#32⟩
-- ==== MoeS.lean ====
abbrev S512x1024 : Shape := ⟨2, ![512, 1024]⟩
abbrev S1x128x6144 : Shape := ⟨3, ![1, 128, 6144]⟩
abbrev S512x128 : Shape := ⟨2, ![512, 128]⟩
abbrev S8x1024x1408 : Shape := ⟨3, ![8, 1024, 1408]⟩
abbrev S8x1408x1024 : Shape := ⟨3, ![8, 1408, 1024]⟩
abbrev S1x1024 : Shape := ⟨2, ![1, 1024]⟩
abbrev S128x1024 : Shape := ⟨2, ![128, 1024]⟩
abbrev S1x128x1024 : Shape := ⟨3, ![1, 128, 1024]⟩
abbrev S128x128 : Shape := ⟨2, ![128, 128]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S128x1408 : Shape := ⟨2, ![128, 1408]⟩
abbrev S1408x1024 : Shape := ⟨2, ![1408, 1024]⟩
abbrev S128 : Shape := ⟨1, ![128]⟩
abbrev S128x1 : Shape := ⟨2, ![128, 1]⟩

abbrev nBuf : Space → Nat
  | .hbm => 12
  | .vmem => 22
  | .smem => 0
  | _ => 0

abbrev bufTy : (tb : Table) → Fin (tcTables nBuf tb) → BufTy
  | .hbm, ⟨0, _⟩ => ⟨S512x1024, .f32⟩
  | .hbm, ⟨1, _⟩ => ⟨S1x128x6144, .f32⟩
  | .hbm, ⟨2, _⟩ => ⟨S512x128, .f32⟩
  | .hbm, ⟨3, _⟩ => ⟨S8x1024x1408, .f32⟩
  | .hbm, ⟨4, _⟩ => ⟨S8x1024x1408, .f32⟩
  | .hbm, ⟨5, _⟩ => ⟨S8x1408x1024, .f32⟩
  | .hbm, ⟨6, _⟩ => ⟨S1x1024, .f32⟩
  | .hbm, ⟨7, _⟩ => ⟨S1x1024, .f32⟩
  | .hbm, ⟨8, _⟩ => ⟨S8x1024x1408, .bf16⟩
  | .hbm, ⟨9, _⟩ => ⟨S8x1024x1408, .bf16⟩
  | .hbm, ⟨10, _⟩ => ⟨S8x1408x1024, .bf16⟩
  | .hbm, ⟨11, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S128x128, .f32⟩
  | .local _ .vmem, ⟨9, _⟩ => ⟨S128x128, .f32⟩
  | .local _ .vmem, ⟨10, _⟩ => ⟨S1x1024x1408, .bf16⟩
  | .local _ .vmem, ⟨11, _⟩ => ⟨S1x1024x1408, .bf16⟩
  | .local _ .vmem, ⟨12, _⟩ => ⟨S1x1024x1408, .bf16⟩
  | .local _ .vmem, ⟨13, _⟩ => ⟨S1x1024x1408, .bf16⟩
  | .local _ .vmem, ⟨14, _⟩ => ⟨S1x1408x1024, .bf16⟩
  | .local _ .vmem, ⟨15, _⟩ => ⟨S1x1408x1024, .bf16⟩
  | .local _ .vmem, ⟨16, _⟩ => ⟨S1x1024, .f32⟩
  | .local _ .vmem, ⟨17, _⟩ => ⟨S1x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .bf16⟩
  | .local _ .vmem, ⟨21, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg1 : BitVec 32 := BitVec.ofNat 32 (i 1).val
  let c7_i32 : BitVec 32 := 7#32
  let v3 : BitVec 1 := Scalar.cmpi .eq arg1 c7_i32
  let arg2 : BitVec 32 := BitVec.ofNat 32 (i 2).val
  let c0_i32_1 : BitVec 32 := 0#32
  let v4 : BitVec 1 := Scalar.cmpi .eq arg2 c0_i32_1
  let v5 : BitVec 1 := Scalar.andi v3 v4
  let v37 : BitVec 32 := Scalar.extui v5
  let c0_i32_23 : BitVec 32 := 0#32
  let v38 : BitVec 1 := Scalar.cmpi .ne v37 c0_i32_23
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  ![v16.toNat, c0_i32_4.toNat, c4_i32_5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== MoeSRefIdeal.lean ====
abbrev S512x1024 : Shape := ⟨2, ![512, 1024]⟩
abbrev S1x128x6144 : Shape := ⟨3, ![1, 128, 6144]⟩
abbrev S512x128 : Shape := ⟨2, ![512, 128]⟩
abbrev S8x1024x1408 : Shape := ⟨3, ![8, 1024, 1408]⟩
abbrev S8x1408x1024 : Shape := ⟨3, ![8, 1408, 1024]⟩
abbrev S1x1024 : Shape := ⟨2, ![1, 1024]⟩
abbrev S4x128x1024 : Shape := ⟨3, ![4, 128, 1024]⟩
abbrev S4x128x128 : Shape := ⟨3, ![4, 128, 128]⟩
abbrev S4x128x8 : Shape := ⟨3, ![4, 128, 8]⟩
abbrev S1x128x1024 : Shape := ⟨3, ![1, 128, 1024]⟩
abbrev S_ : Shape := ⟨0, ![]⟩
abbrev S4x128x8x1408 : Shape := ⟨4, ![4, 128, 8, 1408]⟩
abbrev S4x128x8x1 : Shape := ⟨4, ![4, 128, 8, 1]⟩
abbrev S8x1024x4x128 : Shape := ⟨4, ![8, 1024, 4, 128]⟩
abbrev S4x128x8x1024 : Shape := ⟨4, ![4, 128, 8, 1024]⟩
abbrev S1024 : Shape := ⟨1, ![1024]⟩
abbrev S4x128 : Shape := ⟨2, ![4, 128]⟩
abbrev S4x128x1 : Shape := ⟨3, ![4, 128, 1]⟩
abbrev S1x1x1024 : Shape := ⟨3, ![1, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x128x6144, .f32⟩
  | .hbm, ⟨2, _⟩ => ⟨S512x128, .f32⟩
  | .hbm, ⟨3, _⟩ => ⟨S8x1024x1408, .f32⟩
  | .hbm, ⟨4, _⟩ => ⟨S8x1024x1408, .f32⟩
  | .hbm, ⟨5, _⟩ => ⟨S8x1408x1024, .f32⟩
  | .hbm, ⟨6, _⟩ => ⟨S1x1024, .f32⟩
  | .hbm, ⟨7, _⟩ => ⟨S1x1024, .f32⟩
  | .hbm, ⟨8, _⟩ => ⟨S4x128x1024, .f32⟩
  | .hbm, ⟨9, _⟩ => ⟨S4x128x128, .f32⟩
  | .hbm, ⟨10, _⟩ => ⟨S4x128x8, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S1x128x1024, .f32⟩
  | .hbm, ⟨16, _⟩ => ⟨S1x128x1024, .f32⟩
  | .hbm, ⟨17, _⟩ => ⟨S_, .f32⟩
  | .hbm, ⟨18, _⟩ => ⟨S1x128x1024, .f32⟩
  | .hbm, ⟨19, _⟩ => ⟨S1x128x1024, .f32⟩
  | .hbm, ⟨20, _⟩ => ⟨S4x128x1024, .f32⟩
  | .hbm, ⟨21, _⟩ => ⟨S4x128x1024, .f32⟩
  | .hbm, ⟨22, _⟩ => ⟨S4x128x1024, .f32⟩
  | .hbm, ⟨23, _⟩ => ⟨S4x128x1024, .f32⟩
  | .hbm, ⟨24, _⟩ => ⟨S4x128x8x1408, .f32⟩
  | .hbm, ⟨25, _⟩ => ⟨S4x128x8x1408, .f32⟩
  | .hbm, ⟨26, _⟩ => ⟨S4x128x8x1408, .f32⟩
  | .hbm, ⟨27, _⟩ => ⟨S_, .f32⟩
  | .hbm, ⟨28, _⟩ => ⟨S4x128x8x1408, .f32⟩
  | .hbm, ⟨29, _⟩ => ⟨S4x128x8x1408, .f32⟩
  | .hbm, ⟨30, _⟩ => ⟨S_, .f32⟩
  | .hbm, ⟨31, _⟩ => ⟨S4x128x8x1408, .f32⟩
  | .hbm, ⟨32, _⟩ => ⟨S4x128x8x1408, .f32⟩
  | .hbm, ⟨33, _⟩ => ⟨S4x128x8x1408, .f32⟩
  | .hbm, ⟨34, _⟩ => ⟨S4x128x8x1408, .f32⟩
  | .hbm, ⟨35, _⟩ => ⟨S4x128x8x1408, .f32⟩
  | .hbm, ⟨36, _⟩ => ⟨S4x128x8x1, .f32⟩
  | .hbm, ⟨37, _⟩ => ⟨S8x1024x4x128, .f32⟩
  | .hbm, ⟨38, _⟩ => ⟨S4x128x8x1024, .f32⟩
  | .hbm, ⟨39, _⟩ => ⟨S4x128x8x1024, .f32⟩
  | .hbm, ⟨40, _⟩ => ⟨S4x128x8x1024, .f32⟩
  | .hbm, ⟨41, _⟩ => ⟨S_, .f32⟩
  | .hbm, ⟨42, _⟩ => ⟨S4x128x1024, .f32⟩
  | .hbm, ⟨43, _⟩ => ⟨S_, .f32⟩
  | .hbm, ⟨44, _⟩ => ⟨S4x128x1024, .f32⟩
  | .hbm, ⟨45, _⟩ => ⟨S4x128x1024, .f32⟩
  | .hbm, ⟨46, _⟩ => ⟨S_, .f32⟩
  | .hbm, ⟨47, _⟩ => ⟨S1x128x1024, .f32⟩
  | .hbm, ⟨48, _⟩ => ⟨S1x128x1024, .f32⟩
  | .hbm, ⟨49, _⟩ => ⟨S4x128x1024, .f32⟩
  | .hbm, ⟨50, _⟩ => ⟨S4x128x1024, .f32⟩
  | .hbm, ⟨51, _⟩ => ⟨S4x128x1024, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S4x128, .f32⟩
  | .hbm, ⟨56, _⟩ => ⟨S4x128x1, .f32⟩
  | .hbm, ⟨57, _⟩ => ⟨S_, .f32⟩
  | .hbm, ⟨58, _⟩ => ⟨S4x128x1, .f32⟩
  | .hbm, ⟨59, _⟩ => ⟨S4x128x1, .f32⟩
  | .hbm, ⟨60, _⟩ => ⟨S4x128x1024, .f32⟩
  | .hbm, ⟨61, _⟩ => ⟨S4x128x1024, .f32⟩
  | .hbm, ⟨62, _⟩ => ⟨S4x128x1024, .f32⟩
  | .hbm, ⟨63, _⟩ => ⟨S_, .f32⟩
  | .hbm, ⟨64, _⟩ => ⟨S4x128, .f32⟩
  | .hbm, ⟨65, _⟩ => ⟨S4x128x1, .f32⟩
  | .hbm, ⟨66, _⟩ => ⟨S_, .f32⟩
  | .hbm, ⟨67, _⟩ => ⟨S4x128x1, .f32⟩
  | .hbm, ⟨68, _⟩ => ⟨S4x128x1, .f32⟩
  | .hbm, ⟨69, _⟩ => ⟨S_, .f32⟩
  | .hbm, ⟨70, _⟩ => ⟨S4x128x1, .f32⟩
  | .hbm, ⟨71, _⟩ => ⟨S4x128x1, .f32⟩
  | .hbm, ⟨72, _⟩ => ⟨S4x128x1, .f32⟩
  | .hbm, ⟨73, _⟩ => ⟨S4x128x1024, .f32⟩
  | .hbm, ⟨74, _⟩ => ⟨S4x128x1024, .f32⟩
  | .hbm, ⟨75, _⟩ => ⟨S1x1x1024, .f32⟩
  | .hbm, ⟨76, _⟩ => ⟨S4x128x1024, .f32⟩
  | .hbm, ⟨77, _⟩ => ⟨S4x128x1024, .f32⟩
  | .hbm, ⟨78, _⟩ => ⟨S1x1x1024, .f32⟩
  | .hbm, ⟨79, _⟩ => ⟨S4x128x1024, .f32⟩
  | .hbm, ⟨80, _⟩ => ⟨S4x128x1024, .f32⟩
  | .hbm, ⟨81, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Pre.lean ====
abbrev S16384x3584 : Shape := ⟨2, ![16384, 3584]⟩
abbrev S16384x128 : Shape := ⟨2, ![16384, 128]⟩
abbrev S3x512 : Shape := ⟨2, ![3, 512]⟩
abbrev S4x1536 : Shape := ⟨2, ![4, 1536]⟩
abbrev S2x128 : Shape := ⟨2, ![2, 128]⟩
abbrev S8x2x512 : Shape := ⟨3, ![8, 2, 512]⟩
abbrev S8x3x1536 : Shape := ⟨3, ![8, 3, 1536]⟩
abbrev S16384x512 : Shape := ⟨2, ![16384, 512]⟩
abbrev S16384x1536 : Shape := ⟨2, ![16384, 1536]⟩
abbrev S256x3584 : Shape := ⟨2, ![256, 3584]⟩
abbrev S256x128 : Shape := ⟨2, ![256, 128]⟩
abbrev S1x2x512 : Shape := ⟨3, ![1, 2, 512]⟩
abbrev S1x3x1536 : Shape := ⟨3, ![1, 3, 1536]⟩
abbrev S256x512 : Shape := ⟨2, ![256, 512]⟩
abbrev S256x1536 : Shape := ⟨2, ![256, 1536]⟩
abbrev S8x512 : Shape := ⟨2, ![8, 512]⟩
abbrev S8x1536 : Shape := ⟨2, ![8, 1536]⟩
abbrev S2x512 : Shape := ⟨2, ![2, 512]⟩
abbrev S3x1536 : Shape := ⟨2, ![3, 1536]⟩
abbrev S1x512 : Shape := ⟨2, ![1, 512]⟩
abbrev S1x1536 : Shape := ⟨2, ![1, 1536]⟩
abbrev S256 : Shape := ⟨1, ![256]⟩
abbrev S256x1 : Shape := ⟨2, ![256, 1]⟩
abbrev S1x128 : Shape := ⟨2, ![1, 128]⟩

abbrev nBuf : Space → Nat
  | .hbm => 12
  | .vmem => 23
  | .smem => 0
  | _ => 0

abbrev bufTy : (tb : Table) → Fin (tcTables nBuf tb) → BufTy
  | .hbm, ⟨0, _⟩ => ⟨S16384x3584, .f32⟩
  | .hbm, ⟨1, _⟩ => ⟨S16384x128, .f32⟩
  | .hbm, ⟨2, _⟩ => ⟨S3x512, .f32⟩
  | .hbm, ⟨3, _⟩ => ⟨S4x1536, .f32⟩
  | .hbm, ⟨4, _⟩ => ⟨S2x128, .f32⟩
  | .hbm, ⟨5, _⟩ => ⟨S8x2x512, .f32⟩
  | .hbm, ⟨6, _⟩ => ⟨S8x3x1536, .f32⟩
  | .hbm, ⟨7, _⟩ => ⟨S16384x512, .f32⟩
  | .hbm, ⟨8, _⟩ => ⟨S16384x1536, .f32⟩
  | .hbm, ⟨9, _⟩ => ⟨S16384x128, .f32⟩
  | .hbm, ⟨10, _⟩ => ⟨S8x2x512, .f32⟩
  | .hbm, ⟨11, _⟩ => ⟨S8x3x1536, .f32⟩
  | .local _ .vmem, ⟨0, _⟩ => ⟨S256x3584, .f32⟩
  | .local _ .vmem, ⟨1, _⟩ => ⟨S256x3584, .f32⟩
  | .local _ .vmem, ⟨2, _⟩ => ⟨S256x128, .f32⟩
  | .local _ .vmem, ⟨3, _⟩ => ⟨S256x128, .f32⟩
  | .local _ .vmem, ⟨4, _⟩ => ⟨S3x512, .f32⟩
  | .local _ .vmem, ⟨5, _⟩ => ⟨S4x1536, .f32⟩
  | .local _ .vmem, ⟨6, _⟩ => ⟨S2x128, .f32⟩
  | .local _ .vmem, ⟨7, _⟩ => ⟨S1x2x512, .f32⟩
  | .local _ .vmem, ⟨8, _⟩ => ⟨S1x2x512, .f32⟩
  | .local _ .vmem, ⟨9, _⟩ => ⟨S1x3x1536, .f32⟩
  | .local _ .vmem, ⟨10, _⟩ => ⟨S1x3x1536, .f32⟩
  | .local _ .vmem, ⟨11, _⟩ => ⟨S256x512, .f32⟩
  | .local _ .vmem, ⟨12, _⟩ => ⟨S256x512, .f32⟩
  | .local _ .vmem, ⟨13, _⟩ => ⟨S256x1536, .f32⟩
  | .local _ .vmem, ⟨14, _⟩ => ⟨S256x1536, .f32⟩
  | .local _ .vmem, ⟨15, _⟩ => ⟨S256x128, .f32⟩
  | .local _ .vmem, ⟨16, _⟩ => ⟨S256x128, .f32⟩
  | .local _ .vmem, ⟨17, _⟩ => ⟨S1x2x512, .f32⟩
  | .local _ .vmem, ⟨18, _⟩ => ⟨S1x2x512, .f32⟩
  | .local _ .vmem, ⟨19, _⟩ => ⟨S1x3x1536, .f32⟩
  | .local _ .vmem, ⟨20, _⟩ => ⟨S1x3x1536, .f32⟩
  | .local _ .vmem, ⟨21, _⟩ => ⟨S8x512, .f32⟩
  | .local _ .vmem, ⟨22, _⟩ => ⟨S8x1536, .f32⟩
  | _, _ => ⟨S16384x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v238 : BitVec 1 := Scalar.cmpi .eq arg1 c7_i32
  let v239 : BitVec 32 := Scalar.extui v238
  let c0_i32_92 : BitVec 32 := 0#32
  let v240 : BitVec 1 := Scalar.cmpi .ne v239 c0_i32_92
  v240

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x3x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x3x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== PreRefIdeal.lean ====
abbrev S16384x3584 : Shape := ⟨2, ![16384, 3584]⟩
abbrev S16384x128 : Shape := ⟨2, ![16384, 128]⟩
abbrev S3x512 : Shape := ⟨2, ![3, 512]⟩
abbrev S4x1536 : Shape := ⟨2, ![4, 1536]⟩
abbrev S2x128 : Shape := ⟨2, ![2, 128]⟩
abbrev S8x2x512 : Shape := ⟨3, ![8, 2, 512]⟩
abbrev S8x3x1536 : Shape := ⟨3, ![8, 3, 1536]⟩
abbrev S8x2048x3584 : Shape := ⟨3, ![8, 2048, 3584]⟩
abbrev S8x2048x512 : Shape := ⟨3, ![8, 2048, 512]⟩
abbrev S8x2050x512 : Shape := ⟨3, ![8, 2050, 512]⟩
abbrev S8x2048x1536 : Shape := ⟨3, ![8, 2048, 1536]⟩
abbrev S8x2051x1536 : Shape := ⟨3, ![8, 2051, 1536]⟩

abbrev nBuf : Space → Nat
  | .hbm => 16
  | .vmem => 0
  | .smem => 0
  | _ => 0

abbrev bufTy : (tb : Table) → Fin (tcTables nBuf tb) → BufTy
  | .hbm, ⟨0, _⟩ => ⟨S16384x3584, .f32⟩
  | .hbm, ⟨1, _⟩ => ⟨S16384x128, .f32⟩
  | .hbm, ⟨2, _⟩ => ⟨S3x512, .f32⟩
  | .hbm, ⟨3, _⟩ => ⟨S4x1536, .f32⟩
  | .hbm, ⟨4, _⟩ => ⟨S2x128, .f32⟩
  | .hbm, ⟨5, _⟩ => ⟨S8x2x512, .f32⟩
  | .hbm, ⟨6, _⟩ => ⟨S8x3x1536, .f32⟩
  | .hbm, ⟨7, _⟩ => ⟨S8x2048x3584, .f32⟩
  | .hbm, ⟨8, _⟩ => ⟨S8x2048x512, .f32⟩
  | .hbm, ⟨9, _⟩ => ⟨S8x2048x512, .f32⟩
  | .hbm, ⟨10, _⟩ => ⟨S8x2048x512, .f32⟩
  | .hbm, ⟨11, _⟩ => ⟨S8x2050x512, .f32⟩
  | .hbm, ⟨12, _⟩ => ⟨S8x2048x1536, .f32⟩
  | .hbm, ⟨13, _⟩ => ⟨S8x2051x1536, .f32⟩
  | .hbm, ⟨14, _⟩ => ⟨S8x2x512, .f32⟩
  | .hbm, ⟨15, _⟩ => ⟨S8x3x1536, .f32⟩
  | _, _ => ⟨S16384x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== PreS.lean ====
abbrev S512x3584 : Shape := ⟨2, ![512, 3584]⟩
abbrev S512x128 : Shape := ⟨2, ![512, 128]⟩
abbrev S3x512 : Shape := ⟨2, ![3, 512]⟩
abbrev S4x1536 : Shape := ⟨2, ![4, 1536]⟩
abbrev S2x128 : Shape := ⟨2, ![2, 128]⟩
abbrev S2x128x512 : Shape := ⟨3, ![2, 128, 512]⟩
abbrev S3x128x1536 : Shape := ⟨3, ![3, 128, 1536]⟩
abbrev S4x128x3584 : Shape := ⟨3, ![4, 128, 3584]⟩
abbrev S4x128x128 : Shape := ⟨3, ![4, 128, 128]⟩
abbrev S4x128x512 : Shape := ⟨3, ![4, 128, 512]⟩
abbrev S4x128x1536 : Shape := ⟨3, ![4, 128, 1536]⟩
abbrev S4x32x3584 : Shape := ⟨3, ![4, 32, 3584]⟩
abbrev S4x32x128 : Shape := ⟨3, ![4, 32, 128]⟩
abbrev S2x32x512 : Shape := ⟨3, ![2, 32, 512]⟩
abbrev S3x32x1536 : Shape := ⟨3, ![3, 32, 1536]⟩
abbrev S4x32x512 : Shape := ⟨3, ![4, 32, 512]⟩
abbrev S4x32x1536 : Shape := ⟨3, ![4, 32, 1536]⟩
abbrev S1x32x512 : Shape := ⟨3, ![1, 32, 512]⟩
abbrev S32x512 : Shape := ⟨2, ![32, 512]⟩
abbrev S1x512 : Shape := ⟨2, ![1, 512]⟩
abbrev S1x32x1536 : Shape := ⟨3, ![1, 32, 1536]⟩
abbrev S32x1536 : Shape := ⟨2, ![32, 1536]⟩
abbrev S1x1536 : Shape := ⟨2, ![1, 1536]⟩
abbrev S32x128 : Shape := ⟨2, ![32, 128]⟩
abbrev S32 : Shape := ⟨1, ![32]⟩
abbrev S32x1 : Shape := ⟨2, ![32, 1]⟩
abbrev S1x32x128 : Shape := ⟨3, ![1, 32, 128]⟩
abbrev S1x128 : Shape := ⟨2, ![1, 128]⟩

abbrev nBuf : Space → Nat
  | .hbm => 14
  | .vmem => 21
  | .smem => 0
  | _ => 0

abbrev bufTy : (tb : Table) → Fin (tcTables nBuf tb) → BufTy
  | .hbm, ⟨0, _⟩ => ⟨S512x3584, .f32⟩
  | .hbm, ⟨1, _⟩ => ⟨S512x128, .f32⟩
  | .hbm, ⟨2, _⟩ => ⟨S3x512, .f32⟩
  | .hbm, ⟨3, _⟩ => ⟨S4x1536, .f32⟩
  | .hbm, ⟨4, _⟩ => ⟨S2x128, .f32⟩
  | .hbm, ⟨5, _⟩ => ⟨S2x128x512, .f32⟩
  | .hbm, ⟨6, _⟩ => ⟨S3x128x1536, .f32⟩
  | .hbm, ⟨7, _⟩ => ⟨S4x128x3584, .f32⟩
  | .hbm, ⟨8, _⟩ => ⟨S4x128x128, .f32⟩
  | .hbm, ⟨9, _⟩ => ⟨S4x128x512, .f32⟩
  | .hbm, ⟨10, _⟩ => ⟨S4x128x1536, .f32⟩
  | .hbm, ⟨11, _⟩ => ⟨S4x128x128, .f32⟩
  | .hbm, ⟨12, _⟩ => ⟨S2x128x512, .f32⟩
  | .hbm, ⟨13, _⟩ => ⟨S3x128x1536, .f32⟩
  | .local _ .vmem, ⟨0, _⟩ => ⟨S4x32x3584, .f32⟩
  | .local _ .vmem, ⟨1, _⟩ => ⟨S4x32x3584, .f32⟩
  | .local _ .vmem, ⟨2, _⟩ => ⟨S4x32x128, .f32⟩
  | .local _ .vmem, ⟨3, _⟩ => ⟨S4x32x128, .f32⟩
  | .local _ .vmem, ⟨4, _⟩ => ⟨S3x512, .f32⟩
  | .local _ .vmem, ⟨5, _⟩ => ⟨S4x1536, .f32⟩
  | .local _ .vmem, ⟨6, _⟩ => ⟨S2x128, .f32⟩
  | .local _ .vmem, ⟨7, _⟩ => ⟨S2x32x512, .f32⟩
  | .local _ .vmem, ⟨8, _⟩ => ⟨S2x32x512, .f32⟩
  | .local _ .vmem, ⟨9, _⟩ => ⟨S3x32x1536, .f32⟩
  | .local _ .vmem, ⟨10, _⟩ => ⟨S3x32x1536, .f32⟩
  | .local _ .vmem, ⟨11, _⟩ => ⟨S4x32x512, .f32⟩
  | .local _ .vmem, ⟨12, _⟩ => ⟨S4x32x512, .f32⟩
  | .local _ .vmem, ⟨13, _⟩ => ⟨S4x32x1536, .f32⟩
  | .local _ .vmem, ⟨14, _⟩ => ⟨S4x32x1536, .f32⟩
  | .local _ .vmem, ⟨15, _⟩ => ⟨S4x32x128, .f32⟩
  | .local _ .vmem, ⟨16, _⟩ => ⟨S4x32x128, .f32⟩
  | .local _ .vmem, ⟨17, _⟩ => ⟨S2x32x512, .f32⟩
  | .local _ .vmem, ⟨18, _⟩ => ⟨S2x32x512, .f32⟩
  | .local _ .vmem, ⟨19, _⟩ => ⟨S3x32x1536, .f32⟩
  | .local _ .vmem, ⟨20, _⟩ => ⟨S3x32x1536, .f32⟩
  | _, _ => ⟨S512x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x32x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x32x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x32x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x32x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PreSRefIdeal.lean ====
abbrev S512x3584 : Shape := ⟨2, ![512, 3584]⟩
abbrev S512x128 : Shape := ⟨2, ![512, 128]⟩
abbrev S3x512 : Shape := ⟨2, ![3, 512]⟩
abbrev S4x1536 : Shape := ⟨2, ![4, 1536]⟩
abbrev S2x128 : Shape := ⟨2, ![2, 128]⟩
abbrev S2x128x512 : Shape := ⟨3, ![2, 128, 512]⟩
abbrev S3x128x1536 : Shape := ⟨3, ![3, 128, 1536]⟩
abbrev S4x128x3584 : Shape := ⟨3, ![4, 128, 3584]⟩
abbrev S128x4x3584 : Shape := ⟨3, ![128, 4, 3584]⟩
abbrev S128x2x512 : Shape := ⟨3, ![128, 2, 512]⟩
abbrev S128x3x1536 : Shape := ⟨3, ![128, 3, 1536]⟩
abbrev S128x4x512 : Shape := ⟨3, ![128, 4, 512]⟩
abbrev S128x6x512 : Shape := ⟨3, ![128, 6, 512]⟩
abbrev S128x4x1536 : Shape := ⟨3, ![128, 4, 1536]⟩
abbrev S128x7x1536 : Shape := ⟨3, ![128, 7, 1536]⟩

abbrev nBuf : Space → Nat
  | .hbm => 21
  | .vmem => 0
  | .smem => 0
  | _ => 0

abbrev bufTy : (tb : Table) → Fin (tcTables nBuf tb) → BufTy
  | .hbm, ⟨0, _⟩ => ⟨S512x3584, .f32⟩
  | .hbm, ⟨1, _⟩ => ⟨S512x128, .f32⟩
  | .hbm, ⟨2, _⟩ => ⟨S3x512, .f32⟩
  | .hbm, ⟨3, _⟩ => ⟨S4x1536, .f32⟩
  | .hbm, ⟨4, _⟩ => ⟨S2x128, .f32⟩
  | .hbm, ⟨5, _⟩ => ⟨S2x128x512, .f32⟩
  | .hbm, ⟨6, _⟩ => ⟨S3x128x1536, .f32⟩
  | .hbm, ⟨7, _⟩ => ⟨S4x128x3584, .f32⟩
  | .hbm, ⟨8, _⟩ => ⟨S128x4x3584, .f32⟩
  | .hbm, ⟨9, _⟩ => ⟨S128x2x512, .f32⟩
  | .hbm, ⟨10, _⟩ => ⟨S128x3x1536, .f32⟩
  | .hbm, ⟨11, _⟩ => ⟨S128x4x512, .f32⟩
  | .hbm, ⟨12, _⟩ => ⟨S128x4x512, .f32⟩
  | .hbm, ⟨13, _⟩ => ⟨S128x4x512, .f32⟩
  | .hbm, ⟨14, _⟩ => ⟨S128x6x512, .f32⟩
  | .hbm, ⟨15, _⟩ => ⟨S128x4x1536, .f32⟩
  | .hbm, ⟨16, _⟩ => ⟨S128x7x1536, .f32⟩
  | .hbm, ⟨17, _⟩ => ⟨S128x2x512, .f32⟩
  | .hbm, ⟨18, _⟩ => ⟨S128x3x1536, .f32⟩
  | .hbm, ⟨19, _⟩ => ⟨S2x128x512, .f32⟩
  | .hbm, ⟨20, _⟩ => ⟨S3x128x1536, .f32⟩
  | _, _ => ⟨S512x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Layer.lean ====
/- The mathematics that the layer's calls share, on extended reals: the modulation of a row, the gated unit, the
   residual sum and the layer norm of a row of 1024 numbers. -/
module

public import Idealize.ShloMosaic.Lib.Pointwise
public import Idealize.ShloMosaic.Lib.ValueIdx

@[expose] public section

noncomputable section

namespace Cert.Layer

open Idealize.ShloMosaic

/-- The residual's weight, `(2·2)^(1/4)`, as the float word the programs print. -/
abbrev resWeight : EReal := Ideal.ofBits .f32 0x3FB504F3#32
/-- The row length 1024 as the float word the programs print. -/
abbrev rowLen : EReal := Ideal.ofBits .f32 0x44800000#32
/-- The layer norm's `1e-5` as the float word the programs print. -/
abbrev normEps : EReal := Ideal.ofBits .f32 0x3727C5AC#32

/-- One element modulated: `x·(1 + scale) + shift`. -/
def modulate (x scale shift : EReal) : EReal := x * (1 + scale) + shift

/-- `x·σ(x)`. -/
def silu (x : EReal) : EReal := x * Ideal.logistic x

/-- The gated unit of one row `u`, one hidden column: `silu(u·wg)·(u·wu)`. -/
def gated {K : ℕ} (u wg wu : Fin K → EReal) : EReal := silu (∑ k, u k * wg k) * ∑ k, u k * wu k

/-- One element of the residual sum: `√2·x + (1 + g)·y`. -/
def resid (x g y : EReal) : EReal := resWeight * x + (1 + g) * y

/-- The mean of a row. -/
def mean (v : Fin 1024 → EReal) : EReal := Ideal.div (∑ k, v k) rowLen

/-- The layer norm of a row, at one element, with its gain and offset. -/
def layerNorm (v : Fin 1024 → EReal) (j : Fin 1024) (g b : EReal) : EReal :=
  (v j - mean v) * Ideal.rsqrt (mean (fun k => (v k - mean v) * (v k - mean v)) + normEps) * g + b

/-- Selecting one lane and summing leaves that lane's element. -/
theorem sum_select_lane (v : Fin 128 → EReal) (w : ℕ) (e : Fin 128) (he : w = e.val) :
    ∑ l : Fin 128, Scalar.select (IntOp.cmpi .eq (BitVec.ofNat 32 l.val) (BitVec.ofNat 32 w)) (v l) 0 = v e := by
  subst he
  rw [Finset.sum_eq_single e]
  · simp [IntOp.cmpi, Scalar.select]
  · intro l _ hl
    have hne : BitVec.ofNat 32 l.val ≠ BitVec.ofNat 32 e.val := fun h => hl (Fin.ext (by
      have h1 := l.isLt
      have h2 := e.isLt
      have h' := congrArg BitVec.toNat h
      simp only [BitVec.toNat_ofNat] at h'
      omega))
    have hf : (BitVec.ofNat 32 l.val == BitVec.ofNat 32 e.val) = false := by simpa using hne
    simp [IntOp.cmpi, Scalar.select, hf]
  · intro h
    exact absurd (Finset.mem_univ _) h

end Cert.Layer

end
-- ==== Proof.MoeSpec.lean ====
/- The mathematics of the experts' layer for one token, over the reals. -/
module

public import proofs.«01_k».proof.Proof.Layer

@[expose] public section

noncomputable section

namespace Cert.Layer

/-- One expert's feed-forward on a token: the gated units of the token's row against the hidden columns, then the
    columns summed against the down projection. -/
def expert {H : ℕ} (u : Fin 1024 → EReal) (wg wu : Fin 1024 → Fin H → EReal) (wd : Fin H → EReal) : EReal :=
  ∑ f, gated u (fun k => wg k f) (fun k => wu k f) * wd f

/-- The token's output at column `j`: its row `x` modulated, all eight experts on it weighted by the token's gates, the
    residual sum, the layer norm. -/
def moe (x sc sh g : Fin 1024 → EReal) (gate : Fin 8 → EReal) (wg wu : Fin 8 → Fin 1024 → Fin 1408 → EReal)
    (wd : Fin 8 → Fin 1408 → Fin 1024 → EReal) (lg lb : Fin 1024 → EReal) (j : Fin 1024) : EReal :=
  layerNorm (fun k => resid (x k) (g k)
      (∑ e, gate e * expert (fun k => modulate (x k) (sc k) (sh k)) (wg e) (wu e) (fun f => wd e f k)))
    j (lg j) (lb j)

end Cert.Layer

end
-- ==== Proof.MoeBlock.lean ====
/- What one grid point of the experts' kernel computes from its blocks, element by element. -/
module

public import proofs.«01_k».proof.Proof.Layer
public import proofs.«01_k».proof.Proof.Gen.MoeIdeal.Skeleton

@[expose] public section

set_option maxRecDepth 16384

noncomputable section

namespace Cert.MoeIdeal.Block

open Cert.MoeIdeal Cert.MoeIdeal.Gen Idealize.ShloMosaic Cert.Layer

/-- The block the first point of a tile keeps: the tile's rows modulated. -/
theorem modulated_apply (x : Vec Ideal S512x1024 .f32) (sc sh : Vec Ideal S1x1x1024 .f32) (r : Fin 512) (k : Fin 1024) :
    k0_pay3 (F := Ideal) x sc sh (ix2 r k) = modulate (x (ix2 r k)) (sc (ix3 0 0 k)) (sh (ix3 0 0 k)) := by
  pointwise [k0_pay3]
  rfl

theorem zeros_apply (r : Fin 512) (k : Fin 1024) : k0_pay4 (F := Ideal) (ix2 r k) = 0 := by
  pointwise [k0_pay4]

theorem sum_apply (a b : Vec Ideal S512x1024 .f32) (r : Fin 512) (k : Fin 1024) :
    k0_pay1 (F := Ideal) a b (ix2 r k) = b (ix2 r k) + a (ix2 r k) := by
  pointwise [k0_pay1]

theorem norm_apply (x : Vec Ideal S512x1024 .f32) (g : Vec Ideal S1x1x1024 .f32) (y : Vec Ideal S512x1024 .f32)
    (lg lb : Vec Ideal S1x1024 .f32) (r : Fin 512) (j : Fin 1024) :
    k0_pay2 (F := Ideal) x g y lg lb (ix2 r j)
      = layerNorm (fun k => resid (x (ix2 r k)) (g (ix3 0 0 k)) (y (ix2 r k))) j (lg (ix2 0 j)) (lb (ix2 0 j)) := by
  pointwise [k0_pay2]
  rfl

theorem expert_apply (i : grid0.Coords) (u : Vec Ideal S512x1024 .bf16) (wg wu : Vec Ideal S1x1024x1408 .bf16)
    (wd : Vec Ideal S1x1408x1024 .bf16) (gates : Vec Ideal S512x128 .f32) (r : Fin 512) (j : Fin 1024)
    (e : Fin 128) (he : (i 1).val = e.val) :
    k0_pay5 (F := Ideal) i u wg wu wd gates (ix2 r j)
      = gates (ix2 r e) * ∑ f : Fin 1408, gated (fun k => u (ix2 r k)) (fun k => wg (ix3 0 k f)) (fun k => wu (ix3 0 k f)) * wd (ix3 0 f j) := by
  pointwise [k0_pay5]
  rw [sum_select_lane (fun l => gates (ix2 r l)) _ e he]
  rfl

end Cert.MoeIdeal.Block

end
-- ==== Proof.MoeBlocks.lean ====
/- Where the blocks of the experts' kernel lie in its arguments: point `t` of the grid is expert `t % 8` on the tile of
   512 rows number `t / 8`, and four tiles make one sequence. -/
module

public import proofs.«01_k».proof.Proof.Layer
public import Idealize.ShloMosaic.Lib.StableHlo.ReadAt
public import proofs.«01_k».proof.Proof.Gen.MoeIdeal.Value

@[expose] public section

set_option maxRecDepth 16384

noncomputable section

namespace Cert.MoeIdeal.Blocks

open Cert.MoeIdeal Cert.MoeIdeal.Gen Idealize.ShloMosaic Idealize.ShloMosaic.TcCoe

variable (m : (ℓ : Loc nD τ sig) → Buf (Elt Ideal) ℓ) (c : Dev nD)

/-! ## The arguments by name -/

abbrev argX : Vec Ideal S16384x1024 .f32 := m ((c : Thread nD τ).loc main_arg0)
abbrev argMod : Vec Ideal S8x1x6144 .f32 := m ((c : Thread nD τ).loc main_arg1)
abbrev argGates : Vec Ideal S16384x128 .f32 := m ((c : Thread nD τ).loc main_arg2)
abbrev argWg : Vec Ideal S8x1024x1408 .f32 := m ((c : Thread nD τ).loc main_arg3)
abbrev argWu : Vec Ideal S8x1024x1408 .f32 := m ((c : Thread nD τ).loc main_arg4)
abbrev argWd : Vec Ideal S8x1408x1024 .f32 := m ((c : Thread nD τ).loc main_arg5)
abbrev argLg : Vec Ideal S1x1024 .f32 := m ((c : Thread nD τ).loc main_arg6)
abbrev argLb : Vec Ideal S1x1024 .f32 := m ((c : Thread nD τ).loc main_arg7)

/-- The converted weights are the weights: over the reals a conversion changes nothing. -/
theorem V_wg (j : S8x1024x1408.Idx) : (V m c main_v0 : Vec Ideal S8x1024x1408 .bf16) j = argWg m c j := by
  unfold V
  after_reads_at
theorem V_wu (j : S8x1024x1408.Idx) : (V m c main_v1 : Vec Ideal S8x1024x1408 .bf16) j = argWu m c j := by
  unfold V
  after_reads_at
theorem V_wd (j : S8x1408x1024.Idx) : (V m c main_v2 : Vec Ideal S8x1408x1024 .bf16) j = argWd m c j := by
  unfold V
  after_reads_at

/-! ## The grid -/

theorem lt_N (t : Fin cfg0.N) : t.val < 256 := lt_of_lt_of_eq t.isLt Gen.N_0

/-- The row of the whole array that row `r` of the tile of point `n` is. -/
abbrev rowOf (n : ℕ) (hn : n < 256) (r : Fin 512) : Fin 16384 := ⟨512 * (n / 8) + r.val, by omega⟩
/-- The sequence that the tile of point `n` belongs to. -/
abbrev seqOf (n : ℕ) (hn : n < 256) : Fin 8 := ⟨n / 32, by omega⟩
/-- The expert of point `n`. -/
abbrev expertOf (n : ℕ) : Fin 8 := ⟨n % 8, by omega⟩

theorem idx0 : ∀ t : Fin grid0.N, win0_0.index t (0 : Fin 2) = t.val / 8 ∧ win0_0.index t (1 : Fin 2) = 0 := by decide +kernel
theorem idx1 : ∀ t : Fin grid0.N, win0_1.index t (0 : Fin 3) = t.val / 32 ∧ win0_1.index t (1 : Fin 3) = 0 ∧ win0_1.index t (2 : Fin 3) = 4 := by decide +kernel
theorem idx2 : ∀ t : Fin grid0.N, win0_2.index t (0 : Fin 3) = t.val / 32 ∧ win0_2.index t (1 : Fin 3) = 0 ∧ win0_2.index t (2 : Fin 3) = 3 := by decide +kernel
theorem idx3 : ∀ t : Fin grid0.N, win0_3.index t (0 : Fin 3) = t.val / 32 ∧ win0_3.index t (1 : Fin 3) = 0 ∧ win0_3.index t (2 : Fin 3) = 5 := by decide +kernel
theorem idx4 : ∀ t : Fin grid0.N, win0_4.index t (0 : Fin 2) = t.val / 8 ∧ win0_4.index t (1 : Fin 2) = 0 := by decide +kernel
theorem idx5 : ∀ t : Fin grid0.N, win0_5.index t (0 : Fin 3) = t.val % 8 ∧ win0_5.index t (1 : Fin 3) = 0 ∧ win0_5.index t (2 : Fin 3) = 0 := by decide +kernel
theorem idx6 : ∀ t : Fin grid0.N, win0_6.index t (0 : Fin 3) = t.val % 8 ∧ win0_6.index t (1 : Fin 3) = 0 ∧ win0_6.index t (2 : Fin 3) = 0 := by decide +kernel
theorem idx7 : ∀ t : Fin grid0.N, win0_7.index t (0 : Fin 3) = t.val % 8 ∧ win0_7.index t (1 : Fin 3) = 0 ∧ win0_7.index t (2 : Fin 3) = 0 := by decide +kernel
theorem idx8 : ∀ t : Fin grid0.N, win0_8.index t (0 : Fin 2) = 0 ∧ win0_8.index t (1 : Fin 2) = 0 := by decide +kernel
theorem idx9 : ∀ t : Fin grid0.N, win0_9.index t (0 : Fin 2) = 0 ∧ win0_9.index t (1 : Fin 2) = 0 := by decide +kernel
/-- The second grid coordinate is the expert. -/
theorem coord1 : ∀ t : Fin grid0.N, (grid0.coords t 1).val = t.val % 8 := by decide +kernel

/-! ## The blocks at an index -/

theorem blk_x (t : Fin cfg0.N) (r : Fin 512) (k : Fin 1024) :
    (iblk m c 0 t : Vec Ideal S512x1024 .f32) (ix2 r k) = argX m c (ix2 (rowOf t.val (lt_N t) r) k) := by
  have hi := idx0 t
  unfold iblk
  rw [View.read_apply]
  show V m c main_arg0 _ = _
  rw [V_main_arg0]
  congr 1
  funext a
  apply Fin.ext
  match a with
  | ⟨0, _⟩ => show win0_0.index t 0 * 512 + 1 * r.val = 512 * (t.val / 8) + r.val; rw [hi.1]; omega
  | ⟨1, _⟩ => show win0_0.index t 1 * 1024 + 1 * k.val = k.val; rw [hi.2]; omega

/-- The columns of the modulation that a chunk number names. -/
abbrev modCol (q : Fin 6) (k : Fin 1024) : Fin 6144 := ⟨1024 * q.val + k.val, by omega⟩

theorem blk_sc (t : Fin cfg0.N) (k : Fin 1024) :
    (iblk m c 1 t : Vec Ideal S1x1x1024 .f32) (ix3 0 0 k) = argMod m c (ix3 (seqOf t.val (lt_N t)) 0 (modCol 4 k)) := by
  have hi := idx1 t
  unfold iblk
  rw [View.read_apply]
  show V m c main_arg1 _ = _
  rw [V_main_arg1]
  congr 1
  funext a
  apply Fin.ext
  match a with
  | ⟨0, _⟩ => show win0_1.index t 0 * 1 + 1 * 0 = t.val / 32; rw [hi.1]; omega
  | ⟨1, _⟩ => show win0_1.index t 1 * 1 + 1 * 0 = 0; rw [hi.2.1]
  | ⟨2, _⟩ => show win0_1.index t 2 * 1024 + 1 * k.val = 1024 * 4 + k.val; rw [hi.2.2]; omega

theorem blk_sh (t : Fin cfg0.N) (k : Fin 1024) :
    (iblk m c 2 t : Vec Ideal S1x1x1024 .f32) (ix3 0 0 k) = argMod m c (ix3 (seqOf t.val (lt_N t)) 0 (modCol 3 k)) := by
  have hi := idx2 t
  unfold iblk
  rw [View.read_apply]
  show V m c main_arg1 _ = _
  rw [V_main_arg1]
  congr 1
  funext a
  apply Fin.ext
  match a with
  | ⟨0, _⟩ => show win0_2.index t 0 * 1 + 1 * 0 = t.val / 32; rw [hi.1]; omega
  | ⟨1, _⟩ => show win0_2.index t 1 * 1 + 1 * 0 = 0; rw [hi.2.1]
  | ⟨2, _⟩ => show win0_2.index t 2 * 1024 + 1 * k.val = 1024 * 3 + k.val; rw [hi.2.2]; omega

theorem blk_g2 (t : Fin cfg0.N) (k : Fin 1024) :
    (iblk m c 3 t : Vec Ideal S1x1x1024 .f32) (ix3 0 0 k) = argMod m c (ix3 (seqOf t.val (lt_N t)) 0 (modCol 5 k)) := by
  have hi := idx3 t
  unfold iblk
  rw [View.read_apply]
  show V m c main_arg1 _ = _
  rw [V_main_arg1]
  congr 1
  funext a
  apply Fin.ext
  match a with
  | ⟨0, _⟩ => show win0_3.index t 0 * 1 + 1 * 0 = t.val / 32; rw [hi.1]; omega
  | ⟨1, _⟩ => show win0_3.index t 1 * 1 + 1 * 0 = 0; rw [hi.2.1]
  | ⟨2, _⟩ => show win0_3.index t 2 * 1024 + 1 * k.val = 1024 * 5 + k.val; rw [hi.2.2]; omega

theorem blk_gates (t : Fin cfg0.N) (r : Fin 512) (e : Fin 128) :
    (iblk m c 4 t : Vec Ideal S512x128 .f32) (ix2 r e) = argGates m c (ix2 (rowOf t.val (lt_N t) r) e) := by
  have hi := idx4 t
  unfold iblk
  rw [View.read_apply]
  show V m c main_arg2 _ = _
  rw [V_main_arg2]
  congr 1
  funext a
  apply Fin.ext
  match a with
  | ⟨0, _⟩ => show win0_4.index t 0 * 512 + 1 * r.val = 512 * (t.val / 8) + r.val; rw [hi.1]; omega
  | ⟨1, _⟩ => show win0_4.index t 1 * 128 + 1 * e.val = e.val; rw [hi.2]; omega

theorem blk_wg (t : Fin cfg0.N) (k : Fin 1024) (f : Fin 1408) :
    (iblk m c 5 t : Vec Ideal S1x1024x1408 .bf16) (ix3 0 k f) = argWg m c (ix3 (expertOf t.val) k f) := by
  have hi := idx5 t
  unfold iblk
  rw [View.read_apply]
  refine (V_wg m c _).trans ?_
  congr 1
  funext a
  apply Fin.ext
  match a with
  | ⟨0, _⟩ => show win0_5.index t 0 * 1 + 1 * 0 = t.val % 8; rw [hi.1]; omega
  | ⟨1, _⟩ => show win0_5.index t 1 * 1024 + 1 * k.val = k.val; rw [hi.2.1]; omega
  | ⟨2, _⟩ => show win0_5.index t 2 * 1408 + 1 * f.val = f.val; rw [hi.2.2]; omega

theorem blk_wu (t : Fin cfg0.N) (k : Fin 1024) (f : Fin 1408) :
    (iblk m c 6 t : Vec Ideal S1x1024x1408 .bf16) (ix3 0 k f) = argWu m c (ix3 (expertOf t.val) k f) := by
  have hi := idx6 t
  unfold iblk
  rw [View.read_apply]
  refine (V_wu m c _).trans ?_
  congr 1
  funext a
  apply Fin.ext
  match a with
  | ⟨0, _⟩ => show win0_6.index t 0 * 1 + 1 * 0 = t.val % 8; rw [hi.1]; omega
  | ⟨1, _⟩ => show win0_6.index t 1 * 1024 + 1 * k.val = k.val; rw [hi.2.1]; omega
  | ⟨2, _⟩ => show win0_6.index t 2 * 1408 + 1 * f.val = f.val; rw [hi.2.2]; omega

theorem blk_wd (t : Fin cfg0.N) (f : Fin 1408) (j : Fin 1024) :
    (iblk m c 7 t : Vec Ideal S1x1408x1024 .bf16) (ix3 0 f j) = argWd m c (ix3 (expertOf t.val) f j) := by
  have hi := idx7 t
  unfold iblk
  rw [View.read_apply]
  refine (V_wd m c _).trans ?_
  congr 1
  funext a
  apply Fin.ext
  match a with
  | ⟨0, _⟩ => show win0_7.index t 0 * 1 + 1 * 0 = t.val % 8; rw [hi.1]; omega
  | ⟨1, _⟩ => show win0_7.index t 1 * 1408 + 1 * f.val = f.val; rw [hi.2.1]; omega
  | ⟨2, _⟩ => show win0_7.index t 2 * 1024 + 1 * j.val = j.val; rw [hi.2.2]; omega

theorem blk_lg (t : Fin cfg0.N) (j : Fin 1024) :
    (iblk m c 8 t : Vec Ideal S1x1024 .f32) (ix2 0 j) = argLg m c (ix2 0 j) := by
  have hi := idx8 t
  unfold iblk
  rw [View.read_apply]
  show V m c main_arg6 _ = _
  rw [V_main_arg6]
  congr 1
  funext a
  apply Fin.ext
  match a with
  | ⟨0, _⟩ => show win0_8.index t 0 * 1 + 1 * 0 = 0; rw [hi.1]
  | ⟨1, _⟩ => show win0_8.index t 1 * 1024 + 1 * j.val = j.val; rw [hi.2]; omega

theorem blk_lb (t : Fin cfg0.N) (j : Fin 1024) :
    (iblk m c 9 t : Vec Ideal S1x1024 .f32) (ix2 0 j) = argLb m c (ix2 0 j) := by
  have hi := idx9 t
  unfold iblk
  rw [View.read_apply]
  show V m c main_arg7 _ = _
  rw [V_main_arg7]
  congr 1
  funext a
  apply Fin.ext
  match a with
  | ⟨0, _⟩ => show win0_9.index t 0 * 1 + 1 * 0 = 0; rw [hi.1]
  | ⟨1, _⟩ => show win0_9.index t 1 * 1024 + 1 * j.val = j.val; rw [hi.2]; omega

end Cert.MoeIdeal.Blocks

end
-- ==== Proof.MoeTerms.lean ====
/- What the body of the experts' kernel leaves in its two scratch buffers and in its output block, case by case, as
   values of the blocks it read. -/
module

public import proofs.«01_k».proof.Proof.Gen.MoeIdeal.Value

@[expose] public section

set_option maxRecDepth 16384

noncomputable section

namespace Cert.MoeIdeal.Terms

open Cert.MoeIdeal Cert.MoeIdeal.Gen Idealize.ShloMosaic Idealize.ShloMosaic.TcCoe

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a3 : Memref sig .tc .vmem S512x1024 .f32) (h3 : a3.IsWhole)
  (a4 : Memref sig .tc .vmem S1x1x1024 .f32) (h4 : a4.IsWhole)
  (a5 : Memref sig .tc .vmem S1x1x1024 .f32) (h5 : a5.IsWhole)
  (a6 : Memref sig .tc .vmem S1x1x1024 .f32) (h6 : a6.IsWhole)
  (a7 : Memref sig .tc .vmem S512x128 .f32) (h7 : a7.IsWhole)
  (a8 : Memref sig .tc .vmem S1x1024x1408 .bf16) (h8 : a8.IsWhole)
  (a9 : Memref sig .tc .vmem S1x1024x1408 .bf16) (h9 : a9.IsWhole)
  (a10 : Memref sig .tc .vmem S1x1408x1024 .bf16) (h10 : a10.IsWhole)
  (a11 : Memref sig .tc .vmem S1x1024 .f32) (h11 : a11.IsWhole)
  (a12 : Memref sig .tc .vmem S1x1024 .f32) (h12 : a12.IsWhole)
  (a13 : Memref sig .tc .vmem S512x1024 .f32) (h13 : a13.IsWhole)
  (a14 : Memref sig .tc .vmem S512x1024 .bf16) (h14 : a14.IsWhole)
  (a15 : Memref sig .tc .vmem S512x1024 .f32) (h15 : a15.IsWhole)
  (x0 : Vec F S512x1024 .f32)
  (x1 : Vec F S1x1x1024 .f32)
  (x2 : Vec F S1x1x1024 .f32)
  (x3 : Vec F S1x1x1024 .f32)
  (x4 : Vec F S512x128 .f32)
  (x5 : Vec F S1x1024x1408 .bf16)
  (x6 : Vec F S1x1024x1408 .bf16)
  (x7 : Vec F S1x1408x1024 .bf16)
  (x8 : Vec F S1x1024 .f32)
  (x9 : Vec F S1x1024 .f32)

/-- First expert of a tile: the kept block is the tile's modulated rows. -/
theorem keep_first (hc0 : cond0_0 i) (hc1 : ¬cond0_1 i) :
    sout0_A_0 c i a3 h3 a4 h4 a5 h5 a6 h6 a7 h7 a8 h8 a9 h9 a10 h10 a11 h11 a12 h12 a13 h13 a14 h14 a15 h15 hc0 hc1 x0 x1 x2 x3 x4 x5 x6 x7 x8 x9 = k0_pay3 x0 x1 x2 := by
  unfold sout0_A_0
  rw [View.read_writes_eq_canon _ _ _ (scover0_A_0 c i a3 h3 a4 h4 a5 h5 a6 h6 a7 h7 a8 h8 a9 h9 a10 h10 a11 h11 a12 h12 a13 h13 a14 h14 a15 h15 hc0 hc1 x0 x1 x2 x3 x4 x5 x6 x7 x8 x9)]
  unfold kernelRun0_A
  dsimp only
  sl_unfold_words
  rw [View.canon_unit_zero hz2]
  unfold k0_pay3
  simp only [View.readAt_eq_ld, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2,
    View.ld_unit_zero (S := S512x128) hz2, View.ld_unit_zero (S := S1x1024) hz2, View.ld_unit_zero (S := S1x1x1024) hz3,
    View.ld_unit_zero (S := S1x1024x1408) hz3, View.ld_unit_zero (S := S1x1408x1024) hz3, shapeCast_self]

/-- First expert of a tile: the running sum starts from zeros and takes the expert's product in. -/
theorem sum_first (hc0 : cond0_0 i) (hc1 : ¬cond0_1 i) :
    sout0_A_1 c i a3 h3 a4 h4 a5 h5 a6 h6 a7 h7 a8 h8 a9 h9 a10 h10 a11 h11 a12 h12 a13 h13 a14 h14 a15 h15 hc0 hc1 x0 x1 x2 x3 x4 x5 x6 x7 x8 x9
      = k0_pay1 (k0_pay5 i (k0_pay3 x0 x1 x2) x5 x6 x7 x4) k0_pay4 := by
  unfold sout0_A_1
  rw [View.read_writes_eq_canon _ _ _ (scover0_A_1 c i a3 h3 a4 h4 a5 h5 a6 h6 a7 h7 a8 h8 a9 h9 a10 h10 a11 h11 a12 h12 a13 h13 a14 h14 a15 h15 hc0 hc1 x0 x1 x2 x3 x4 x5 x6 x7 x8 x9)]
  unfold kernelRun0_A
  dsimp only
  sl_unfold_words
  rw [View.canon_cons_unit_zero (S := S512x1024) hz2]
  simp only [View.readCov_unit_zero (S := S512x1024) _ hz2]
  unfold k0_pay1 k0_pay5 k0_pay4 k0_pay3
  simp only [View.readAt_eq_ld, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2,
    View.ld_unit_zero (S := S512x128) hz2, View.ld_unit_zero (S := S1x1024) hz2, View.ld_unit_zero (S := S1x1x1024) hz3,
    View.ld_unit_zero (S := S1x1024x1408) hz3, View.ld_unit_zero (S := S1x1408x1024) hz3, shapeCast_self]

/-- A middle expert leaves the kept block as it found it. -/
theorem keep_mid (hc0 : ¬cond0_0 i) (hc1 : ¬cond0_1 i) (s0 : Vec F S512x1024 .bf16) (s1 : Vec F S512x1024 .f32) :
    sout0_B_0 c i a3 h3 a4 h4 a5 h5 a6 h6 a7 h7 a8 h8 a9 h9 a10 h10 a11 h11 a12 h12 a13 h13 a14 h14 a15 h15 hc0 hc1 x0 x1 x2 x3 x4 x5 x6 x7 x8 x9 s0 s1 = s0 := rfl

/-- A middle expert adds its product to the running sum. -/
theorem sum_mid (hc0 : ¬cond0_0 i) (hc1 : ¬cond0_1 i) (s0 : Vec F S512x1024 .bf16) (s1 : Vec F S512x1024 .f32) :
    sout0_B_1 c i a3 h3 a4 h4 a5 h5 a6 h6 a7 h7 a8 h8 a9 h9 a10 h10 a11 h11 a12 h12 a13 h13 a14 h14 a15 h15 hc0 hc1 x0 x1 x2 x3 x4 x5 x6 x7 x8 x9 s0 s1 = k0_pay1 (k0_pay5 i s0 x5 x6 x7 x4) s1 := by
  unfold sout0_B_1
  rw [View.read_writes_eq_canon _ _ _ (scover0_B_1 c i a3 h3 a4 h4 a5 h5 a6 h6 a7 h7 a8 h8 a9 h9 a10 h10 a11 h11 a12 h12 a13 h13 a14 h14 a15 h15 hc0 hc1 x0 x1 x2 x3 x4 x5 x6 x7 x8 x9 s0 s1)]
  unfold kernelRun0_B
  dsimp only
  sl_unfold_words
  rw [View.canon_unit_zero hz2]
  unfold k0_pay1 k0_pay5
  simp only [View.readAt_eq_ld, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2,
    View.ld_unit_zero (S := S512x128) hz2, View.ld_unit_zero (S := S1x1024) hz2, View.ld_unit_zero (S := S1x1x1024) hz3,
    View.ld_unit_zero (S := S1x1024x1408) hz3, View.ld_unit_zero (S := S1x1408x1024) hz3, shapeCast_self]

/-- The last expert normalizes the running sum with its own product taken in. -/
theorem out_last (hc0 : ¬cond0_0 i) (hc1 : cond0_1 i) (s0 : Vec F S512x1024 .bf16) (s1 : Vec F S512x1024 .f32) :
    out0_C_10 c i a3 h3 a4 h4 a5 h5 a6 h6 a7 h7 a8 h8 a9 h9 a10 h10 a11 h11 a12 h12 a13 h13 a14 h14 a15 h15 hc0 hc1 x0 x1 x2 x3 x4 x5 x6 x7 x8 x9 s0 s1
      = k0_pay2 x0 x3 (k0_pay1 (k0_pay5 i s0 x5 x6 x7 x4) s1) x8 x9 := by
  unfold out0_C_10
  rw [View.read_writes_eq_canon _ _ _ (cover0_C_10 c i a3 h3 a4 h4 a5 h5 a6 h6 a7 h7 a8 h8 a9 h9 a10 h10 a11 h11 a12 h12 a13 h13 a14 h14 a15 h15 hc0 hc1 x0 x1 x2 x3 x4 x5 x6 x7 x8 x9 s0 s1)]
  unfold kernelRun0_C
  dsimp only
  sl_unfold_words
  rw [View.canon_unit_zero hz2]
  simp only [View.readCov_unit_zero (S := S512x1024) _ hz2]
  unfold k0_pay2 k0_pay1 k0_pay5
  simp only [View.readAt_eq_ld, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2,
    View.ld_unit_zero (S := S512x128) hz2, View.ld_unit_zero (S := S1x1024) hz2, View.ld_unit_zero (S := S1x1x1024) hz3,
    View.ld_unit_zero (S := S1x1024x1408) hz3, View.ld_unit_zero (S := S1x1408x1024) hz3, shapeCast_self]

end Cert.MoeIdeal.Terms

end
-- ==== Proof.MoeFold.lean ====
/- The experts' kernel over its grid: after the point of expert `e` on a tile, the kept block is the tile modulated and
   the running sum is the sum over the experts `0 … e`; so the result array holds the layer's output. -/
module

public import proofs.«01_k».proof.Proof.MoeSpec
public import proofs.«01_k».proof.Proof.MoeBlock
public import proofs.«01_k».proof.Proof.MoeBlocks
public import proofs.«01_k».proof.Proof.MoeTerms

@[expose] public section

set_option maxRecDepth 16384

noncomputable section

namespace Cert.MoeIdeal.Fold

open Cert.MoeIdeal Cert.MoeIdeal.Gen Cert.MoeIdeal.Blocks Cert.Layer Idealize.ShloMosaic Idealize.ShloMosaic.TcCoe

variable (m : (ℓ : Loc nD τ sig) → Buf (Elt Ideal) ℓ) (c : Dev nD)

/-- Row `R` of sequence `b`, modulated. -/
def modRow (b : Fin 8) (R : Fin 16384) (k : Fin 1024) : EReal :=
  modulate (argX m c (ix2 R k)) (argMod m c (ix3 b 0 (modCol 4 k))) (argMod m c (ix3 b 0 (modCol 3 k)))

/-- What expert `e` adds to row `R`, weighted by its gate. -/
def part (b : Fin 8) (R : Fin 16384) (e : Fin 8) (j : Fin 1024) : EReal :=
  argGates m c (ix2 R (e.castLE (by decide)))
    * expert (modRow m c b R) (fun k f => argWg m c (ix3 e k f)) (fun k f => argWu m c (ix3 e k f)) (fun f => argWd m c (ix3 e f j))

/-- The product block of one point, at an index: the point's expert on the tile's row. -/
theorem product_apply (t : Fin cfg0.N) (u : Vec Ideal S512x1024 .bf16) (r : Fin 512) (j : Fin 1024)
    (hu : ∀ k, u (ix2 r k) = modRow m c (seqOf t.val (lt_N t)) (rowOf t.val (lt_N t) r) k) :
    k0_pay5 (F := Ideal) (grid0.coords t) u (iblk m c 5 t) (iblk m c 6 t) (iblk m c 7 t) (iblk m c 4 t) (ix2 r j)
      = part m c (seqOf t.val (lt_N t)) (rowOf t.val (lt_N t) r) (expertOf t.val) j := by
  rw [Block.expert_apply _ _ _ _ _ _ r j ((expertOf t.val).castLE (by decide)) (coord1 t), blk_gates]
  unfold part expert
  congr 1
  refine Finset.sum_congr rfl fun f _ => ?_
  rw [blk_wd]
  congr 2
  · exact funext hu
  · exact funext fun k => blk_wg m c t k f
  · exact funext fun k => blk_wu m c t k f

/-- What the two scratch buffers hold after point `n`. -/
def Holds (n : ℕ) (hn : n < cfg0.N) : Prop :=
  ∀ r : Fin 512, ∀ j : Fin 1024,
    (outsAt0 m c n hn).2.1 (ix2 r j) = modRow m c (seqOf n (lt_N ⟨n, hn⟩)) (rowOf n (lt_N ⟨n, hn⟩) r) j
    ∧ (outsAt0 m c n hn).2.2 (ix2 r j)
        = ∑ e ∈ Finset.range (n % 8 + 1), part m c (seqOf n (lt_N ⟨n, hn⟩)) (rowOf n (lt_N ⟨n, hn⟩) r) (expertOf e) j

theorem expertOf_mod (n : ℕ) : expertOf (n % 8) = expertOf n := Fin.ext (Nat.mod_mod n 8)

theorem holds_first (t : Fin cfg0.N) (h0 : t.val % 8 = 0) : Holds m c t.val t.isLt := by
  intro r j
  have h1 : ¬t.val % 8 = 7 := by omega
  have hu : ∀ k, k0_pay3 (F := Ideal) (iblk m c 0 t) (iblk m c 1 t) (iblk m c 2 t) (ix2 r k)
      = modRow m c (seqOf t.val (lt_N t)) (rowOf t.val (lt_N t) r) k := fun k => by
    rw [Block.modulated_apply, blk_x, blk_sc, blk_sh]
    rfl
  rw [outsAt0_A m c t h0 h1]
  dsimp only
  rw [Terms.keep_first, Terms.sum_first, Block.sum_apply, Block.zeros_apply, product_apply m c t _ r j hu, h0, zero_add,
    zero_add, Finset.sum_range_one]
  exact ⟨hu j, by rw [← expertOf_mod t.val, h0]⟩

/-- The sum after a later expert, from the buffers before it. -/
theorem sum_next (n : ℕ) (hn : n + 1 < cfg0.N) (h0 : ¬(n + 1) % 8 = 0) (hp : Holds m c n (Nat.lt_of_succ_lt hn)) (r : Fin 512) (j : Fin 1024) :
    k0_pay1 (F := Ideal)
        (k0_pay5 (grid0.coords ⟨n + 1, hn⟩) (outsAt0 m c n (Nat.lt_of_succ_lt hn)).2.1 (iblk m c 5 ⟨n + 1, hn⟩) (iblk m c 6 ⟨n + 1, hn⟩) (iblk m c 7 ⟨n + 1, hn⟩) (iblk m c 4 ⟨n + 1, hn⟩))
        (outsAt0 m c n (Nat.lt_of_succ_lt hn)).2.2 (ix2 r j)
      = ∑ e ∈ Finset.range ((n + 1) % 8 + 1), part m c (seqOf (n + 1) (lt_N ⟨n + 1, hn⟩)) (rowOf (n + 1) (lt_N ⟨n + 1, hn⟩) r) (expertOf e) j := by
  have hN := lt_N ⟨n + 1, hn⟩
  dsimp only at hN
  have hs : seqOf n (by omega) = seqOf (n + 1) hN := Fin.ext (by dsimp only; omega)
  have hr : rowOf n (by omega) r = rowOf (n + 1) hN r := Fin.ext (by dsimp only; omega)
  have hm : (n + 1) % 8 = n % 8 + 1 := by omega
  rw [Block.sum_apply, product_apply m c ⟨n + 1, hn⟩ _ r j fun k => by rw [(hp r k).1, hs, hr], (hp r j).2, hs, hr,
    hm, Finset.sum_range_succ _ (n % 8 + 1)]
  congr 2
  exact Fin.ext (by dsimp only <;> omega)

theorem holds_next (n : ℕ) (hn : n + 1 < cfg0.N) (h0 : ¬(n + 1) % 8 = 0) (h1 : ¬(n + 1) % 8 = 7)
    (hp : Holds m c n (Nat.lt_of_succ_lt hn)) : Holds m c (n + 1) hn := by
  intro r j
  have hN := lt_N ⟨n + 1, hn⟩
  dsimp only at hN
  have hs : seqOf n (by omega) = seqOf (n + 1) hN := Fin.ext (by dsimp only; omega)
  have hr : rowOf n (by omega) r = rowOf (n + 1) hN r := Fin.ext (by dsimp only; omega)
  have e := outsAt0_B m c ⟨n + 1, hn⟩ h0 h1
  dsimp only at e
  rw [e]
  dsimp only
  rw [Terms.keep_mid, Terms.sum_mid]
  refine ⟨?_, sum_next m c n hn h0 hp r j⟩
  rw [← hs, ← hr]
  exact (hp r j).1

/-- Below the last expert of a tile the scratch buffers hold the modulated tile and the running sum. -/
theorem holds : ∀ (n : ℕ) (hn : n < cfg0.N), n % 8 ≠ 7 → Holds m c n hn
  | 0, hn, _ => holds_first m c ⟨0, hn⟩ rfl
  | n + 1, hn, h => by
    by_cases h0 : (n + 1) % 8 = 0
    · exact holds_first m c ⟨n + 1, hn⟩ h0
    · exact holds_next m c n hn h0 h (holds n (Nat.lt_of_succ_lt hn) (by omega))

/-- The layer's output at row `R` of sequence `b`, column `j`, from the arguments. -/
def target (b : Fin 8) (R : Fin 16384) (j : Fin 1024) : EReal :=
  moe (fun k => argX m c (ix2 R k)) (fun k => argMod m c (ix3 b 0 (modCol 4 k))) (fun k => argMod m c (ix3 b 0 (modCol 3 k)))
    (fun k => argMod m c (ix3 b 0 (modCol 5 k))) (fun e => argGates m c (ix2 R (e.castLE (by decide))))
    (fun e k f => argWg m c (ix3 e k f)) (fun e k f => argWu m c (ix3 e k f)) (fun e f j => argWd m c (ix3 e f j))
    (fun j => argLg m c (ix2 0 j)) (fun j => argLb m c (ix2 0 j)) j

/-- What the last expert's point leaves in its output block. -/
theorem out_last (t : Fin cfg0.N) (h1 : t.val % 8 = 7) (r : Fin 512) (j : Fin 1024) :
    (outsAt0 m c t.val t.isLt).1 (ix2 r j) = target m c (seqOf t.val (lt_N t)) (rowOf t.val (lt_N t) r) j := by
  obtain ⟨n, hn⟩ := t
  obtain ⟨n, rfl⟩ : ∃ k, n = k + 1 := ⟨n - 1, by dsimp only at h1; omega⟩
  dsimp only at h1 ⊢
  have h0 : ¬(n + 1) % 8 = 0 := by omega
  have e := outsAt0_C m c ⟨n + 1, hn⟩ h0 h1
  dsimp only at e
  rw [e]
  dsimp only
  rw [Terms.out_last, Block.norm_apply, blk_lg, blk_lb]
  unfold target moe
  congr 1
  funext k
  rw [blk_x, blk_g2]
  congr 1
  refine (sum_next m c n hn h0 (holds m c n _ (by omega)) r k).trans ?_
  rw [h1, Finset.sum_range]
  refine Finset.sum_congr rfl fun e _ => ?_
  rw [show expertOf e.val = e from Fin.ext (Nat.mod_eq_of_lt e.isLt)]
  rfl

/-- The kernel's result array at an index. -/
theorem result_apply (b : Fin 8) (R : Fin 16384) (j : Fin 1024) (hb : b.val = R.val / 2048) :
    (Value.G10 m c : Vec Ideal S16384x1024 .f32) (ix2 R j) = target m c b R j := by
  have hR := R.isLt
  have hj := j.isLt
  have hp : Value.pt10Of (ix2 R j) = 8 * (R.val / 512) + 7 := by
    show 8 * (1 * (R.val / 512 - 0) + 1 * (j.val / 1024 - 0)) + 7 = _
    omega
  have hlt : Value.pt10Of (ix2 R j) < cfg0.N := lt_of_lt_of_eq (by rw [hp]; omega) Gen.N_0.symm
  unfold Value.G10
  rw [dif_pos hlt, ← Value.outsAt0_sweep m c _ hlt]
  have hl : Value.loc10Of (ix2 R j) = ix2 (⟨R.val % 512, by omega⟩ : Fin 512) j := by
    funext a
    apply Fin.ext
    match a with
    | ⟨0, _⟩ => rfl
    | ⟨1, _⟩ => exact Nat.mod_eq_of_lt hj
  rw [hl]
  refine (out_last m c ⟨_, hlt⟩ (by dsimp only; rw [hp]; omega) _ j).trans ?_
  have e1 : seqOf (Value.pt10Of (ix2 R j)) (lt_N ⟨_, hlt⟩) = b := Fin.ext (by dsimp only; rw [hp, hb]; omega)
  have e2 : rowOf (Value.pt10Of (ix2 R j)) (lt_N ⟨_, hlt⟩) ⟨R.val % 512, by omega⟩ = R := Fin.ext (by dsimp only; rw [hp]; omega)
  dsimp only at e1 e2 ⊢
  rw [e1, e2]

end Cert.MoeIdeal.Fold

end
-- ==== Proof.MoeRefValue.lean ====
/- What the experts' reference computes, element by element: the layer's output `moe` of its arguments. -/
module

public import proofs.«01_k».proof.Proof.MoeSpec
public import proofs.«01_k».proof.Proof.Gen.MoeRefIdeal.Read

@[expose] public section

set_option maxRecDepth 16384

noncomputable section

namespace Cert.MoeRefIdeal.RefValue

open Cert.MoeRefIdeal Cert.MoeRefIdeal.Gen Cert.MoeRefIdeal.Read Cert.Layer Idealize.ShloMosaic

variable (x : Vec Ideal S16384x1024 .f32) (md : Vec Ideal S8x1x6144 .f32) (gates : Vec Ideal S16384x128 .f32)
  (wg wu : Vec Ideal S8x1024x1408 .f32) (wd : Vec Ideal S8x1408x1024 .f32) (lg lb : Vec Ideal S1x1024 .f32)

/-- The row of the whole array that token `s` of sequence `b` is. -/
abbrev rowAt (b : Fin 8) (s : Fin 2048) : Fin 16384 := ⟨2048 * b.val + s.val, by omega⟩
/-- The columns of the modulation that a chunk number names. -/
abbrev modCol (q : Fin 6) (k : Fin 1024) : Fin 6144 := ⟨1024 * q.val + k.val, by omega⟩

theorem x_at (b : Fin 8) (s : Fin 2048) (k : Fin 1024) : val_main_v0 (F := Ideal) x (ix3 b s k) = x (ix2 (rowAt b s) k) := by
  rw [val_main_v0_apply]
  congr 1
  funext a
  apply Fin.ext
  match a with
  | ⟨0, _⟩ => show ((b.val * 2048 + s.val) * 1024 + k.val) / 1024 = 2048 * b.val + s.val; omega
  | ⟨1, _⟩ => show ((b.val * 2048 + s.val) * 1024 + k.val) % 1024 = k.val; omega

theorem gate_at (b : Fin 8) (s : Fin 2048) (e : Fin 8) :
    val_main_v2 (F := Ideal) gates (ix3 b s e) = gates (ix2 (rowAt b s) (e.castLE (by decide))) := by
  rw [val_main_v2_apply, val_main_v1_apply]
  congr 1
  funext a
  apply Fin.ext
  match a with
  | ⟨0, _⟩ => show ((b.val * 2048 + s.val) * 128 + e.val) / 128 = 2048 * b.val + s.val; omega
  | ⟨1, _⟩ => show ((b.val * 2048 + s.val) * 128 + e.val) % 128 = e.val; omega

/-- A token's row, modulated. -/
theorem modulated_at (b : Fin 8) (s : Fin 2048) (k : Fin 1024) :
    val_main_v14 (F := Ideal) x md (ix3 b s k)
      = modulate (x (ix2 (rowAt b s) k)) (md (ix3 b 0 (modCol 4 k))) (md (ix3 b 0 (modCol 3 k))) := by
  rw [val_main_v14_apply, val_main_v12_apply, x_at, val_main_v11_apply, val_main_v10_apply, val_main_v9_apply, val_main_cst_apply,
    val_main_v7_apply, val_main_v13_apply, val_main_v6_apply]
  show x _ * (Ideal.ofBits .f32 0x3F800000#32 + md _) + md _ = _
  rw [Ideal.ofBits_one_f32]
  unfold modulate
  congr 3
  · congr 1
    funext a
    apply Fin.ext
    match a with
    | ⟨0, _⟩ => rfl
    | ⟨1, _⟩ => rfl
    | ⟨2, _⟩ => rfl
  · funext a
    apply Fin.ext
    match a with
    | ⟨0, _⟩ => rfl
    | ⟨1, _⟩ => rfl
    | ⟨2, _⟩ => rfl

/-- The rows of the gate projection's product. -/
theorem gateProj_at (b : Fin 8) (s : Fin 2048) (e : Fin 8) (f : Fin 1408) :
    val_main_v15 (F := Ideal) x md wg (ix4 b s e f) = ∑ k : Fin 1024, val_main_v14 (F := Ideal) x md (ix3 b s k) * wg (ix3 e k f) := by
  rw [val_main_v15_apply]
  refine Finset.sum_congr rfl fun k _ => ?_
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl
    | ⟨2, _⟩ => rfl

theorem upProj_at (b : Fin 8) (s : Fin 2048) (e : Fin 8) (f : Fin 1408) :
    val_main_v17 (F := Ideal) x md wu (ix4 b s e f) = ∑ k : Fin 1024, val_main_v14 (F := Ideal) x md (ix3 b s k) * wu (ix3 e k f) := by
  rw [val_main_v17_apply]
  refine Finset.sum_congr rfl fun k _ => ?_
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The hidden layer of one expert: the gated units. -/
theorem hidden_at (b : Fin 8) (s : Fin 2048) (e : Fin 8) (f : Fin 1408) :
    val_main_v18 (F := Ideal) x md wg wu (ix4 b s e f)
      = gated (fun k => val_main_v14 (F := Ideal) x md (ix3 b s k)) (fun k => wg (ix3 e k f)) (fun k => wu (ix3 e k f)) := by
  rw [val_main_v18_apply, val_main_v16_apply, val_main_call0_v5_apply, val_main_call0_v4_apply, val_main_call0_cst_0_apply,
    val_main_call0_v3_apply, val_main_call0_v2_apply, val_main_call0_cst_apply, val_main_call0_v1_apply, val_main_call0_v0_apply,
    upProj_at, gateProj_at]
  unfold gated silu
  generalize (∑ k : Fin 1024, val_main_v14 (F := Ideal) x md (ix3 b s k) * wg (ix3 e k f)) = p
  show p * Ideal.div (Ideal.ofBits .f32 0x3F800000#32) (Ideal.ofBits .f32 0x3F800000#32 + Ideal.exp (-p)) * _ = _
  rw [Ideal.ofBits_one_f32]
  rfl

/-- One expert on one token. -/
theorem expert_at (b : Fin 8) (s : Fin 2048) (e : Fin 8) (j : Fin 1024) :
    val_main_v21 (F := Ideal) x md wg wu wd (ix4 b s e j)
      = expert (fun k => val_main_v14 (F := Ideal) x md (ix3 b s k)) (fun k f => wg (ix3 e k f)) (fun k f => wu (ix3 e k f)) (fun f => wd (ix3 e f j)) := by
  rw [val_main_v21_apply, val_main_v20_apply]
  unfold expert
  refine Finset.sum_congr rfl fun f _ => ?_
  rw [mul_comm, ← hidden_at]
  congr 2 <;> funext a <;> apply Fin.ext
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- All experts on one token, weighted by its gates. -/
theorem mixed_at (b : Fin 8) (s : Fin 2048) (j : Fin 1024) :
    val_main_v24 (F := Ideal) x md gates wg wu wd (ix3 b s j)
      = ∑ e : Fin 8, gates (ix2 (rowAt b s) (e.castLE (by decide)))
          * expert (fun k => val_main_v14 (F := Ideal) x md (ix3 b s k)) (fun k f => wg (ix3 e k f)) (fun k f => wu (ix3 e k f)) (fun f => wd (ix3 e f j)) := by
  rw [val_main_v24_apply, val_main_cst_0_apply]
  show Ideal.ofBits .f32 0x00000000#32 + _ = _
  rw [Ideal.ofBits_zero_f32, zero_add]
  refine Finset.sum_congr rfl fun e _ => ?_
  rw [val_main_v23_apply, val_main_v22_apply, val_main_v19_apply, ← gate_at gates, ← expert_at]
  show _ * _ = _ * _
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl
    | ⟨2, _⟩ => rfl
    | ⟨3, _⟩ => rfl

/-- The residual sum of one token. -/
theorem resid_at (b : Fin 8) (s : Fin 2048) (j : Fin 1024) :
    val_main_v31 (F := Ideal) x md gates wg wu wd (ix3 b s j)
      = resid (x (ix2 (rowAt b s) j)) (md (ix3 b 0 (modCol 5 j))) (val_main_v24 (F := Ideal) x md gates wg wu wd (ix3 b s j)) := by
  rw [val_main_v31_apply, val_main_v26_apply, val_main_v25_apply, val_main_cst_1_apply, x_at, val_main_v30_apply, val_main_v29_apply,
    val_main_v28_apply, val_main_v27_apply, val_main_cst_2_apply, val_main_v8_apply]
  generalize val_main_v24 (F := Ideal) x md gates wg wu wd (ix3 b s j) = y
  show Ideal.ofBits .f32 0x3FB504F3#32 * _ + (Ideal.ofBits .f32 0x3F800000#32 + md _) * y = _
  rw [Ideal.ofBits_one_f32]
  unfold resid
  congr 3
  congr 1
  funext a
  apply Fin.ext
  match a with
  | ⟨0, _⟩ => rfl
  | ⟨1, _⟩ => rfl
  | ⟨2, _⟩ => rfl

/-- The mean of a token's residual sums. -/
theorem mean_at (b : Fin 8) (s : Fin 2048) (o : Fin 1) :
    val_main_v37 (F := Ideal) x md gates wg wu wd (ix3 b s o) = mean (fun k => val_main_v31 (F := Ideal) x md gates wg wu wd (ix3 b s k)) := by
  rw [val_main_v37_apply, val_main_v36_apply, val_main_cst_4_apply, val_main_v35_apply, val_main_v34_apply, val_main_cst_3_apply]
  show Ideal.div (Ideal.ofBits .f32 0x00000000#32 + _) (Ideal.ofBits .f32 0x44800000#32) = _
  rw [Ideal.ofBits_zero_f32, zero_add]
  unfold mean
  congr 1
  refine Finset.sum_congr rfl fun k _ => ?_
  congr 1
  funext a
  apply Fin.ext
  match a with
  | ⟨0, _⟩ => rfl
  | ⟨1, _⟩ => rfl
  | ⟨2, _⟩ => rfl

/-- A token's residual sum less its mean. -/
theorem centred_at (b : Fin 8) (s : Fin 2048) (j : Fin 1024) :
    val_main_v39 (F := Ideal) x md gates wg wu wd (ix3 b s j)
      = val_main_v31 (F := Ideal) x md gates wg wu wd (ix3 b s j) - mean (fun k => val_main_v31 (F := Ideal) x md gates wg wu wd (ix3 b s k)) := by
  rw [val_main_v39_apply, val_main_v38_apply, ← mean_at x md gates wg wu wd b s 0]
  show _ - _ = _ - _
  congr 2
  funext a
  apply Fin.ext
  match a with
  | ⟨0, _⟩ => rfl
  | ⟨1, _⟩ => rfl
  | ⟨2, _⟩ => rfl

/-- The inverse deviation of a token's residual sums. -/
theorem dev_at (b : Fin 8) (s : Fin 2048) (o : Fin 1) :
    val_main_v47 (F := Ideal) x md gates wg wu wd (ix3 b s o)
      = Ideal.rsqrt (mean (fun k => val_main_v39 (F := Ideal) x md gates wg wu wd (ix3 b s k) * val_main_v39 (F := Ideal) x md gates wg wu wd (ix3 b s k)) + normEps) := by
  rw [val_main_v47_apply, val_main_v46_apply, val_main_v45_apply, val_main_cst_7_apply, val_main_v44_apply, val_main_v43_apply,
    val_main_cst_6_apply, val_main_v42_apply, val_main_v41_apply, val_main_cst_5_apply]
  show Ideal.rsqrt (Ideal.div (Ideal.ofBits .f32 0x00000000#32 + _) (Ideal.ofBits .f32 0x44800000#32) + Ideal.ofBits .f32 0x3727C5AC#32) = _
  rw [Ideal.ofBits_zero_f32, zero_add]
  unfold mean
  congr 3
  refine Finset.sum_congr rfl fun k _ => ?_
  rw [val_main_v40_apply]
  show _ * _ = _ * _
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The gain and the offset of the layer norm. -/
theorem gain_at (b : Fin 8) (s : Fin 2048) (j : Fin 1024) : val_main_v51 (F := Ideal) lg (ix3 b s j) = lg (ix2 0 j) := by
  rw [val_main_v51_apply, val_main_v50_apply, val_main_v32_apply]
  congr 1
  funext a
  apply Fin.ext
  match a with
  | ⟨0, _⟩ => rfl
  | ⟨1, _⟩ => show j.val % 1024 = j.val; omega
theorem offset_at (b : Fin 8) (s : Fin 2048) (j : Fin 1024) : val_main_v54 (F := Ideal) lb (ix3 b s j) = lb (ix2 0 j) := by
  rw [val_main_v54_apply, val_main_v53_apply, val_main_v33_apply]
  congr 1
  funext a
  apply Fin.ext
  match a with
  | ⟨0, _⟩ => rfl
  | ⟨1, _⟩ => show j.val % 1024 = j.val; omega

/-- The reference's result at an index. -/
theorem result_apply (b : Fin 8) (s : Fin 2048) (j : Fin 1024) :
    val_main_v56 (F := Ideal) x md gates wg wu wd lg lb (ix2 (rowAt b s) j)
      = moe (fun k => x (ix2 (rowAt b s) k)) (fun k => md (ix3 b 0 (modCol 4 k))) (fun k => md (ix3 b 0 (modCol 3 k)))
          (fun k => md (ix3 b 0 (modCol 5 k))) (fun e => gates (ix2 (rowAt b s) (e.castLE (by decide))))
          (fun e k f => wg (ix3 e k f)) (fun e k f => wu (ix3 e k f)) (fun e f j => wd (ix3 e f j))
          (fun j => lg (ix2 0 j)) (fun j => lb (ix2 0 j)) j := by
  rw [val_main_v56_apply]
  have hi : idx_main_v56 (ix2 (rowAt b s) j) = ix3 b s j := by
    funext a
    apply Fin.ext
    match a with
    | ⟨0, _⟩ => show ((2048 * b.val + s.val) * 1024 + j.val) / 2097152 = b.val; omega
    | ⟨1, _⟩ => show ((2048 * b.val + s.val) * 1024 + j.val) / 1024 % 2048 = s.val; omega
    | ⟨2, _⟩ => show ((2048 * b.val + s.val) * 1024 + j.val) % 1024 = j.val; omega
  have h48 : val_main_v48 (F := Ideal) x md gates wg wu wd (ix3 b s j) = val_main_v47 (F := Ideal) x md gates wg wu wd (ix3 b s 0) := by
    rw [val_main_v48_apply]
    congr 1
    funext a
    apply Fin.ext
    match a with
    | ⟨0, _⟩ => rfl
    | ⟨1, _⟩ => rfl
    | ⟨2, _⟩ => rfl
  rw [hi, val_main_v55_apply, val_main_v52_apply, val_main_v49_apply, gain_at, offset_at, h48, dev_at, centred_at]
  simp only [centred_at, resid_at, mixed_at, modulated_at]
  rfl

end Cert.MoeRefIdeal.RefValue

end
-- ==== Proof.MoeClaim.lean ====
/- The claims about the experts' kernel: the frames, and the equation with its reference over the reals. -/
module

public import proofs.«01_k».proof.Defs
public import proofs.«01_k».proof.Proof.MoeFold
public import proofs.«01_k».proof.Proof.MoeRefValue
public import proofs.«01_k».proof.Proof.Gen.Moe.Frame
public import proofs.«01_k».proof.Proof.Gen.MoeRefIdeal.Run
public import Idealize.ShloMosaic.Lib.Quiescent

@[expose] public section

set_option maxRecDepth 16384

noncomputable section

namespace Cert.MoeClaim

open Idealize.ShloMosaic Idealize.ShloMosaic.TcCoe Idealize.SL.Sem

theorem frame_kernel : Cert.quiescent_Moe := fun m ρ _ => Cert.Moe.Gen.frame m ρ

theorem frame_ideal : Cert.quiescent_MoeIdeal := fun m ρ _ => Cert.MoeIdeal.Gen.frame m ρ

theorem frame_reference : Cert.quiescent_MoeRefIdeal := fun m ρ _ =>
  (θ_run Cert.MoeRefIdeal.defs _ _).mono
    (fun r h => ⟨fun c => (h c).2, Idealize.ShloMosaic.sem_eq_zero_of_no_sems (by decide) r.2⟩)
    (Cert.MoeRefIdeal.Value.run (F := Ideal) m ρ)

/-- From arguments that agree, the reference's result is the kernel's, element by element: both are the layer's output
    `moe` on the token's row. -/
theorem results_agree (m : (ℓ : Loc Cert.MoeIdeal.nD Cert.MoeIdeal.τ Cert.MoeIdeal.sig) → Buf (Elt Ideal) ℓ)
    (c : Dev Cert.MoeIdeal.nD) :
    Cert.MoeRefIdeal.Read.val_main_v56 (F := Ideal) (Cert.MoeIdeal.Blocks.argX m c) (Cert.MoeIdeal.Blocks.argMod m c)
        (Cert.MoeIdeal.Blocks.argGates m c) (Cert.MoeIdeal.Blocks.argWg m c) (Cert.MoeIdeal.Blocks.argWu m c)
        (Cert.MoeIdeal.Blocks.argWd m c) (Cert.MoeIdeal.Blocks.argLg m c) (Cert.MoeIdeal.Blocks.argLb m c)
      = (Cert.MoeIdeal.Value.G10 m c : Vec Ideal Cert.MoeIdeal.S16384x1024 .f32) := by
  funext i
  have hR : (i 0).val < 16384 := (i 0).isLt
  have hi : i = ix2 (Cert.MoeRefIdeal.RefValue.rowAt ⟨(i 0).val / 2048, by omega⟩ ⟨(i 0).val % 2048, by omega⟩) (i 1) := by
    funext a
    apply Fin.ext
    match a with
    | ⟨0, _⟩ => show (i 0).val = 2048 * ((i 0).val / 2048) + (i 0).val % 2048; omega
    | ⟨1, _⟩ => rfl
  rw [hi]
  refine (Cert.MoeRefIdeal.RefValue.result_apply _ _ _ _ _ _ _ _ _ _ _).trans ?_
  refine Eq.symm ((Cert.MoeIdeal.Fold.result_apply m c ⟨(i 0).val / 2048, by omega⟩ _ _ ?_).trans ?_)
  · show (i 0).val / 2048 = (2048 * ((i 0).val / 2048) + (i 0).val % 2048) / 2048
    omega
  · rfl

theorem algebraic : Cert.algebraic_MoeIdeal_MoeRefIdeal := by
  intro m ρ m' ρ' _ hag
  refine ⟨fun c => Cert.MoeIdeal.Value.G10 m c, Cert.MoeIdeal.Value.run (F := Ideal) m ρ, ?_⟩
  refine (θ_run Cert.MoeRefIdeal.defs _ _).mono (fun _ h c => ⟨(h c).1.trans ?_, (h c).2⟩) (Cert.MoeRefIdeal.Value.run (F := Ideal) m' ρ')
  obtain ⟨h0, h1, h2, h3, h4, h5, h6, h7⟩ := hag c
  rw [Cert.MoeRefIdeal.Read.val_main_v56_eq, h0, h1, h2, h3, h4, h5, h6, h7]
  exact results_agree m c

end Cert.MoeClaim

end
-- ==== Proof.DenseSpec.lean ====
/- The mathematics of the dense feed-forward layer for one token, over the reals. -/
module

public import proofs.«01_k».proof.Proof.MoeSpec

@[expose] public section

noncomputable section

namespace Cert.Layer

/-- The token's output at column `j`: its row `x` modulated, the feed-forward on it, the residual sum, the layer norm. -/
def dense (x sc sh g : Fin 1024 → EReal) (wg wu : Fin 1024 → Fin 2816 → EReal) (wd : Fin 2816 → Fin 1024 → EReal)
    (lg lb : Fin 1024 → EReal) (j : Fin 1024) : EReal :=
  layerNorm (fun k => resid (x k) (g k) (expert (fun k => modulate (x k) (sc k) (sh k)) wg wu (fun f => wd f k)))
    j (lg j) (lb j)

/-- The feed-forward is the sum of its two halves, cut along the hidden columns. -/
theorem expert_halves (u : Fin 1024 → EReal) (wg wu : Fin 1024 → Fin 2816 → EReal) (wd : Fin 2816 → EReal) (lo hi : Fin 1408 → Fin 2816)
    (hlo : ∀ f, (lo f).val = f.val) (hhi : ∀ f, (hi f).val = 1408 + f.val) :
    expert u wg wu wd
      = expert u (fun k f => wg k (lo f)) (fun k f => wu k (lo f)) (fun f => wd (lo f))
        + expert u (fun k f => wg k (hi f)) (fun k f => wu k (hi f)) (fun f => wd (hi f)) := by
  unfold expert
  refine (Fin.sum_univ_add (a := 1408) (b := 1408) (fun f : Fin 2816 => gated u (fun k => wg k f) (fun k => wu k f) * wd f)).trans ?_
  congr 1
  · refine Finset.sum_congr rfl fun f _ => ?_
    have h : lo f = Fin.castAdd 1408 f := Fin.ext (hlo f)
    simp only [h]
  · refine Finset.sum_congr rfl fun f _ => ?_
    have h : hi f = Fin.natAdd 1408 f := Fin.ext (hhi f)
    simp only [h]

end Cert.Layer

end
-- ==== Proof.DenseBlock.lean ====
/- What one grid point of the dense layer's kernel computes from its blocks, element by element. -/
module

public import proofs.«01_k».proof.Proof.DenseSpec
public import proofs.«01_k».proof.Proof.Gen.DenseIdeal.Skeleton

@[expose] public section

set_option maxRecDepth 16384

noncomputable section

namespace Cert.DenseIdeal.Block

open Cert.DenseIdeal Cert.DenseIdeal.Gen Idealize.ShloMosaic Cert.Layer

/-- The block the first point of a tile keeps: the tile's rows modulated. -/
theorem modulated_apply (x : Vec Ideal S512x1024 .f32) (sc sh : Vec Ideal S1x1x1024 .f32) (r : Fin 512) (k : Fin 1024) :
    k0_pay1 (F := Ideal) x sc sh (ix2 r k) = modulate (x (ix2 r k)) (sc (ix3 0 0 k)) (sh (ix3 0 0 k)) := by
  pointwise [k0_pay1]
  rfl

theorem zeros_apply (r : Fin 512) (k : Fin 1024) : k0_pay2 (F := Ideal) (ix2 r k) = 0 := by
  pointwise [k0_pay2]

theorem norm_apply (x : Vec Ideal S512x1024 .f32) (g : Vec Ideal S1x1x1024 .f32) (y : Vec Ideal S512x1024 .f32)
    (lg lb : Vec Ideal S1x1024 .f32) (r : Fin 512) (j : Fin 1024) :
    k0_pay4 (F := Ideal) x g y lg lb (ix2 r j)
      = layerNorm (fun k => resid (x (ix2 r k)) (g (ix3 0 0 k)) (y (ix2 r k))) j (lg (ix2 0 j)) (lb (ix2 0 j)) := by
  pointwise [k0_pay4]
  rfl

theorem half_apply (u : Vec Ideal S512x1024 .bf16) (wg wu : Vec Ideal S1x1024x1408 .bf16)
    (wd : Vec Ideal S1x1408x1024 .bf16) (acc : Vec Ideal S512x1024 .f32) (r : Fin 512) (j : Fin 1024) :
    k0_pay3 (F := Ideal) u wg wu wd acc (ix2 r j)
      = acc (ix2 r j) + expert (fun k => u (ix2 r k)) (fun k f => wg (ix3 0 k f)) (fun k f => wu (ix3 0 k f)) (fun f => wd (ix3 0 f j)) := by
  pointwise [k0_pay3]
  rfl

end Cert.DenseIdeal.Block

end
-- ==== Proof.DenseBlocks.lean ====
/- Where the blocks of the dense layer's kernel lie in its arguments: point `t` of the grid is half `t % 2` of the hidden columns on the tile of
   512 rows number `t / 2`, and four tiles make one sequence. -/
module

public import proofs.«01_k».proof.Proof.Layer
public import Idealize.ShloMosaic.Lib.StableHlo.ReadAt
public import proofs.«01_k».proof.Proof.Gen.DenseIdeal.Value

@[expose] public section

set_option maxRecDepth 16384

noncomputable section

namespace Cert.DenseIdeal.Blocks

open Cert.DenseIdeal Cert.DenseIdeal.Gen Idealize.ShloMosaic Idealize.ShloMosaic.TcCoe

variable (m : (ℓ : Loc nD τ sig) → Buf (Elt Ideal) ℓ) (c : Dev nD)

/-! ## The arguments by name -/

abbrev argX : Vec Ideal S16384x1024 .f32 := m ((c : Thread nD τ).loc main_arg0)
abbrev argMod : Vec Ideal S8x1x6144 .f32 := m ((c : Thread nD τ).loc main_arg1)
abbrev argWg : Vec Ideal S1x1024x2816 .f32 := m ((c : Thread nD τ).loc main_arg2)
abbrev argWu : Vec Ideal S1x1024x2816 .f32 := m ((c : Thread nD τ).loc main_arg3)
abbrev argWd : Vec Ideal S1x2816x1024 .f32 := m ((c : Thread nD τ).loc main_arg4)
abbrev argLg : Vec Ideal S1x1024 .f32 := m ((c : Thread nD τ).loc main_arg5)
abbrev argLb : Vec Ideal S1x1024 .f32 := m ((c : Thread nD τ).loc main_arg6)

/-- The converted weights are the weights: over the reals a conversion changes nothing. -/
theorem V_wg (j : S1x1024x2816.Idx) : (V m c main_v1 : Vec Ideal S1x1024x2816 .bf16) j = argWg m c j := by
  unfold V
  after_reads_at
theorem V_wu (j : S1x1024x2816.Idx) : (V m c main_v2 : Vec Ideal S1x1024x2816 .bf16) j = argWu m c j := by
  unfold V
  after_reads_at
theorem V_wd (j : S1x2816x1024.Idx) : (V m c main_v3 : Vec Ideal S1x2816x1024 .bf16) j = argWd m c j := by
  unfold V
  after_reads_at

/-! ## The grid -/

theorem lt_N (t : Fin cfg0.N) : t.val < 64 := lt_of_lt_of_eq t.isLt Gen.N_0

/-- The row of the whole array that row `r` of the tile of point `n` is. -/
abbrev rowOf (n : ℕ) (hn : n < 64) (r : Fin 512) : Fin 16384 := ⟨512 * (n / 2) + r.val, by omega⟩
/-- The sequence that the tile of point `n` belongs to. -/
abbrev seqOf (n : ℕ) (hn : n < 64) : Fin 8 := ⟨n / 8, by omega⟩
/-- The hidden column of the whole layer that column `f` of the half of point `n` is. -/
abbrev hiddenCol (n : ℕ) (f : Fin 1408) : Fin 2816 := ⟨1408 * (n % 2) + f.val, by omega⟩

theorem idx0 : ∀ t : Fin grid0.N, win0_0.index t (0 : Fin 2) = t.val / 2 ∧ win0_0.index t (1 : Fin 2) = 0 := by decide +kernel
theorem idx1 : ∀ t : Fin grid0.N, win0_1.index t (0 : Fin 3) = t.val / 8 ∧ win0_1.index t (1 : Fin 3) = 0 ∧ win0_1.index t (2 : Fin 3) = 4 := by decide +kernel
theorem idx2 : ∀ t : Fin grid0.N, win0_2.index t (0 : Fin 3) = t.val / 8 ∧ win0_2.index t (1 : Fin 3) = 0 ∧ win0_2.index t (2 : Fin 3) = 3 := by decide +kernel
theorem idx3 : ∀ t : Fin grid0.N, win0_3.index t (0 : Fin 3) = t.val / 8 ∧ win0_3.index t (1 : Fin 3) = 0 ∧ win0_3.index t (2 : Fin 3) = 5 := by decide +kernel
theorem idx5 : ∀ t : Fin grid0.N, win0_5.index t (0 : Fin 3) = 0 ∧ win0_5.index t (1 : Fin 3) = 0 ∧ win0_5.index t (2 : Fin 3) = t.val % 2 := by decide +kernel
theorem idx6 : ∀ t : Fin grid0.N, win0_6.index t (0 : Fin 3) = 0 ∧ win0_6.index t (1 : Fin 3) = 0 ∧ win0_6.index t (2 : Fin 3) = t.val % 2 := by decide +kernel
theorem idx7 : ∀ t : Fin grid0.N, win0_7.index t (0 : Fin 3) = 0 ∧ win0_7.index t (1 : Fin 3) = t.val % 2 ∧ win0_7.index t (2 : Fin 3) = 0 := by decide +kernel
theorem idx8 : ∀ t : Fin grid0.N, win0_8.index t (0 : Fin 2) = 0 ∧ win0_8.index t (1 : Fin 2) = 0 := by decide +kernel
theorem idx9 : ∀ t : Fin grid0.N, win0_9.index t (0 : Fin 2) = 0 ∧ win0_9.index t (1 : Fin 2) = 0 := by decide +kernel

/-! ## The blocks at an index -/

theorem blk_x (t : Fin cfg0.N) (r : Fin 512) (k : Fin 1024) :
    (iblk m c 0 t : Vec Ideal S512x1024 .f32) (ix2 r k) = argX m c (ix2 (rowOf t.val (lt_N t) r) k) := by
  have hi := idx0 t
  unfold iblk
  rw [View.read_apply]
  show V m c main_arg0 _ = _
  rw [V_main_arg0]
  congr 1
  funext a
  apply Fin.ext
  match a with
  | ⟨0, _⟩ => show win0_0.index t 0 * 512 + 1 * r.val = 512 * (t.val / 2) + r.val; rw [hi.1]; omega
  | ⟨1, _⟩ => show win0_0.index t 1 * 1024 + 1 * k.val = k.val; rw [hi.2]; omega

/-- The columns of the modulation that a chunk number names. -/
abbrev modCol (q : Fin 6) (k : Fin 1024) : Fin 6144 := ⟨1024 * q.val + k.val, by omega⟩

theorem blk_sc (t : Fin cfg0.N) (k : Fin 1024) :
    (iblk m c 1 t : Vec Ideal S1x1x1024 .f32) (ix3 0 0 k) = argMod m c (ix3 (seqOf t.val (lt_N t)) 0 (modCol 4 k)) := by
  have hi := idx1 t
  unfold iblk
  rw [View.read_apply]
  show V m c main_arg1 _ = _
  rw [V_main_arg1]
  congr 1
  funext a
  apply Fin.ext
  match a with
  | ⟨0, _⟩ => show win0_1.index t 0 * 1 + 1 * 0 = t.val / 8; rw [hi.1]; omega
  | ⟨1, _⟩ => show win0_1.index t 1 * 1 + 1 * 0 = 0; rw [hi.2.1]
  | ⟨2, _⟩ => show win0_1.index t 2 * 1024 + 1 * k.val = 1024 * 4 + k.val; rw [hi.2.2]; omega

theorem blk_sh (t : Fin cfg0.N) (k : Fin 1024) :
    (iblk m c 2 t : Vec Ideal S1x1x1024 .f32) (ix3 0 0 k) = argMod m c (ix3 (seqOf t.val (lt_N t)) 0 (modCol 3 k)) := by
  have hi := idx2 t
  unfold iblk
  rw [View.read_apply]
  show V m c main_arg1 _ = _
  rw [V_main_arg1]
  congr 1
  funext a
  apply Fin.ext
  match a with
  | ⟨0, _⟩ => show win0_2.index t 0 * 1 + 1 * 0 = t.val / 8; rw [hi.1]; omega
  | ⟨1, _⟩ => show win0_2.index t 1 * 1 + 1 * 0 = 0; rw [hi.2.1]
  | ⟨2, _⟩ => show win0_2.index t 2 * 1024 + 1 * k.val = 1024 * 3 + k.val; rw [hi.2.2]; omega

theorem blk_g2 (t : Fin cfg0.N) (k : Fin 1024) :
    (iblk m c 3 t : Vec Ideal S1x1x1024 .f32) (ix3 0 0 k) = argMod m c (ix3 (seqOf t.val (lt_N t)) 0 (modCol 5 k)) := by
  have hi := idx3 t
  unfold iblk
  rw [View.read_apply]
  show V m c main_arg1 _ = _
  rw [V_main_arg1]
  congr 1
  funext a
  apply Fin.ext
  match a with
  | ⟨0, _⟩ => show win0_3.index t 0 * 1 + 1 * 0 = t.val / 8; rw [hi.1]; omega
  | ⟨1, _⟩ => show win0_3.index t 1 * 1 + 1 * 0 = 0; rw [hi.2.1]
  | ⟨2, _⟩ => show win0_3.index t 2 * 1024 + 1 * k.val = 1024 * 5 + k.val; rw [hi.2.2]; omega

theorem blk_wg (t : Fin cfg0.N) (k : Fin 1024) (f : Fin 1408) :
    (iblk m c 5 t : Vec Ideal S1x1024x1408 .bf16) (ix3 0 k f) = argWg m c (ix3 0 k (hiddenCol t.val f)) := by
  have hi := idx5 t
  unfold iblk
  rw [View.read_apply]
  refine (V_wg m c _).trans ?_
  congr 1
  funext a
  apply Fin.ext
  match a with
  | ⟨0, _⟩ => show win0_5.index t 0 * 1 + 1 * 0 = 0; rw [hi.1]
  | ⟨1, _⟩ => show win0_5.index t 1 * 1024 + 1 * k.val = k.val; rw [hi.2.1]; omega
  | ⟨2, _⟩ => show win0_5.index t 2 * 1408 + 1 * f.val = 1408 * (t.val % 2) + f.val; rw [hi.2.2]; omega

theorem blk_wu (t : Fin cfg0.N) (k : Fin 1024) (f : Fin 1408) :
    (iblk m c 6 t : Vec Ideal S1x1024x1408 .bf16) (ix3 0 k f) = argWu m c (ix3 0 k (hiddenCol t.val f)) := by
  have hi := idx6 t
  unfold iblk
  rw [View.read_apply]
  refine (V_wu m c _).trans ?_
  congr 1
  funext a
  apply Fin.ext
  match a with
  | ⟨0, _⟩ => show win0_6.index t 0 * 1 + 1 * 0 = 0; rw [hi.1]
  | ⟨1, _⟩ => show win0_6.index t 1 * 1024 + 1 * k.val = k.val; rw [hi.2.1]; omega
  | ⟨2, _⟩ => show win0_6.index t 2 * 1408 + 1 * f.val = 1408 * (t.val % 2) + f.val; rw [hi.2.2]; omega

theorem blk_wd (t : Fin cfg0.N) (f : Fin 1408) (j : Fin 1024) :
    (iblk m c 7 t : Vec Ideal S1x1408x1024 .bf16) (ix3 0 f j) = argWd m c (ix3 0 (hiddenCol t.val f) j) := by
  have hi := idx7 t
  unfold iblk
  rw [View.read_apply]
  refine (V_wd m c _).trans ?_
  congr 1
  funext a
  apply Fin.ext
  match a with
  | ⟨0, _⟩ => show win0_7.index t 0 * 1 + 1 * 0 = 0; rw [hi.1]
  | ⟨1, _⟩ => show win0_7.index t 1 * 1408 + 1 * f.val = 1408 * (t.val % 2) + f.val; rw [hi.2.1]; omega
  | ⟨2, _⟩ => show win0_7.index t 2 * 1024 + 1 * j.val = j.val; rw [hi.2.2]; omega

theorem blk_lg (t : Fin cfg0.N) (j : Fin 1024) :
    (iblk m c 8 t : Vec Ideal S1x1024 .f32) (ix2 0 j) = argLg m c (ix2 0 j) := by
  have hi := idx8 t
  unfold iblk
  rw [View.read_apply]
  show V m c main_arg5 _ = _
  rw [V_main_arg5]
  congr 1
  funext a
  apply Fin.ext
  match a with
  | ⟨0, _⟩ => show win0_8.index t 0 * 1 + 1 * 0 = 0; rw [hi.1]
  | ⟨1, _⟩ => show win0_8.index t 1 * 1024 + 1 * j.val = j.val; rw [hi.2]; omega

theorem blk_lb (t : Fin cfg0.N) (j : Fin 1024) :
    (iblk m c 9 t : Vec Ideal S1x1024 .f32) (ix2 0 j) = argLb m c (ix2 0 j) := by
  have hi := idx9 t
  unfold iblk
  rw [View.read_apply]
  show V m c main_arg6 _ = _
  rw [V_main_arg6]
  congr 1
  funext a
  apply Fin.ext
  match a with
  | ⟨0, _⟩ => show win0_9.index t 0 * 1 + 1 * 0 = 0; rw [hi.1]
  | ⟨1, _⟩ => show win0_9.index t 1 * 1024 + 1 * j.val = j.val; rw [hi.2]; omega

end Cert.DenseIdeal.Blocks

end
-- ==== Proof.DenseTerms.lean ====
/- What the body of the dense layer's kernel leaves in its two scratch buffers and in its output block, case by case, as
   values of the blocks it read. -/
module

public import proofs.«01_k».proof.Proof.Gen.DenseIdeal.Value

@[expose] public section

set_option maxRecDepth 16384

noncomputable section

namespace Cert.DenseIdeal.Terms

open Cert.DenseIdeal Cert.DenseIdeal.Gen Idealize.ShloMosaic Idealize.ShloMosaic.TcCoe

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a3 : Memref sig .tc .vmem S512x1024 .f32) (h3 : a3.IsWhole)
  (a4 : Memref sig .tc .vmem S1x1x1024 .f32) (h4 : a4.IsWhole)
  (a5 : Memref sig .tc .vmem S1x1x1024 .f32) (h5 : a5.IsWhole)
  (a6 : Memref sig .tc .vmem S1x1x1024 .f32) (h6 : a6.IsWhole)
  (a7 : Memref sig .tc .vmem S512x128 .f32) (h7 : a7.IsWhole)
  (a8 : Memref sig .tc .vmem S1x1024x1408 .bf16) (h8 : a8.IsWhole)
  (a9 : Memref sig .tc .vmem S1x1024x1408 .bf16) (h9 : a9.IsWhole)
  (a10 : Memref sig .tc .vmem S1x1408x1024 .bf16) (h10 : a10.IsWhole)
  (a11 : Memref sig .tc .vmem S1x1024 .f32) (h11 : a11.IsWhole)
  (a12 : Memref sig .tc .vmem S1x1024 .f32) (h12 : a12.IsWhole)
  (a13 : Memref sig .tc .vmem S512x1024 .f32) (h13 : a13.IsWhole)
  (a14 : Memref sig .tc .vmem S512x1024 .bf16) (h14 : a14.IsWhole)
  (a15 : Memref sig .tc .vmem S512x1024 .f32) (h15 : a15.IsWhole)
  (x0 : Vec F S512x1024 .f32)
  (x1 : Vec F S1x1x1024 .f32)
  (x2 : Vec F S1x1x1024 .f32)
  (x3 : Vec F S1x1x1024 .f32)
  (x4 : Vec F S512x128 .f32)
  (x5 : Vec F S1x1024x1408 .bf16)
  (x6 : Vec F S1x1024x1408 .bf16)
  (x7 : Vec F S1x1408x1024 .bf16)
  (x8 : Vec F S1x1024 .f32)
  (x9 : Vec F S1x1024 .f32)

/-- First half on a tile: the kept block is the tile's modulated rows. -/
theorem keep_first (hc0 : cond0_0 i) (hc1 : ¬cond0_1 i) :
    sout0_A_0 c i a3 h3 a4 h4 a5 h5 a6 h6 a7 h7 a8 h8 a9 h9 a10 h10 a11 h11 a12 h12 a13 h13 a14 h14 a15 h15 hc0 hc1 x0 x1 x2 x3 x4 x5 x6 x7 x8 x9 = k0_pay1 x0 x1 x2 := by
  unfold sout0_A_0
  rw [View.read_writes_eq_canon _ _ _ (scover0_A_0 c i a3 h3 a4 h4 a5 h5 a6 h6 a7 h7 a8 h8 a9 h9 a10 h10 a11 h11 a12 h12 a13 h13 a14 h14 a15 h15 hc0 hc1 x0 x1 x2 x3 x4 x5 x6 x7 x8 x9)]
  unfold kernelRun0_A
  dsimp only
  sl_unfold_words
  rw [View.canon_unit_zero hz2]
  unfold k0_pay1
  simp only [View.readAt_eq_ld, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2,
    View.ld_unit_zero (S := S512x128) hz2, View.ld_unit_zero (S := S1x1024) hz2, View.ld_unit_zero (S := S1x1x1024) hz3,
    View.ld_unit_zero (S := S1x1024x1408) hz3, View.ld_unit_zero (S := S1x1408x1024) hz3, shapeCast_self]

/-- First half on a tile: the running sum starts from zeros and takes the half's product in. -/
theorem sum_first (hc0 : cond0_0 i) (hc1 : ¬cond0_1 i) :
    sout0_A_1 c i a3 h3 a4 h4 a5 h5 a6 h6 a7 h7 a8 h8 a9 h9 a10 h10 a11 h11 a12 h12 a13 h13 a14 h14 a15 h15 hc0 hc1 x0 x1 x2 x3 x4 x5 x6 x7 x8 x9
      = k0_pay3 (k0_pay1 x0 x1 x2) x5 x6 x7 k0_pay2 := by
  unfold sout0_A_1
  rw [View.read_writes_eq_canon _ _ _ (scover0_A_1 c i a3 h3 a4 h4 a5 h5 a6 h6 a7 h7 a8 h8 a9 h9 a10 h10 a11 h11 a12 h12 a13 h13 a14 h14 a15 h15 hc0 hc1 x0 x1 x2 x3 x4 x5 x6 x7 x8 x9)]
  unfold kernelRun0_A
  dsimp only
  sl_unfold_words
  rw [View.canon_cons_unit_zero (S := S512x1024) hz2]
  simp only [View.readCov_unit_zero (S := S512x1024) _ hz2]
  unfold k0_pay3 k0_pay2 k0_pay1
  simp only [View.readAt_eq_ld, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2,
    View.ld_unit_zero (S := S512x128) hz2, View.ld_unit_zero (S := S1x1024) hz2, View.ld_unit_zero (S := S1x1x1024) hz3,
    View.ld_unit_zero (S := S1x1024x1408) hz3, View.ld_unit_zero (S := S1x1408x1024) hz3, shapeCast_self]

/-- The second half normalizes the running sum with its own product taken in. -/
theorem out_last (hc0 : ¬cond0_0 i) (hc1 : cond0_1 i) (s0 : Vec F S512x1024 .bf16) (s1 : Vec F S512x1024 .f32) :
    out0_B_10 c i a3 h3 a4 h4 a5 h5 a6 h6 a7 h7 a8 h8 a9 h9 a10 h10 a11 h11 a12 h12 a13 h13 a14 h14 a15 h15 hc0 hc1 x0 x1 x2 x3 x4 x5 x6 x7 x8 x9 s0 s1
      = k0_pay4 x0 x3 (k0_pay3 s0 x5 x6 x7 s1) x8 x9 := by
  unfold out0_B_10
  rw [View.read_writes_eq_canon _ _ _ (cover0_B_10 c i a3 h3 a4 h4 a5 h5 a6 h6 a7 h7 a8 h8 a9 h9 a10 h10 a11 h11 a12 h12 a13 h13 a14 h14 a15 h15 hc0 hc1 x0 x1 x2 x3 x4 x5 x6 x7 x8 x9 s0 s1)]
  unfold kernelRun0_B
  dsimp only
  sl_unfold_words
  rw [View.canon_unit_zero hz2]
  simp only [View.readCov_unit_zero (S := S512x1024) _ hz2]
  unfold k0_pay4 k0_pay3
  simp only [View.readAt_eq_ld, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2,
    View.ld_unit_zero (S := S512x128) hz2, View.ld_unit_zero (S := S1x1024) hz2, View.ld_unit_zero (S := S1x1x1024) hz3,
    View.ld_unit_zero (S := S1x1024x1408) hz3, View.ld_unit_zero (S := S1x1408x1024) hz3, shapeCast_self]

end Cert.DenseIdeal.Terms

end
-- ==== Proof.DenseFold.lean ====
/- The dense layer's kernel over its grid: after the first half of the hidden columns the running sum is that half's
   product, and the second half completes it; so the result array holds the layer's output. -/
module

public import proofs.«01_k».proof.Proof.DenseSpec
public import proofs.«01_k».proof.Proof.DenseBlock
public import proofs.«01_k».proof.Proof.DenseBlocks
public import proofs.«01_k».proof.Proof.DenseTerms

@[expose] public section

set_option maxRecDepth 16384

noncomputable section

namespace Cert.DenseIdeal.Fold

open Cert.DenseIdeal Cert.DenseIdeal.Gen Cert.DenseIdeal.Blocks Cert.Layer Idealize.ShloMosaic Idealize.ShloMosaic.TcCoe

variable (m : (ℓ : Loc nD τ sig) → Buf (Elt Ideal) ℓ) (c : Dev nD)

/-- Row `R` of sequence `b`, modulated. -/
def modRow (b : Fin 8) (R : Fin 16384) (k : Fin 1024) : EReal :=
  modulate (argX m c (ix2 R k)) (argMod m c (ix3 b 0 (modCol 4 k))) (argMod m c (ix3 b 0 (modCol 3 k)))

/-- What the half of the hidden columns of point `n` adds to row `R`. -/
def part (b : Fin 8) (R : Fin 16384) (n : ℕ) (j : Fin 1024) : EReal :=
  expert (modRow m c b R) (fun k f => argWg m c (ix3 0 k (hiddenCol n f))) (fun k f => argWu m c (ix3 0 k (hiddenCol n f)))
    (fun f => argWd m c (ix3 0 (hiddenCol n f) j))

/-- The product of one point taken into a running sum, at an index. -/
theorem product_apply (t : Fin cfg0.N) (u : Vec Ideal S512x1024 .bf16) (acc : Vec Ideal S512x1024 .f32) (r : Fin 512) (j : Fin 1024)
    (hu : ∀ k, u (ix2 r k) = modRow m c (seqOf t.val (lt_N t)) (rowOf t.val (lt_N t) r) k) :
    k0_pay3 (F := Ideal) u (iblk m c 5 t) (iblk m c 6 t) (iblk m c 7 t) acc (ix2 r j)
      = acc (ix2 r j) + part m c (seqOf t.val (lt_N t)) (rowOf t.val (lt_N t) r) t.val j := by
  rw [Block.half_apply]
  unfold part
  congr 2
  · exact funext hu
  · exact funext fun k => funext fun f => blk_wg m c t k f
  · exact funext fun k => funext fun f => blk_wu m c t k f
  · exact funext fun f => blk_wd m c t f j

/-- After the first half: the tile modulated, and the half's product. -/
theorem holds_first (t : Fin cfg0.N) (h0 : t.val % 2 = 0) (r : Fin 512) (j : Fin 1024) :
    (outsAt0 m c t.val t.isLt).2.1 (ix2 r j) = modRow m c (seqOf t.val (lt_N t)) (rowOf t.val (lt_N t) r) j
    ∧ (outsAt0 m c t.val t.isLt).2.2 (ix2 r j) = part m c (seqOf t.val (lt_N t)) (rowOf t.val (lt_N t) r) t.val j := by
  have h1 : ¬t.val % 2 = 1 := by omega
  have hu : ∀ k, k0_pay1 (F := Ideal) (iblk m c 0 t) (iblk m c 1 t) (iblk m c 2 t) (ix2 r k)
      = modRow m c (seqOf t.val (lt_N t)) (rowOf t.val (lt_N t) r) k := fun k => by
    rw [Block.modulated_apply, blk_x, blk_sc, blk_sh]
    rfl
  rw [outsAt0_A m c t h0 h1]
  dsimp only
  rw [Terms.keep_first, Terms.sum_first, product_apply m c t _ _ r j hu, Block.zeros_apply, zero_add]
  exact ⟨hu j, rfl⟩

/-- The layer's output at row `R` of sequence `b`, column `j`, from the arguments. -/
def target (b : Fin 8) (R : Fin 16384) (j : Fin 1024) : EReal :=
  dense (fun k => argX m c (ix2 R k)) (fun k => argMod m c (ix3 b 0 (modCol 4 k))) (fun k => argMod m c (ix3 b 0 (modCol 3 k)))
    (fun k => argMod m c (ix3 b 0 (modCol 5 k))) (fun k f => argWg m c (ix3 0 k f)) (fun k f => argWu m c (ix3 0 k f))
    (fun f j => argWd m c (ix3 0 f j)) (fun j => argLg m c (ix2 0 j)) (fun j => argLb m c (ix2 0 j)) j

/-- The sum after the second half, from the buffers the first half left. -/
theorem sum_last (n : ℕ) (hn : n + 1 < cfg0.N) (h0 : n % 2 = 0) (r : Fin 512) (j : Fin 1024) :
    k0_pay3 (F := Ideal) (outsAt0 m c n (Nat.lt_of_succ_lt hn)).2.1 (iblk m c 5 ⟨n + 1, hn⟩) (iblk m c 6 ⟨n + 1, hn⟩) (iblk m c 7 ⟨n + 1, hn⟩)
        (outsAt0 m c n (Nat.lt_of_succ_lt hn)).2.2 (ix2 r j)
      = expert (modRow m c (seqOf (n + 1) (lt_N ⟨n + 1, hn⟩)) (rowOf (n + 1) (lt_N ⟨n + 1, hn⟩) r))
          (fun k f => argWg m c (ix3 0 k f)) (fun k f => argWu m c (ix3 0 k f)) (fun f => argWd m c (ix3 0 f j)) := by
  have hN := lt_N ⟨n + 1, hn⟩
  dsimp only at hN
  have hs : seqOf n (by omega) = seqOf (n + 1) hN := Fin.ext (by dsimp only; omega)
  have hr : rowOf n (by omega) r = rowOf (n + 1) hN r := Fin.ext (by dsimp only; omega)
  have hp : ∀ k, _ := holds_first m c ⟨n, Nat.lt_of_succ_lt hn⟩ h0 r
  rw [product_apply m c ⟨n + 1, hn⟩ _ _ r j fun k => by rw [(hp k).1, hs, hr], (hp j).2, hs, hr,
    expert_halves _ _ _ _ (hiddenCol n) (hiddenCol (n + 1)) (fun f => by dsimp only; omega) (fun f => by dsimp only; omega)]
  rfl

/-- What the second half's point leaves in its output block. -/
theorem out_last (t : Fin cfg0.N) (h1 : t.val % 2 = 1) (r : Fin 512) (j : Fin 1024) :
    (outsAt0 m c t.val t.isLt).1 (ix2 r j) = target m c (seqOf t.val (lt_N t)) (rowOf t.val (lt_N t) r) j := by
  obtain ⟨n, hn⟩ := t
  obtain ⟨n, rfl⟩ : ∃ k, n = k + 1 := ⟨n - 1, by dsimp only at h1; omega⟩
  dsimp only at h1 ⊢
  have h0 : ¬(n + 1) % 2 = 0 := by omega
  have e := outsAt0_B m c ⟨n + 1, hn⟩ h0 h1
  dsimp only at e
  rw [e]
  dsimp only
  rw [Terms.out_last, Block.norm_apply, blk_lg, blk_lb]
  unfold target dense
  congr 1
  funext k
  rw [blk_x, blk_g2]
  congr 1
  exact sum_last m c n hn (by omega) r k

/-- The kernel's result array at an index. -/
theorem result_apply (b : Fin 8) (R : Fin 16384) (j : Fin 1024) (hb : b.val = R.val / 2048) :
    (Value.G10 m c : Vec Ideal S16384x1024 .f32) (ix2 R j) = target m c b R j := by
  have hR := R.isLt
  have hj := j.isLt
  have hp : Value.pt10Of (ix2 R j) = 2 * (R.val / 512) + 1 := by
    show 2 * (1 * (R.val / 512 - 0) + 1 * (j.val / 1024 - 0)) + 1 = _
    omega
  have hlt : Value.pt10Of (ix2 R j) < cfg0.N := lt_of_lt_of_eq (by rw [hp]; omega) Gen.N_0.symm
  unfold Value.G10
  rw [dif_pos hlt, ← Value.outsAt0_sweep m c _ hlt]
  have hl : Value.loc10Of (ix2 R j) = ix2 (⟨R.val % 512, by omega⟩ : Fin 512) j := by
    funext a
    apply Fin.ext
    match a with
    | ⟨0, _⟩ => rfl
    | ⟨1, _⟩ => exact Nat.mod_eq_of_lt hj
  rw [hl]
  refine (out_last m c ⟨_, hlt⟩ (by dsimp only; rw [hp]; omega) _ j).trans ?_
  have e1 : seqOf (Value.pt10Of (ix2 R j)) (lt_N ⟨_, hlt⟩) = b := Fin.ext (by dsimp only; rw [hp, hb]; omega)
  have e2 : rowOf (Value.pt10Of (ix2 R j)) (lt_N ⟨_, hlt⟩) ⟨R.val % 512, by omega⟩ = R := Fin.ext (by dsimp only; rw [hp]; omega)
  dsimp only at e1 e2 ⊢
  rw [e1, e2]

end Cert.DenseIdeal.Fold

end
-- ==== Proof.DenseRefValue.lean ====
/- What the dense layer's reference computes, element by element: the layer's output `dense` of its arguments. -/
module

public import proofs.«01_k».proof.Proof.DenseSpec
public import proofs.«01_k».proof.Proof.Gen.DenseRefIdeal.Read

@[expose] public section

set_option maxRecDepth 16384

noncomputable section

namespace Cert.DenseRefIdeal.RefValue

open Cert.DenseRefIdeal Cert.DenseRefIdeal.Gen Cert.DenseRefIdeal.Read Cert.Layer Idealize.ShloMosaic

variable (x : Vec Ideal S16384x1024 .f32) (md : Vec Ideal S8x1x6144 .f32)
  (wg wu : Vec Ideal S1x1024x2816 .f32) (wd : Vec Ideal S1x2816x1024 .f32) (lg lb : Vec Ideal S1x1024 .f32)

/-- The row of the whole array that token `s` of sequence `b` is. -/
abbrev rowAt (b : Fin 8) (s : Fin 2048) : Fin 16384 := ⟨2048 * b.val + s.val, by omega⟩
/-- The columns of the modulation that a chunk number names. -/
abbrev modCol (q : Fin 6) (k : Fin 1024) : Fin 6144 := ⟨1024 * q.val + k.val, by omega⟩

theorem x_at (b : Fin 8) (s : Fin 2048) (k : Fin 1024) : val_main_v0 (F := Ideal) x (ix3 b s k) = x (ix2 (rowAt b s) k) := by
  rw [val_main_v0_apply]
  congr 1
  funext a
  apply Fin.ext
  match a with
  | ⟨0, _⟩ => show ((b.val * 2048 + s.val) * 1024 + k.val) / 1024 = 2048 * b.val + s.val; omega
  | ⟨1, _⟩ => show ((b.val * 2048 + s.val) * 1024 + k.val) % 1024 = k.val; omega

/-- A token's row, modulated. -/
theorem modulated_at (b : Fin 8) (s : Fin 2048) (k : Fin 1024) :
    val_main_v12 (F := Ideal) x md (ix3 b s k)
      = modulate (x (ix2 (rowAt b s) k)) (md (ix3 b 0 (modCol 4 k))) (md (ix3 b 0 (modCol 3 k))) := by
  rw [val_main_v12_apply, val_main_v10_apply, x_at, val_main_v9_apply, val_main_v8_apply, val_main_v7_apply, val_main_cst_apply,
    val_main_v5_apply, val_main_v11_apply, val_main_v4_apply]
  show x _ * (Ideal.ofBits .f32 0x3F800000#32 + md _) + md _ = _
  rw [Ideal.ofBits_one_f32]
  unfold modulate
  congr 3
  · congr 1
    funext a
    apply Fin.ext
    match a with
    | ⟨0, _⟩ => rfl
    | ⟨1, _⟩ => rfl
    | ⟨2, _⟩ => rfl
  · funext a
    apply Fin.ext
    match a with
    | ⟨0, _⟩ => rfl
    | ⟨1, _⟩ => rfl
    | ⟨2, _⟩ => rfl

/-- The weights without their leading axis of one. -/
theorem wg_at (k : Fin 1024) (f : Fin 2816) : val_main_v13 (F := Ideal) wg (ix2 k f) = wg (ix3 0 k f) := by
  rw [val_main_v13_apply]
  congr 1
  funext a
  apply Fin.ext
  match a with
  | ⟨0, _⟩ => rfl
  | ⟨1, _⟩ => show (k.val * 2816 + f.val) / 2816 % 1024 = k.val; omega
  | ⟨2, _⟩ => show (k.val * 2816 + f.val) % 2816 = f.val; omega
theorem wu_at (k : Fin 1024) (f : Fin 2816) : val_main_v16 (F := Ideal) wu (ix2 k f) = wu (ix3 0 k f) := by
  rw [val_main_v16_apply]
  congr 1
  funext a
  apply Fin.ext
  match a with
  | ⟨0, _⟩ => rfl
  | ⟨1, _⟩ => show (k.val * 2816 + f.val) / 2816 % 1024 = k.val; omega
  | ⟨2, _⟩ => show (k.val * 2816 + f.val) % 2816 = f.val; omega
theorem wd_at (f : Fin 2816) (j : Fin 1024) : val_main_v19 (F := Ideal) wd (ix2 f j) = wd (ix3 0 f j) := by
  rw [val_main_v19_apply]
  congr 1
  funext a
  apply Fin.ext
  match a with
  | ⟨0, _⟩ => rfl
  | ⟨1, _⟩ => show (f.val * 1024 + j.val) / 1024 % 2816 = f.val; omega
  | ⟨2, _⟩ => show (f.val * 1024 + j.val) % 1024 = j.val; omega

/-- The rows of the gate projection's product. -/
theorem gateProj_at (b : Fin 8) (s : Fin 2048) (f : Fin 2816) :
    val_main_v14 (F := Ideal) x md wg (ix3 b s f) = ∑ k : Fin 1024, val_main_v12 (F := Ideal) x md (ix3 b s k) * wg (ix3 0 k f) := by
  rw [val_main_v14_apply]
  refine Finset.sum_congr rfl fun k _ => ?_
  rw [← wg_at wg]
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl

theorem upProj_at (b : Fin 8) (s : Fin 2048) (f : Fin 2816) :
    val_main_v17 (F := Ideal) x md wu (ix3 b s f) = ∑ k : Fin 1024, val_main_v12 (F := Ideal) x md (ix3 b s k) * wu (ix3 0 k f) := by
  rw [val_main_v17_apply]
  refine Finset.sum_congr rfl fun k _ => ?_
  rw [← wu_at wu]
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl

/-- The hidden layer: the gated units. -/
theorem hidden_at (b : Fin 8) (s : Fin 2048) (f : Fin 2816) :
    val_main_v18 (F := Ideal) x md wg wu (ix3 b s f)
      = gated (fun k => val_main_v12 (F := Ideal) x md (ix3 b s k)) (fun k => wg (ix3 0 k f)) (fun k => wu (ix3 0 k f)) := by
  rw [val_main_v18_apply, val_main_v15_apply, val_main_call0_v5_apply, val_main_call0_v4_apply, val_main_call0_cst_0_apply,
    val_main_call0_v3_apply, val_main_call0_v2_apply, val_main_call0_cst_apply, val_main_call0_v1_apply, val_main_call0_v0_apply,
    upProj_at, gateProj_at]
  unfold gated silu
  generalize (∑ k : Fin 1024, val_main_v12 (F := Ideal) x md (ix3 b s k) * wg (ix3 0 k f)) = p
  show p * Ideal.div (Ideal.ofBits .f32 0x3F800000#32) (Ideal.ofBits .f32 0x3F800000#32 + Ideal.exp (-p)) * _ = _
  rw [Ideal.ofBits_one_f32]
  rfl

/-- The feed-forward on one token. -/
theorem mixed_at (b : Fin 8) (s : Fin 2048) (j : Fin 1024) :
    val_main_v20 (F := Ideal) x md wg wu wd (ix3 b s j)
      = expert (fun k => val_main_v12 (F := Ideal) x md (ix3 b s k)) (fun k f => wg (ix3 0 k f)) (fun k f => wu (ix3 0 k f)) (fun f => wd (ix3 0 f j)) := by
  rw [val_main_v20_apply]
  unfold expert
  refine Finset.sum_congr rfl fun f _ => ?_
  rw [← hidden_at]
  beta_reduce
  rw [← wd_at wd]
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl

/-- The residual sum of one token. -/
theorem resid_at (b : Fin 8) (s : Fin 2048) (j : Fin 1024) :
    val_main_v27 (F := Ideal) x md wg wu wd (ix3 b s j)
      = resid (x (ix2 (rowAt b s) j)) (md (ix3 b 0 (modCol 5 j))) (val_main_v20 (F := Ideal) x md wg wu wd (ix3 b s j)) := by
  rw [val_main_v27_apply, val_main_v22_apply, val_main_v21_apply, val_main_cst_0_apply, x_at, val_main_v26_apply, val_main_v25_apply,
    val_main_v24_apply, val_main_v23_apply, val_main_cst_1_apply, val_main_v6_apply]
  generalize val_main_v20 (F := Ideal) x md wg wu wd (ix3 b s j) = y
  show Ideal.ofBits .f32 0x3FB504F3#32 * _ + (Ideal.ofBits .f32 0x3F800000#32 + md _) * y = _
  rw [Ideal.ofBits_one_f32]
  unfold resid
  congr 3
  congr 1
  funext a
  apply Fin.ext
  match a with
  | ⟨0, _⟩ => rfl
  | ⟨1, _⟩ => rfl
  | ⟨2, _⟩ => rfl

/-- The mean of a token's residual sums. -/
theorem mean_at (b : Fin 8) (s : Fin 2048) (o : Fin 1) :
    val_main_v33 (F := Ideal) x md wg wu wd (ix3 b s o) = mean (fun k => val_main_v27 (F := Ideal) x md wg wu wd (ix3 b s k)) := by
  rw [val_main_v33_apply, val_main_v32_apply, val_main_cst_3_apply, val_main_v31_apply, val_main_v30_apply, val_main_cst_2_apply]
  show Ideal.div (Ideal.ofBits .f32 0x00000000#32 + _) (Ideal.ofBits .f32 0x44800000#32) = _
  rw [Ideal.ofBits_zero_f32, zero_add]
  unfold mean
  congr 1
  refine Finset.sum_congr rfl fun k _ => ?_
  congr 1
  funext a
  apply Fin.ext
  match a with
  | ⟨0, _⟩ => rfl
  | ⟨1, _⟩ => rfl
  | ⟨2, _⟩ => rfl

/-- A token's residual sum less its mean. -/
theorem centred_at (b : Fin 8) (s : Fin 2048) (j : Fin 1024) :
    val_main_v35 (F := Ideal) x md wg wu wd (ix3 b s j)
      = val_main_v27 (F := Ideal) x md wg wu wd (ix3 b s j) - mean (fun k => val_main_v27 (F := Ideal) x md wg wu wd (ix3 b s k)) := by
  rw [val_main_v35_apply, val_main_v34_apply, ← mean_at x md wg wu wd b s 0]
  show _ - _ = _ - _
  congr 2
  funext a
  apply Fin.ext
  match a with
  | ⟨0, _⟩ => rfl
  | ⟨1, _⟩ => rfl
  | ⟨2, _⟩ => rfl

/-- The inverse deviation of a token's residual sums. -/
theorem dev_at (b : Fin 8) (s : Fin 2048) (o : Fin 1) :
    val_main_v43 (F := Ideal) x md wg wu wd (ix3 b s o)
      = Ideal.rsqrt (mean (fun k => val_main_v35 (F := Ideal) x md wg wu wd (ix3 b s k) * val_main_v35 (F := Ideal) x md wg wu wd (ix3 b s k)) + normEps) := by
  rw [val_main_v43_apply, val_main_v42_apply, val_main_v41_apply, val_main_cst_6_apply, val_main_v40_apply, val_main_v39_apply,
    val_main_cst_5_apply, val_main_v38_apply, val_main_v37_apply, val_main_cst_4_apply]
  show Ideal.rsqrt (Ideal.div (Ideal.ofBits .f32 0x00000000#32 + _) (Ideal.ofBits .f32 0x44800000#32) + Ideal.ofBits .f32 0x3727C5AC#32) = _
  rw [Ideal.ofBits_zero_f32, zero_add]
  unfold mean
  congr 3
  refine Finset.sum_congr rfl fun k _ => ?_
  rw [val_main_v36_apply]
  show _ * _ = _ * _
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The gain and the offset of the layer norm. -/
theorem gain_at (b : Fin 8) (s : Fin 2048) (j : Fin 1024) : val_main_v47 (F := Ideal) lg (ix3 b s j) = lg (ix2 0 j) := by
  rw [val_main_v47_apply, val_main_v46_apply, val_main_v28_apply]
  congr 1
  funext a
  apply Fin.ext
  match a with
  | ⟨0, _⟩ => rfl
  | ⟨1, _⟩ => show j.val % 1024 = j.val; omega
theorem offset_at (b : Fin 8) (s : Fin 2048) (j : Fin 1024) : val_main_v50 (F := Ideal) lb (ix3 b s j) = lb (ix2 0 j) := by
  rw [val_main_v50_apply, val_main_v49_apply, val_main_v29_apply]
  congr 1
  funext a
  apply Fin.ext
  match a with
  | ⟨0, _⟩ => rfl
  | ⟨1, _⟩ => show j.val % 1024 = j.val; omega

/-- The reference's result at an index. -/
theorem result_apply (b : Fin 8) (s : Fin 2048) (j : Fin 1024) :
    val_main_v52 (F := Ideal) x md wg wu wd lg lb (ix2 (rowAt b s) j)
      = dense (fun k => x (ix2 (rowAt b s) k)) (fun k => md (ix3 b 0 (modCol 4 k))) (fun k => md (ix3 b 0 (modCol 3 k)))
          (fun k => md (ix3 b 0 (modCol 5 k))) (fun k f => wg (ix3 0 k f)) (fun k f => wu (ix3 0 k f))
          (fun f j => wd (ix3 0 f j))
          (fun j => lg (ix2 0 j)) (fun j => lb (ix2 0 j)) j := by
  rw [val_main_v52_apply]
  have hi : idx_main_v52 (ix2 (rowAt b s) j) = ix3 b s j := by
    funext a
    apply Fin.ext
    match a with
    | ⟨0, _⟩ => show ((2048 * b.val + s.val) * 1024 + j.val) / 2097152 = b.val; omega
    | ⟨1, _⟩ => show ((2048 * b.val + s.val) * 1024 + j.val) / 1024 % 2048 = s.val; omega
    | ⟨2, _⟩ => show ((2048 * b.val + s.val) * 1024 + j.val) % 1024 = j.val; omega
  have h48 : val_main_v44 (F := Ideal) x md wg wu wd (ix3 b s j) = val_main_v43 (F := Ideal) x md wg wu wd (ix3 b s 0) := by
    rw [val_main_v44_apply]
    congr 1
    funext a
    apply Fin.ext
    match a with
    | ⟨0, _⟩ => rfl
    | ⟨1, _⟩ => rfl
    | ⟨2, _⟩ => rfl
  rw [hi, val_main_v51_apply, val_main_v48_apply, val_main_v45_apply, gain_at, offset_at, h48, dev_at, centred_at]
  simp only [centred_at, resid_at, mixed_at, modulated_at]
  rfl

end Cert.DenseRefIdeal.RefValue

end
-- ==== Proof.DenseClaim.lean ====
/- The claims about the dense layer's kernel: the frames, and the equation with its reference over the reals. -/
module

public import proofs.«01_k».proof.Defs
public import proofs.«01_k».proof.Proof.DenseFold
public import proofs.«01_k».proof.Proof.DenseRefValue
public import proofs.«01_k».proof.Proof.Gen.Dense.Frame
public import proofs.«01_k».proof.Proof.Gen.DenseRefIdeal.Run
public import Idealize.ShloMosaic.Lib.Quiescent

@[expose] public section

set_option maxRecDepth 16384

noncomputable section

namespace Cert.DenseClaim

open Idealize.ShloMosaic Idealize.ShloMosaic.TcCoe Idealize.SL.Sem

theorem frame_kernel : Cert.quiescent_Dense := fun m ρ _ => Cert.Dense.Gen.frame m ρ

theorem frame_ideal : Cert.quiescent_DenseIdeal := fun m ρ _ => Cert.DenseIdeal.Gen.frame m ρ

theorem frame_reference : Cert.quiescent_DenseRefIdeal := fun m ρ _ =>
  (θ_run Cert.DenseRefIdeal.defs _ _).mono
    (fun r h => ⟨fun c => (h c).2, Idealize.ShloMosaic.sem_eq_zero_of_no_sems (by decide) r.2⟩)
    (Cert.DenseRefIdeal.Value.run (F := Ideal) m ρ)

/-- From arguments that agree, the reference's result is the kernel's, element by element: both are the layer's output
    `dense` on the token's row. -/
theorem results_agree (m : (ℓ : Loc Cert.DenseIdeal.nD Cert.DenseIdeal.τ Cert.DenseIdeal.sig) → Buf (Elt Ideal) ℓ)
    (c : Dev Cert.DenseIdeal.nD) :
    Cert.DenseRefIdeal.Read.val_main_v52 (F := Ideal) (Cert.DenseIdeal.Blocks.argX m c) (Cert.DenseIdeal.Blocks.argMod m c)
        (Cert.DenseIdeal.Blocks.argWg m c) (Cert.DenseIdeal.Blocks.argWu m c)
        (Cert.DenseIdeal.Blocks.argWd m c) (Cert.DenseIdeal.Blocks.argLg m c) (Cert.DenseIdeal.Blocks.argLb m c)
      = (Cert.DenseIdeal.Value.G10 m c : Vec Ideal Cert.DenseIdeal.S16384x1024 .f32) := by
  funext i
  have hR : (i 0).val < 16384 := (i 0).isLt
  have hi : i = ix2 (Cert.DenseRefIdeal.RefValue.rowAt ⟨(i 0).val / 2048, by omega⟩ ⟨(i 0).val % 2048, by omega⟩) (i 1) := by
    funext a
    apply Fin.ext
    match a with
    | ⟨0, _⟩ => show (i 0).val = 2048 * ((i 0).val / 2048) + (i 0).val % 2048; omega
    | ⟨1, _⟩ => rfl
  rw [hi]
  refine (Cert.DenseRefIdeal.RefValue.result_apply _ _ _ _ _ _ _ _ _ _).trans ?_
  refine Eq.symm ((Cert.DenseIdeal.Fold.result_apply m c ⟨(i 0).val / 2048, by omega⟩ _ _ ?_).trans ?_)
  · show (i 0).val / 2048 = (2048 * ((i 0).val / 2048) + (i 0).val % 2048) / 2048
    omega
  · rfl

theorem algebraic : Cert.algebraic_DenseIdeal_DenseRefIdeal := by
  intro m ρ m' ρ' _ hag
  refine ⟨fun c => Cert.DenseIdeal.Value.G10 m c, Cert.DenseIdeal.Value.run (F := Ideal) m ρ, ?_⟩
  refine (θ_run Cert.DenseRefIdeal.defs _ _).mono (fun _ h c => ⟨(h c).1.trans ?_, (h c).2⟩) (Cert.DenseRefIdeal.Value.run (F := Ideal) m' ρ')
  obtain ⟨h0, h1, h2, h3, h4, h5, h6⟩ := hag c
  rw [Cert.DenseRefIdeal.Read.val_main_v52_eq, h0, h1, h2, h3, h4, h5, h6]
  exact results_agree m c

end Cert.DenseClaim

end
-- ==== Proof.OutProjSpec.lean ====
/- The mathematics of the mixer's output projection for one token, over the reals. -/
module

public import proofs.«01_k».proof.Proof.Layer

@[expose] public section

noncomputable section

namespace Cert.Layer

open Idealize.ShloMosaic

/-- The head length 128 as the float word the programs print. -/
abbrev headLen : EReal := Ideal.ofBits .f32 0x43000000#32
/-- The head norm's `1e-6` as the float word the programs print. -/
abbrev headEps : EReal := Ideal.ofBits .f32 0x358637BD#32

/-- One element of a head, divided by the head's root mean square, with its gain. -/
def headNorm (o : Fin 128 → EReal) (w : Fin 128 → EReal) (d : Fin 128) : EReal :=
  o d * Ideal.rsqrt (Ideal.div (∑ e, o e * o e) headLen + headEps) * w d

/-- Column `k` of the normalized heads of a token, side by side. -/
def headCol (o : Fin 512 → EReal) (w : Fin 128 → EReal) (k : Fin 512) : EReal :=
  headNorm (fun d => o ⟨k.val / 128 * 128 + d.val, by omega⟩) w ⟨k.val % 128, by omega⟩

/-- The column at place `d` of head `h`. -/
theorem headCol_eq (o : Fin 512 → EReal) (w : Fin 128 → EReal) (h : Fin 4) (d : Fin 128) (k : Fin 512) (hk : k.val = h.val * 128 + d.val) :
    headCol o w k = headNorm (fun e => o ⟨h.val * 128 + e.val, by omega⟩) w d := by
  have hh : k.val / 128 = h.val := by omega
  have hd : (⟨k.val % 128, by omega⟩ : Fin 128) = d := Fin.ext (show k.val % 128 = d.val by omega)
  unfold headCol
  rw [hd]
  exact congrArg (fun f => headNorm f w d) (funext fun e => congrArg o (Fin.ext (show k.val / 128 * 128 + e.val = h.val * 128 + e.val by rw [hh])))

/-- What is projected: the short convolution's output beside the gated heads. -/
def beside (yc o z : Fin 512 → EReal) (w : Fin 128 → EReal) (k : Fin 1024) : EReal :=
  if h : k.val < 512 then yc ⟨k.val, h⟩ else headCol o w ⟨k.val - 512, by omega⟩ * silu (z ⟨k.val - 512, by omega⟩)

/-- The token's output at column `j`: the projection, the residual sum, the layer norm. -/
def outProj (yc o z : Fin 512 → EReal) (nw : Fin 128 → EReal) (x g : Fin 1024 → EReal) (w : Fin 1024 → Fin 1024 → EReal)
    (lg lb : Fin 1024 → EReal) (j : Fin 1024) : EReal :=
  layerNorm (fun k => resid (x k) (g k) (∑ i, beside yc o z nw i * w i k)) j (lg j) (lb j)

end Cert.Layer

end
-- ==== Proof.OutProjBlock.lean ====
/- What one grid point of the output projection's kernel computes from its blocks, element by element. -/
module

public import proofs.«01_k».proof.Proof.OutProjSpec
public import proofs.«01_k».proof.Proof.Gen.OutProjIdeal.Frame

@[expose] public section

set_option maxRecDepth 16384

noncomputable section

namespace Cert.OutProjIdeal.Block

open Cert.OutProjIdeal Cert.OutProjIdeal.Gen Idealize.ShloMosaic Cert.Layer

theorem hz2 : (![0, 0] : Fin 2 → Nat) = fun _ => 0 := funext fun a => by fin_cases a <;> rfl
theorem hz3 : (![0, 0, 0] : Fin 3 → Nat) = fun _ => 0 := funext fun a => by fin_cases a <;> rfl

/-- The layer norm of a row. -/
theorem norm_apply (v : Vec Ideal S512x1024 .f32) (lg lb : Vec Ideal S1x1024 .f32) (r : Fin 512) (j : Fin 1024) :
    k0_pay1 (F := Ideal) v lg lb (ix2 r j) = layerNorm (fun k => v (ix2 r k)) j (lg (ix2 0 j)) (lb (ix2 0 j)) := by
  pointwise [k0_pay1]
  rfl

variable (o : Vec Ideal S512x512 .f32) (nw : Vec Ideal S1x128 .f32)

/-- The first head of a row, with the gain. -/
theorem head0 (r : Fin 512) (d : Fin 128) :
    k0_pay2 (F := Ideal) o nw (ix2 r d) = headNorm (fun d => o (ix2 r ⟨d.val, by omega⟩)) (fun d => nw (ix2 0 d)) d := by
  pointwise [k0_pay2]
  rfl

/-- The second head of a row, with the gain. -/
theorem head1 (r : Fin 512) (d : Fin 128) :
    k0_pay3 (F := Ideal) o nw (ix2 r d) = headNorm (fun d => o (ix2 r ⟨128 + d.val, by omega⟩)) (fun d => nw (ix2 0 d)) d := by
  pointwise [k0_pay3]
  rfl

/-- The third head of a row, whose gain is multiplied in later. -/
theorem head2 (r : Fin 512) (d : Fin 128) :
    k0_pay4 (F := Ideal) o (ix2 r d) * k0_pay5 (F := Ideal) nw (ix2 r d) = headNorm (fun d => o (ix2 r ⟨256 + d.val, by omega⟩)) (fun d => nw (ix2 0 d)) d := by
  pointwise [k0_pay4, k0_pay5]
  rfl

/-- The head of a column's place, read at a column written another way. -/
theorem col_of {r : Fin 512} {k : Fin 512} (h : Fin 4) (n : Nat) (hn : h.val * 128 = n) (d : Fin 128) (hk : k.val = n + d.val) :
    headNorm (fun d => o (ix2 r ⟨n + d.val, by omega⟩)) (fun d => nw (ix2 0 d)) d = headCol (fun k => o (ix2 r k)) (fun d => nw (ix2 0 d)) k := by
  subst hn
  exact (headCol_eq (fun k => o (ix2 r k)) (fun d => nw (ix2 0 d)) h d k hk).symm

/-- The residual sum of a row: the projected row is the short convolution's beside the four gated heads. -/
theorem resid_apply (z yc : Vec Ideal S512x512 .f32) (w : Vec Ideal S1024x1024 .bf16) (x : Vec Ideal S512x1024 .f32)
    (g : Vec Ideal S1x1x1024 .f32) (r : Fin 512) (j : Fin 1024) :
    k0_pay6 (F := Ideal) o (k0_pay2 o nw) (k0_pay3 o nw) (k0_pay4 o) (k0_pay5 nw) nw z yc w x g (ix2 r j)
      = resid (x (ix2 r j)) (g (ix3 0 0 j))
          (∑ i, beside (fun k => yc (ix2 r k)) (fun k => o (ix2 r k)) (fun k => z (ix2 r k)) (fun d => nw (ix2 0 d)) i * w (ix2 i j)) := by
  pointwise [k0_pay6]
  unfold resid
  refine congrArg (fun m => _ + (1 + g (ix3 0 0 j)) * m) (Finset.sum_congr rfl fun i _ => congrArg (· * w (ix2 i j)) ?_)
  have hi := i.isLt
  unfold beside
  split
  · rfl
  next h0 =>
  refine congrArg (· * silu (z (ix2 r ⟨i.val - 512, by omega⟩))) ?_
  split
  next h1 =>
    rw [head0]
    refine (?_ : _ = _).trans (col_of o nw 0 0 rfl ⟨i.val - 512, h1⟩ (Nat.zero_add _).symm)
    simp only [Nat.zero_add]
  split
  next h1 h2 =>
    rw [head1]
    exact col_of o nw 1 128 rfl ⟨i.val - 512 - 128, h2⟩ (show i.val - 512 = 128 + (i.val - 512 - 128) by omega)
  split
  next h1 h2 h3 =>
    rw [head2]
    exact col_of o nw 2 256 rfl ⟨i.val - 512 - 128 - 128, h3⟩ (show i.val - 512 = 256 + (i.val - 512 - 128 - 128) by omega)
  next h1 h2 h3 =>
    exact col_of o nw 3 384 rfl ⟨i.val - 512 - 128 - 128 - 128, by omega⟩ (show i.val - 512 = 384 + (i.val - 512 - 128 - 128 - 128) by omega)

/-- The block that a point writes, element by element: the output of a row. -/
theorem out_apply (yc o z : Vec Ideal S512x512 .f32) (x : Vec Ideal S512x1024 .f32) (g : Vec Ideal S1x1x1024 .f32) (nw : Vec Ideal S1x128 .f32)
    (w : Vec Ideal S1024x1024 .bf16) (lg lb : Vec Ideal S1x1024 .f32) (r : Fin 512) (j : Fin 1024) :
    out0_9 (F := Ideal) yc o z x g nw w lg lb (ix2 r j)
      = outProj (fun k => yc (ix2 r k)) (fun k => o (ix2 r k)) (fun k => z (ix2 r k)) (fun d => nw (ix2 0 d)) (fun k => x (ix2 r k))
          (fun k => g (ix3 0 0 k)) (fun i k => w (ix2 i k)) (fun k => lg (ix2 0 k)) (fun k => lb (ix2 0 k)) j := by
  unfold out0_9
  rw [View.canon_unit_zero hz2]
  simp only [View.ld_unit_zero (S := S512x512) hz2, View.ld_unit_zero (S := S512x1024) hz2, View.ld_unit_zero (S := S1x1x1024) hz3,
    View.ld_unit_zero (S := S1x128) hz2, View.ld_unit_zero (S := S1024x1024) hz2, View.ld_unit_zero (S := S1x1024) hz2]
  rw [norm_apply]
  unfold outProj
  exact congrArg (fun f => layerNorm f j (lg (ix2 0 j)) (lb (ix2 0 j))) (funext fun k => resid_apply o nw z yc w x g r k)

end Cert.OutProjIdeal.Block

end
-- ==== Proof.OutProjBlocks.lean ====
/- Where the blocks of the output projection's kernel lie in its arguments: point `t` of the grid is the tile of 512 rows
   number `t`, and four tiles make one sequence. -/
module

public import proofs.«01_k».proof.Proof.Layer
public import Idealize.ShloMosaic.Lib.StableHlo.ReadAt
public import proofs.«01_k».proof.Proof.Gen.OutProjIdeal.Value

@[expose] public section

set_option maxRecDepth 16384

noncomputable section

namespace Cert.OutProjIdeal.Blocks

open Cert.OutProjIdeal Cert.OutProjIdeal.Gen Idealize.ShloMosaic Idealize.ShloMosaic.TcCoe

variable (m : (ℓ : Loc nD τ sig) → Buf (Elt Ideal) ℓ) (c : Dev nD)

/-! ## The arguments by name -/

abbrev argConv : Vec Ideal S16384x512 .f32 := m ((c : Thread nD τ).loc main_arg0)
abbrev argHeads : Vec Ideal S16384x512 .f32 := m ((c : Thread nD τ).loc main_arg1)
abbrev argProj : Vec Ideal S16384x3584 .f32 := m ((c : Thread nD τ).loc main_arg2)
abbrev argX : Vec Ideal S16384x1024 .f32 := m ((c : Thread nD τ).loc main_arg3)
abbrev argMod : Vec Ideal S8x1x6144 .f32 := m ((c : Thread nD τ).loc main_arg4)
abbrev argNorm : Vec Ideal S1x128 .f32 := m ((c : Thread nD τ).loc main_arg5)
abbrev argW : Vec Ideal S1024x1024 .f32 := m ((c : Thread nD τ).loc main_arg6)
abbrev argLg : Vec Ideal S1x1024 .f32 := m ((c : Thread nD τ).loc main_arg7)
abbrev argLb : Vec Ideal S1x1024 .f32 := m ((c : Thread nD τ).loc main_arg8)

/-- The weights, converted: over the reals a conversion changes nothing. -/
theorem V_weights (k j : Fin 1024) : (V m c main_v0 : Vec Ideal S1024x1024 .bf16) (ix2 k j) = argW m c (ix2 k j) := by
  unfold V
  after_reads_at

/-! ## The grid -/

theorem lt_N (t : Fin cfg0.N) : t.val < 32 := lt_of_lt_of_eq t.isLt Gen.N_0

/-- The row of the whole array that row `r` of the tile of point `n` is. -/
abbrev rowOf (n : ℕ) (hn : n < 32) (r : Fin 512) : Fin 16384 := ⟨512 * n + r.val, by omega⟩
/-- The sequence that the tile of point `n` belongs to. -/
abbrev seqOf (n : ℕ) (hn : n < 32) : Fin 8 := ⟨n / 4, by omega⟩
/-- The columns of the modulation that a chunk number names. -/
abbrev modCol (q : Fin 6) (k : Fin 1024) : Fin 6144 := ⟨1024 * q.val + k.val, by omega⟩
/-- The column of the input projection that column `k` of the gate is. -/
abbrev gateCol (k : Fin 512) : Fin 3584 := ⟨3072 + k.val, by omega⟩

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = t.val ∧ win0_2.index t (1 : Fin 2) = 6 := by decide +kernel
theorem idx3 : ∀ t : Fin grid0.N, win0_3.index t (0 : Fin 2) = t.val ∧ win0_3.index t (1 : Fin 2) = 0 := by decide +kernel
theorem idx4 : ∀ t : Fin grid0.N, win0_4.index t (0 : Fin 3) = t.val / 4 ∧ win0_4.index t (1 : Fin 3) = 0 ∧ win0_4.index t (2 : Fin 3) = 2 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = 0 ∧ win0_6.index t (1 : Fin 2) = 0 := by decide +kernel
theorem idx7 : ∀ t : Fin grid0.N, win0_7.index t (0 : Fin 2) = 0 ∧ win0_7.index t (1 : Fin 2) = 0 := by decide +kernel
theorem idx8 : ∀ t : Fin grid0.N, win0_8.index t (0 : Fin 2) = 0 ∧ win0_8.index t (1 : Fin 2) = 0 := by decide +kernel
theorem idx9 : ∀ t : Fin grid0.N, win0_9.index t (0 : Fin 2) = t.val ∧ win0_9.index t (1 : Fin 2) = 0 := by decide +kernel

/-! ## The blocks at an index -/

theorem blk_conv (t : Fin cfg0.N) (r : Fin 512) (k : Fin 512) :
    (iblk m c 0 t : Vec Ideal S512x512 .f32) (ix2 r k) = argConv m c (ix2 (rowOf t.val (lt_N t) r) k) := by
  have hi := idx0 t
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 512 + 1 * k.val = k.val; rw [hi.2]; omega

theorem blk_heads (t : Fin cfg0.N) (r : Fin 512) (k : Fin 512) :
    (iblk m c 1 t : Vec Ideal S512x512 .f32) (ix2 r k) = argHeads m c (ix2 (rowOf t.val (lt_N t) r) k) := by
  have hi := idx1 t
  unfold iblk
  rw [View.read_apply]
  show V m c main_arg1 _ = _
  rw [V_main_arg1]
  congr 1
  funext a
  apply Fin.ext
  match a with
  | ⟨0, _⟩ => show win0_1.index t 0 * 512 + 1 * r.val = 512 * t.val + r.val; rw [hi.1]; omega
  | ⟨1, _⟩ => show win0_1.index t 1 * 512 + 1 * k.val = k.val; rw [hi.2]; omega

theorem blk_gate (t : Fin cfg0.N) (r : Fin 512) (k : Fin 512) :
    (iblk m c 2 t : Vec Ideal S512x512 .f32) (ix2 r k) = argProj m c (ix2 (rowOf t.val (lt_N t) r) (gateCol k)) := by
  have hi := idx2 t
  unfold iblk
  rw [View.read_apply]
  show V m c main_arg2 _ = _
  rw [V_main_arg2]
  congr 1
  funext a
  apply Fin.ext
  match a with
  | ⟨0, _⟩ => show win0_2.index t 0 * 512 + 1 * r.val = 512 * t.val + r.val; rw [hi.1]; omega
  | ⟨1, _⟩ => show win0_2.index t 1 * 512 + 1 * k.val = 3072 + k.val; rw [hi.2]; omega

theorem blk_x (t : Fin cfg0.N) (r : Fin 512) (k : Fin 1024) :
    (iblk m c 3 t : Vec Ideal S512x1024 .f32) (ix2 r k) = argX m c (ix2 (rowOf t.val (lt_N t) r) k) := by
  have hi := idx3 t
  unfold iblk
  rw [View.read_apply]
  show V m c main_arg3 _ = _
  rw [V_main_arg3]
  congr 1
  funext a
  apply Fin.ext
  match a with
  | ⟨0, _⟩ => show win0_3.index t 0 * 512 + 1 * r.val = 512 * t.val + r.val; rw [hi.1]; omega
  | ⟨1, _⟩ => show win0_3.index t 1 * 1024 + 1 * k.val = k.val; rw [hi.2]; omega

theorem blk_mod (t : Fin cfg0.N) (k : Fin 1024) :
    (iblk m c 4 t : Vec Ideal S1x1x1024 .f32) (ix3 0 0 k) = argMod m c (ix3 (seqOf t.val (lt_N t)) 0 (modCol 2 k)) := by
  have hi := idx4 t
  unfold iblk
  rw [View.read_apply]
  show V m c main_arg4 _ = _
  rw [V_main_arg4]
  congr 1
  funext a
  apply Fin.ext
  match a with
  | ⟨0, _⟩ => show win0_4.index t 0 * 1 + 1 * 0 = t.val / 4; rw [hi.1]; omega
  | ⟨1, _⟩ => show win0_4.index t 1 * 1 + 1 * 0 = 0; rw [hi.2.1]
  | ⟨2, _⟩ => show win0_4.index t 2 * 1024 + 1 * k.val = 1024 * 2 + k.val; rw [hi.2.2]; omega

theorem blk_norm (t : Fin cfg0.N) (k : Fin 128) :
    (iblk m c 5 t : Vec Ideal S1x128 .f32) (ix2 0 k) = argNorm m c (ix2 0 k) := by
  have hi := idx5 t
  unfold iblk
  rw [View.read_apply]
  show V m c main_arg5 _ = _
  rw [V_main_arg5]
  congr 1
  funext a
  apply Fin.ext
  match a with
  | ⟨0, _⟩ => show win0_5.index t 0 * 1 + 1 * 0 = 0; rw [hi.1]
  | ⟨1, _⟩ => show win0_5.index t 1 * 128 + 1 * k.val = k.val; rw [hi.2]; omega

theorem blk_weights (t : Fin cfg0.N) (k j : Fin 1024) :
    (iblk m c 6 t : Vec Ideal S1024x1024 .bf16) (ix2 k j) = argW m c (ix2 k j) := by
  have hi := idx6 t
  refine Eq.trans ?_ (V_weights m c k j)
  unfold iblk
  rw [View.read_apply]
  show V m c main_v0 _ = V m c main_v0 _
  congr 1
  funext a
  apply Fin.ext
  match a with
  | ⟨0, _⟩ => show win0_6.index t 0 * 1024 + 1 * k.val = k.val; rw [hi.1]; omega
  | ⟨1, _⟩ => show win0_6.index t 1 * 1024 + 1 * j.val = j.val; rw [hi.2]; omega

theorem blk_lg (t : Fin cfg0.N) (k : Fin 1024) :
    (iblk m c 7 t : Vec Ideal S1x1024 .f32) (ix2 0 k) = argLg m c (ix2 0 k) := by
  have hi := idx7 t
  unfold iblk
  rw [View.read_apply]
  show V m c main_arg7 _ = _
  rw [V_main_arg7]
  congr 1
  funext a
  apply Fin.ext
  match a with
  | ⟨0, _⟩ => show win0_7.index t 0 * 1 + 1 * 0 = 0; rw [hi.1]
  | ⟨1, _⟩ => show win0_7.index t 1 * 1024 + 1 * k.val = k.val; rw [hi.2]; omega

theorem blk_lb (t : Fin cfg0.N) (k : Fin 1024) :
    (iblk m c 8 t : Vec Ideal S1x1024 .f32) (ix2 0 k) = argLb m c (ix2 0 k) := by
  have hi := idx8 t
  unfold iblk
  rw [View.read_apply]
  show V m c main_arg8 _ = _
  rw [V_main_arg8]
  congr 1
  funext a
  apply Fin.ext
  match a with
  | ⟨0, _⟩ => show win0_8.index t 0 * 1 + 1 * 0 = 0; rw [hi.1]
  | ⟨1, _⟩ => show win0_8.index t 1 * 1024 + 1 * k.val = k.val; rw [hi.2]; omega

end Cert.OutProjIdeal.Blocks

end
-- ==== Proof.OutProjFold.lean ====
/- The output projection's kernel over its grid: its result array holds each token's output. -/
module

public import proofs.«01_k».proof.Proof.OutProjBlock
public import proofs.«01_k».proof.Proof.OutProjBlocks

@[expose] public section

set_option maxRecDepth 16384

noncomputable section

namespace Cert.OutProjIdeal.Fold

open Cert.OutProjIdeal Cert.OutProjIdeal.Gen Cert.OutProjIdeal.Blocks Cert.Layer Idealize.ShloMosaic Idealize.ShloMosaic.TcCoe
open Idealize.SL.Sem

variable (m : (ℓ : Loc nD τ sig) → Buf (Elt Ideal) ℓ) (ρ : Dev nD → PrngReg) (c : Dev nD)

/-- The output at row `R` of sequence `b` and column `j`. -/
def target (b : Fin 8) (R : Fin 16384) (j : Fin 1024) : EReal :=
  outProj (fun k => argConv m c (ix2 R k)) (fun k => argHeads m c (ix2 R k)) (fun k => argProj m c (ix2 R (gateCol k)))
    (fun d => argNorm m c (ix2 0 d)) (fun k => argX m c (ix2 R k)) (fun k => argMod m c (ix3 b 0 (modCol 2 k)))
    (fun i k => argW m c (ix2 i k)) (fun k => argLg m c (ix2 0 k)) (fun k => argLb m c (ix2 0 k)) j

/-- The sequence that a row of the whole array belongs to. -/
abbrev seqAt (R : Fin 16384) : Fin 8 := ⟨R.val / 2048, by omega⟩

/-- The result. -/
def result : Vec Ideal S16384x1024 .f32 := fun i => target m c (seqAt (i 0)) (i 0) (i 1)

theorem seq_eq (t : Fin cfg0.N) (r : Fin 512) : seqOf t.val (lt_N t) = seqAt (rowOf t.val (lt_N t) r) :=
  Fin.ext (by show t.val / 4 = (512 * t.val + r.val) / 2048; omega)

/-- The block of a point. -/
theorem block (t : Fin cfg0.N) (r : Fin 512) (j : Fin 1024) :
    out0_9 (F := Ideal) (iblk m c 0 t) (iblk m c 1 t) (iblk m c 2 t) (iblk m c 3 t) (iblk m c 4 t) (iblk m c 5 t) (iblk m c 6 t)
        (iblk m c 7 t) (iblk m c 8 t) (ix2 r j)
      = target m c (seqAt (rowOf t.val (lt_N t) r)) (rowOf t.val (lt_N t) r) j := by
  rw [Block.out_apply, ← seq_eq]
  unfold target
  congr 1
  · exact funext fun k => blk_conv m c t r k
  · exact funext fun k => blk_heads m c t r k
  · exact funext fun k => blk_gate m c t r k
  · exact funext fun k => blk_norm m c t k
  · exact funext fun k => blk_x m c t r k
  · exact funext fun k => blk_mod m c t k
  · exact funext fun i => funext fun k => blk_weights m c t i k
  · exact funext fun k => blk_lg m c t k
  · exact funext fun k => blk_lb m c t k

/-- What a point writes back is its block of `result`. -/
theorem flushed (t : Fin cfg0.N) :
    (dats m 0 c).flushed 9 t = ((cfg0.win 9).blk t).view.read (Elt Ideal) (result m c) := by
  rw [Value.flushed9]
  funext y
  have hi := idx9 t
  have e : ((cfg0.win 9).blk t).view.emb y = (ix2 (rowOf t.val (lt_N t) (y 0)) (y 1) : S16384x1024.Idx) := by
    funext a
    apply Fin.ext
    match a with
    | ⟨0, _⟩ => show win0_9.index t 0 * 512 + 1 * (y 0).val = 512 * t.val + (y 0).val; rw [hi.1]; omega
    | ⟨1, _⟩ => show win0_9.index t 1 * 1024 + 1 * (y 1).val = (y 1).val; rw [hi.2]; omega
  have ey : (cfg0.win 9).xinj (grid0.coords t) y = (ix2 (y 0) (y 1) : S512x1024.Idx) := by
    funext a
    match a with
    | ⟨0, _⟩ => rfl
    | ⟨1, _⟩ => rfl
  show out0_9 (F := Ideal) _ _ _ _ _ _ _ _ _ ((cfg0.win 9).xinj (grid0.coords t) y) = result m c (((cfg0.win 9).blk t).view.emb y)
  rw [e, ey]
  exact block m c t (y 0) (y 1)

/-- The grid point whose tile holds row `R`. -/
abbrev pointOf (R : ℕ) (hR : R < 16384) : Fin cfg0.N := ⟨R / 512, lt_of_lt_of_eq (by omega) Gen.N_0.symm⟩

/-- The result array after the run. -/
theorem final : (dats m 0 c).arrAt 9 cfg0.N = result m c :=
  (dats m 0 c).arrAt_eq_of_cover 9 (result m c) (fun t _ => flushed m c t) fun i => by
    have h0 : (i 0).val < 16384 := (i 0).isLt
    have h1 : (i 1).val < 1024 := (i 1).isLt
    refine ⟨pointOf (i 0).val h0, flush0_9 _, ?_⟩
    have hi := idx9 (pointOf (i 0).val h0)
    show i ∈ ((View.whole main_v1).slice (win0_9.rect (pointOf (i 0).val h0))).set
    rw [View.set_slice_whole, Rect.mem_set_unit]
    intro a
    match a with
    | ⟨0, _⟩ =>
      show win0_9.index (pointOf (i 0).val h0) (0 : Fin 2) * 512 ≤ (i 0).val ∧ (i 0).val < win0_9.index (pointOf (i 0).val h0) (0 : Fin 2) * 512 + 512
      rw [hi.1]; dsimp only; omega
    | ⟨1, _⟩ =>
      show win0_9.index (pointOf (i 0).val h0) (1 : Fin 2) * 1024 ≤ (i 1).val ∧ (i 1).val < win0_9.index (pointOf (i 0).val h0) (1 : Fin 2) * 1024 + 1024
      rw [hi.2]; omega

/-- The run, read: the result array at the tokens' outputs, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ hr c => ⟨(hr c).1.trans (final m c), (hr c).2⟩) (Value.run_blocks m ρ)

end Cert.OutProjIdeal.Fold

end
-- ==== Proof.OutProjRefValue.lean ====
/- What the output projection's reference computes, element by element: `outProj` of its arguments. -/
module

public import proofs.«01_k».proof.Proof.OutProjSpec
public import proofs.«01_k».proof.Proof.Gen.OutProjRefIdeal.Read
public import Idealize.ShloMosaic.Lib.Pointwise

@[expose] public section

set_option maxRecDepth 16384

noncomputable section

namespace Cert.OutProjRefIdeal.RefValue

open Cert.OutProjRefIdeal Cert.OutProjRefIdeal.Gen Cert.OutProjRefIdeal.Read Cert.Layer Idealize.ShloMosaic

variable (yc o : Vec Ideal S16384x512 .f32) (pm : Vec Ideal S16384x3584 .f32) (x : Vec Ideal S16384x1024 .f32) (md : Vec Ideal S8x1x6144 .f32)
  (nw : Vec Ideal S1x128 .f32) (w : Vec Ideal S1024x1024 .f32) (lg lb : Vec Ideal S1x1024 .f32)

/-- The row of the whole array that token `s` of sequence `b` is. -/
abbrev rowAt (b : Fin 8) (s : Fin 2048) : Fin 16384 := ⟨2048 * b.val + s.val, by omega⟩
/-- The columns of the modulation that a chunk number names. -/
abbrev modCol (q : Fin 6) (k : Fin 1024) : Fin 6144 := ⟨1024 * q.val + k.val, by omega⟩
/-- The column of the input projection that column `k` of the gate is. -/
abbrev gateCol (k : Fin 512) : Fin 3584 := ⟨3072 + k.val, by omega⟩
/-- The column of the heads that place `d` of head `h` is. -/
abbrev headAt (h : Fin 4) (d : Fin 128) : Fin 512 := ⟨h.val * 128 + d.val, by omega⟩

theorem x_at (b : Fin 8) (s : Fin 2048) (k : Fin 1024) : val_main_v0 (F := Ideal) x (ix3 b s k) = x (ix2 (rowAt b s) k) := by
  rw [val_main_v0_apply]
  congr 1
  funext a
  apply Fin.ext
  match a with
  | ⟨0, _⟩ => show ((b.val * 2048 + s.val) * 1024 + k.val) / 1024 = 2048 * b.val + s.val; omega
  | ⟨1, _⟩ => show ((b.val * 2048 + s.val) * 1024 + k.val) % 1024 = k.val; omega

theorem conv_at (b : Fin 8) (s : Fin 2048) (k : Fin 512) : val_main_v1 (F := Ideal) yc (ix3 b s k) = yc (ix2 (rowAt b s) k) := by
  rw [val_main_v1_apply]
  congr 1
  funext a
  apply Fin.ext
  match a with
  | ⟨0, _⟩ => show ((b.val * 2048 + s.val) * 512 + k.val) / 512 = 2048 * b.val + s.val; omega
  | ⟨1, _⟩ => show ((b.val * 2048 + s.val) * 512 + k.val) % 512 = k.val; omega

theorem heads_at (b : Fin 8) (s : Fin 2048) (h : Fin 4) (d : Fin 128) :
    val_main_v2 (F := Ideal) o (ix4 b s h d) = o (ix2 (rowAt b s) (headAt h d)) := by
  rw [val_main_v2_apply]
  congr 1
  funext a
  apply Fin.ext
  match a with
  | ⟨0, _⟩ => show (((b.val * 2048 + s.val) * 4 + h.val) * 128 + d.val) / 512 = 2048 * b.val + s.val; omega
  | ⟨1, _⟩ => show (((b.val * 2048 + s.val) * 4 + h.val) * 128 + d.val) % 512 = h.val * 128 + d.val; omega

theorem gate_at (b : Fin 8) (s : Fin 2048) (k : Fin 512) :
    val_main_v4 (F := Ideal) pm (ix3 b s k) = pm (ix2 (rowAt b s) (gateCol k)) := by
  rw [val_main_v4_apply, val_main_v3_apply]
  congr 1
  funext a
  apply Fin.ext
  match a with
  | ⟨0, _⟩ => show ((b.val * 2048 + s.val) * 3584 + (3072 + k.val)) / 3584 = 2048 * b.val + s.val; omega
  | ⟨1, _⟩ => show ((b.val * 2048 + s.val) * 3584 + (3072 + k.val)) % 3584 = 3072 + k.val; omega

/-- The inverse root mean square of a head. -/
theorem scale_at (b : Fin 8) (s : Fin 2048) (h : Fin 4) (u : Fin 1) :
    val_main_v18 (F := Ideal) o (ix4 b s h u)
      = Ideal.rsqrt (Ideal.div (∑ e, o (ix2 (rowAt b s) (headAt h e)) * o (ix2 (rowAt b s) (headAt h e))) headLen + headEps) := by
  rw [val_main_v18_apply, val_main_v17_apply, val_main_v16_apply, val_main_cst_1_apply, val_main_v15_apply, val_main_v14_apply,
    val_main_cst_0_apply, val_main_v13_apply, val_main_v12_apply, val_main_cst_apply]
  show Ideal.rsqrt (Ideal.div (Ideal.ofBits .f32 0x00000000#32 + _) headLen + headEps) = _
  rw [Ideal.ofBits_zero_f32, zero_add]
  congr 3
  refine Finset.sum_congr rfl fun e _ => ?_
  rw [val_main_v11_apply, ← heads_at o]
  show _ * _ = _ * _
  congr 2 <;> funext a <;> apply Fin.ext
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

theorem headGain_at (b : Fin 8) (s : Fin 2048) (h : Fin 4) (d : Fin 128) : val_main_v23 (F := Ideal) nw (ix4 b s h d) = nw (ix2 0 d) := by
  rw [val_main_v23_apply, val_main_v22_apply, val_main_v21_apply]
  congr 1
  funext a
  apply Fin.ext
  match a with
  | ⟨0, _⟩ => rfl
  | ⟨1, _⟩ => show d.val % 128 = d.val; omega

/-- A head, normalized. -/
theorem headNorm_at (b : Fin 8) (s : Fin 2048) (h : Fin 4) (d : Fin 128) :
    val_main_v24 (F := Ideal) o nw (ix4 b s h d)
      = headNorm (fun d => o (ix2 (rowAt b s) (headAt h d))) (fun d => nw (ix2 0 d)) d := by
  have h19 : val_main_v19 (F := Ideal) o (ix4 b s h d) = val_main_v18 (F := Ideal) o (ix4 b s h 0) := by
    rw [val_main_v19_apply]
    congr 1
    funext a
    apply Fin.ext
    match a with
    | ⟨0, _⟩ => rfl
    | ⟨1, _⟩ => rfl
    | ⟨2, _⟩ => rfl
    | ⟨3, _⟩ => rfl
  rw [val_main_v24_apply, val_main_v20_apply, headGain_at, heads_at, h19, scale_at]
  rfl

/-- The heads of a token side by side, gated. -/
theorem gated_at (b : Fin 8) (s : Fin 2048) (k : Fin 512) :
    val_main_v27 (F := Ideal) o pm nw (ix3 b s k)
      = headCol (fun k => o (ix2 (rowAt b s) k)) (fun d => nw (ix2 0 d)) k * silu (pm (ix2 (rowAt b s) (gateCol k))) := by
  have hi : idx_main_v25 (ix3 b s k) = ix4 b s ⟨k.val / 128, by omega⟩ ⟨k.val % 128, by omega⟩ := by
    funext a
    apply Fin.ext
    match a with
    | ⟨0, _⟩ => show ((b.val * 2048 + s.val) * 512 + k.val) / 1048576 = b.val; omega
    | ⟨1, _⟩ => show ((b.val * 2048 + s.val) * 512 + k.val) / 512 % 2048 = s.val; omega
    | ⟨2, _⟩ => show ((b.val * 2048 + s.val) * 512 + k.val) / 128 % 4 = k.val / 128; omega
    | ⟨3, _⟩ => show ((b.val * 2048 + s.val) * 512 + k.val) % 128 = k.val % 128; omega
  rw [val_main_v27_apply, val_main_v25_apply, hi, headNorm_at, val_main_v26_apply, val_main_call0_v5_apply, val_main_call0_v4_apply,
    val_main_call0_cst_0_apply, val_main_call0_v3_apply, val_main_call0_v2_apply, val_main_call0_cst_apply, val_main_call0_v1_apply,
    val_main_call0_v0_apply, gate_at]
  generalize pm (ix2 (rowAt b s) (gateCol k)) = p
  show _ * (p * Ideal.div (Ideal.ofBits .f32 0x3F800000#32) (Ideal.ofBits .f32 0x3F800000#32 + Ideal.exp (-p))) = _
  rw [Ideal.ofBits_one_f32]
  rfl

/-- What is projected. -/
theorem beside_at (b : Fin 8) (s : Fin 2048) (k : Fin 1024) :
    val_main_v28 (F := Ideal) yc o pm nw (ix3 b s k)
      = beside (fun k => yc (ix2 (rowAt b s) k)) (fun k => o (ix2 (rowAt b s) k)) (fun k => pm (ix2 (rowAt b s) (gateCol k)))
          (fun d => nw (ix2 0 d)) k := by
  have hc : val_main_v28 (F := Ideal) yc o pm nw (ix3 b s k)
      = if h : k.val < 512 then val_main_v1 (F := Ideal) yc (ix3 b s ⟨k.val, h⟩)
        else val_main_v27 (F := Ideal) o pm nw (ix3 b s ⟨k.val - 512, by omega⟩) := by
    unfold val_main_v28
    generalize val_main_v1 (F := Ideal) yc = p
    generalize val_main_v27 (F := Ideal) o pm nw = q
    pointwise
  rw [hc]
  unfold beside
  split
  · exact conv_at yc b s _
  · exact gated_at o pm nw b s _

/-- The projection of one token. -/
theorem projected_at (b : Fin 8) (s : Fin 2048) (j : Fin 1024) :
    val_main_v29 (F := Ideal) yc o pm nw w (ix3 b s j)
      = ∑ i, beside (fun k => yc (ix2 (rowAt b s) k)) (fun k => o (ix2 (rowAt b s) k)) (fun k => pm (ix2 (rowAt b s) (gateCol k)))
          (fun d => nw (ix2 0 d)) i * w (ix2 i j) := by
  rw [val_main_v29_apply]
  refine Finset.sum_congr rfl fun k _ => ?_
  rw [← beside_at]
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl

/-- The residual sum of one token. -/
theorem resid_at (b : Fin 8) (s : Fin 2048) (j : Fin 1024) :
    val_main_v36 (F := Ideal) yc o pm x md nw w (ix3 b s j)
      = resid (x (ix2 (rowAt b s) j)) (md (ix3 b 0 (modCol 2 j))) (val_main_v29 (F := Ideal) yc o pm nw w (ix3 b s j)) := by
  rw [val_main_v36_apply, val_main_v31_apply, val_main_v30_apply, val_main_cst_2_apply, x_at, val_main_v35_apply, val_main_v34_apply,
    val_main_v33_apply, val_main_v32_apply, val_main_cst_3_apply, val_main_v7_apply]
  generalize val_main_v29 (F := Ideal) yc o pm nw w (ix3 b s j) = y
  show Ideal.ofBits .f32 0x3FB504F3#32 * _ + (Ideal.ofBits .f32 0x3F800000#32 + md _) * y = _
  rw [Ideal.ofBits_one_f32]
  unfold resid
  congr 3
  congr 1
  funext a
  apply Fin.ext
  match a with
  | ⟨0, _⟩ => rfl
  | ⟨1, _⟩ => rfl
  | ⟨2, _⟩ => rfl

/-- The mean of a token's residual sums. -/
theorem mean_at (b : Fin 8) (s : Fin 2048) (u : Fin 1) :
    val_main_v42 (F := Ideal) yc o pm x md nw w (ix3 b s u) = mean (fun k => val_main_v36 (F := Ideal) yc o pm x md nw w (ix3 b s k)) := by
  rw [val_main_v42_apply, val_main_v41_apply, val_main_cst_5_apply, val_main_v40_apply, val_main_v39_apply, val_main_cst_4_apply]
  show Ideal.div (Ideal.ofBits .f32 0x00000000#32 + _) (Ideal.ofBits .f32 0x44800000#32) = _
  rw [Ideal.ofBits_zero_f32, zero_add]
  unfold mean
  congr 1
  refine Finset.sum_congr rfl fun k _ => ?_
  congr 1
  funext a
  apply Fin.ext
  match a with
  | ⟨0, _⟩ => rfl
  | ⟨1, _⟩ => rfl
  | ⟨2, _⟩ => rfl

/-- A token's residual sum less its mean. -/
theorem centred_at (b : Fin 8) (s : Fin 2048) (j : Fin 1024) :
    val_main_v44 (F := Ideal) yc o pm x md nw w (ix3 b s j)
      = val_main_v36 (F := Ideal) yc o pm x md nw w (ix3 b s j) - mean (fun k => val_main_v36 (F := Ideal) yc o pm x md nw w (ix3 b s k)) := by
  rw [val_main_v44_apply, val_main_v43_apply, ← mean_at yc o pm x md nw w b s 0]
  show _ - _ = _ - _
  congr 2
  funext a
  apply Fin.ext
  match a with
  | ⟨0, _⟩ => rfl
  | ⟨1, _⟩ => rfl
  | ⟨2, _⟩ => rfl

/-- The inverse deviation of a token's residual sums. -/
theorem dev_at (b : Fin 8) (s : Fin 2048) (u : Fin 1) :
    val_main_v52 (F := Ideal) yc o pm x md nw w (ix3 b s u)
      = Ideal.rsqrt (mean (fun k => val_main_v44 (F := Ideal) yc o pm x md nw w (ix3 b s k) * val_main_v44 (F := Ideal) yc o pm x md nw w (ix3 b s k)) + normEps) := by
  rw [val_main_v52_apply, val_main_v51_apply, val_main_v50_apply, val_main_cst_8_apply, val_main_v49_apply, val_main_v48_apply,
    val_main_cst_7_apply, val_main_v47_apply, val_main_v46_apply, val_main_cst_6_apply]
  show Ideal.rsqrt (Ideal.div (Ideal.ofBits .f32 0x00000000#32 + _) (Ideal.ofBits .f32 0x44800000#32) + Ideal.ofBits .f32 0x3727C5AC#32) = _
  rw [Ideal.ofBits_zero_f32, zero_add]
  unfold mean
  congr 3
  refine Finset.sum_congr rfl fun k _ => ?_
  rw [val_main_v45_apply]
  show _ * _ = _ * _
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The gain and the offset of the layer norm. -/
theorem gain_at (b : Fin 8) (s : Fin 2048) (j : Fin 1024) : val_main_v56 (F := Ideal) lg (ix3 b s j) = lg (ix2 0 j) := by
  rw [val_main_v56_apply, val_main_v55_apply, val_main_v37_apply]
  congr 1
  funext a
  apply Fin.ext
  match a with
  | ⟨0, _⟩ => rfl
  | ⟨1, _⟩ => show j.val % 1024 = j.val; omega
theorem offset_at (b : Fin 8) (s : Fin 2048) (j : Fin 1024) : val_main_v59 (F := Ideal) lb (ix3 b s j) = lb (ix2 0 j) := by
  rw [val_main_v59_apply, val_main_v58_apply, val_main_v38_apply]
  congr 1
  funext a
  apply Fin.ext
  match a with
  | ⟨0, _⟩ => rfl
  | ⟨1, _⟩ => show j.val % 1024 = j.val; omega

/-- The reference's result at an index. -/
theorem result_apply (b : Fin 8) (s : Fin 2048) (j : Fin 1024) :
    val_main_v61 (F := Ideal) yc o pm x md nw w lg lb (ix2 (rowAt b s) j)
      = outProj (fun k => yc (ix2 (rowAt b s) k)) (fun k => o (ix2 (rowAt b s) k)) (fun k => pm (ix2 (rowAt b s) (gateCol k)))
          (fun d => nw (ix2 0 d)) (fun k => x (ix2 (rowAt b s) k)) (fun k => md (ix3 b 0 (modCol 2 k)))
          (fun i k => w (ix2 i k)) (fun k => lg (ix2 0 k)) (fun k => lb (ix2 0 k)) j := by
  rw [val_main_v61_apply]
  have hi : idx_main_v61 (ix2 (rowAt b s) j) = ix3 b s j := by
    funext a
    apply Fin.ext
    match a with
    | ⟨0, _⟩ => show ((2048 * b.val + s.val) * 1024 + j.val) / 2097152 = b.val; omega
    | ⟨1, _⟩ => show ((2048 * b.val + s.val) * 1024 + j.val) / 1024 % 2048 = s.val; omega
    | ⟨2, _⟩ => show ((2048 * b.val + s.val) * 1024 + j.val) % 1024 = j.val; omega
  have h53 : val_main_v53 (F := Ideal) yc o pm x md nw w (ix3 b s j) = val_main_v52 (F := Ideal) yc o pm x md nw w (ix3 b s 0) := by
    rw [val_main_v53_apply]
    congr 1
    funext a
    apply Fin.ext
    match a with
    | ⟨0, _⟩ => rfl
    | ⟨1, _⟩ => rfl
    | ⟨2, _⟩ => rfl
  rw [hi, val_main_v60_apply, val_main_v57_apply, val_main_v54_apply, gain_at, offset_at, h53, dev_at, centred_at]
  simp only [centred_at, resid_at, projected_at]
  rfl

end Cert.OutProjRefIdeal.RefValue

end
-- ==== Proof.OutProjClaim.lean ====
/- The claims about the output projection's kernel: the frames, and the equation with its reference over the reals. -/
module

public import proofs.«01_k».proof.Defs
public import proofs.«01_k».proof.Proof.OutProjFold
public import proofs.«01_k».proof.Proof.OutProjRefValue
public import proofs.«01_k».proof.Proof.Gen.OutProj.Frame
public import proofs.«01_k».proof.Proof.Gen.OutProjRefIdeal.Run
public import Idealize.ShloMosaic.Lib.Quiescent

@[expose] public section

set_option maxRecDepth 16384

noncomputable section

namespace Cert.OutProjClaim

open Idealize.ShloMosaic Idealize.ShloMosaic.TcCoe Idealize.SL.Sem

theorem frame_kernel : Cert.quiescent_OutProj := fun m ρ _ => Cert.OutProj.Gen.frame m ρ

theorem frame_ideal : Cert.quiescent_OutProjIdeal := fun m ρ _ => Cert.OutProjIdeal.Gen.frame m ρ

theorem frame_reference : Cert.quiescent_OutProjRefIdeal := fun m ρ _ =>
  (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

/-- From arguments that agree, the reference's result is the kernel's: both are the token's output. -/
theorem results_agree (m : (ℓ : Loc Cert.OutProjIdeal.nD Cert.OutProjIdeal.τ Cert.OutProjIdeal.sig) → Buf (Elt Ideal) ℓ)
    (c : Dev Cert.OutProjIdeal.nD) :
    Cert.OutProjRefIdeal.Read.val_main_v61 (F := Ideal) (Cert.OutProjIdeal.Blocks.argConv m c) (Cert.OutProjIdeal.Blocks.argHeads m c)
        (Cert.OutProjIdeal.Blocks.argProj m c) (Cert.OutProjIdeal.Blocks.argX m c) (Cert.OutProjIdeal.Blocks.argMod m c)
        (Cert.OutProjIdeal.Blocks.argNorm m c) (Cert.OutProjIdeal.Blocks.argW m c) (Cert.OutProjIdeal.Blocks.argLg m c)
        (Cert.OutProjIdeal.Blocks.argLb m c)
      = Cert.OutProjIdeal.Fold.result m c := by
  funext i
  have hR : (i 0).val < 16384 := (i 0).isLt
  have h0 : i 0 = Cert.OutProjRefIdeal.RefValue.rowAt ⟨(i 0).val / 2048, by omega⟩ ⟨(i 0).val % 2048, by omega⟩ :=
    Fin.ext (show (i 0).val = 2048 * ((i 0).val / 2048) + (i 0).val % 2048 by omega)
  have hi : i = ix2 (Cert.OutProjRefIdeal.RefValue.rowAt ⟨(i 0).val / 2048, by omega⟩ ⟨(i 0).val % 2048, by omega⟩) (i 1) := by
    funext a
    match a with
    | ⟨0, _⟩ => exact h0
    | ⟨1, _⟩ => rfl
  refine (congrArg _ hi).trans ((Cert.OutProjRefIdeal.RefValue.result_apply _ _ _ _ _ _ _ _ _ _ _ _).trans ?_)
  rw [← h0]
  rfl

theorem algebraic : Cert.algebraic_OutProjIdeal_OutProjRefIdeal := by
  intro m ρ m' ρ' _ hag
  refine ⟨fun c => Cert.OutProjIdeal.Fold.result m c, Cert.OutProjIdeal.Fold.run m ρ, ?_⟩
  refine (θ_run Cert.OutProjRefIdeal.defs _ _).mono (fun _ h c => ⟨(h c).1.trans ?_, (h c).2⟩) (Cert.OutProjRefIdeal.Value.run (F := Ideal) m' ρ')
  obtain ⟨h0, h1, h2, h3, h4, h5, h6, h7, h8⟩ := hag c
  rw [Cert.OutProjRefIdeal.Read.val_main_v61_eq, h0, h1, h2, h3, h4, h5, h6, h7, h8]
  exact results_agree m c

end Cert.OutProjClaim

end
-- ==== Proof.DeltaMath.lean ====
/- The gated delta rule over the reals: the recurrence one token at a time, and the same recurrence a chunk of tokens at a
   time, where the chunk's corrections solve a unit lower triangular system. -/
module

public import Mathlib.Analysis.SpecialFunctions.Exp
public import Mathlib.Data.Matrix.Mul
public import Mathlib.Tactic.Ring
public import Mathlib.Tactic.NoncommRing

@[expose] public section

noncomputable section

namespace Cert.DeltaMath

open Finset

variable {ι κ : Type} [Fintype ι] [Fintype κ]
variable (q k : ℕ → ι → ℝ) (v : ℕ → κ → ℝ) (g β : ℕ → ℝ)

/-- What token `n` writes under its key: its value less what the decayed memory returns for the key, scaled. -/
def correction (S : ι → κ → ℝ) (n : ℕ) (e : κ) : ℝ :=
  β n * (v n e - ∑ d, k n d * (Real.exp (g n) * S d e))

/-- The memory after token `n`: decayed, with the token's correction written under its key. -/
def next (S : ι → κ → ℝ) (n : ℕ) (d : ι) (e : κ) : ℝ :=
  Real.exp (g n) * S d e + k n d * correction k v g β S n e

/-- The memory before token `n`, from the memory `S` before token 0. -/
def state (S : ι → κ → ℝ) : ℕ → ι → κ → ℝ
  | 0 => S
  | n + 1 => next k v g β (state S n) n

/-- The output at token `n`: what the memory after it returns for the token's query. -/
def out (S : ι → κ → ℝ) (n : ℕ) (e : κ) : ℝ := ∑ d, q n d * state k v g β S (n + 1) d e

/-- The log-decay gathered over the first `m` tokens from token `o`. -/
def gather (o m : ℕ) : ℝ := ∑ j ∈ range m, g (o + j)

/-- The correction of the `j`-th token from token `o`. -/
def fix (S : ι → κ → ℝ) (o j : ℕ) (e : κ) : ℝ := correction k v g β (state k v g β S (o + j)) (o + j) e

/-- The memory `m` tokens on: the old memory decayed, and each correction since decayed from the token that wrote it. -/
theorem state_add (S : ι → κ → ℝ) (o m : ℕ) (d : ι) (e : κ) :
    state k v g β S (o + m) d e = Real.exp (gather g o m) * state k v g β S o d e
      + ∑ j ∈ range m, Real.exp (gather g o m - gather g o (j + 1)) * (k (o + j) d * fix k v g β S o j e) := by
  induction m with
  | zero => simp [gather]
  | succ m ih =>
    have hs : gather g o (m + 1) = g (o + m) + gather g o m := by
      unfold gather; rw [sum_range_succ, add_comm]
    rw [show o + (m + 1) = (o + m) + 1 from rfl]
    show next k v g β (state k v g β S (o + m)) (o + m) d e = _
    unfold next
    rw [sum_range_succ, sub_self, Real.exp_zero, one_mul, ih]
    have hsum : ∀ j, Real.exp (gather g o (m + 1) - gather g o (j + 1)) * (k (o + j) d * fix k v g β S o j e)
        = Real.exp (g (o + m)) * (Real.exp (gather g o m - gather g o (j + 1)) * (k (o + j) d * fix k v g β S o j e)) := by
      intro j
      rw [hs, add_sub_assoc, Real.exp_add, mul_assoc]
    simp only [hsum]
    rw [← mul_sum, hs, Real.exp_add]
    show _ + k (o + m) d * fix k v g β S o m e = _
    ring

/-- A chunk's corrections against the memory before it and against each other. -/
theorem fix_eq (S : ι → κ → ℝ) (o i : ℕ) (e : κ) :
    fix k v g β S o i e
      = v (o + i) e * β (o + i)
        - ∑ d, (k (o + i) d * β (o + i)) * Real.exp (gather g o (i + 1)) * state k v g β S o d e
        - ∑ j ∈ range i, ((∑ d, (k (o + i) d * β (o + i)) * k (o + j) d)
            * Real.exp (gather g o (i + 1) - gather g o (j + 1))) * fix k v g β S o j e := by
  have hs : gather g o (i + 1) = g (o + i) + gather g o i := by
    unfold gather; rw [sum_range_succ, add_comm]
  have h1 : ∀ d, k (o + i) d * (Real.exp (g (o + i)) * state k v g β S (o + i) d e)
      = k (o + i) d * Real.exp (gather g o (i + 1)) * state k v g β S o d e
        + ∑ j ∈ range i, (k (o + i) d * k (o + j) d) * Real.exp (gather g o (i + 1) - gather g o (j + 1))
            * fix k v g β S o j e := by
    intro d
    rw [state_add, mul_add, mul_add, mul_sum, mul_sum]
    congr 1
    · rw [hs, Real.exp_add]; ring
    · refine sum_congr rfl fun j _ => ?_
      rw [hs, add_sub_assoc, Real.exp_add]; ring
  show correction k v g β (state k v g β S (o + i)) (o + i) e = _
  unfold correction
  simp only [h1, sum_add_distrib]
  rw [sum_comm, mul_sub, mul_add, mul_sum, mul_sum]
  have h2 : ∀ j, β (o + i) * ∑ d, k (o + i) d * k (o + j) d * Real.exp (gather g o (i + 1) - gather g o (j + 1))
        * fix k v g β S o j e
      = ((∑ d, (k (o + i) d * β (o + i)) * k (o + j) d)
            * Real.exp (gather g o (i + 1) - gather g o (j + 1))) * fix k v g β S o j e := by
    intro j
    rw [mul_sum, sum_mul, sum_mul]
    exact sum_congr rfl fun d _ => by ring
  simp only [h2]
  have h3 : ∀ d, β (o + i) * (k (o + i) d * Real.exp (gather g o (i + 1)) * state k v g β S o d e)
      = (k (o + i) d * β (o + i)) * Real.exp (gather g o (i + 1)) * state k v g β S o d e := fun d => by ring
  simp only [h3]
  ring

/-! ## The triangular system -/

variable {c : ℕ}

/-- The doubling of a Neumann series: the power of the matrix and the partial sum applied to the right side. -/
def doubled {ω : Type} (p : Matrix (Fin c) (Fin c) ℝ) (x : Matrix (Fin c) ω ℝ) : ℕ → Matrix (Fin c) ω ℝ
  | 0 => x
  | l + 1 => doubled p x l + p ^ 2 ^ l * doubled p x l

theorem doubled_spec {ω : Type} (p : Matrix (Fin c) (Fin c) ℝ) (x : Matrix (Fin c) ω ℝ) (l : ℕ) :
    (1 - p) * doubled p x l = (1 - p ^ 2 ^ l) * x := by
  induction l with
  | zero => simp [doubled]
  | succ l ih =>
    have h1 : doubled p x (l + 1) = (1 + p ^ 2 ^ l) * doubled p x l := by
      rw [Matrix.add_mul, Matrix.one_mul]; rfl
    have hc : (1 - p) * (1 + p ^ 2 ^ l) = (1 + p ^ 2 ^ l) * (1 - p) := by
      have : p * p ^ 2 ^ l = p ^ 2 ^ l * p := by rw [← pow_succ', ← pow_succ]
      rw [mul_add, add_mul, mul_one, one_mul, sub_mul, mul_sub, one_mul, mul_one, this]
    rw [h1, ← Matrix.mul_assoc, hc, Matrix.mul_assoc, ih, ← Matrix.mul_assoc]
    congr 1
    rw [pow_succ, pow_mul]
    rw [sq]
    noncomm_ring

/-- A power of a strictly lower triangular matrix is zero on and above ever lower diagonals. -/
theorem pow_lower (p : Matrix (Fin c) (Fin c) ℝ) (hp : ∀ i j, i ≤ j → p i j = 0) (m : ℕ) :
    ∀ i j : Fin c, i.val < j.val + m → (p ^ m) i j = 0 := by
  induction m with
  | zero =>
    intro i j h
    rw [pow_zero, Matrix.one_apply_ne]
    intro h'; subst h'; omega
  | succ m ih =>
    intro i j h
    rw [pow_succ, Matrix.mul_apply]
    refine sum_eq_zero fun x _ => ?_
    by_cases hx : i.val < x.val + m
    · rw [ih i x hx, zero_mul]
    · rw [hp x j (by rw [Fin.le_def]; omega), mul_zero]

theorem pow_full (p : Matrix (Fin c) (Fin c) ℝ) (hp : ∀ i j, i ≤ j → p i j = 0) (m : ℕ) (hm : c ≤ m) : p ^ m = 0 := by
  ext i j
  exact pow_lower p hp m i j (by have := i.isLt; omega)

/-- Enough doublings solve the system. -/
theorem doubled_solves {ω : Type} (p : Matrix (Fin c) (Fin c) ℝ) (hp : ∀ i j, i ≤ j → p i j = 0) (l : ℕ) (hl : c ≤ 2 ^ l)
    (x : Matrix (Fin c) ω ℝ) : (1 - p) * doubled p x l = x := by
  rw [doubled_spec, pow_full p hp _ hl, sub_zero, Matrix.one_mul]

/-- The system has one solution. -/
theorem solution_unique {ω : Type} (p : Matrix (Fin c) (Fin c) ℝ) (hp : ∀ i j, i ≤ j → p i j = 0)
    (x y : Matrix (Fin c) ω ℝ) (h : (1 - p) * x = (1 - p) * y) : x = y := by
  have h0 : x - y = p * (x - y) := by
    rw [Matrix.sub_mul, Matrix.sub_mul, Matrix.one_mul, Matrix.one_mul] at h
    rw [Matrix.mul_sub, sub_eq_sub_iff_sub_eq_sub, h]
  have hm : ∀ m : ℕ, x - y = p ^ m * (x - y) := by
    intro m
    induction m with
    | zero => rw [pow_zero, Matrix.one_mul]
    | succ m ih => rw [pow_succ, Matrix.mul_assoc, ← h0, ← ih]
  have := hm c
  rw [pow_full p hp c le_rfl, Matrix.zero_mul] at this
  exact sub_eq_zero.mp this

/-! ## A chunk -/

/-- The negated system matrix of the chunk at token `o`. -/
def coupling (o : ℕ) : Matrix (Fin c) (Fin c) ℝ := fun i j =>
  if j < i then -((∑ d, (k (o + i) d * β (o + i)) * k (o + j) d)
    * Real.exp (gather g o (i + 1) - gather g o (j + 1))) else 0

/-- The right side that the old memory is multiplied by. -/
def rhsOld (o : ℕ) : Matrix (Fin c) ι ℝ := fun i d => (k (o + i) d * β (o + i)) * Real.exp (gather g o (i + 1))

/-- The right side of the values. -/
def rhsNew (o : ℕ) : Matrix (Fin c) κ ℝ := fun i e => v (o + i) e * β (o + i)

theorem coupling_lower (o : ℕ) (i j : Fin c) (h : i ≤ j) : coupling (c := c) k g β o i j = 0 := by
  unfold coupling; rw [if_neg (not_lt.mpr h)]

/-- The corrections of a chunk are the two solutions put together: the one of the values, less the other applied to the
    memory before the chunk. -/
theorem fix_solved (S : ι → κ → ℝ) (o l : ℕ) (hl : c ≤ 2 ^ l) (i : Fin c) (e : κ) :
    fix k v g β S o i e
      = doubled (coupling (c := c) k g β o) (rhsNew v β o) l i e
        - ∑ d, doubled (coupling (c := c) k g β o) (rhsOld k g β o) l i d * state k v g β S o d e := by
  have hp := coupling_lower (c := c) k g β o
  let D : Matrix (Fin c) κ ℝ := fun i e => fix k v g β S o i e
  let S' : Matrix ι κ ℝ := state k v g β S o
  have key : D = doubled (coupling (c := c) k g β o) (rhsNew v β o) l
      - doubled (coupling (c := c) k g β o) (rhsOld k g β o) l * S' := by
    apply solution_unique _ hp
    rw [Matrix.mul_sub, ← Matrix.mul_assoc, doubled_solves _ hp l hl, doubled_solves _ hp l hl]
    ext i e
    rw [Matrix.sub_mul, Matrix.one_mul, Matrix.sub_apply, Matrix.sub_apply, Matrix.mul_apply, Matrix.mul_apply]
    show fix k v g β S o i e - _ = _
    rw [fix_eq]
    have hsum : (∑ j : Fin c, coupling (c := c) k g β o i j * D j e)
        = -∑ j ∈ range i.val, ((∑ d, (k (o + i) d * β (o + i)) * k (o + j) d)
            * Real.exp (gather g o (i + 1) - gather g o (j + 1))) * fix k v g β S o j e := by
      have h1 : ∀ j : Fin c, coupling (c := c) k g β o i j * D j e
          = (fun j : ℕ => if j < i.val then -(((∑ d, (k (o + i) d * β (o + i)) * k (o + j) d)
            * Real.exp (gather g o (i + 1) - gather g o (j + 1))) * fix k v g β S o j e) else 0) j.val := by
        intro j
        unfold coupling
        by_cases h : j < i
        · have h' : j.val < i.val := h
          beta_reduce
          rw [if_pos h, if_pos h', neg_mul]
        · have h' : ¬ j.val < i.val := h
          beta_reduce
          rw [if_neg h, if_neg h', zero_mul]
      rw [sum_congr rfl fun j _ => h1 j, Fin.sum_univ_eq_sum_range (fun j : ℕ => if j < i.val then
        -(((∑ d, (k (o + i) d * β (o + i)) * k (o + j) d)
            * Real.exp (gather g o (i + 1) - gather g o (j + 1))) * fix k v g β S o j e) else 0) c,
        ← sum_filter, ← sum_neg_distrib]
      refine sum_congr ?_ fun _ _ => rfl
      ext j
      simp only [mem_filter, mem_range]
      have := i.isLt
      omega
    rw [hsum]
    show _ = rhsNew v β o i e - ∑ d, rhsOld k g β o i d * state k v g β S o d e
    unfold rhsNew rhsOld
    ring
  have := congrFun (congrFun key i) e
  rw [Matrix.sub_apply, Matrix.mul_apply] at this
  exact this

/-- What the value side and the old-memory side of the chunk at token `o` solve to, by `l` doublings. -/
abbrev solOld (l o : ℕ) : Matrix (Fin c) ι ℝ := doubled (coupling (c := c) k g β o) (rhsOld k g β o) l
abbrev solNew (l o : ℕ) : Matrix (Fin c) κ ℝ := doubled (coupling (c := c) k g β o) (rhsNew v β o) l

/-- A key decayed from its token to the chunk's end. -/
def decayed (c o : ℕ) (j : ℕ) (d : ι) : ℝ := k (o + j) d * Real.exp (gather g o c - gather g o (j + 1))

/-- What a query reads of a correction of its chunk. -/
def attend (o i j : ℕ) : ℝ :=
  if j ≤ i then (∑ d, q (o + i) d * k (o + j) d) * Real.exp (gather g o (i + 1) - gather g o (j + 1)) else 0

/-- The memory after a chunk, from the memory before it. -/
theorem chunk_state (S : ι → κ → ℝ) (o l : ℕ) (hl : c ≤ 2 ^ l) (d : ι) (e : κ) :
    state k v g β S (o + c) d e
      = state k v g β S o d e * Real.exp (gather g o c)
        - ∑ d', (∑ j : Fin c, decayed k g c o j d * solOld k g β l o j d') * state k v g β S o d' e
        + ∑ j : Fin c, decayed k g c o j d * solNew k v g β l o j e := by
  have h1 : ∑ j ∈ range c, Real.exp (gather g o c - gather g o (j + 1)) * (k (o + j) d * fix k v g β S o j e)
      = ∑ j : Fin c, decayed k g c o j d * (solNew k v g β l o j e
          - ∑ d', solOld k g β l o j d' * state k v g β S o d' e) := by
    rw [← Fin.sum_univ_eq_sum_range (fun j : ℕ =>
      Real.exp (gather g o c - gather g o (j + 1)) * (k (o + j) d * fix k v g β S o j e)) c]
    refine sum_congr rfl fun j _ => ?_
    rw [fix_solved k v g β S o l hl j e]
    unfold decayed
    ring
  have h2 : ∑ d', (∑ j : Fin c, decayed k g c o j d * solOld k g β l o j d') * state k v g β S o d' e
      = ∑ j : Fin c, decayed k g c o j d * ∑ d', solOld k g β l o j d' * state k v g β S o d' e := by
    simp only [sum_mul, mul_sum]
    rw [sum_comm]
    exact sum_congr rfl fun _ _ => sum_congr rfl fun _ _ => mul_assoc _ _ _
  rw [state_add, h1, h2]
  simp only [mul_sub, sum_sub_distrib]
  ring

/-- The output at a chunk's token, from the memory before the chunk. -/
theorem chunk_out (S : ι → κ → ℝ) (o l : ℕ) (hl : c ≤ 2 ^ l) (i : Fin c) (e : κ) :
    out q k v g β S (o + i) e
      = (∑ d, (q (o + i) d * Real.exp (gather g o (i + 1))
            - ∑ j : Fin c, attend q k g o i j * solOld k g β l o j d) * state k v g β S o d e)
        + ∑ j : Fin c, attend q k g o i j * solNew k v g β l o j e := by
  have h1 : ∑ d, q (o + i) d * ∑ j ∈ range (i + 1),
        Real.exp (gather g o (i + 1) - gather g o (j + 1)) * (k (o + j) d * fix k v g β S o j e)
      = ∑ j : Fin c, attend q k g o i j * (solNew k v g β l o j e
          - ∑ d', solOld k g β l o j d' * state k v g β S o d' e) := by
    have h3 : ∀ j : Fin c, attend q k g o i j * (solNew k v g β l o j e
          - ∑ d', solOld k g β l o j d' * state k v g β S o d' e)
        = (fun j : ℕ => if j ≤ i.val then ∑ d, q (o + i) d * (Real.exp (gather g o (i + 1) - gather g o (j + 1))
            * (k (o + j) d * fix k v g β S o j e)) else 0) j.val := by
      intro j
      beta_reduce
      rw [fix_solved k v g β S o l hl j e]
      unfold attend
      by_cases h : j.val ≤ i.val
      · rw [if_pos h, if_pos h, sum_mul, sum_mul]
        exact sum_congr rfl fun d _ => by ring
      · rw [if_neg h, if_neg h, zero_mul]
    rw [sum_congr rfl fun j _ => h3 j, Fin.sum_univ_eq_sum_range (fun j : ℕ => if j ≤ i.val then
      ∑ d, q (o + i) d * (Real.exp (gather g o (i + 1) - gather g o (j + 1))
            * (k (o + j) d * fix k v g β S o j e)) else 0) c, ← sum_filter]
    simp only [mul_sum]
    rw [sum_comm]
    refine sum_congr ?_ fun _ _ => rfl
    ext j
    simp only [mem_filter, mem_range]
    have := i.isLt
    omega
  have h2 : ∑ d, (∑ j : Fin c, attend q k g o i j * solOld k g β l o j d) * state k v g β S o d e
      = ∑ j : Fin c, attend q k g o i j * ∑ d', solOld k g β l o j d' * state k v g β S o d' e := by
    simp only [sum_mul, mul_sum]
    rw [sum_comm]
    exact sum_congr rfl fun _ _ => sum_congr rfl fun _ _ => mul_assoc _ _ _
  unfold out
  have h4 : ∀ d, q (o + i) d * state k v g β S (o + i + 1) d e
      = q (o + i) d * Real.exp (gather g o (i + 1)) * state k v g β S o d e
        + q (o + i) d * ∑ j ∈ range (i + 1),
          Real.exp (gather g o (i + 1) - gather g o (j + 1)) * (k (o + j) d * fix k v g β S o j e) := by
    intro d
    rw [add_assoc, state_add]
    ring
  simp only [h4, sum_add_distrib]
  rw [h1]
  simp only [sub_mul, mul_sub, sum_sub_distrib]
  rw [h2]
  ring

end Cert.DeltaMath

end
-- ==== Proof.DeltaSpec.lean ====
/- The delta rule of a batch of prompts: the sequences of queries, keys, values, decays and scales that the rows of the two
   argument arrays hold, and the states and outputs that the rule makes of them. -/
module

public import proofs.«01_k».proof.Proof.DeltaMath

@[expose] public section

set_option maxRecDepth 16384

noncomputable section

namespace Cert.DeltaSpec

open Cert.DeltaMath

variable (X : Fin 16384 → Fin 1536 → ℝ) (G : Fin 16384 → Fin 128 → ℝ) (s0 : Fin 8 → Fin 4 → Fin 128 → Fin 128 → ℝ)

/-- The row of token `n` of prompt `b`. -/
def token (b : Fin 8) (n : ℕ) : Fin 16384 := ⟨(2048 * b.val + n) % 16384, by omega⟩

/-- The query, the key and the value of a token at a head. -/
def query (b : Fin 8) (h : Fin 4) (n : ℕ) (d : Fin 128) : ℝ := X (token b n) ⟨128 * h.val + d.val, by omega⟩
def key (b : Fin 8) (h : Fin 4) (n : ℕ) (d : Fin 128) : ℝ := X (token b n) ⟨512 + 128 * h.val + d.val, by omega⟩
def value (b : Fin 8) (h : Fin 4) (n : ℕ) (d : Fin 128) : ℝ := X (token b n) ⟨1024 + 128 * h.val + d.val, by omega⟩

/-- The log-decay and the scale of a token's correction at a head. -/
def decay (b : Fin 8) (h : Fin 4) (n : ℕ) : ℝ := G (token b n) ⟨124 + h.val, by omega⟩
def scale (b : Fin 8) (h : Fin 4) (n : ℕ) : ℝ := G (token b n) ⟨120 + h.val, by omega⟩

/-- The memory of head `h` of prompt `b` before token `n`. -/
def memory (b : Fin 8) (h : Fin 4) (n : ℕ) (d e : Fin 128) : ℝ :=
  state (key X b h) (value X b h) (decay G b h) (scale G b h) (s0 b h) n d e

/-- The output of head `h` of prompt `b` at token `n`. -/
def result (b : Fin 8) (h : Fin 4) (n : ℕ) (e : Fin 128) : ℝ :=
  out (query X b h) (key X b h) (value X b h) (decay G b h) (scale G b h) (s0 b h) n e

end Cert.DeltaSpec

end
-- ==== Proof.DeltaWords.lean ====
/- The stages of the delta rule's body by name: from a tile's rows of q, k, v (`X`) and of gates (`G`) to the stacked
   problems, the solution of each chunk's system, and the steps of the state from chunk to chunk. -/
module

public import proofs.«01_k».proof.Proof.Gen.DeltaIdeal.Skeleton

@[expose] public section

set_option maxRecDepth 16384

noncomputable section

namespace Cert.DeltaIdeal.Words

open Cert.DeltaIdeal Cert.DeltaIdeal.Gen Idealize.ShloMosaic

variable {F : FTy → Type} [FloatOps F]

/-- The zero a shifted row is replaced by at the start of its chunk. -/
abbrev zero : F .f32 := Scalar.ofBits .f32 0x00000000#32

/-- The zeros a product of matrices starts from. -/
abbrev zeros : FVec F S16x64x256 .f32 := constant S16x64x256 .f32 0x00000000#32

section Tile

variable (X : FVec F S256x1536 .f32) (G : FVec F S256x128 .f32)

/-- The gates summed within each chunk of 64 rows. -/
def sums : FVec F S256x128 .f32 := k0_pay8 k0_pay4 (k0_pay5 G) k0_pay6 (k0_pay7 G) zero

/-- The queries of the 16 problems. -/
def queries : FVec F S16x64x128 .f32 :=
  k0_pay85 X (k0_pay9 X) (k0_pay14 X) (k0_pay19 X) (k0_pay24 X) (k0_pay29 X) (k0_pay34 X) (k0_pay39 X) (k0_pay44 X)
    (k0_pay49 X) (k0_pay54 X) (k0_pay59 X) (k0_pay64 X)

/-- The keys of the 16 problems. -/
def keys : FVec F S16x64x128 .f32 :=
  k0_pay93 (k0_pay45 X) (k0_pay50 X) (k0_pay55 X) (k0_pay60 X) (k0_pay65 X) (k0_pay69 X) (k0_pay73 X) (k0_pay77 X)
    (k0_pay81 X) (k0_pay86 (k0_pay10 X)) (k0_pay87 (k0_pay15 X)) (k0_pay88 (k0_pay20 X)) (k0_pay89 (k0_pay25 X))
    (k0_pay90 (k0_pay30 X)) (k0_pay91 (k0_pay35 X)) (k0_pay92 (k0_pay40 X))

/-- The values of the 16 problems. -/
def vals : FVec F S16x64x128 .f32 :=
  k0_pay94 (k0_pay11 X) (k0_pay16 X) (k0_pay21 X) (k0_pay26 X) (k0_pay31 X) (k0_pay36 X) (k0_pay41 X) (k0_pay46 X)
    (k0_pay51 X) (k0_pay56 X) (k0_pay61 X) (k0_pay66 X) (k0_pay70 X) (k0_pay74 X) (k0_pay78 X) (k0_pay82 X)

/-- The summed gates of the 16 problems, one column of the tile spread over the lanes each. -/
def decays : FVec F S16x64x128 .f32 :=
  k0_pay95 (k0_pay12 k0_pay4 (k0_pay5 G) k0_pay6 (k0_pay7 G) zero) (k0_pay17 k0_pay4 (k0_pay5 G) k0_pay6 (k0_pay7 G) zero)
    (k0_pay22 k0_pay4 (k0_pay5 G) k0_pay6 (k0_pay7 G) zero) (k0_pay27 k0_pay4 (k0_pay5 G) k0_pay6 (k0_pay7 G) zero)
    (k0_pay32 k0_pay4 (k0_pay5 G) k0_pay6 (k0_pay7 G) zero) (k0_pay37 (sums G)) (k0_pay42 (sums G)) (k0_pay47 (sums G))
    (k0_pay52 (sums G)) (k0_pay57 (sums G)) (k0_pay62 (sums G)) (k0_pay67 (sums G)) (k0_pay71 (sums G))
    (k0_pay75 (sums G)) (k0_pay79 (sums G)) (k0_pay83 (sums G))

/-- The strengths of the 16 problems, one column of the tile spread over the lanes each. -/
def betas : FVec F S16x64x128 .f32 :=
  k0_pay112 (k0_pay96 (k0_pay13 G)) (k0_pay97 (k0_pay18 G)) (k0_pay98 (k0_pay23 G)) (k0_pay99 (k0_pay28 G))
    (k0_pay100 (k0_pay33 G)) (k0_pay101 (k0_pay38 G)) (k0_pay102 (k0_pay43 G)) (k0_pay103 (k0_pay48 G))
    (k0_pay104 (k0_pay53 G)) (k0_pay105 (k0_pay58 G)) (k0_pay106 (k0_pay63 G)) (k0_pay107 (k0_pay68 G))
    (k0_pay108 (k0_pay72 G)) (k0_pay109 (k0_pay76 G)) (k0_pay110 (k0_pay80 G)) (k0_pay111 (k0_pay84 G))

/-- The right sides of the chunks' systems. -/
def rights : FVec F S16x64x256 .f32 :=
  k0_pay118 (keys X) (vals X) (decays G) (k0_pay96 (k0_pay13 G)) (k0_pay97 (k0_pay18 G)) (k0_pay98 (k0_pay23 G)) (k0_pay99 (k0_pay28 G))
    (k0_pay100 (k0_pay33 G)) (k0_pay101 (k0_pay38 G)) (k0_pay102 (k0_pay43 G)) (k0_pay103 (k0_pay48 G))
    (k0_pay104 (k0_pay53 G)) (k0_pay105 (k0_pay58 G)) (k0_pay106 (k0_pay63 G)) (k0_pay107 (k0_pay68 G))
    (k0_pay108 (k0_pay72 G)) (k0_pay109 (k0_pay76 G)) (k0_pay110 (k0_pay80 G)) (k0_pay111 (k0_pay84 G))

/-- The couplings of the chunks' systems. -/
def couplings : FVec F S16x64x64 .f32 :=
  k0_pay119 (queries X) (keys X) (decays G) (k0_pay96 (k0_pay13 G)) (k0_pay97 (k0_pay18 G)) (k0_pay98 (k0_pay23 G)) (k0_pay99 (k0_pay28 G))
    (k0_pay100 (k0_pay33 G)) (k0_pay101 (k0_pay38 G)) (k0_pay102 (k0_pay43 G)) (k0_pay103 (k0_pay48 G))
    (k0_pay104 (k0_pay53 G)) (k0_pay105 (k0_pay58 G)) (k0_pay106 (k0_pay63 G)) (k0_pay107 (k0_pay68 G))
    (k0_pay108 (k0_pay72 G)) (k0_pay109 (k0_pay76 G)) (k0_pay110 (k0_pay80 G)) (k0_pay111 (k0_pay84 G))

/-- What each query reads of each correction of its chunk. -/
def attends : FVec F S16x64x64 .f32 :=
  k0_pay117 (queries X) (keys X) (decays G) (k0_pay96 (k0_pay13 G)) (k0_pay97 (k0_pay18 G)) (k0_pay98 (k0_pay23 G)) (k0_pay99 (k0_pay28 G))
    (k0_pay100 (k0_pay33 G)) (k0_pay101 (k0_pay38 G)) (k0_pay102 (k0_pay43 G)) (k0_pay103 (k0_pay48 G))
    (k0_pay104 (k0_pay53 G)) (k0_pay105 (k0_pay58 G)) (k0_pay106 (k0_pay63 G)) (k0_pay107 (k0_pay68 G))
    (k0_pay108 (k0_pay72 G)) (k0_pay109 (k0_pay76 G)) (k0_pay110 (k0_pay80 G)) (k0_pay111 (k0_pay84 G))

end Tile

/-- The high part. -/
def hi {s : Shape} (A : FVec F s .f32) : FVec F s .bf16 := truncf .bf16 A bitsLt_bf16_f32

/-- The low part: what the high part leaves. -/
def lo {s : Shape} (A : FVec F s .f32) : FVec F s .bf16 := truncf .bf16 (subf A (extf .f32 (hi A) bitsLt_bf16_f32)) bitsLt_bf16_f32

/-- The partial sum and the power side by side. -/
def joined (x : FVec F S16x64x256 .f32) (P : FVec F S16x64x64 .f32) : FVec F S16x64x320 .f32 :=
  concatenate S16x64x320 2 [⟨S16x64x256, x⟩, ⟨S16x64x64, P⟩] concatenates_S16x64x256_S16x64x64_S16x64x320_d2

section Solution

variable (x : FVec F S16x64x256 .f32) (P : FVec F S16x64x64 .f32)

/-- The partial sum after four doublings, and the power and the two side by side, in high and low parts. -/
def sum4 : FVec F S16x64x256 .f32 := k0_pay130 x (hi P) (lo P) (hi (joined x P)) (lo (joined x P))
def power4Hi : FVec F S16x64x64 .bf16 := k0_pay133 x (hi P) (lo P) (hi (joined x P)) (lo (joined x P))
def power4Lo : FVec F S16x64x64 .bf16 := k0_pay134 x (hi P) (lo P) (hi (joined x P)) (lo (joined x P))
def joined4Hi : FVec F S16x64x320 .bf16 := k0_pay135 x (hi P) (lo P) (hi (joined x P)) (lo (joined x P))
def joined4Lo : FVec F S16x64x320 .bf16 := k0_pay136 x (hi P) (lo P) (hi (joined x P)) (lo (joined x P))

/-- The decayed keys times the solution. -/
def keysSol (K D : FVec F S16x64x128 .f32) : FVec F S16x128x256 .f32 :=
  k0_pay139 K D (sum4 x P) (power4Hi x P) (power4Lo x P) (joined4Hi x P) (joined4Lo x P)

/-- The solution, rounded. -/
def solBf : FVec F S16x64x256 .bf16 := k0_pay141 (sum4 x P) (power4Hi x P) (power4Lo x P) (joined4Hi x P) (joined4Lo x P)

end Solution

/-! ## The step of the state over one chunk of a head -/

section Step

variable (A B : FVec F S4x128x128 .f32) (T O : FVec F S4x64x128 .f32) (E : FVec F S4x1x128 .f32) (S : FVec F S4x128x128 .f32)

/-- The product of both stacked matrices with the state. -/
def applied : FVec F S4x192x128 .f32 :=
  matmul dot_S4x192x128_S4x128x128_S4x192x128_2_1_1_2_0_0 none
    (hi (concatenate S4x192x128 1 [⟨S4x128x128, A⟩, ⟨S4x64x128, T⟩] concatenates_S4x128x128_S4x64x128_S4x192x128_d1))
    (hi S) (constant S4x192x128 .f32 0x00000000#32)

/-- The state after the chunk. -/
def after : FVec F S4x128x128 .f32 :=
  addf (subf (mulf S (broadcastTo S4x128x128 E broadcasts_S4x1x128_S4x128x128))
    (extractStridedSlice S4x128x128 ![0, 0, 0] (applied A T S) slices_S4x192x128_o0_0_0_S4x128x128)) B

/-- The outputs of the chunk. -/
def outs : FVec F S4x64x128 .f32 :=
  addf (extractStridedSlice S4x64x128 ![0, 128, 0] (applied A T S) slices_S4x192x128_o0_128_0_S4x64x128) O

end Step

section Steps

variable (A B : FVec F S16x128x128 .f32) (T O : FVec F S16x64x128 .f32) (E : FVec F S16x1x128 .f32) (S : FVec F S4x128x128 .f32)

/-- The state after each of a tile's four chunks, and the chunk's outputs. -/
def after0 : FVec F S4x128x128 .f32 :=
  after (extractStridedSlice S4x128x128 ![0, 0, 0] A slices_S16x128x128_o0_0_0_S4x128x128)
    (extractStridedSlice S4x128x128 ![0, 0, 0] B slices_S16x128x128_o0_0_0_S4x128x128)
    (extractStridedSlice S4x64x128 ![0, 0, 0] T slices_S16x64x128_o0_0_0_S4x64x128)
    (extractStridedSlice S4x1x128 ![0, 0, 0] E slices_S16x1x128_o0_0_0_S4x1x128) S
def outs0 : FVec F S4x64x128 .f32 :=
  outs (extractStridedSlice S4x128x128 ![0, 0, 0] A slices_S16x128x128_o0_0_0_S4x128x128)
    (extractStridedSlice S4x64x128 ![0, 0, 0] T slices_S16x64x128_o0_0_0_S4x64x128)
    (extractStridedSlice S4x64x128 ![0, 0, 0] O slices_S16x64x128_o0_0_0_S4x64x128) S
def after1 : FVec F S4x128x128 .f32 :=
  after (extractStridedSlice S4x128x128 ![4, 0, 0] A slices_S16x128x128_o4_0_0_S4x128x128)
    (extractStridedSlice S4x128x128 ![4, 0, 0] B slices_S16x128x128_o4_0_0_S4x128x128)
    (extractStridedSlice S4x64x128 ![4, 0, 0] T slices_S16x64x128_o4_0_0_S4x64x128)
    (extractStridedSlice S4x1x128 ![4, 0, 0] E slices_S16x1x128_o4_0_0_S4x1x128) (after0 A B T E S)
def outs1 : FVec F S4x64x128 .f32 :=
  outs (extractStridedSlice S4x128x128 ![4, 0, 0] A slices_S16x128x128_o4_0_0_S4x128x128)
    (extractStridedSlice S4x64x128 ![4, 0, 0] T slices_S16x64x128_o4_0_0_S4x64x128)
    (extractStridedSlice S4x64x128 ![4, 0, 0] O slices_S16x64x128_o4_0_0_S4x64x128) (after0 A B T E S)
def after2 : FVec F S4x128x128 .f32 :=
  after (extractStridedSlice S4x128x128 ![8, 0, 0] A slices_S16x128x128_o8_0_0_S4x128x128)
    (extractStridedSlice S4x128x128 ![8, 0, 0] B slices_S16x128x128_o8_0_0_S4x128x128)
    (extractStridedSlice S4x64x128 ![8, 0, 0] T slices_S16x64x128_o8_0_0_S4x64x128)
    (extractStridedSlice S4x1x128 ![8, 0, 0] E slices_S16x1x128_o8_0_0_S4x1x128) (after1 A B T E S)
def outs2 : FVec F S4x64x128 .f32 :=
  outs (extractStridedSlice S4x128x128 ![8, 0, 0] A slices_S16x128x128_o8_0_0_S4x128x128)
    (extractStridedSlice S4x64x128 ![8, 0, 0] T slices_S16x64x128_o8_0_0_S4x64x128)
    (extractStridedSlice S4x64x128 ![8, 0, 0] O slices_S16x64x128_o8_0_0_S4x64x128) (after1 A B T E S)
def after3 : FVec F S4x128x128 .f32 :=
  after (extractStridedSlice S4x128x128 ![12, 0, 0] A slices_S16x128x128_o12_0_0_S4x128x128)
    (extractStridedSlice S4x128x128 ![12, 0, 0] B slices_S16x128x128_o12_0_0_S4x128x128)
    (extractStridedSlice S4x64x128 ![12, 0, 0] T slices_S16x64x128_o12_0_0_S4x64x128)
    (extractStridedSlice S4x1x128 ![12, 0, 0] E slices_S16x1x128_o12_0_0_S4x1x128) (after2 A B T E S)
def outs3 : FVec F S4x64x128 .f32 :=
  outs (extractStridedSlice S4x128x128 ![12, 0, 0] A slices_S16x128x128_o12_0_0_S4x128x128)
    (extractStridedSlice S4x64x128 ![12, 0, 0] T slices_S16x64x128_o12_0_0_S4x64x128)
    (extractStridedSlice S4x64x128 ![12, 0, 0] O slices_S16x64x128_o12_0_0_S4x64x128) (after2 A B T E S)

end Steps

section Whole

variable (X : FVec F S256x1536 .f32) (G : FVec F S256x128 .f32) (S : FVec F S4x128x128 .f32)

/-- What the chunks of a tile do to the state: the matrix applied to it, what they add, and its decay; and what they
    read of it: the queries less what is read through the corrections, and what is read of the corrections. -/
def matA : FVec F S16x128x128 .f32 := k0_pay144 (keysSol (rights X G) (couplings X G) (keys X) (decays G))
def matB : FVec F S16x128x128 .f32 := k0_pay145 (keysSol (rights X G) (couplings X G) (keys X) (decays G))
def matT : FVec F S16x64x128 .f32 :=
  k0_pay143 (queries X) (k0_pay115 (decays G)) (k0_pay140 (attends X G)) (solBf (rights X G) (couplings X G)) zeros
def matO : FVec F S16x64x128 .f32 := k0_pay146 (k0_pay140 (attends X G)) (solBf (rights X G) (couplings X G)) zeros
def matE : FVec F S16x1x128 .f32 := k0_pay147 (k0_pay138 (decays G))

/-- The state after a tile. -/
def tileState : FVec F S4x128x128 .f32 := after3 (matA X G) (matB X G) (matT X G) (matE G) S

/-- The outputs of each chunk of a tile. -/
def tileOuts : Fin 4 → FVec F S4x64x128 .f32
  | 0 => outs0 (matA X G) (matT X G) (matO X G) S
  | 1 => outs1 (matA X G) (matB X G) (matT X G) (matO X G) (matE G) S
  | 2 => outs2 (matA X G) (matB X G) (matT X G) (matO X G) (matE G) S
  | 3 => outs3 (matA X G) (matB X G) (matT X G) (matO X G) (matE G) S

end Whole

end Cert.DeltaIdeal.Words

end
-- ==== Proof.DeltaStack.lean ====
/- The stacks of the delta rule's body read at an index: problem `p` is head `p % 4` of chunk `p / 4`, and its rows are
   the tile's rows of that chunk, its lanes the columns of that head. -/
module

public import proofs.«01_k».proof.Proof.DeltaWords
public import proofs.«01_k».proof.Proof.Layer

@[expose] public section

set_option maxRecDepth 16384

noncomputable section

namespace Cert.DeltaIdeal.Stack

open Cert.DeltaIdeal Cert.DeltaIdeal.Gen Cert.DeltaIdeal.Words Idealize.ShloMosaic

variable (X : FVec Ideal S256x1536 .f32) (G : FVec Ideal S256x128 .f32)

/-- Query `d` of row `i` of problem `p`. -/
theorem queries_apply (p : Fin 16) (i : Fin 64) (d : Fin 128) :
    queries X (ix3 p i d) = X (ix2 ⟨64 * (p.val / 4) + i.val, by omega⟩ ⟨128 * (p.val % 4) + d.val, by omega⟩) := by
  pointwise [queries, k0_pay85, k0_pay9, k0_pay14, k0_pay19, k0_pay24, k0_pay29, k0_pay34, k0_pay39, k0_pay44, k0_pay49,
      k0_pay54, k0_pay59, k0_pay64]
  fin_vals p with hp
  all_goals simp only [hp, Nat.reduceSub, Nat.reduceLT, ↓reduceDIte, Nat.reduceDiv, Nat.reduceMod, Nat.reduceMul, Nat.zero_add]

/-- Key `d` of row `i` of problem `p`. -/
theorem keys_apply (p : Fin 16) (i : Fin 64) (d : Fin 128) :
    keys X (ix3 p i d) = X (ix2 ⟨64 * (p.val / 4) + i.val, by omega⟩ ⟨512 + 128 * (p.val % 4) + d.val, by omega⟩) := by
  pointwise [keys, k0_pay93, k0_pay45, k0_pay50, k0_pay55, k0_pay60, k0_pay65, k0_pay69, k0_pay73, k0_pay77,
    k0_pay81, k0_pay86, k0_pay10, k0_pay87, k0_pay15, k0_pay88, k0_pay20, k0_pay89, k0_pay25, k0_pay90, k0_pay30,
    k0_pay91, k0_pay35, k0_pay92, k0_pay40]
  fin_vals p with hp
  all_goals simp only [hp, Nat.reduceSub, Nat.reduceLT, ↓reduceDIte, Nat.reduceDiv, Nat.reduceMod, Nat.reduceMul, Nat.zero_add,
    Nat.reduceAdd]

/-- Value `d` of row `i` of problem `p`. -/
theorem vals_apply (p : Fin 16) (i : Fin 64) (d : Fin 128) :
    vals X (ix3 p i d) = X (ix2 ⟨64 * (p.val / 4) + i.val, by omega⟩ ⟨1024 + 128 * (p.val % 4) + d.val, by omega⟩) := by
  pointwise [vals, k0_pay94, k0_pay11, k0_pay16, k0_pay21, k0_pay26, k0_pay31, k0_pay36, k0_pay41, k0_pay46,
    k0_pay51, k0_pay56, k0_pay61, k0_pay66, k0_pay70, k0_pay74, k0_pay78, k0_pay82]
  fin_vals p with hp
  all_goals simp only [hp, Nat.reduceSub, Nat.reduceLT, ↓reduceDIte, Nat.reduceDiv, Nat.reduceMod, Nat.reduceMul, Nat.zero_add,
    Nat.reduceAdd]

/-- The summed gate of row `i` of problem `p`, whatever the lane. -/
theorem decays_apply (p : Fin 16) (i : Fin 64) (d : Fin 128) :
    decays G (ix3 p i d) = sums G (ix2 ⟨64 * (p.val / 4) + i.val, by omega⟩ ⟨124 + p.val % 4, by omega⟩) := by
  unfold decays k0_pay12 k0_pay17 k0_pay22 k0_pay27 k0_pay32
  have hs : k0_pay8 (F := Ideal) k0_pay4 (k0_pay5 G) k0_pay6 (k0_pay7 G) zero = sums G := rfl
  rw [hs]
  generalize sums G = Z
  pointwise [k0_pay95, k0_pay37, k0_pay42, k0_pay47, k0_pay52, k0_pay57, k0_pay62, k0_pay67, k0_pay71, k0_pay75, k0_pay79, k0_pay83]
  fin_vals p with hp
  all_goals simp only [hp, Nat.reduceSub, Nat.reduceLT, ↓reduceDIte, Nat.reduceDiv, Nat.reduceMod, Nat.reduceMul, Nat.zero_add,
    Nat.reduceAdd] <;> rfl

/-- The strength of row `i` of problem `p`, whatever the lane. -/
theorem betas_apply (p : Fin 16) (i : Fin 64) (d : Fin 128) :
    betas G (ix3 p i d) = G (ix2 ⟨64 * (p.val / 4) + i.val, by omega⟩ ⟨120 + p.val % 4, by omega⟩) := by
  pointwise [betas, k0_pay112, k0_pay96, k0_pay97, k0_pay98, k0_pay99, k0_pay100, k0_pay101, k0_pay102, k0_pay103,
    k0_pay104, k0_pay105, k0_pay106, k0_pay107, k0_pay108, k0_pay109, k0_pay110, k0_pay111, k0_pay13, k0_pay18, k0_pay23,
    k0_pay28, k0_pay33, k0_pay38, k0_pay43, k0_pay48, k0_pay53, k0_pay58, k0_pay63, k0_pay68, k0_pay72, k0_pay76,
    k0_pay80, k0_pay84]
  fin_vals p with hp
  all_goals simp only [hp, Nat.reduceSub, Nat.reduceLT, ↓reduceDIte, Nat.reduceDiv, Nat.reduceMod, Nat.reduceMul, Nat.zero_add,
    Nat.reduceAdd] <;> rfl

end Cert.DeltaIdeal.Stack

end
-- ==== Proof.DeltaReal.lean ====
/- Arithmetic on the ideal kernel's values where they are real numbers: sums of products, and a product of matrices made
   of high and low parts, whose low parts are zero. -/
module

public import proofs.«01_k».proof.Proof.Layer
public import Idealize.ShloMosaic.Lib.WordCmp
public import Mathlib.Data.Matrix.Mul

@[expose] public section

noncomputable section

namespace Cert.DeltaReal

open Idealize.ShloMosaic

theorem coe_sum {ι : Type} (s : Finset ι) (f : ι → ℝ) : ((∑ x ∈ s, f x : ℝ) : EReal) = ∑ x ∈ s, (f x : EReal) := by
  classical
  induction s using Finset.induction_on with
  | empty => simp
  | insert a s h ih => rw [Finset.sum_insert h, Finset.sum_insert h, EReal.coe_add, ih]

/-- A sum of products of reals. -/
theorem sum_mul {n : ℕ} (a b : Fin n → EReal) (ar br : Fin n → ℝ) (ha : ∀ x, a x = (ar x : EReal)) (hb : ∀ x, b x = (br x : EReal)) :
    ∑ x, a x * b x = ((∑ x, ar x * br x : ℝ) : EReal) := by
  rw [coe_sum]
  exact Finset.sum_congr rfl fun x _ => by rw [ha, hb, EReal.coe_mul]

theorem coe_sub_self (r : ℝ) : (r : EReal) - (r : EReal) = 0 := by
  rw [← EReal.coe_sub, sub_self, EReal.coe_zero]

/-- The three products of high and low parts are one product of reals: the low parts are zero. -/
theorem sum_mul_split {n : ℕ} (a b : Fin n → EReal) (ar br : Fin n → ℝ) (ha : ∀ x, a x = (ar x : EReal)) (hb : ∀ x, b x = (br x : EReal)) :
    ∑ x, a x * b x + (∑ x, a x * (b x - b x) + ∑ x, (a x - a x) * b x) = ((∑ x, ar x * br x : ℝ) : EReal) := by
  have h1 : ∑ x, a x * (b x - b x) = 0 := Finset.sum_eq_zero fun x _ => by rw [hb, coe_sub_self, mul_zero]
  have h2 : ∑ x, (a x - a x) * b x = 0 := Finset.sum_eq_zero fun x _ => by rw [ha, coe_sub_self, zero_mul]
  rw [h1, h2, add_zero, add_zero, sum_mul a b ar br ha hb]

/-- The pattern of minus infinity. -/
theorem ofBits_neg_inf : Ideal.ofBits FTy.f32 4286578688#32 = ⊥ := by
  first | exact Ideal.ofBits_neg_inf_f32 | (simp [Ideal.ofBits]; done) | rfl

/-- Selecting by `b ≤ a` on small words. -/
theorem select_sge {α : Type} (a b : ℕ) (ha : a < 2 ^ 31) (hb : b < 2 ^ 31) (x y : α) :
    Scalar.select (IntOp.cmpi CmpIPredicate.sge (BitVec.ofNat 32 a) (BitVec.ofNat 32 b)) x y = if b ≤ a then x else y := by
  rw [WordCmp.cmpi_sge_ofNat ha hb]
  by_cases h : b ≤ a <;> simp [Scalar.select, h]

/-- Selecting by `b < a` on small words. -/
theorem select_sgt {α : Type} (a b : ℕ) (ha : a < 2 ^ 31) (hb : b < 2 ^ 31) (x y : α) :
    Scalar.select (IntOp.cmpi CmpIPredicate.sgt (BitVec.ofNat 32 a) (BitVec.ofNat 32 b)) x y = if b < a then x else y := by
  rw [WordCmp.cmpi_sgt_ofNat ha hb]
  by_cases h : b < a <;> simp [Scalar.select, h]

/-- Selecting by `a = b` on small words. -/
theorem select_eq {α : Type} (a b : ℕ) (ha : a < 2 ^ 32) (hb : b < 2 ^ 32) (x y : α) :
    Scalar.select (IntOp.cmpi CmpIPredicate.eq (BitVec.ofNat 32 a) (BitVec.ofNat 32 b)) x y = if a = b then x else y := by
  rw [WordCmp.cmpi_eq_ofNat ha hb]
  by_cases h : a = b <;> simp [Scalar.select, h]

end Cert.DeltaReal

end
-- ==== Proof.DeltaSums.lean ====
/- The gates summed within each chunk of 64 rows, by six shifted additions. -/
module

public import proofs.«01_k».proof.Proof.DeltaWords
public import proofs.«01_k».proof.Proof.DeltaMath
public import proofs.«01_k».proof.Proof.DeltaReal

@[expose] public section

set_option maxRecDepth 16384

noncomputable section

namespace Cert.DeltaIdeal.Sums

open Cert.DeltaIdeal Cert.DeltaIdeal.Gen Cert.DeltaIdeal.Words Idealize.ShloMosaic Cert.DeltaMath Cert.DeltaReal

section Any

variable {F : FTy → Type} [FloatOps F]

/-- Each row plus the row `s` above it, where that row is in the same chunk. -/
def shift (s : BitVec 32) (x : FVec F S256x128 .f32) : FVec F S256x128 .f32 :=
  addf x (select (cmpi .sge k0_pay4 (broadcast S256x128 s)) (dynamicRotate 0 s none x rotates_S256x128_d0) (broadcast S256x128 zero))

theorem sums_eq (G : FVec F S256x128 .f32) :
    sums G = shift 32#32 (shift 16#32 (shift 8#32 (shift 4#32 (shift 2#32 (shift 1#32 G))))) := rfl

end Any

theorem andi_63 : ∀ r : Fin 256, IntOp.andi (BitVec.ofNat 32 r.val) 63#32 = BitVec.ofNat 32 (r.val % 64) := by
  decide

theorem shift_apply (s : ℕ) (hs : s < 64) (x : FVec Ideal S256x128 .f32) (r : Fin 256) (l : Fin 128) :
    shift (BitVec.ofNat 32 s) x (ix2 r l) = x (ix2 r l) + if h : s ≤ r.val % 64 then x (ix2 ⟨r.val - s, by omega⟩ l) else 0 := by
  pointwise [shift, k0_pay4]
  rw [andi_63, select_sge _ _ (by omega) (by omega)]
  congr 1
  by_cases h : s ≤ r.val % 64
  · rw [if_pos h, dif_pos h]
    congr 2
    apply Fin.ext
    show (r.val + 256 - (BitVec.ofNat 32 s).toNat % 256) % 256 = r.val - s
    rw [BitVec.toNat_ofNat]
    omega
  · rw [if_neg h, dif_neg h]

/-- Lane `l` of `x` holds, at each row, the sum of `g` over the last `s` rows of its chunk. -/
def Windows (x : FVec Ideal S256x128 .f32) (l : Fin 128) (g : ℕ → ℝ) (o s : ℕ) : Prop :=
  ∀ (c : Fin 4) (i : Fin 64), x (ix2 ⟨64 * c.val + i.val, by omega⟩ l)
    = ((gather g (o + 64 * c.val) (i.val + 1) - gather g (o + 64 * c.val) (i.val + 1 - s) : ℝ) : EReal)

/-- A shifted addition doubles the window. -/
theorem windows_shift (s : ℕ) (hs : s < 64) {x : FVec Ideal S256x128 .f32} {l : Fin 128} {g : ℕ → ℝ} {o : ℕ} (h : Windows x l g o s) :
    Windows (shift (BitVec.ofNat 32 s) x) l g o (2 * s) := by
  intro c i
  rw [shift_apply s hs, h c i]
  have hm : (64 * c.val + i.val) % 64 = i.val := by omega
  by_cases hi : s ≤ i.val
  · rw [dif_pos (by show s ≤ (64 * c.val + i.val) % 64; omega)]
    have h' := h c ⟨i.val - s, by omega⟩
    have e : (⟨64 * c.val + (i.val - s), by omega⟩ : Fin 256) = ⟨64 * c.val + i.val - s, by omega⟩ := Fin.ext (by show 64 * c.val + (i.val - s) = 64 * c.val + i.val - s; omega)
    dsimp only at h'
    rw [e] at h'
    rw [h', ← EReal.coe_add]
    congr 1
    rw [show i.val - s + 1 = i.val + 1 - s by omega, show i.val + 1 - s - s = i.val + 1 - 2 * s by omega]
    ring
  · rw [dif_neg (by show ¬ s ≤ (64 * c.val + i.val) % 64; omega), add_zero,
      show i.val + 1 - s = 0 by omega, show i.val + 1 - 2 * s = 0 by omega]

/-- The gates of a chunk summed up to each row. -/
theorem sums_apply {G : FVec Ideal S256x128 .f32} {l : Fin 128} {g : ℕ → ℝ} {o : ℕ}
    (hG : ∀ r : Fin 256, G (ix2 r l) = ((g (o + r.val) : ℝ) : EReal)) (c : Fin 4) (i : Fin 64) :
    sums G (ix2 ⟨64 * c.val + i.val, by omega⟩ l) = ((gather g (o + 64 * c.val) (i.val + 1) : ℝ) : EReal) := by
  have h0 : Windows G l g o 1 := by
    intro c i
    rw [hG]
    congr 1
    show g (o + (64 * c.val + i.val)) = gather g _ (i.val + 1) - gather g _ i.val
    unfold gather
    rw [Finset.sum_range_succ, add_sub_cancel_left, Nat.add_assoc]
  have h6 := windows_shift 32 (by omega) (windows_shift 16 (by omega) (windows_shift 8 (by omega)
    (windows_shift 4 (by omega) (windows_shift 2 (by omega) (windows_shift 1 (by omega) h0)))))
  rw [sums_eq]
  refine (h6 c i).trans ?_
  rw [show i.val + 1 - 2 * 32 = 0 by omega]
  congr 1
  unfold gather
  rw [Finset.range_zero, Finset.sum_empty, sub_zero]

end Cert.DeltaIdeal.Sums

end
-- ==== Proof.DeltaProblem.lean ====
/- The matrices of a chunk's system, read off the stacked problems where those are real numbers: the decays between rows,
   the coupling of the corrections, the right sides, and what each query reads of each correction. -/
module

public import proofs.«01_k».proof.Proof.DeltaWords
public import proofs.«01_k».proof.Proof.DeltaMath
public import proofs.«01_k».proof.Proof.DeltaReal

@[expose] public section

set_option maxRecDepth 16384

noncomputable section

namespace Cert.DeltaIdeal.Problem

open Cert.DeltaIdeal Cert.DeltaIdeal.Gen Idealize.ShloMosaic Cert.DeltaMath Cert.DeltaReal

/-- The stacked array `A` is real, `a` its entries. -/
def Reads {P m n : ℕ} {φ : FTy} (A : FVec Ideal ⟨3, ![P, m, n]⟩ φ) (a : Fin P → Fin m → Fin n → ℝ) : Prop :=
  ∀ (p : Fin P) (i : Fin m) (j : Fin n), A (ix3 p i j) = ((a p i j : ℝ) : EReal)

variable {Q K V D : FVec Ideal S16x64x128 .f32}
  {b0 b1 b2 b3 b4 b5 b6 b7 b8 b9 b10 b11 b12 b13 b14 b15 : FVec Ideal S1x64x128 .f32}
  {q k v : Fin 16 → ℕ → Fin 128 → ℝ} {g β : Fin 16 → ℕ → ℝ} {o : Fin 16 → ℕ}

/-- The decay from row `j` to row `i`, zero where `j` comes after `i`. -/
def gap (g : ℕ → ℝ) (o : ℕ) (i j : ℕ) : ℝ :=
  if j ≤ i then Real.exp (gather g o (i + 1) - gather g o (j + 1)) else 0

theorem gap_reads (hD : Reads D fun p i _ => gather (g p) (o p) (i.val + 1)) :
    Reads (k0_pay113 D) fun p i j => gap (g p) (o p) i.val j.val := by
  intro p i j
  pointwise [k0_pay113]
  have hs : ∑ x : Fin 64, Scalar.select (IntOp.cmpi CmpIPredicate.eq (BitVec.ofNat 32 x.val) (BitVec.ofNat 32 j.val))
      (D (ix3 p x ⟨j.val, by omega⟩)) 0 = ((gather (g p) (o p) (j.val + 1) : ℝ) : EReal) := by
    rw [Finset.sum_eq_single j]
    · rw [DeltaReal.select_eq _ _ (by omega) (by omega), if_pos rfl, hD]
    · intro x _ hx
      rw [DeltaReal.select_eq _ _ (by omega) (by omega), if_neg (fun h => hx (Fin.ext h))]
    · intro h; exact absurd (Finset.mem_univ _) h
  rw [hs, select_sge _ _ (by omega) (by omega), hD, ofBits_neg_inf]
  unfold gap
  by_cases h : j.val ≤ i.val
  · rw [if_pos h, if_pos h, ← EReal.coe_sub, Ideal.exp_coe]
  · rw [if_neg h, if_neg h, Ideal.exp_bot, EReal.coe_zero]

theorem strong_keys_reads (hK : Reads K fun p i d => k p (o p + i.val) d)
    (hB : Reads (k0_pay112 b0 b1 b2 b3 b4 b5 b6 b7 b8 b9 b10 b11 b12 b13 b14 b15) fun p i _ => β p (o p + i.val)) :
    Reads (k0_pay114 K b0 b1 b2 b3 b4 b5 b6 b7 b8 b9 b10 b11 b12 b13 b14 b15) fun p i d => k p (o p + i.val) d * β p (o p + i.val) := by
  intro p i d
  pointwise [k0_pay114]
  rw [hK, hB, ← EReal.coe_mul]

theorem growth_reads (hD : Reads D fun p i _ => gather (g p) (o p) (i.val + 1)) :
    Reads (k0_pay115 D) fun p i _ => Real.exp (gather (g p) (o p) (i.val + 1)) := by
  intro p i d
  pointwise [k0_pay115]
  rw [hD, Ideal.exp_coe]

/-- The products of the strong keys and of the queries with the keys, one above the other. -/
theorem gram_reads (hQ : Reads Q fun p i d => q p (o p + i.val) d) (hK : Reads K fun p i d => k p (o p + i.val) d)
    (hB : Reads (k0_pay112 b0 b1 b2 b3 b4 b5 b6 b7 b8 b9 b10 b11 b12 b13 b14 b15) fun p i _ => β p (o p + i.val)) :
    Reads (k0_pay116 Q K b0 b1 b2 b3 b4 b5 b6 b7 b8 b9 b10 b11 b12 b13 b14 b15) fun p i j =>
      ∑ d, (if i.val < 64 then k p (o p + i.val) d * β p (o p + i.val) else q p (o p + (i.val - 64)) d) * k p (o p + j.val) d := by
  intro p i j
  pointwise [k0_pay116]
  refine sum_mul_split _ _ _ _ (fun d => ?_) (fun d => hK p j d)
  by_cases h : i.val < 64
  · rw [dif_pos h, if_pos h, strong_keys_reads hK hB]
  · rw [dif_neg h, if_neg h, hQ]

/-- What a query reads of a correction. -/
theorem attend_reads (hQ : Reads Q fun p i d => q p (o p + i.val) d) (hK : Reads K fun p i d => k p (o p + i.val) d)
    (hB : Reads (k0_pay112 b0 b1 b2 b3 b4 b5 b6 b7 b8 b9 b10 b11 b12 b13 b14 b15) fun p i _ => β p (o p + i.val))
    (hD : Reads D fun p i _ => gather (g p) (o p) (i.val + 1)) :
    Reads (k0_pay117 Q K D b0 b1 b2 b3 b4 b5 b6 b7 b8 b9 b10 b11 b12 b13 b14 b15) fun p i j =>
      attend (q p) (k p) (g p) (o p) i.val j.val := by
  intro p i j
  pointwise [k0_pay117]
  rw [gram_reads hQ hK hB, gap_reads hD, ← EReal.coe_mul]
  dsimp only
  unfold gap attend
  by_cases h : j.val ≤ i.val
  · rw [if_pos h, if_pos h]
    congr 2
    refine Finset.sum_congr rfl fun d _ => ?_
    rw [if_neg (by show ¬ 64 + i.val < 64; omega)]
    show q p (o p + (64 + i.val - 64)) d * _ = _
    rw [Nat.add_sub_cancel_left]
  · rw [if_neg h, if_neg h, mul_zero]

/-- The coupling of the corrections. -/
theorem coupling_reads (hQ : Reads Q fun p i d => q p (o p + i.val) d) (hK : Reads K fun p i d => k p (o p + i.val) d)
    (hB : Reads (k0_pay112 b0 b1 b2 b3 b4 b5 b6 b7 b8 b9 b10 b11 b12 b13 b14 b15) fun p i _ => β p (o p + i.val))
    (hD : Reads D fun p i _ => gather (g p) (o p) (i.val + 1)) :
    Reads (k0_pay119 Q K D b0 b1 b2 b3 b4 b5 b6 b7 b8 b9 b10 b11 b12 b13 b14 b15) fun p =>
      coupling (c := 64) (k p) (g p) (β p) (o p) := by
  intro p i j
  pointwise [k0_pay119]
  rw [gram_reads hQ hK hB, gap_reads hD, select_sgt _ _ (by omega) (by omega), ← EReal.coe_mul]
  dsimp only
  unfold gap coupling
  by_cases h : j.val < i.val
  · rw [if_pos h, if_pos (le_of_lt h), if_pos (Fin.lt_def.mpr h), ← EReal.coe_zero, ← EReal.coe_sub, zero_sub]
    congr 3
    refine Finset.sum_congr rfl fun d _ => ?_
    rw [if_pos (by show i.val < 64; omega)]
  · rw [if_neg h, if_neg (fun h' => h (Fin.lt_def.mp h')), ← EReal.coe_zero, ← EReal.coe_sub, sub_zero]

/-- The two right sides, side by side. -/
def right (k v : ℕ → Fin 128 → ℝ) (g β : ℕ → ℝ) (o : ℕ) (i : Fin 64) (j : Fin 256) : ℝ :=
  if h : j.val < 128 then rhsOld (c := 64) k g β o i ⟨j.val, h⟩ else rhsNew (c := 64) v β o i ⟨j.val - 128, by omega⟩

theorem right_reads (hK : Reads K fun p i d => k p (o p + i.val) d) (hV : Reads V fun p i d => v p (o p + i.val) d)
    (hB : Reads (k0_pay112 b0 b1 b2 b3 b4 b5 b6 b7 b8 b9 b10 b11 b12 b13 b14 b15) fun p i _ => β p (o p + i.val))
    (hD : Reads D fun p i _ => gather (g p) (o p) (i.val + 1)) :
    Reads (k0_pay118 K V D b0 b1 b2 b3 b4 b5 b6 b7 b8 b9 b10 b11 b12 b13 b14 b15) fun p => right (k p) (v p) (g p) (β p) (o p) := by
  intro p i j
  pointwise [k0_pay118]
  unfold right
  by_cases h : j.val < 128
  · rw [dif_pos h, dif_pos h, strong_keys_reads hK hB, growth_reads hD, ← EReal.coe_mul]; rfl
  · rw [dif_neg h, dif_neg h, hV, hB, ← EReal.coe_mul]; rfl

end Cert.DeltaIdeal.Problem

end
-- ==== Proof.DeltaSolve.lean ====
/- The body's solution of the chunks' systems: six doublings of a Neumann series, the partial sum and the power of the
   coupling kept side by side and multiplied as one. -/
module

public import proofs.«01_k».proof.Proof.DeltaProblem

@[expose] public section

set_option maxRecDepth 16384

noncomputable section

namespace Cert.DeltaIdeal.Solve

open Cert.DeltaIdeal Cert.DeltaIdeal.Gen Cert.DeltaIdeal.Words Cert.DeltaIdeal.Problem Idealize.ShloMosaic Cert.DeltaMath Cert.DeltaReal

section Any

variable {F : FTy → Type} [FloatOps F]

/-- The power times both. -/
def prod (x : FVec F S16x64x256 .f32) (P : FVec F S16x64x64 .f32) : FVec F S16x64x320 .f32 :=
  k0_pay125 (hi P) (lo P) (hi (joined x P)) (lo (joined x P))

/-- The next partial sum. -/
def sum (x : FVec F S16x64x256 .f32) (P : FVec F S16x64x64 .f32) : FVec F S16x64x256 .f32 :=
  addf x (extractStridedSlice S16x64x256 ![0, 0, 0] (prod x P) slices_S16x64x320_o0_0_0_S16x64x256)

/-- The next power. -/
def square (x : FVec F S16x64x256 .f32) (P : FVec F S16x64x64 .f32) : FVec F S16x64x64 .f32 :=
  extractStridedSlice S16x64x64 ![0, 0, 256] (prod x P) slices_S16x64x320_o0_0_256_S16x64x64

/-- The last doubling, of the partial sum alone. -/
def last (x : FVec F S16x64x256 .f32) (P : FVec F S16x64x64 .f32) : FVec F S16x64x256 .f32 :=
  addf x (addf (matmul dot_S16x64x64_S16x64x256_S16x64x256_2_1_1_2_0_0 none (hi P) (hi x) (constant S16x64x256 .f32 0x00000000#32))
    (addf (matmul dot_S16x64x64_S16x64x256_S16x64x256_2_1_1_2_0_0 none (hi P) (lo x) (constant S16x64x256 .f32 0x00000000#32))
      (matmul dot_S16x64x64_S16x64x256_S16x64x256_2_1_1_2_0_0 none (lo P) (hi x) (constant S16x64x256 .f32 0x00000000#32))))

/-- Partial sum and power after `l` doublings. -/
def levels (x : FVec F S16x64x256 .f32) (P : FVec F S16x64x64 .f32) : ℕ → FVec F S16x64x256 .f32 × FVec F S16x64x64 .f32
  | 0 => (x, P)
  | l + 1 => (sum (levels x P l).1 (levels x P l).2, square (levels x P l).1 (levels x P l).2)

variable (x : FVec F S16x64x256 .f32) (P : FVec F S16x64x64 .f32)

/-- The body's own words for three doublings … -/
theorem level2_sum : k0_pay128 x (hi P) (lo P) (hi (joined x P)) (lo (joined x P)) = (levels x P 2).1 := rfl

theorem level2_prod : k0_pay129 x (hi P) (lo P) (hi (joined x P)) (lo (joined x P)) = prod (levels x P 2).1 (levels x P 2).2 := rfl

theorem level3_sum : k0_pay130 x (hi P) (lo P) (hi (joined x P)) (lo (joined x P)) = (levels x P 3).1 := by
  unfold k0_pay130
  rw [level2_sum, level2_prod]
  rfl

theorem level3_power : k0_pay131 x (hi P) (lo P) (hi (joined x P)) (lo (joined x P)) = (levels x P 3).2 := by
  unfold k0_pay131
  rw [level2_prod]
  rfl

theorem level3_joined : k0_pay132 x (hi P) (lo P) (hi (joined x P)) (lo (joined x P)) = joined (levels x P 3).1 (levels x P 3).2 := by
  unfold k0_pay132
  rw [level3_sum, level3_power]
  rfl

/-- … and for the other three. -/
theorem last_levels : k0_pay137 x (hi P) (lo P) (hi (joined x P)) (lo (joined x P)) = last (levels x P 2).1 (levels x P 2).2 := rfl

theorem levels_add (a b : ℕ) : levels (levels x P a).1 (levels x P a).2 b = levels x P (a + b) := by
  induction b with
  | zero => rfl
  | succ b ih => show (sum _ _, square _ _) = (sum _ _, square _ _); rw [ih]; rfl

/-- The six doublings of the body. -/
theorem solved :
    k0_pay137 (k0_pay130 x (hi P) (lo P) (hi (joined x P)) (lo (joined x P)))
      (k0_pay133 x (hi P) (lo P) (hi (joined x P)) (lo (joined x P))) (k0_pay134 x (hi P) (lo P) (hi (joined x P)) (lo (joined x P)))
      (k0_pay135 x (hi P) (lo P) (hi (joined x P)) (lo (joined x P))) (k0_pay136 x (hi P) (lo P) (hi (joined x P)) (lo (joined x P)))
      = last (levels x P 5).1 (levels x P 5).2 := by
  unfold k0_pay136 k0_pay135 k0_pay134 k0_pay133
  rw [level3_sum, level3_power, level3_joined]
  refine (last_levels (levels x P 3).1 (levels x P 3).2).trans ?_
  rw [levels_add]

end Any

/-! ## On real numbers -/

variable {x : FVec Ideal S16x64x256 .f32} {P : FVec Ideal S16x64x64 .f32}
  {xr : Fin 16 → Matrix (Fin 64) (Fin 256) ℝ} {Pr : Fin 16 → Matrix (Fin 64) (Fin 64) ℝ}

theorem prod_left (hx : Reads x xr) (hP : Reads P Pr) (p : Fin 16) (i : Fin 64) (c : Fin 256) :
    prod x P (ix3 p i ⟨c.val, by omega⟩) = (((Pr p * xr p) i c : ℝ) : EReal) := by
  pointwise [prod, k0_pay125, hi, lo, joined]
  rw [Matrix.mul_apply]
  exact sum_mul_split _ _ _ _ (fun y => hP p i y) (fun y => hx p y c)

theorem prod_right (hx : Reads x xr) (hP : Reads P Pr) (p : Fin 16) (i c : Fin 64) :
    prod x P (ix3 p i ⟨256 + c.val, by omega⟩) = (((Pr p * Pr p) i c : ℝ) : EReal) := by
  pointwise [prod, k0_pay125, hi, lo, joined]
  rw [Matrix.mul_apply]
  exact sum_mul_split _ _ _ _ (fun y => hP p i y) (fun y => by
    first
      | exact hP p y c
      | (rw [dif_neg (by omega)]; exact (congrArg (fun z => P (ix3 p y z)) (Fin.ext (by simp))).trans (hP p y c)))

theorem sum_reads (hx : Reads x xr) (hP : Reads P Pr) : Reads (sum x P) fun p => xr p + Pr p * xr p := by
  intro p i c
  pointwise [sum]
  rw [hx, prod_left hx hP, ← EReal.coe_add]; rfl

theorem square_reads (hx : Reads x xr) (hP : Reads P Pr) : Reads (square x P) fun p => Pr p * Pr p := by
  intro p i c
  pointwise [square]
  exact prod_right hx hP p i c

theorem last_reads (hx : Reads x xr) (hP : Reads P Pr) : Reads (last x P) fun p => xr p + Pr p * xr p := by
  intro p i c
  pointwise [last, hi, lo]
  show _ = (((xr p i c + (Pr p * xr p) i c : ℝ)) : EReal)
  rw [hx, EReal.coe_add, Matrix.mul_apply]
  congr 1
  exact sum_mul_split _ _ _ _ (fun y => hP p i y) (fun y => hx p y c)

/-- The power after `l` doublings. -/
def power (M : Matrix (Fin 64) (Fin 64) ℝ) (l : ℕ) : Matrix (Fin 64) (Fin 64) ℝ := M ^ 2 ^ l

theorem power_succ (M : Matrix (Fin 64) (Fin 64) ℝ) (l : ℕ) : power M (l + 1) = power M l * power M l := by
  unfold power
  rw [pow_succ 2 l, pow_mul, pow_two]

theorem levels_reads (hx : Reads x xr) (hP : Reads P Pr) (l : ℕ) :
    Reads (levels x P l).1 (fun p => doubled (Pr p) (xr p) l) ∧ Reads (levels x P l).2 fun p => power (Pr p) l := by
  induction l with
  | zero =>
    refine ⟨hx, fun p i j => (hP p i j).trans ?_⟩
    show _ = ((power (Pr p) 0 i j : ℝ) : EReal)
    unfold power
    rw [pow_zero, pow_one]
  | succ l ih =>
    refine ⟨sum_reads ih.1 ih.2, fun p i j => (square_reads ih.1 ih.2 p i j).trans ?_⟩
    show _ = ((power (Pr p) (l + 1) i j : ℝ) : EReal)
    rw [power_succ]

/-- Six doublings, as reals. -/
theorem solved_reads (hx : Reads x xr) (hP : Reads P Pr) :
    Reads (last (levels x P 5).1 (levels x P 5).2) fun p => doubled (Pr p) (xr p) 6 :=
  last_reads (levels_reads hx hP 5).1 (levels_reads hx hP 5).2

/-- A doubling works column by column. -/
theorem doubled_column {ω ω' : Type} (M : Matrix (Fin 64) (Fin 64) ℝ) (y : Matrix (Fin 64) ω ℝ) (z : Matrix (Fin 64) ω' ℝ) (a : ω) (b : ω')
    (h : ∀ i, y i a = z i b) (l : ℕ) : ∀ i, doubled M y l i a = doubled M z l i b := by
  induction l with
  | zero => exact h
  | succ l ih =>
    intro i
    unfold doubled
    rw [Matrix.add_apply, Matrix.add_apply, ih, Matrix.mul_apply, Matrix.mul_apply]
    congr 1
    exact Finset.sum_congr rfl fun j _ => by rw [ih]

end Cert.DeltaIdeal.Solve

end
-- ==== Proof.DeltaIntra.lean ====
/- What a tile's chunks do to the state and read of it, from real rows of q, k, v and gates: the four matrices of the
   chunk's step are those of the delta rule's chunked form. -/
module

public import proofs.«01_k».proof.Proof.DeltaStack
public import proofs.«01_k».proof.Proof.DeltaSums
public import proofs.«01_k».proof.Proof.DeltaSolve

@[expose] public section

set_option maxRecDepth 16384

noncomputable section

namespace Cert.DeltaIdeal.Intra

open Cert.DeltaIdeal Cert.DeltaIdeal.Gen Cert.DeltaIdeal.Words Cert.DeltaIdeal.Problem Cert.DeltaIdeal.Solve
open Idealize.ShloMosaic Cert.DeltaMath Cert.DeltaReal

/-- The tile's rows are the tokens from `o` on of four heads' real sequences. -/
structure Rows (X : FVec Ideal S256x1536 .f32) (G : FVec Ideal S256x128 .f32) (q k v : Fin 4 → ℕ → Fin 128 → ℝ)
    (g β : Fin 4 → ℕ → ℝ) (o : ℕ) : Prop where
  q : ∀ (r : Fin 256) (h : Fin 4) (d : Fin 128), X (ix2 r ⟨128 * h.val + d.val, by omega⟩) = ((q h (o + r.val) d : ℝ) : EReal)
  k : ∀ (r : Fin 256) (h : Fin 4) (d : Fin 128), X (ix2 r ⟨512 + 128 * h.val + d.val, by omega⟩) = ((k h (o + r.val) d : ℝ) : EReal)
  v : ∀ (r : Fin 256) (h : Fin 4) (d : Fin 128), X (ix2 r ⟨1024 + 128 * h.val + d.val, by omega⟩) = ((v h (o + r.val) d : ℝ) : EReal)
  g : ∀ (r : Fin 256) (h : Fin 4), G (ix2 r ⟨124 + h.val, by omega⟩) = ((g h (o + r.val) : ℝ) : EReal)
  β : ∀ (r : Fin 256) (h : Fin 4), G (ix2 r ⟨120 + h.val, by omega⟩) = ((β h (o + r.val) : ℝ) : EReal)

/-- The head of a problem. -/
def head (p : Fin 16) : Fin 4 := ⟨p.val % 4, by omega⟩

/-- The first token of a problem's chunk. -/
def base (o : ℕ) (p : Fin 16) : ℕ := o + 64 * (p.val / 4)

variable {X : FVec Ideal S256x1536 .f32} {G : FVec Ideal S256x128 .f32} {q k v : Fin 4 → ℕ → Fin 128 → ℝ}
  {g β : Fin 4 → ℕ → ℝ} {o : ℕ}

theorem queries_reads (h : Rows X G q k v g β o) : Reads (queries X) fun p i d => q (head p) (base o p + i.val) d := by
  intro p i d
  rw [Stack.queries_apply]
  show _ = ((q (head p) (o + 64 * (p.val / 4) + i.val) d : ℝ) : EReal)
  rw [Nat.add_assoc o]
  exact h.q ⟨64 * (p.val / 4) + i.val, by omega⟩ (head p) d

theorem keys_reads (h : Rows X G q k v g β o) : Reads (keys X) fun p i d => k (head p) (base o p + i.val) d := by
  intro p i d
  rw [Stack.keys_apply]
  show _ = ((k (head p) (o + 64 * (p.val / 4) + i.val) d : ℝ) : EReal)
  rw [Nat.add_assoc o]
  exact h.k ⟨64 * (p.val / 4) + i.val, by omega⟩ (head p) d

theorem vals_reads (h : Rows X G q k v g β o) : Reads (vals X) fun p i d => v (head p) (base o p + i.val) d := by
  intro p i d
  rw [Stack.vals_apply]
  show _ = ((v (head p) (o + 64 * (p.val / 4) + i.val) d : ℝ) : EReal)
  rw [Nat.add_assoc o]
  exact h.v ⟨64 * (p.val / 4) + i.val, by omega⟩ (head p) d

theorem betas_reads (h : Rows X G q k v g β o) : Reads (betas G) fun p i _ => β (head p) (base o p + i.val) := by
  intro p i d
  rw [Stack.betas_apply]
  show _ = ((β (head p) (o + 64 * (p.val / 4) + i.val) : ℝ) : EReal)
  rw [Nat.add_assoc o]
  exact h.β ⟨64 * (p.val / 4) + i.val, by omega⟩ (head p)

theorem decays_reads (h : Rows X G q k v g β o) : Reads (decays G) fun p i _ => gather (g (head p)) (base o p) (i.val + 1) := by
  intro p i d
  rw [Stack.decays_apply]
  exact Sums.sums_apply (g := g (head p)) (fun r => h.g r (head p)) ⟨p.val / 4, by omega⟩ i

theorem rights_reads (h : Rows X G q k v g β o) :
    Reads (rights X G) fun p => right (k (head p)) (v (head p)) (g (head p)) (β (head p)) (base o p) :=
  right_reads (k := fun p => k (head p)) (v := fun p => v (head p)) (g := fun p => g (head p)) (β := fun p => β (head p))
    (keys_reads h) (vals_reads h) (betas_reads h) (decays_reads h)

theorem couplings_reads (h : Rows X G q k v g β o) :
    Reads (couplings X G) fun p => coupling (c := 64) (k (head p)) (g (head p)) (β (head p)) (base o p) :=
  coupling_reads (q := fun p => q (head p)) (k := fun p => k (head p)) (g := fun p => g (head p)) (β := fun p => β (head p))
    (queries_reads h) (keys_reads h) (betas_reads h) (decays_reads h)

theorem attends_reads (h : Rows X G q k v g β o) :
    Reads (attends X G) fun p i j => attend (q (head p)) (k (head p)) (g (head p)) (base o p) i.val j.val :=
  attend_reads (q := fun p => q (head p)) (k := fun p => k (head p)) (g := fun p => g (head p)) (β := fun p => β (head p))
    (queries_reads h) (keys_reads h) (betas_reads h) (decays_reads h)

/-- The solution's two halves. -/
def sol (k v : ℕ → Fin 128 → ℝ) (g β : ℕ → ℝ) (o : ℕ) (i : Fin 64) (j : Fin 256) : ℝ :=
  if h : j.val < 128 then solOld (c := 64) k g β 6 o i ⟨j.val, h⟩ else solNew (c := 64) k v g β 6 o i ⟨j.val - 128, by omega⟩

theorem doubled_right (k v : ℕ → Fin 128 → ℝ) (g β : ℕ → ℝ) (o : ℕ) (i : Fin 64) (j : Fin 256) :
    doubled (coupling (c := 64) k g β o) (right k v g β o) 6 i j = sol k v g β o i j := by
  unfold sol
  by_cases h : j.val < 128
  · rw [dif_pos h]
    exact doubled_column _ _ _ _ _ (fun i => by unfold right; rw [dif_pos h]) 6 i
  · rw [dif_neg h]
    exact doubled_column _ _ _ _ _ (fun i => by unfold right; rw [dif_neg h]) 6 i

/-- The solution of every problem, rounded. -/
theorem sol_reads (h : Rows X G q k v g β o) :
    Reads (solBf (rights X G) (couplings X G)) fun p => sol (k (head p)) (v (head p)) (g (head p)) (β (head p)) (base o p) := by
  intro p i j
  have hs := (solved_reads (rights_reads h) (couplings_reads h) p i j).trans (congrArg _ (doubled_right _ _ _ _ _ i j))
  unfold solBf sum4 power4Hi power4Lo joined4Hi joined4Lo
  pointwise [k0_pay141]
  rw [solved]
  exact hs

/-- The decayed keys times the solution. -/
theorem keysSol_reads (h : Rows X G q k v g β o) :
    Reads (keysSol (rights X G) (couplings X G) (keys X) (decays G)) fun p d j =>
      ∑ i : Fin 64, decayed (k (head p)) (g (head p)) 64 (base o p) i.val d
        * sol (k (head p)) (v (head p)) (g (head p)) (β (head p)) (base o p) i j := by
  intro p d j
  unfold keysSol sum4 power4Hi power4Lo joined4Hi joined4Lo
  pointwise [k0_pay139, k0_pay138]
  rw [solved]
  refine sum_mul _ _ _ _ (fun i => ?_) (fun i => ?_)
  · rw [keys_reads h, decays_reads h, decays_reads h, ← EReal.coe_sub, Ideal.exp_coe, ← EReal.coe_mul]
    rfl
  · exact (solved_reads (rights_reads h) (couplings_reads h) p i j).trans (congrArg _ (doubled_right _ _ _ _ _ i j))

theorem matA_reads (h : Rows X G q k v g β o) : Reads (matA X G) fun p d d' =>
    ∑ i : Fin 64, decayed (k (head p)) (g (head p)) 64 (base o p) i.val d
      * solOld (c := 64) (k (head p)) (g (head p)) (β (head p)) 6 (base o p) i d' := by
  intro p d d'
  pointwise [matA, k0_pay144]
  refine (keysSol_reads h p d ⟨d'.val, by omega⟩).trans ?_
  unfold sol
  simp only [dif_pos d'.isLt]

theorem matB_reads (h : Rows X G q k v g β o) : Reads (matB X G) fun p d e =>
    ∑ i : Fin 64, decayed (k (head p)) (g (head p)) 64 (base o p) i.val d
      * solNew (c := 64) (k (head p)) (v (head p)) (g (head p)) (β (head p)) 6 (base o p) i e := by
  intro p d e
  pointwise [matB, k0_pay145]
  refine (keysSol_reads h p d ⟨128 + e.val, by omega⟩).trans ?_
  unfold sol
  simp only [dif_neg (show ¬ 128 + e.val < 128 by omega), Nat.add_sub_cancel_left]

theorem matT_reads (h : Rows X G q k v g β o) : Reads (matT X G) fun p i d =>
    q (head p) (base o p + i.val) d * Real.exp (gather (g (head p)) (base o p) (i.val + 1))
      - ∑ j : Fin 64, attend (q (head p)) (k (head p)) (g (head p)) (base o p) i.val j.val
        * solOld (c := 64) (k (head p)) (g (head p)) (β (head p)) 6 (base o p) j d := by
  intro p i d
  pointwise [matT, k0_pay143, k0_pay142, k0_pay140]
  rw [queries_reads h, growth_reads (g := fun p => g (head p)) (decays_reads h), ← EReal.coe_mul, EReal.coe_sub]
  congr 1
  refine sum_mul _ _ _ _ (fun j => attends_reads h p i j) (fun j => (sol_reads h p j ⟨d.val, by omega⟩).trans ?_)
  unfold sol
  simp only [dif_pos d.isLt]

theorem matO_reads (h : Rows X G q k v g β o) : Reads (matO X G) fun p i e =>
    ∑ j : Fin 64, attend (q (head p)) (k (head p)) (g (head p)) (base o p) i.val j.val
      * solNew (c := 64) (k (head p)) (v (head p)) (g (head p)) (β (head p)) 6 (base o p) j e := by
  intro p i e
  pointwise [matO, k0_pay146, k0_pay142, k0_pay140]
  refine sum_mul _ _ _ _ (fun j => attends_reads h p i j) (fun j => (sol_reads h p j ⟨128 + e.val, by omega⟩).trans ?_)
  unfold sol
  simp only [dif_neg (show ¬ 128 + e.val < 128 by omega), Nat.add_sub_cancel_left]

theorem matE_reads (h : Rows X G q k v g β o) : Reads (matE G) fun p _ _ => Real.exp (gather (g (head p)) (base o p) 64) := by
  intro p i d
  pointwise [matE, k0_pay147, k0_pay138]
  rw [decays_reads h, Ideal.exp_coe]
  first
    | rfl
    | (congr 3; omega)

end Cert.DeltaIdeal.Intra

end
-- ==== Proof.DeltaBlocks.lean ====
/- Where the blocks of the delta rule's kernel lie in its arguments: point `t` of the grid is the tile of 256 tokens number
   `t`, and eight tiles make one prompt. -/
module

public import proofs.«01_k».proof.Proof.Layer
public import proofs.«01_k».proof.Proof.DeltaSpec
public import proofs.«01_k».proof.Proof.DeltaIntra
public import proofs.«01_k».proof.Proof.Gen.DeltaIdeal.Value

@[expose] public section

set_option maxRecDepth 16384

noncomputable section

namespace Cert.DeltaIdeal.Blocks

open Cert.DeltaIdeal Cert.DeltaIdeal.Gen Cert.DeltaSpec Idealize.ShloMosaic Idealize.ShloMosaic.TcCoe

variable (m : (ℓ : Loc nD τ sig) → Buf (Elt Ideal) ℓ) (c : Dev nD)

/-! ## The arguments by name -/

abbrev argQkv : Vec Ideal S16384x1536 .f32 := m ((c : Thread nD τ).loc main_arg0)
abbrev argGb : Vec Ideal S16384x128 .f32 := m ((c : Thread nD τ).loc main_arg1)
abbrev argS0 : Vec Ideal S8x4x128x128 .f32 := m ((c : Thread nD τ).loc main_arg2)

/-- The arguments hold real numbers. -/
structure Real (X : Fin 16384 → Fin 1536 → ℝ) (G : Fin 16384 → Fin 128 → ℝ) (s0 : Fin 8 → Fin 4 → Fin 128 → Fin 128 → ℝ) : Prop where
  qkv : ∀ R j, argQkv m c (ix2 R j) = ((X R j : ℝ) : EReal)
  gb : ∀ R j, argGb m c (ix2 R j) = ((G R j : ℝ) : EReal)
  s0 : ∀ b h d e, argS0 m c (ix4 b h d e) = ((s0 b h d e : ℝ) : EReal)

/-! ## The grid -/

theorem lt_N (t : Fin cfg0.N) : t.val < 64 := lt_of_lt_of_eq t.isLt Gen.N_0

/-- The prompt that the tile of point `n` belongs to. -/
abbrev seqOf (n : ℕ) (hn : n < 64) : Fin 8 := ⟨n / 8, by omega⟩

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 4) = t.val / 8 ∧ win0_2.index t (1 : Fin 4) = 0
    ∧ win0_2.index t (2 : Fin 4) = 0 ∧ win0_2.index t (3 : Fin 4) = 0 := by decide +kernel

/-! ## The blocks at an index -/

theorem blk_qkv (t : Fin cfg0.N) (r : Fin 256) (j : Fin 1536) :
    (iblk m c 0 t : Vec Ideal S256x1536 .f32) (ix2 r j) = argQkv m c (ix2 ⟨256 * t.val + r.val, by have := lt_N t; omega⟩ j) := by
  have hi := idx0 t
  unfold iblk
  rw [View.read_apply]
  show V m c main_arg0 _ = _
  rw [V_main_arg0]
  congr 1
  funext a
  apply Fin.ext
  match a with
  | ⟨0, _⟩ => show win0_0.index t 0 * 256 + 1 * r.val = 256 * t.val + r.val; rw [hi.1]; omega
  | ⟨1, _⟩ => show win0_0.index t 1 * 1536 + 1 * j.val = j.val; rw [hi.2]; omega

theorem blk_gb (t : Fin cfg0.N) (r : Fin 256) (j : Fin 128) :
    (iblk m c 1 t : Vec Ideal S256x128 .f32) (ix2 r j) = argGb m c (ix2 ⟨256 * t.val + r.val, by have := lt_N t; omega⟩ j) := by
  have hi := idx1 t
  unfold iblk
  rw [View.read_apply]
  show V m c main_arg1 _ = _
  rw [V_main_arg1]
  congr 1
  funext a
  apply Fin.ext
  match a with
  | ⟨0, _⟩ => show win0_1.index t 0 * 256 + 1 * r.val = 256 * t.val + r.val; rw [hi.1]; omega
  | ⟨1, _⟩ => show win0_1.index t 1 * 128 + 1 * j.val = j.val; rw [hi.2]; omega

theorem blk_s0 (t : Fin cfg0.N) (h : Fin 4) (d e : Fin 128) :
    (iblk m c 2 t : Vec Ideal S1x4x128x128 .f32) (ix4 0 h d e) = argS0 m c (ix4 (seqOf t.val (lt_N t)) h d e) := by
  have hi := idx2 t
  unfold iblk
  rw [View.read_apply]
  show V m c main_arg2 _ = _
  rw [V_main_arg2]
  congr 1
  funext a
  apply Fin.ext
  match a with
  | ⟨0, _⟩ => show win0_2.index t 0 * 1 + 1 * 0 = t.val / 8; rw [hi.1]; omega
  | ⟨1, _⟩ => show win0_2.index t 1 * 4 + 1 * h.val = h.val; rw [hi.2.1]; omega
  | ⟨2, _⟩ => show win0_2.index t 2 * 128 + 1 * d.val = d.val; rw [hi.2.2.1]; omega
  | ⟨3, _⟩ => show win0_2.index t 3 * 128 + 1 * e.val = e.val; rw [hi.2.2.2]; omega

variable {m c}
variable {X : Fin 16384 → Fin 1536 → ℝ} {G : Fin 16384 → Fin 128 → ℝ} {s0 : Fin 8 → Fin 4 → Fin 128 → Fin 128 → ℝ}

theorem token_tile (t : Fin cfg0.N) (r : Fin 256) :
    (⟨256 * t.val + r.val, by have := lt_N t; omega⟩ : Fin 16384) = token (seqOf t.val (lt_N t)) (256 * (t.val % 8) + r.val) := by
  have := lt_N t
  apply Fin.ext
  show 256 * t.val + r.val = (2048 * (t.val / 8) + (256 * (t.val % 8) + r.val)) % 16384
  omega

/-- A tile's two blocks hold the tokens of its prompt from the tile's first on. -/
theorem rows (hR : Real m c X G s0) (t : Fin cfg0.N) :
    Intra.Rows (iblk m c 0 t) (iblk m c 1 t) (query X (seqOf t.val (lt_N t))) (key X (seqOf t.val (lt_N t)))
      (value X (seqOf t.val (lt_N t))) (decay G (seqOf t.val (lt_N t))) (scale G (seqOf t.val (lt_N t))) (256 * (t.val % 8)) where
  q r h d := by rw [blk_qkv, hR.qkv, token_tile]; rfl
  k r h d := by rw [blk_qkv, hR.qkv, token_tile]; rfl
  v r h d := by rw [blk_qkv, hR.qkv, token_tile]; rfl
  g r h := by rw [blk_gb, hR.gb, token_tile]; rfl
  β r h := by rw [blk_gb, hR.gb, token_tile]; rfl

end Cert.DeltaIdeal.Blocks

end
-- ==== Proof.DeltaTerms.lean ====
/- What the delta rule's body leaves in the carried state and in its output blocks, case by case, as the tile's words. -/
module

public import proofs.«01_k».proof.Proof.DeltaWords
public import proofs.«01_k».proof.Proof.Gen.DeltaIdeal.Value
public import Idealize.ShloMosaic.Lib.Pipeline.ValueKit
public import Idealize.ShloMosaic.Lib.ValueIdx
public import proofs.«01_k».proof.Proof.Layer

@[expose] public section

set_option maxRecDepth 16384

noncomputable section

namespace Cert.DeltaIdeal.Terms

open Cert.DeltaIdeal Cert.DeltaIdeal.Gen Cert.DeltaIdeal.Words Idealize.ShloMosaic Idealize.ShloMosaic.TcCoe

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (c : Dev nD) (i : grid0.Coords)
  (a2 : Memref sig .tc .vmem S256x1536 .f32) (h2 : a2.IsWhole)
  (a3 : Memref sig .tc .vmem S256x128 .f32) (h3 : a3.IsWhole)
  (a4 : Memref sig .tc .vmem S1x4x128x128 .f32) (h4 : a4.IsWhole)
  (a5 : Memref sig .tc .vmem S256x512 .f32) (h5 : a5.IsWhole)
  (a6 : Memref sig .tc .vmem S1x4x128x128 .f32) (h6 : a6.IsWhole)
  (a7 : Memref sig .tc .vmem S4x128x128 .f32) (h7 : a7.IsWhole)
  (x0 : Vec F S256x1536 .f32) (x1 : Vec F S256x128 .f32) (x2 : Vec F S1x4x128x128 .f32) (s : Vec F S4x128x128 .f32)

/-- A batch's first tile leaves the state after it, from the state the batch starts with. -/
theorem state_first (hc0 : cond0_0 i) (hc1 : ¬cond0_1 i) :
    sout0_A_0 c i a2 h2 a3 h3 a4 h4 a5 h5 a6 h6 a7 h7 hc0 hc1 x0 x1 x2 = k0_pay1 (tileState x0 x1 (k0_pay3 x2)) := by
  unfold sout0_A_0
  rw [View.read_writes_eq_canon _ _ _ (scover0_A_0 c i a2 h2 a3 h3 a4 h4 a5 h5 a6 h6 a7 h7 hc0 hc1 x0 x1 x2)]
  unfold kernelRun0_A
  dsimp only
  sl_unfold_words
  rw [View.canon_cons_unit_zero (S := S4x128x128) hz3]
  simp only [View.readCov_unit_zero (S := S4x128x128) _ hz3]
  simp only [View.readAt_eq_ld, h2.read_unread, h3.read_unread, h4.read_unread, h5.read_unread, h6.read_unread, h7.read_unread,
    View.ld_unit_zero (S := S256x1536) hz2, View.ld_unit_zero (S := S256x128) hz2, View.ld_unit_zero (S := S1x4x128x128) hz4,
    View.ld_unit_zero (S := S4x128x128) hz3]
  rfl

/-- A later tile leaves the state after it, from the state it found. -/
theorem state_mid (hc0 : ¬cond0_0 i) (hc1 : ¬cond0_1 i) :
    sout0_B_0 c i a2 h2 a3 h3 a4 h4 a5 h5 a6 h6 a7 h7 hc0 hc1 x0 x1 x2 s = k0_pay1 (tileState x0 x1 s) := by
  unfold sout0_B_0
  rw [View.read_writes_eq_canon _ _ _ (scover0_B_0 c i a2 h2 a3 h3 a4 h4 a5 h5 a6 h6 a7 h7 hc0 hc1 x0 x1 x2 s)]
  unfold kernelRun0_B
  dsimp only
  sl_unfold_words
  rw [View.canon_cons_unit_zero (S := S4x128x128) hz3]
  simp only [View.readAt_eq_ld, h2.read_unread, h3.read_unread, h4.read_unread, h5.read_unread, h6.read_unread, h7.read_unread,
    View.ld_unit_zero (S := S256x1536) hz2, View.ld_unit_zero (S := S256x128) hz2, View.ld_unit_zero (S := S1x4x128x128) hz4,
    View.ld_unit_zero (S := S4x128x128) hz3]
  rfl

/-- So does a batch's last tile. -/
theorem state_last (hc0 : ¬cond0_0 i) (hc1 : cond0_1 i) :
    sout0_C_0 c i a2 h2 a3 h3 a4 h4 a5 h5 a6 h6 a7 h7 hc0 hc1 x0 x1 x2 s = k0_pay1 (tileState x0 x1 s) := by
  unfold sout0_C_0
  rw [View.read_writes_eq_canon _ _ _ (scover0_C_0 c i a2 h2 a3 h3 a4 h4 a5 h5 a6 h6 a7 h7 hc0 hc1 x0 x1 x2 s)]
  unfold kernelRun0_C
  dsimp only
  sl_unfold_words
  rw [View.canon_cons_unit_zero (S := S4x128x128) hz3]
  simp only [View.readAt_eq_ld, h2.read_unread, h3.read_unread, h4.read_unread, h5.read_unread, h6.read_unread, h7.read_unread,
    View.ld_unit_zero (S := S256x1536) hz2, View.ld_unit_zero (S := S256x128) hz2, View.ld_unit_zero (S := S1x4x128x128) hz4,
    View.ld_unit_zero (S := S4x128x128) hz3]
  rfl

/-- The last tile of a batch hands the state on. -/
theorem final_last (hc0 : ¬cond0_0 i) (hc1 : cond0_1 i) :
    out0_C_4 c i a2 h2 a3 h3 a4 h4 a5 h5 a6 h6 a7 h7 hc0 hc1 x0 x1 x2 s = k0_pay2 (tileState x0 x1 s) := by
  unfold out0_C_4
  rw [View.read_writes_eq_canon _ _ _ (cover0_C_4 c i a2 h2 a3 h3 a4 h4 a5 h5 a6 h6 a7 h7 hc0 hc1 x0 x1 x2 s)]
  unfold kernelRun0_C
  dsimp only
  sl_unfold_words
  rw [View.canon_unit_zero (S := S1x4x128x128) hz4]
  simp only [View.readAt_eq_ld, h2.read_unread, h3.read_unread, h4.read_unread, h5.read_unread, h6.read_unread, h7.read_unread,
    View.ld_unit_zero (S := S256x1536) hz2, View.ld_unit_zero (S := S256x128) hz2, View.ld_unit_zero (S := S1x4x128x128) hz4,
    View.ld_unit_zero (S := S4x128x128) hz3]
  rfl

/-- One head of a chunk's outputs. -/
theorem head_apply (O : FVec F S4x64x128 .f32) (x : S64x128.Idx) :
    shapeCast S64x128 (extractStridedSlice S1x64x128 ![0, 0, 0] O slices_S4x64x128_o0_0_0_S1x64x128) shapeCasts_S1x64x128_S64x128 x = O (ix3 0 (x 0) (x 1))
    ∧ shapeCast S64x128 (extractStridedSlice S1x64x128 ![1, 0, 0] O slices_S4x64x128_o1_0_0_S1x64x128) shapeCasts_S1x64x128_S64x128 x = O (ix3 1 (x 0) (x 1))
    ∧ shapeCast S64x128 (extractStridedSlice S1x64x128 ![2, 0, 0] O slices_S4x64x128_o2_0_0_S1x64x128) shapeCasts_S1x64x128_S64x128 x = O (ix3 2 (x 0) (x 1))
    ∧ shapeCast S64x128 (extractStridedSlice S1x64x128 ![3, 0, 0] O slices_S4x64x128_o3_0_0_S1x64x128) shapeCasts_S1x64x128_S64x128 x = O (ix3 3 (x 0) (x 1)) := by
  refine ⟨?_, ?_, ?_, ?_⟩ <;> · pointwise []

/-- The block of outputs of a tile: row `64 i + r`, column `128 h + e` holds row `r` of head `h` of chunk `i`. -/
def tileOut (X : FVec F S256x1536 .f32) (G : FVec F S256x128 .f32) (S : FVec F S4x128x128 .f32) (y : S256x512.Idx) : Elt F .f32 :=
  tileOuts X G S ⟨(y 0).val / 64, by have : (y 0).val < 256 := (y 0).isLt; omega⟩
    (ix3 ⟨(y 1).val / 128, by have : (y 1).val < 512 := (y 1).isLt; omega⟩ ⟨(y 0).val % 64, by omega⟩ ⟨(y 1).val % 128, by omega⟩)

/-- A chunk's rows of a tile's block. -/
theorem chunk_piece (j : ℕ) (hj : j < 4) (X : FVec F S256x1536 .f32) (G : FVec F S256x128 .f32) (S : FVec F S4x128x128 .f32) (y : S256x512.Idx)
    (x : S64x128.Idx) {v : Elt F .f32}
    (hv : v = tileOuts X G S ⟨j, hj⟩ (ix3 ⟨(y 1).val / 128, by have : (y 1).val < 512 := (y 1).isLt; omega⟩ (x 0) ⟨(y 1).val % 128, by omega⟩))
    (h0 : (y 0).val = 64 * j + (x 0).val) : v = tileOut X G S y := by
  have b0 : (x 0).val < 64 := (x 0).isLt
  rw [hv]
  unfold tileOut
  rw [show (⟨(y 0).val / 64, by have : (y 0).val < 256 := (y 0).isLt; omega⟩ : Fin 4) = ⟨j, hj⟩ from Fin.ext (by dsimp only; omega),
    show (⟨(y 0).val % 64, by omega⟩ : Fin 64) = x 0 from Fin.ext (by dsimp only; omega)]

/-- A head's columns of a chunk's rows. -/
theorem head_piece (h : ℕ) (hh : h < 4) (O : FVec F S4x64x128 .f32) (y : S256x512.Idx) (x : S64x128.Idx) {v : Elt F .f32}
    (hv : v = O (ix3 ⟨h, hh⟩ (x 0) (x 1))) (h1 : (y 1).val = 128 * h + (x 1).val) :
    v = O (ix3 ⟨(y 1).val / 128, by have : (y 1).val < 512 := (y 1).isLt; omega⟩ (x 0) ⟨(y 1).val % 128, by omega⟩) := by
  have b1 : (x 1).val < 128 := (x 1).isLt
  rw [hv]
  congr 2
  · exact Fin.ext (by dsimp only; omega)
  · exact Fin.ext (by dsimp only; omega)

/-- What a batch's first tile leaves in its block of outputs. -/
theorem out_first (hc0 : cond0_0 i) (hc1 : ¬cond0_1 i) (y : S256x512.Idx) :
    out0_A_3 c i a2 h2 a3 h3 a4 h4 a5 h5 a6 h6 a7 h7 hc0 hc1 x0 x1 x2 y = tileOut x0 x1 (k0_pay3 x2) y := by
  unfold out0_A_3
  rw [View.read_writes_eq_canon _ _ _ (cover0_A_3 c i a2 h2 a3 h3 a4 h4 a5 h5 a6 h6 a7 h7 hc0 hc1 x0 x1 x2)]
  unfold kernelRun0_A
  dsimp only
  sl_unfold_words
  simp only [View.readCov_unit_zero (S := S4x128x128) _ hz3]
  simp only [View.readAt_eq_ld, h2.read_unread, h3.read_unread, h4.read_unread, h5.read_unread, h6.read_unread, h7.read_unread,
    View.ld_unit_zero (S := S256x1536) hz2, View.ld_unit_zero (S := S256x128) hz2, View.ld_unit_zero (S := S1x4x128x128) hz4,
    View.ld_unit_zero (S := S4x128x128) hz3]
  canon_tiles x ha
  all_goals first
    | refine chunk_piece 0 (by decide) x0 x1 (k0_pay3 x2) y x ?_ (by omega)
    | refine chunk_piece 1 (by decide) x0 x1 (k0_pay3 x2) y x ?_ (by omega)
    | refine chunk_piece 2 (by decide) x0 x1 (k0_pay3 x2) y x ?_ (by omega)
    | refine chunk_piece 3 (by decide) x0 x1 (k0_pay3 x2) y x ?_ (by omega)
  all_goals first
    | (refine head_piece 0 (by decide) _ y x ?_ (by omega); exact (head_apply _ x).1)
    | (refine head_piece 1 (by decide) _ y x ?_ (by omega); exact (head_apply _ x).2.1)
    | (refine head_piece 2 (by decide) _ y x ?_ (by omega); exact (head_apply _ x).2.2.1)
    | (refine head_piece 3 (by decide) _ y x ?_ (by omega); exact (head_apply _ x).2.2.2)

/-- What a later tile leaves in its block of outputs. -/
theorem out_mid (hc0 : ¬cond0_0 i) (hc1 : ¬cond0_1 i) (y : S256x512.Idx) :
    out0_B_3 c i a2 h2 a3 h3 a4 h4 a5 h5 a6 h6 a7 h7 hc0 hc1 x0 x1 x2 s y = tileOut x0 x1 s y := by
  unfold out0_B_3
  rw [View.read_writes_eq_canon _ _ _ (cover0_B_3 c i a2 h2 a3 h3 a4 h4 a5 h5 a6 h6 a7 h7 hc0 hc1 x0 x1 x2 s)]
  unfold kernelRun0_B
  dsimp only
  sl_unfold_words
  simp only [View.readAt_eq_ld, h2.read_unread, h3.read_unread, h4.read_unread, h5.read_unread, h6.read_unread, h7.read_unread,
    View.ld_unit_zero (S := S256x1536) hz2, View.ld_unit_zero (S := S256x128) hz2, View.ld_unit_zero (S := S1x4x128x128) hz4,
    View.ld_unit_zero (S := S4x128x128) hz3]
  canon_tiles x ha
  all_goals first
    | refine chunk_piece 0 (by decide) x0 x1 s y x ?_ (by omega)
    | refine chunk_piece 1 (by decide) x0 x1 s y x ?_ (by omega)
    | refine chunk_piece 2 (by decide) x0 x1 s y x ?_ (by omega)
    | refine chunk_piece 3 (by decide) x0 x1 s y x ?_ (by omega)
  all_goals first
    | (refine head_piece 0 (by decide) _ y x ?_ (by omega); exact (head_apply _ x).1)
    | (refine head_piece 1 (by decide) _ y x ?_ (by omega); exact (head_apply _ x).2.1)
    | (refine head_piece 2 (by decide) _ y x ?_ (by omega); exact (head_apply _ x).2.2.1)
    | (refine head_piece 3 (by decide) _ y x ?_ (by omega); exact (head_apply _ x).2.2.2)

/-- What a batch's last tile leaves in its block of outputs. -/
theorem out_last (hc0 : ¬cond0_0 i) (hc1 : cond0_1 i) (y : S256x512.Idx) :
    out0_C_3 c i a2 h2 a3 h3 a4 h4 a5 h5 a6 h6 a7 h7 hc0 hc1 x0 x1 x2 s y = tileOut x0 x1 s y := by
  unfold out0_C_3
  rw [View.read_writes_eq_canon _ _ _ (cover0_C_3 c i a2 h2 a3 h3 a4 h4 a5 h5 a6 h6 a7 h7 hc0 hc1 x0 x1 x2 s)]
  unfold kernelRun0_C
  dsimp only
  sl_unfold_words
  simp only [View.readAt_eq_ld, h2.read_unread, h3.read_unread, h4.read_unread, h5.read_unread, h6.read_unread, h7.read_unread,
    View.ld_unit_zero (S := S256x1536) hz2, View.ld_unit_zero (S := S256x128) hz2, View.ld_unit_zero (S := S1x4x128x128) hz4,
    View.ld_unit_zero (S := S4x128x128) hz3]
  canon_tiles x ha
  all_goals first
    | refine chunk_piece 0 (by decide) x0 x1 s y x ?_ (by omega)
    | refine chunk_piece 1 (by decide) x0 x1 s y x ?_ (by omega)
    | refine chunk_piece 2 (by decide) x0 x1 s y x ?_ (by omega)
    | refine chunk_piece 3 (by decide) x0 x1 s y x ?_ (by omega)
  all_goals first
    | (refine head_piece 0 (by decide) _ y x ?_ (by omega); exact (head_apply _ x).1)
    | (refine head_piece 1 (by decide) _ y x ?_ (by omega); exact (head_apply _ x).2.1)
    | (refine head_piece 2 (by decide) _ y x ?_ (by omega); exact (head_apply _ x).2.2.1)
    | (refine head_piece 3 (by decide) _ y x ?_ (by omega); exact (head_apply _ x).2.2.2)

end Cert.DeltaIdeal.Terms

end
-- ==== Proof.DeltaStep.lean ====
/- A tile of 256 tokens: from the state before it the body makes the state after it and the 256 outputs, chunk by chunk,
   as the delta rule does token by token. -/
module

public import proofs.«01_k».proof.Proof.DeltaIntra

@[expose] public section

set_option maxRecDepth 16384

noncomputable section

namespace Cert.DeltaIdeal.Step

open Cert.DeltaIdeal Cert.DeltaIdeal.Gen Cert.DeltaIdeal.Words Cert.DeltaIdeal.Problem Cert.DeltaIdeal.Intra
open Idealize.ShloMosaic Cert.DeltaMath Cert.DeltaReal

/-! ## One chunk, of real matrices -/

section Chunk

variable {A B : FVec Ideal S4x128x128 .f32} {T O : FVec Ideal S4x64x128 .f32} {E : FVec Ideal S4x1x128 .f32}
  {S : FVec Ideal S4x128x128 .f32} {a b s : Fin 4 → Fin 128 → Fin 128 → ℝ} {t w : Fin 4 → Fin 64 → Fin 128 → ℝ} {e : Fin 4 → ℝ}

theorem applied_top (hA : Reads A a) (hS : Reads S s) (h : Fin 4) (d : Fin 128) (f : Fin 128) :
    applied A T S (ix3 h ⟨d.val, by omega⟩ f) = ((∑ d', a h d d' * s h d' f : ℝ) : EReal) := by
  pointwise [applied, hi]
  exact sum_mul _ _ _ _ (fun d' => hA h d d') (fun d' => hS h d' f)

theorem applied_bottom (hT : Reads T t) (hS : Reads S s) (h : Fin 4) (i : Fin 64) (f : Fin 128) :
    applied A T S (ix3 h ⟨128 + i.val, by omega⟩ f) = ((∑ d', t h i d' * s h d' f : ℝ) : EReal) := by
  pointwise [applied, hi]
  exact sum_mul _ _ _ _ (fun d' => hT h i d') (fun d' => hS h d' f)

theorem after_reads (hA : Reads A a) (hB : Reads B b) (hE : Reads E fun h _ _ => e h) (hS : Reads S s) :
    Reads (after A B T E S) fun h d f => s h d f * e h - ∑ d', a h d d' * s h d' f + b h d f := by
  intro h d f
  pointwise [after]
  rw [hS, hE, hB, applied_top hA hS, ← EReal.coe_mul, ← EReal.coe_sub, ← EReal.coe_add]

theorem outs_reads (hT : Reads T t) (hO : Reads O w) (hS : Reads S s) :
    Reads (outs A T O S) fun h i f => ∑ d', t h i d' * s h d' f + w h i f := by
  intro h i f
  pointwise [outs]
  rw [hO, applied_bottom hT hS, ← EReal.coe_add]

end Chunk

/-- Problem `h` of chunk `c`. -/
def prob (c : Fin 4) (h : Fin 4) : Fin 16 := ⟨4 * c.val + h.val, by omega⟩

theorem head_prob (c h : Fin 4) : head (prob c h) = h := Fin.ext (by show (4 * c.val + h.val) % 4 = h.val; omega)

theorem base_prob (o : ℕ) (c h : Fin 4) : base o (prob c h) = o + 64 * c.val := by
  show o + 64 * ((4 * c.val + h.val) / 4) = _
  omega

variable {X : FVec Ideal S256x1536 .f32} {G : FVec Ideal S256x128 .f32} {q k v : Fin 4 → ℕ → Fin 128 → ℝ}
  {g β : Fin 4 → ℕ → ℝ} {o : ℕ} {S : FVec Ideal S4x128x128 .f32} {s0 : Fin 4 → Fin 128 → Fin 128 → ℝ}

/-- The state before token `n` of each head, as the stacked array `S`. -/
def Holds (S : FVec Ideal S4x128x128 .f32) (k v : Fin 4 → ℕ → Fin 128 → ℝ) (g β : Fin 4 → ℕ → ℝ)
    (s0 : Fin 4 → Fin 128 → Fin 128 → ℝ) (n : ℕ) : Prop :=
  Reads S fun h d e => state (k h) (v h) (g h) (β h) (s0 h) n d e

/-- Matrices cut to a chunk's four problems carry the state over the chunk. -/
theorem after_holds {A B : FVec Ideal S4x128x128 .f32} {T : FVec Ideal S4x64x128 .f32} {E : FVec Ideal S4x1x128 .f32} (c : Fin 4)
    (h : Rows X G q k v g β o)
    (hA : ∀ h d e, A (ix3 h d e) = matA X G (ix3 (prob c h) d e)) (hB : ∀ h d e, B (ix3 h d e) = matB X G (ix3 (prob c h) d e))
    (hE : ∀ h d e, E (ix3 h d e) = matE G (ix3 (prob c h) d e)) (hS : Holds S k v g β s0 (o + 64 * c.val)) :
    Holds (after A B T E S) k v g β s0 (o + 64 * (c.val + 1)) := by
  intro h' d e
  refine (after_reads (fun h' d e => (hA h' d e).trans (matA_reads h _ d e)) (fun h' d e => (hB h' d e).trans (matB_reads h _ d e))
    (e := fun h' => Real.exp (gather (g (head (prob c h'))) (base o (prob c h')) 64))
    (fun h' d e => (hE h' d e).trans (matE_reads h _ d e)) hS h' d e).trans (congrArg _ ?_)
  simp only [head_prob, base_prob]
  rw [Nat.mul_add, Nat.mul_one, ← Nat.add_assoc]
  exact (chunk_state (c := 64) (k h') (v h') (g h') (β h') (s0 h') (o + 64 * c.val) 6 (by norm_num) d e).symm

/-- … and give its outputs. -/
theorem outs_holds {A : FVec Ideal S4x128x128 .f32} {T O : FVec Ideal S4x64x128 .f32} (c : Fin 4)
    (h : Rows X G q k v g β o)
    (hT : ∀ h i e, T (ix3 h i e) = matT X G (ix3 (prob c h) i e)) (hO : ∀ h i e, O (ix3 h i e) = matO X G (ix3 (prob c h) i e))
    (hS : Holds S k v g β s0 (o + 64 * c.val)) :
    Reads (outs A T O S) fun h i e => out (q h) (k h) (v h) (g h) (β h) (s0 h) (o + 64 * c.val + i.val) e := by
  intro h' i e
  refine (outs_reads (fun h' i e => (hT h' i e).trans (matT_reads h _ i e)) (fun h' i e => (hO h' i e).trans (matO_reads h _ i e))
    hS h' i e).trans (congrArg _ ?_)
  simp only [head_prob, base_prob]
  exact (chunk_out (c := 64) (q h') (k h') (v h') (g h') (β h') (s0 h') (o + 64 * c.val) 6 (by norm_num) i e).symm

/-! ## The four chunks of a tile -/

theorem cut_square (c : Fin 4) (n : ℕ) (hn : n = 4 * c.val) (A : FVec Ideal S16x128x128 .f32) (hs : S16x128x128.Slices ![n, 0, 0] S4x128x128)
    (h : Fin 4) (d : Fin 128) (e : Fin 128) : extractStridedSlice S4x128x128 ![n, 0, 0] A hs (ix3 h d e) = A (ix3 (prob c h) d e) := by
  subst hn
  pointwise
  rfl

theorem cut_rows (c : Fin 4) (n : ℕ) (hn : n = 4 * c.val) (A : FVec Ideal S16x64x128 .f32) (hs : S16x64x128.Slices ![n, 0, 0] S4x64x128)
    (h : Fin 4) (d : Fin 64) (e : Fin 128) : extractStridedSlice S4x64x128 ![n, 0, 0] A hs (ix3 h d e) = A (ix3 (prob c h) d e) := by
  subst hn
  pointwise
  rfl

theorem cut_line (c : Fin 4) (n : ℕ) (hn : n = 4 * c.val) (A : FVec Ideal S16x1x128 .f32) (hs : S16x1x128.Slices ![n, 0, 0] S4x1x128)
    (h : Fin 4) (d : Fin 1) (e : Fin 128) : extractStridedSlice S4x1x128 ![n, 0, 0] A hs (ix3 h d e) = A (ix3 (prob c h) d e) := by
  subst hn
  obtain rfl : d = 0 := Subsingleton.elim _ _
  pointwise
  rfl

theorem after0_holds (h : Rows X G q k v g β o) (hS : Holds S k v g β s0 o) :
    Holds (after0 (matA X G) (matB X G) (matT X G) (matE G) S) k v g β s0 (o + 64) :=
  after_holds 0 h (cut_square 0 0 rfl _ _) (cut_square 0 0 rfl _ _) (cut_line 0 0 rfl _ _) hS

theorem outs0_holds (h : Rows X G q k v g β o) (hS : Holds S k v g β s0 o) :
    Reads (outs0 (matA X G) (matT X G) (matO X G) S) fun h i e => out (q h) (k h) (v h) (g h) (β h) (s0 h) (o + 0 + i.val) e :=
  outs_holds 0 h (cut_rows 0 0 rfl _ _) (cut_rows 0 0 rfl _ _) hS

theorem after1_holds (h : Rows X G q k v g β o) (hS : Holds S k v g β s0 o) :
    Holds (after1 (matA X G) (matB X G) (matT X G) (matE G) S) k v g β s0 (o + 128) :=
  after_holds 1 h (cut_square 1 4 rfl _ _) (cut_square 1 4 rfl _ _) (cut_line 1 4 rfl _ _) (after0_holds h hS)

theorem outs1_holds (h : Rows X G q k v g β o) (hS : Holds S k v g β s0 o) :
    Reads (outs1 (matA X G) (matB X G) (matT X G) (matO X G) (matE G) S) fun h i e => out (q h) (k h) (v h) (g h) (β h) (s0 h) (o + 64 + i.val) e :=
  outs_holds 1 h (cut_rows 1 4 rfl _ _) (cut_rows 1 4 rfl _ _) (after0_holds h hS)

theorem after2_holds (h : Rows X G q k v g β o) (hS : Holds S k v g β s0 o) :
    Holds (after2 (matA X G) (matB X G) (matT X G) (matE G) S) k v g β s0 (o + 192) :=
  after_holds 2 h (cut_square 2 8 rfl _ _) (cut_square 2 8 rfl _ _) (cut_line 2 8 rfl _ _) (after1_holds h hS)

theorem outs2_holds (h : Rows X G q k v g β o) (hS : Holds S k v g β s0 o) :
    Reads (outs2 (matA X G) (matB X G) (matT X G) (matO X G) (matE G) S) fun h i e => out (q h) (k h) (v h) (g h) (β h) (s0 h) (o + 128 + i.val) e :=
  outs_holds 2 h (cut_rows 2 8 rfl _ _) (cut_rows 2 8 rfl _ _) (after1_holds h hS)

theorem after3_holds (h : Rows X G q k v g β o) (hS : Holds S k v g β s0 o) :
    Holds (after3 (matA X G) (matB X G) (matT X G) (matE G) S) k v g β s0 (o + 256) :=
  after_holds 3 h (cut_square 3 12 rfl _ _) (cut_square 3 12 rfl _ _) (cut_line 3 12 rfl _ _) (after2_holds h hS)

theorem outs3_holds (h : Rows X G q k v g β o) (hS : Holds S k v g β s0 o) :
    Reads (outs3 (matA X G) (matB X G) (matT X G) (matO X G) (matE G) S) fun h i e => out (q h) (k h) (v h) (g h) (β h) (s0 h) (o + 192 + i.val) e :=
  outs_holds 3 h (cut_rows 3 12 rfl _ _) (cut_rows 3 12 rfl _ _) (after2_holds h hS)

/-- The state after the tile's 256 tokens. -/
theorem tileState_holds (h : Rows X G q k v g β o) (hS : Holds S k v g β s0 o) : Holds (tileState X G S) k v g β s0 (o + 256) :=
  after3_holds h hS

/-- The outputs of its chunks. -/
theorem tileOuts_reads (h : Rows X G q k v g β o) (hS : Holds S k v g β s0 o) (c : Fin 4) :
    Reads (tileOuts X G S c) fun h i e => out (q h) (k h) (v h) (g h) (β h) (s0 h) (o + 64 * c.val + i.val) e := by
  match c with
  | 0 => exact outs0_holds h hS
  | 1 => exact outs1_holds h hS
  | 2 => exact outs2_holds h hS
  | 3 => exact outs3_holds h hS

end Cert.DeltaIdeal.Step

end
-- ==== Proof.DeltaFold.lean ====
/- The delta rule's kernel over its grid: after a tile the carried state is the prompt's memory after the tile's tokens, so the
   two result arrays hold the outputs of every token and the memories after the last. -/
module

public import proofs.«01_k».proof.Proof.DeltaBlocks
public import proofs.«01_k».proof.Proof.DeltaTerms
public import proofs.«01_k».proof.Proof.DeltaStep

@[expose] public section

set_option maxRecDepth 16384

noncomputable section

namespace Cert.DeltaIdeal.Fold

open Cert.DeltaIdeal Cert.DeltaIdeal.Gen Cert.DeltaIdeal.Blocks Cert.DeltaIdeal.Step Cert.DeltaIdeal.Words Cert.DeltaSpec
open Idealize.ShloMosaic Idealize.ShloMosaic.TcCoe

variable {m : (ℓ : Loc nD τ sig) → Buf (Elt Ideal) ℓ} {c : Dev nD}
variable {X : Fin 16384 → Fin 1536 → ℝ} {G : Fin 16384 → Fin 128 → ℝ} {s0 : Fin 8 → Fin 4 → Fin 128 → Fin 128 → ℝ}

/-- The array holds the memories of prompt `b` before token `n`. -/
abbrev At (X : Fin 16384 → Fin 1536 → ℝ) (G : Fin 16384 → Fin 128 → ℝ) (s0 : Fin 8 → Fin 4 → Fin 128 → Fin 128 → ℝ)
    (S : FVec Ideal S4x128x128 .f32) (b : Fin 8) (n : ℕ) : Prop :=
  Holds S (key X b) (value X b) (decay G b) (scale G b) (s0 b) n

theorem kept (S : FVec Ideal S4x128x128 .f32) : k0_pay1 S = S := by
  unfold k0_pay1
  exact shapeCast_self ..

/-- A prompt's first tile starts from the state of the arguments. -/
theorem start (hR : Real m c X G s0) (t : Fin cfg0.N) :
    At X G s0 (k0_pay3 (F := Ideal) (iblk m c 2 t)) (seqOf t.val (lt_N t)) 0 := by
  intro h d e
  pointwise [k0_pay3]
  rw [blk_s0, hR.s0]
  rfl

theorem first (hR : Real m c X G s0) (t : Fin cfg0.N) (h0 : t.val % 8 = 0) :
    At X G s0 (outsAt0 m c t.val t.isLt).2.2 (seqOf t.val (lt_N t)) (256 * (t.val % 8 + 1)) := by
  have h1 : ¬t.val % 8 = 7 := by omega
  have hr := rows hR t
  rw [outsAt0_A m c t h0 h1]
  dsimp only
  rw [Terms.state_first, kept]
  rw [h0] at hr ⊢
  exact tileState_holds hr (start hR t)

theorem before (n : ℕ) (hn : n + 1 < cfg0.N) (h0 : ¬(n + 1) % 8 = 0) {S : FVec Ideal S4x128x128 .f32}
    (hp : At X G s0 S (seqOf n (lt_N ⟨n, Nat.lt_of_succ_lt hn⟩)) (256 * (n % 8 + 1))) :
    At X G s0 S (seqOf (n + 1) (lt_N ⟨n + 1, hn⟩)) (256 * ((n + 1) % 8)) := by
  have hN := lt_N ⟨n + 1, hn⟩
  dsimp only at hN
  have hs : seqOf n (by omega) = seqOf (n + 1) hN := Fin.ext (by dsimp only; omega)
  rw [← hs, show (n + 1) % 8 = n % 8 + 1 by omega]
  exact hp

theorem later (hR : Real m c X G s0) (n : ℕ) (hn : n + 1 < cfg0.N) (h0 : ¬(n + 1) % 8 = 0)
    (hp : At X G s0 (outsAt0 m c n (Nat.lt_of_succ_lt hn)).2.2 (seqOf n (lt_N ⟨n, Nat.lt_of_succ_lt hn⟩)) (256 * (n % 8 + 1))) :
    At X G s0 (outsAt0 m c (n + 1) hn).2.2 (seqOf (n + 1) (lt_N ⟨n + 1, hn⟩)) (256 * ((n + 1) % 8 + 1)) := by
  have hs := tileState_holds (rows hR ⟨n + 1, hn⟩) (before n hn h0 hp)
  by_cases h1 : (n + 1) % 8 = 7
  · have e := outsAt0_C m c ⟨n + 1, hn⟩ h0 h1
    dsimp only at e
    rw [e]
    dsimp only
    rw [Terms.state_last, kept]
    exact hs
  · have e := outsAt0_B m c ⟨n + 1, hn⟩ h0 h1
    dsimp only at e
    rw [e]
    dsimp only
    rw [Terms.state_mid, kept]
    exact hs

/-- After every tile the carried state is the prompt's memory after the tile's tokens. -/
theorem carried (hR : Real m c X G s0) : ∀ (n : ℕ) (hn : n < cfg0.N),
    At X G s0 (outsAt0 m c n hn).2.2 (seqOf n (lt_N ⟨n, hn⟩)) (256 * (n % 8 + 1))
  | 0, hn => first hR ⟨0, hn⟩ rfl
  | n + 1, hn => by
    by_cases h0 : (n + 1) % 8 = 0
    · exact first hR ⟨n + 1, hn⟩ h0
    · exact later hR n hn h0 (carried hR n (Nat.lt_of_succ_lt hn))

/-- A tile's block of outputs, from the state before it. -/
theorem block (hR : Real m c X G s0) (t : Fin cfg0.N) {S : FVec Ideal S4x128x128 .f32}
    (hS : At X G s0 S (seqOf t.val (lt_N t)) (256 * (t.val % 8))) (r : Fin 256) (h : Fin 4) (e : Fin 128) :
    Terms.tileOut (iblk m c 0 t) (iblk m c 1 t) S (ix2 r ⟨128 * h.val + e.val, by omega⟩)
      = ((result X G s0 (seqOf t.val (lt_N t)) h (256 * (t.val % 8) + r.val) e : ℝ) : EReal) := by
  unfold Terms.tileOut
  rw [show (⟨(ix2 r (⟨128 * h.val + e.val, by omega⟩ : Fin 512) 1).val / 128, by
      show (128 * h.val + e.val) / 128 < 4; omega⟩ : Fin 4) = h from Fin.ext (by show (128 * h.val + e.val) / 128 = h.val; omega),
    show (⟨(ix2 r (⟨128 * h.val + e.val, by omega⟩ : Fin 512) 1).val % 128, by omega⟩ : Fin 128) = e from
      Fin.ext (by show (128 * h.val + e.val) % 128 = e.val; omega)]
  rw [tileOuts_reads (rows hR t) hS]
  dsimp only
  unfold result
  rw [show 256 * (t.val % 8) + 64 * ((ix2 r (⟨128 * h.val + e.val, by omega⟩ : Fin 512) 0).val / 64)
      + (ix2 r (⟨128 * h.val + e.val, by omega⟩ : Fin 512) 0).val % 64 = 256 * (t.val % 8) + r.val by
    show 256 * (t.val % 8) + 64 * (r.val / 64) + r.val % 64 = 256 * (t.val % 8) + r.val
    omega]

theorem outs (hR : Real m c X G s0) (n : ℕ) (hn : n < cfg0.N) (r : Fin 256) (h : Fin 4) (e : Fin 128) :
    (outsAt0 m c n hn).1 (ix2 r ⟨128 * h.val + e.val, by omega⟩)
      = ((result X G s0 (seqOf n (lt_N ⟨n, hn⟩)) h (256 * (n % 8) + r.val) e : ℝ) : EReal) := by
  by_cases h0 : n % 8 = 0
  · have h1 : ¬n % 8 = 7 := by omega
    have e' := outsAt0_A m c ⟨n, hn⟩ h0 h1
    dsimp only at e'
    rw [e']
    dsimp only
    rw [Terms.out_first]
    refine block hR ⟨n, hn⟩ ?_ r h e
    dsimp only
    rw [h0]
    exact start hR ⟨n, hn⟩
  · obtain ⟨n, rfl⟩ : ∃ k, n = k + 1 := ⟨n - 1, by omega⟩
    have hp := before n hn h0 (carried hR n (Nat.lt_of_succ_lt hn))
    by_cases h1 : (n + 1) % 8 = 7
    · have e' := outsAt0_C m c ⟨n + 1, hn⟩ h0 h1
      dsimp only at e'
      rw [e']
      dsimp only
      rw [Terms.out_last]
      exact block hR ⟨n + 1, hn⟩ hp r h e
    · have e' := outsAt0_B m c ⟨n + 1, hn⟩ h0 h1
      dsimp only at e'
      rw [e']
      dsimp only
      rw [Terms.out_mid]
      exact block hR ⟨n + 1, hn⟩ hp r h e

/-- A prompt's last tile hands the memory on. -/
theorem final (hR : Real m c X G s0) (n : ℕ) (hn : n < cfg0.N) (h1 : n % 8 = 7) (h : Fin 4) (d e : Fin 128) :
    (outsAt0 m c n hn).2.1 (ix4 0 h d e) = ((memory X G s0 (seqOf n (lt_N ⟨n, hn⟩)) h 2048 d e : ℝ) : EReal) := by
  have h0 : ¬n % 8 = 0 := by omega
  obtain ⟨n, rfl⟩ : ∃ k, n = k + 1 := ⟨n - 1, by omega⟩
  have hp := before n hn h0 (carried hR n (Nat.lt_of_succ_lt hn))
  have hs := tileState_holds (rows hR ⟨n + 1, hn⟩) hp
  have e' := outsAt0_C m c ⟨n + 1, hn⟩ h0 h1
  dsimp only at e'
  rw [e']
  dsimp only
  rw [Terms.final_last]
  pointwise [k0_pay2]
  refine (hs h d e).trans ?_
  dsimp only
  rw [h1]
  rfl

/-- The kernel's outputs at an index. -/
theorem output_apply (hR : Real m c X G s0) (b : Fin 8) (n : Fin 2048) (h : Fin 4) (e : Fin 128) :
    (Value.G3 m c : Vec Ideal S16384x512 .f32) (ix2 ⟨2048 * b.val + n.val, by omega⟩ ⟨128 * h.val + e.val, by omega⟩)
      = ((result X G s0 b h n.val e : ℝ) : EReal) := by
  set i : S16384x512.Idx := ix2 (⟨2048 * b.val + n.val, by omega⟩ : Fin 16384) (⟨128 * h.val + e.val, by omega⟩ : Fin 512) with hi
  have hp : Value.pt3Of i = 8 * b.val + n.val / 256 := by
    show 1 * ((2048 * b.val + n.val) / 256 - 0) + 1 * ((128 * h.val + e.val) / 512 - 0) = _
    omega
  have hlt : Value.pt3Of i < cfg0.N := lt_of_lt_of_eq (by rw [hp]; omega) Gen.N_0.symm
  unfold Value.G3
  rw [dif_pos hlt, ← Value.outsAt0_sweep m c _ hlt]
  have hl : Value.loc3Of i = ix2 (⟨n.val % 256, by omega⟩ : Fin 256) (⟨128 * h.val + e.val, by omega⟩ : Fin 512) := by
    funext a
    apply Fin.ext
    match a with
    | ⟨0, _⟩ => show (2048 * b.val + n.val) % 256 = n.val % 256; omega
    | ⟨1, _⟩ => show (128 * h.val + e.val) % 512 = 128 * h.val + e.val; omega
  rw [hl, outs hR]
  have e1 : seqOf (Value.pt3Of i) (lt_N ⟨_, hlt⟩) = b := Fin.ext (by dsimp only; rw [hp]; omega)
  rw [e1, show 256 * (Value.pt3Of i % 8) + n.val % 256 = n.val by rw [hp]; omega]

/-- The kernel's memories at an index. -/
theorem memory_apply (hR : Real m c X G s0) (b : Fin 8) (h : Fin 4) (d e : Fin 128) :
    (Value.G4 m c : Vec Ideal S8x4x128x128 .f32) (ix4 b h d e) = ((memory X G s0 b h 2048 d e : ℝ) : EReal) := by
  set i : S8x4x128x128.Idx := ix4 b h d e with hi
  have hp : Value.pt4Of i = 8 * b.val + 7 := by
    show 8 * (1 * (b.val / 1 - 0) + 1 * (h.val / 4 - 0) + 1 * (d.val / 128 - 0) + 1 * (e.val / 128 - 0)) + 7 = _
    omega
  have hlt : Value.pt4Of i < cfg0.N := lt_of_lt_of_eq (by rw [hp]; omega) Gen.N_0.symm
  unfold Value.G4
  rw [dif_pos hlt, ← Value.outsAt0_sweep m c _ hlt]
  have hl : Value.loc4Of i = ix4 (0 : Fin 1) h d e := by
    funext a
    apply Fin.ext
    match a with
    | ⟨0, _⟩ => show b.val % 1 = 0; omega
    | ⟨1, _⟩ => show h.val % 4 = h.val; omega
    | ⟨2, _⟩ => show d.val % 128 = d.val; omega
    | ⟨3, _⟩ => show e.val % 128 = e.val; omega
  rw [hl, final hR _ hlt (by rw [hp]; omega)]
  have e1 : seqOf (Value.pt4Of i) (lt_N ⟨_, hlt⟩) = b := Fin.ext (by dsimp only; rw [hp]; omega)
  rw [e1]

end Cert.DeltaIdeal.Fold

end
-- ==== Proof.DeltaRefRow.lean ====
/- One token's rows of the reference's arrays: a slice of one token at the loop's counter is the array at that token, and
   an update of one token changes that token alone. -/
module

public import proofs.«01_k».proof.Proof.Layer
public import proofs.«01_k».proof.Proof.Gen.DeltaRefIdeal.Run
public import Idealize.ShloMosaic.Lib.DynamicIndex
public import Idealize.ShloMosaic.Lib.WordCmp

@[expose] public section

set_option maxRecDepth 16384

noncomputable section

namespace Cert.DeltaRefIdeal.Row

open Cert.DeltaRefIdeal Cert.DeltaRefIdeal.Gen Idealize.ShloMosaic

variable {W : IVec S_ 32} {n : ℕ}

theorem word_toInt (hn : n < 2048) : (BitVec.ofNat 32 n).toInt = (n : Int) := by
  rw [BitVec.toInt_eq_toNat_of_lt (by rw [BitVec.toNat_ofNat]; omega), BitVec.toNat_ofNat]
  omega

/-- The start of a slice of one token: the counter, then zeros. -/
theorem start4 (hW : ∀ i, W i = BitVec.ofNat 32 n) (hn : n < 2048) (a : Fin 4) :
    ((![W, constantI S_ 32 0#32, constantI S_ 32 0#32, constantI S_ 32 0#32] : Fin 4 → IVec S_ 32) a (Shape.Idx.first h_S_)).toInt
      = (((![n, 0, 0, 0] : Fin 4 → ℕ) a : ℕ) : Int) := by
  fin_cases a
  · exact (congrArg BitVec.toInt (hW _)).trans (word_toInt hn)
  · rfl
  · rfl
  · rfl

theorem start3 (hW : ∀ i, W i = BitVec.ofNat 32 n) (hn : n < 2048) (a : Fin 3) :
    ((![W, constantI S_ 32 0#32, constantI S_ 32 0#32] : Fin 3 → IVec S_ 32) a (Shape.Idx.first h_S_)).toInt
      = (((![n, 0, 0] : Fin 3 → ℕ) a : ℕ) : Int) := by
  fin_cases a
  · exact (congrArg BitVec.toInt (hW _)).trans (word_toInt hn)
  · rfl
  · rfl

theorem fits4 (hn : n < 2048) : S2048x8x4x128.Slices ![n, 0, 0, 0] S1x8x4x128 := by
  refine ⟨rfl, fun a => ?_⟩
  fin_cases a
  · show n + 1 ≤ 2048; omega
  · show 0 + 8 ≤ 8; omega
  · show 0 + 4 ≤ 4; omega
  · show 0 + 128 ≤ 128; omega

theorem fits3 (hn : n < 2048) : S2048x8x4.Slices ![n, 0, 0] S1x8x4 := by
  refine ⟨rfl, fun a => ?_⟩
  fin_cases a
  · show n + 1 ≤ 2048; omega
  · show 0 + 8 ≤ 8; omega
  · show 0 + 4 ≤ 4; omega

theorem row4 (x : FVec Ideal S2048x8x4x128 .f32) (hW : ∀ i, W i = BitVec.ofNat 32 n) (hn : n < 2048) (b : Fin 8) (h : Fin 4) (d : Fin 128) :
    shapeCast S8x4x128 (Host.dynamicSlice S1x8x4x128 x
        (fun k => ((![W, constantI S_ 32 0#32, constantI S_ 32 0#32, constantI S_ 32 0#32] : Fin 4 → IVec S_ 32) k (Shape.Idx.first h_S_)).toInt)
        sliceFits_S2048x8x4x128_S1x8x4x128) shapeCasts_S1x8x4x128_S8x4x128 (ix3 b h d) = x (ix4 ⟨n, hn⟩ b h d) := by
  rw [Host.dynamicSlice_eq_extractStridedSlice _ x _ ![n, 0, 0, 0] _ (fits4 hn) (start4 hW hn)]
  pointwise []

theorem row3 (x : FVec Ideal S2048x8x4 .f32) (hW : ∀ i, W i = BitVec.ofNat 32 n) (hn : n < 2048) (b : Fin 8) (h : Fin 4) :
    shapeCast S8x4 (Host.dynamicSlice S1x8x4 x
        (fun k => ((![W, constantI S_ 32 0#32, constantI S_ 32 0#32] : Fin 3 → IVec S_ 32) k (Shape.Idx.first h_S_)).toInt)
        sliceFits_S2048x8x4_S1x8x4) shapeCasts_S1x8x4_S8x4 (ix2 b h) = x (ix3 ⟨n, hn⟩ b h) := by
  rw [Host.dynamicSlice_eq_extractStridedSlice _ x _ ![n, 0, 0] _ (fits3 hn) (start3 hW hn)]
  pointwise []

/-- An update of the counter's token, at a token. -/
theorem update4 (x : FVec Ideal S2048x8x4x128 .f32) (u : FVec Ideal S1x8x4x128 .f32) (hW : ∀ i, W i = BitVec.ofNat 32 n) (hn : n < 2048)
    (r : Fin 2048) (b : Fin 8) (h : Fin 4) (d : Fin 128) :
    Host.dynamicUpdateSlice x u
        (fun k => ((![W, constantI S_ 32 0#32, constantI S_ 32 0#32, constantI S_ 32 0#32] : Fin 4 → IVec S_ 32) k (Shape.Idx.first h_S_)).toInt)
        updateFits_S2048x8x4x128_S1x8x4x128 (ix4 r b h d)
      = if r.val = n then u (ix4 0 b h d) else x (ix4 r b h d) := by
  rw [WordCmp.dynamicUpdateSlice_eq_update x u _ _ ![n, 0, 0, 0] (fits4 hn) (start4 hW hn)]
  pointwise []
  by_cases hr : r.val = n
  · rw [dif_pos ⟨by omega, by omega⟩, if_pos hr]
    congr 2
    exact Fin.ext (by show r.val - n = 0; omega)
  · rw [dif_neg (by omega), if_neg hr]

end Cert.DeltaRefIdeal.Row

end
-- ==== Proof.DeltaRefStep.lean ====
/- One step of the reference's recurrence: from arrays that hold a batch of prompts' tokens, the memories before a token and
   the outputs before it, the step makes the memories after the token and the token's outputs. -/
module

public import proofs.«01_k».proof.Proof.DeltaSpec
public import proofs.«01_k».proof.Proof.DeltaReal
public import proofs.«01_k».proof.Proof.DeltaRefRow

@[expose] public section

set_option maxRecDepth 16384

noncomputable section

namespace Cert.DeltaRefIdeal.Trip

open Cert.DeltaRefIdeal Cert.DeltaRefIdeal.Gen Cert.DeltaRefIdeal.Value Cert.DeltaSpec Cert.DeltaReal Idealize.ShloMosaic Idealize.ShloMosaic.StableHlo

/-- What the loop's arrays hold before token `n`. -/
structure Before (X : Fin 16384 → Fin 1536 → ℝ) (G : Fin 16384 → Fin 128 → ℝ) (s0 : Fin 8 → Fin 4 → Fin 128 → Fin 128 → ℝ)
    (V : Valuation τ sig (Elt Ideal)) (n : ℕ) : Prop where
  q : ∀ (r : Fin 2048) (b : Fin 8) (h : Fin 4) (d : Fin 128),
    (V (Proc.devRef .tc main_v16_0) : FVec Ideal S2048x8x4x128 .f32) (ix4 r b h d) = ((query X b h r.val d : ℝ) : EReal)
  k : ∀ (r : Fin 2048) (b : Fin 8) (h : Fin 4) (d : Fin 128),
    (V (Proc.devRef .tc main_v16_1) : FVec Ideal S2048x8x4x128 .f32) (ix4 r b h d) = ((key X b h r.val d : ℝ) : EReal)
  v : ∀ (r : Fin 2048) (b : Fin 8) (h : Fin 4) (d : Fin 128),
    (V (Proc.devRef .tc main_v16_2) : FVec Ideal S2048x8x4x128 .f32) (ix4 r b h d) = ((value X b h r.val d : ℝ) : EReal)
  g : ∀ (r : Fin 2048) (b : Fin 8) (h : Fin 4),
    (V (Proc.devRef .tc main_v16_3) : FVec Ideal S2048x8x4 .f32) (ix3 r b h) = ((decay G b h r.val : ℝ) : EReal)
  β : ∀ (r : Fin 2048) (b : Fin 8) (h : Fin 4),
    (V (Proc.devRef .tc main_v16_4) : FVec Ideal S2048x8x4 .f32) (ix3 r b h) = ((scale G b h r.val : ℝ) : EReal)
  counter : ∀ i, (V (Proc.devRef .tc main_v16_5) : IVec S_ 32) i = BitVec.ofNat 32 n
  memory : ∀ (b : Fin 8) (h : Fin 4) (d e : Fin 128),
    (V (Proc.devRef .tc main_v16_6) : FVec Ideal S8x4x128x128 .f32) (ix4 b h d e) = ((memory X G s0 b h n d e : ℝ) : EReal)
  outs : ∀ (r : Fin 2048) (b : Fin 8) (h : Fin 4) (e : Fin 128), r.val < n →
    (V (Proc.devRef .tc main_v16_7) : FVec Ideal S2048x8x4x128 .f32) (ix4 r b h e) = ((result X G s0 b h r.val e : ℝ) : EReal)

variable {X : Fin 16384 → Fin 1536 → ℝ} {G : Fin 16384 → Fin 128 → ℝ} {s0 : Fin 8 → Fin 4 → Fin 128 → Fin 128 → ℝ}
  {V : Valuation τ sig (Elt Ideal)} {n : ℕ}

theorem key_row (hV : Before X G s0 V n) (hn : n < 2048) (b : Fin 8) (h : Fin 4) (d : Fin 128) :
    (res_main_while0b_v20 V : FVec Ideal S8x4x128 .f32) (ix3 b h d) = ((key X b h n d : ℝ) : EReal) :=
  (Row.row4 _ hV.counter hn b h d).trans (hV.k ⟨n, hn⟩ b h d)

/-- The exponential of a real. -/
theorem exp_coe {a : EReal} {r : ℝ} (ha : a = (r : EReal)) : Ideal.exp a = ((Real.exp r : ℝ) : EReal) := by
  rw [ha, Ideal.exp_coe]

/-- A product of reals. -/
theorem mul_coe {a b : EReal} {r s : ℝ} (ha : a = (r : EReal)) (hb : b = (s : EReal)) : a * b = ((r * s : ℝ) : EReal) := by
  rw [ha, hb, EReal.coe_mul]

/-- A difference of reals. -/
theorem sub_coe {a b : EReal} {r s : ℝ} (ha : a = (r : EReal)) (hb : b = (s : EReal)) : a - b = ((r - s : ℝ) : EReal) := by
  rw [ha, hb, EReal.coe_sub]

/-- A sum of two reals. -/
theorem add_coe {a b : EReal} {r s : ℝ} (ha : a = (r : EReal)) (hb : b = (s : EReal)) : a + b = ((r + s : ℝ) : EReal) := by
  rw [ha, hb, EReal.coe_add]

/-- The memory decayed, at an index. -/
theorem decay_apply (A : FVec Ideal S8x4 .f32) (S : FVec Ideal S8x4x128x128 .f32) (b : Fin 8) (h : Fin 4) (d e : Fin 128) :
    mulf (broadcastInDim S8x4x128x128 ![0, 1, 2, 3] bcast_S8x4x1x1_S8x4x128x128_0_1_2_3
        (broadcastInDim S8x4x1x1 ![0, 1] bcast_S8x4_S8x4x1x1_0_1 (Host.exp A))) S (ix4 b h d e)
      = Ideal.exp (A (ix2 b h)) * S (ix4 b h d e) := by
  pointwise []

theorem decayed (hV : Before X G s0 V n) (hn : n < 2048) (b : Fin 8) (h : Fin 4) (d e : Fin 128) :
    (res_main_while0b_v27 V : FVec Ideal S8x4x128x128 .f32) (ix4 b h d e)
      = ((Real.exp (decay G b h n) * memory X G s0 b h n d e : ℝ) : EReal) := by
  unfold res_main_while0b_v27
  refine (decay_apply _ _ b h d e).trans ?_
  refine (mul_coe (exp_coe ((Row.row3 _ hV.counter hn b h).trans (hV.g ⟨n, hn⟩ b h))) (hV.memory b h d e)).trans ?_
  rfl

/-- The memory with a token's correction written in, at an index. -/
theorem write_apply (D : FVec Ideal S8x4x128x128 .f32) (K U : FVec Ideal S8x4x128 .f32) (B : FVec Ideal S8x4 .f32) (b : Fin 8) (h : Fin 4) (d e : Fin 128) :
    addf D (mulf
        (broadcastInDim S8x4x128x128 ![0, 1, 2, 3] bcast_S8x4x128x1_S8x4x128x128_0_1_2_3
          (broadcastInDim S8x4x128x1 ![0, 1, 2] bcast_S8x4x128_S8x4x128x1_0_1_2 K))
        (broadcastInDim S8x4x128x128 ![0, 1, 2, 3] bcast_S8x4x1x128_S8x4x128x128_0_1_2_3
          (broadcastInDim S8x4x1x128 ![0, 1, 3] bcast_S8x4x128_S8x4x1x128_0_1_3
            (mulf (broadcastInDim S8x4x128 ![0, 1, 2] bcast_S8x4x1_S8x4x128_0_1_2 (broadcastInDim S8x4x1 ![0, 1] bcast_S8x4_S8x4x1_0_1 B))
              (subf U (Host.dotGeneral dot_S8x4x128_S8x4x128x128_S8x4x128_2_2_n_3_01_01 none K D)))))) (ix4 b h d e)
      = D (ix4 b h d e) + K (ix3 b h d) * (B (ix2 b h) * (U (ix3 b h e) - ∑ d', K (ix3 b h d') * D (ix4 b h d' e))) := by
  pointwise []

theorem written (hV : Before X G s0 V n) (hn : n < 2048) (b : Fin 8) (h : Fin 4) (d e : Fin 128) :
    (res_main_while0b_v38 V : FVec Ideal S8x4x128x128 .f32) (ix4 b h d e) = ((memory X G s0 b h (n + 1) d e : ℝ) : EReal) := by
  unfold res_main_while0b_v38
  refine (write_apply _ _ _ _ b h d e).trans ?_
  refine (add_coe (decayed hV hn b h d e) (mul_coe (key_row hV hn b h d)
    (mul_coe ((Row.row3 _ hV.counter hn b h).trans (hV.β ⟨n, hn⟩ b h))
      (sub_coe ((Row.row4 _ hV.counter hn b h e).trans (hV.v ⟨n, hn⟩ b h e))
        (sum_mul _ _ _ _ (fun d' => key_row hV hn b h d') (fun d' => decayed hV hn b h d' e)))))).trans ?_
  rfl

/-- What a memory returns for a batch of queries, at an index. -/
theorem read_apply (Q : FVec Ideal S8x4x128 .f32) (S : FVec Ideal S8x4x128x128 .f32) (b : Fin 8) (h : Fin 4) (e : Fin 128) :
    broadcastInDim S1x8x4x128 ![1, 2, 3] bcast_S8x4x128_S1x8x4x128_1_2_3
        (Host.dotGeneral dot_S8x4x128_S8x4x128x128_S8x4x128_2_2_n_3_01_01 none Q S) (ix4 0 b h e)
      = ∑ d, Q (ix3 b h d) * S (ix4 b h d e) := by
  pointwise []

/-- The step. -/
theorem next (hV : Before X G s0 V n) (hn : n < 2048) : Before X G s0 (STEP V) (n + 1) where
  q := by rw [STEP_main_v16_0]; exact hV.q
  k := by rw [STEP_main_v16_1]; exact hV.k
  v := by rw [STEP_main_v16_2]; exact hV.v
  g := by rw [STEP_main_v16_3]; exact hV.g
  β := by rw [STEP_main_v16_4]; exact hV.β
  counter i := by
    rw [STEP_main_v16_5]
    exact (congrArg (· + 1#32) (hV.counter i)).trans (BitVec.ofNat_add ..).symm
  memory b h d e := by
    rw [STEP_main_v16_6]
    exact written hV hn b h d e
  outs r b h e hr := by
    rw [STEP_main_v16_7]
    refine (Row.update4 _ _ hV.counter hn r b h e).trans ?_
    by_cases hrn : r.val = n
    · rw [if_pos hrn]
      refine (read_apply _ _ b h e).trans ?_
      refine (sum_mul _ _ _ _ (fun d => (Row.row4 _ hV.counter hn b h d).trans (hV.q ⟨n, hn⟩ b h d)) (fun d => written hV hn b h d e)).trans ?_
      rw [hrn]
      rfl
    · rw [if_neg hrn]
      exact hV.outs r b h e (by omega)

/-- The steps. -/
theorem steps (hV : Before X G s0 V 0) : ∀ n, n ≤ 2048 → Before X G s0 (STEP^[n] V) n
  | 0, _ => hV
  | n + 1, hn => by
    rw [Function.iterate_succ_apply']
    exact next (steps hV n (by omega)) (by omega)

end Cert.DeltaRefIdeal.Trip

end
-- ==== Proof.DeltaRefValue.lean ====
/- What the delta rule's reference computes from real arguments: the outputs and the last memories of the recurrence. -/
module

public import proofs.«01_k».proof.Proof.DeltaRefStep
public import Idealize.ShloMosaic.Lib.StableHlo.ReadAt

@[expose] public section

set_option maxRecDepth 16384

noncomputable section

namespace Cert.DeltaRefIdeal.RefValue

open Cert.DeltaRefIdeal Cert.DeltaRefIdeal.Gen Cert.DeltaRefIdeal.Value Cert.DeltaRefIdeal.Trip Cert.DeltaSpec Cert.DeltaReal
open Idealize.ShloMosaic Idealize.ShloMosaic.TcCoe Idealize.ShloMosaic.StableHlo

variable (m : (ℓ : Loc nD τ sig) → Buf (Elt Ideal) ℓ) (c : Dev nD)
  {X : Fin 16384 → Fin 1536 → ℝ} {G : Fin 16384 → Fin 128 → ℝ} {s0 : Fin 8 → Fin 4 → Fin 128 → Fin 128 → ℝ}

abbrev argQkv : FVec Ideal S16384x1536 .f32 := m ((c.tc : Thread nD τ).loc main_arg0)
abbrev argGb : FVec Ideal S16384x128 .f32 := m ((c.tc : Thread nD τ).loc main_arg1)
abbrev argS0 : FVec Ideal S8x4x128x128 .f32 := m ((c.tc : Thread nD τ).loc main_arg2)

/-- The arguments are the reals `X`, `G` and `s0`. -/
structure Real (X : Fin 16384 → Fin 1536 → ℝ) (G : Fin 16384 → Fin 128 → ℝ) (s0 : Fin 8 → Fin 4 → Fin 128 → Fin 128 → ℝ) : Prop where
  qkv : ∀ R j, argQkv m c (ix2 R j) = ((X R j : ℝ) : EReal)
  gb : ∀ R j, argGb m c (ix2 R j) = ((G R j : ℝ) : EReal)
  s0 : ∀ b h d e, argS0 m c (ix4 b h d e) = ((s0 b h d e : ℝ) : EReal)

/-- The columns of a head, split out of the joint array and laid out token by token, at an index. -/
theorem split_heads (x : FVec Ideal S16384x512 .f32) (r : Fin 2048) (b : Fin 8) (h : Fin 4) (d : Fin 128) :
    transpose S2048x8x4x128 [1, 0, 2, 3] (shapeCast S8x2048x4x128 x shapeCasts_S16384x512_S8x2048x4x128)
        transposes_S8x2048x4x128_S2048x8x4x128_1_0_2_3 (ix4 r b h d)
      = x (ix2 ⟨2048 * b.val + r.val, by omega⟩ ⟨128 * h.val + d.val, by omega⟩) := by
  pointwise []
  congr 1
  funext a
  apply Fin.ext
  match a with
  | ⟨0, _⟩ => show b.val * 2048 + r.val = 2048 * b.val + r.val; omega
  | ⟨1, _⟩ => show h.val * 128 + d.val = 128 * h.val + d.val; omega

/-- The columns of the gates, laid out token by token, at an index. -/
theorem split_gates (x : FVec Ideal S16384x4 .f32) (r : Fin 2048) (b : Fin 8) (h : Fin 4) :
    transpose S2048x8x4 [1, 0, 2] (shapeCast S8x2048x4 x shapeCasts_S16384x4_S8x2048x4) transposes_S8x2048x4_S2048x8x4_1_0_2 (ix3 r b h)
      = x (ix2 ⟨2048 * b.val + r.val, by omega⟩ h) := by
  pointwise []
  congr 1
  funext a
  apply Fin.ext
  match a with
  | ⟨0, _⟩ => show b.val * 2048 + r.val = 2048 * b.val + r.val; omega
  | ⟨1, _⟩ => rfl

theorem entry_q : (entryContents preI m c (Proc.devRef .tc main_v16_0) : FVec Ideal S2048x8x4x128 .f32)
    = transpose S2048x8x4x128 [1, 0, 2, 3] (shapeCast S8x2048x4x128 (extractStridedSlice S16384x512 ![0, 0] (argQkv m c) slices_S16384x1536_S16384x512_0_0)
        shapeCasts_S16384x512_S8x2048x4x128) transposes_S8x2048x4x128_S2048x8x4x128_1_0_2_3 := by
  simp only [entryContents, afterL_cons, afterL_nil]
  after_reads_simp
  rfl

theorem entry_k : (entryContents preI m c (Proc.devRef .tc main_v16_1) : FVec Ideal S2048x8x4x128 .f32)
    = transpose S2048x8x4x128 [1, 0, 2, 3] (shapeCast S8x2048x4x128 (extractStridedSlice S16384x512 ![0, 512] (argQkv m c) slices_S16384x1536_S16384x512_0_512)
        shapeCasts_S16384x512_S8x2048x4x128) transposes_S8x2048x4x128_S2048x8x4x128_1_0_2_3 := by
  simp only [entryContents, afterL_cons, afterL_nil]
  after_reads_simp
  rfl

theorem entry_v : (entryContents preI m c (Proc.devRef .tc main_v16_2) : FVec Ideal S2048x8x4x128 .f32)
    = transpose S2048x8x4x128 [1, 0, 2, 3] (shapeCast S8x2048x4x128 (extractStridedSlice S16384x512 ![0, 1024] (argQkv m c) slices_S16384x1536_S16384x512_0_1024)
        shapeCasts_S16384x512_S8x2048x4x128) transposes_S8x2048x4x128_S2048x8x4x128_1_0_2_3 := by
  simp only [entryContents, afterL_cons, afterL_nil]
  after_reads_simp
  rfl

theorem entry_g : (entryContents preI m c (Proc.devRef .tc main_v16_3) : FVec Ideal S2048x8x4 .f32)
    = transpose S2048x8x4 [1, 0, 2] (shapeCast S8x2048x4 (extractStridedSlice S16384x4 ![0, 124] (argGb m c) slices_S16384x128_S16384x4_0_124)
        shapeCasts_S16384x4_S8x2048x4) transposes_S8x2048x4_S2048x8x4_1_0_2 := by
  simp only [entryContents, afterL_cons, afterL_nil]
  after_reads_simp
  rfl

theorem entry_β : (entryContents preI m c (Proc.devRef .tc main_v16_4) : FVec Ideal S2048x8x4 .f32)
    = transpose S2048x8x4 [1, 0, 2] (shapeCast S8x2048x4 (extractStridedSlice S16384x4 ![0, 120] (argGb m c) slices_S16384x128_S16384x4_0_120)
        shapeCasts_S16384x4_S8x2048x4) transposes_S8x2048x4_S2048x8x4_1_0_2 := by
  simp only [entryContents, afterL_cons, afterL_nil]
  after_reads_simp
  rfl

theorem entry_memory : (entryContents preI m c (Proc.devRef .tc main_v16_6) : FVec Ideal S8x4x128x128 .f32) = argS0 m c := by
  simp only [entryContents, afterL_cons, afterL_nil]
  after_reads_simp
  rfl

theorem token_eq (b : Fin 8) (r : Fin 2048) : token b r.val = ⟨2048 * b.val + r.val, by omega⟩ := by
  apply Fin.ext
  show (2048 * b.val + r.val) % 16384 = 2048 * b.val + r.val
  omega

theorem entry (hR : Real m c X G s0) : Before X G s0 (entryContents preI m c) 0 where
  q r b h d := by
    rw [entry_q]
    refine (split_heads _ r b h d).trans ?_
    refine Eq.trans ?_ (hR.qkv (token b r.val) ⟨128 * h.val + d.val, by omega⟩)
    rw [token_eq]
    pointwise []
  k r b h d := by
    rw [entry_k]
    refine (split_heads _ r b h d).trans ?_
    refine Eq.trans ?_ (hR.qkv (token b r.val) ⟨512 + 128 * h.val + d.val, by omega⟩)
    rw [token_eq]
    pointwise []
    congr 3
    omega
  v r b h d := by
    rw [entry_v]
    refine (split_heads _ r b h d).trans ?_
    refine Eq.trans ?_ (hR.qkv (token b r.val) ⟨1024 + 128 * h.val + d.val, by omega⟩)
    rw [token_eq]
    pointwise []
    congr 3
    omega
  g r b h := by
    rw [entry_g]
    refine (split_gates _ r b h).trans ?_
    refine Eq.trans ?_ (hR.gb (token b r.val) ⟨124 + h.val, by omega⟩)
    rw [token_eq]
    pointwise []
  β r b h := by
    rw [entry_β]
    refine (split_gates _ r b h).trans ?_
    refine Eq.trans ?_ (hR.gb (token b r.val) ⟨120 + h.val, by omega⟩)
    rw [token_eq]
    pointwise []
  counter i := congrFun (ctr_entry m c) i
  memory b h d e := by
    rw [entry_memory]
    exact hR.s0 b h d e
  outs r b h e hr := absurd hr (by omega)

/-- The outputs laid out as rows of the whole array, at an index. -/
theorem join_heads (x : FVec Ideal S2048x8x4x128 .f32) (b : Fin 8) (r : Fin 2048) (h : Fin 4) (e : Fin 128) :
    shapeCast S16384x512 (transpose S8x2048x4x128 [1, 0, 2, 3] x transposes_S2048x8x4x128_S8x2048x4x128_1_0_2_3)
        shapeCasts_S8x2048x4x128_S16384x512 (ix2 ⟨2048 * b.val + r.val, by omega⟩ ⟨128 * h.val + e.val, by omega⟩)
      = x (ix4 r b h e) := by
  pointwise []

theorem output_apply (hR : Real m c X G s0) (b : Fin 8) (r : Fin 2048) (h : Fin 4) (e : Fin 128) :
    (out_main_v18 (STEP^[2048] (entryContents preI m c)) : FVec Ideal S16384x512 .f32) (ix2 ⟨2048 * b.val + r.val, by omega⟩ ⟨128 * h.val + e.val, by omega⟩)
      = ((result X G s0 b h r.val e : ℝ) : EReal) :=
  (join_heads _ b r h e).trans ((steps (entry m c hR) 2048 (le_refl _)).outs r b h e r.isLt)

theorem memory_apply (hR : Real m c X G s0) (b : Fin 8) (h : Fin 4) (d e : Fin 128) :
    ((STEP^[2048] (entryContents preI m c)) (Proc.devRef .tc main_v16_6) : FVec Ideal S8x4x128x128 .f32) (ix4 b h d e)
      = ((memory X G s0 b h 2048 d e : ℝ) : EReal) :=
  (steps (entry m c hR) 2048 (le_refl _)).memory b h d e

end Cert.DeltaRefIdeal.RefValue

end
-- ==== Proof.DeltaClaim.lean ====
/- The claims about the delta rule's kernel: the frames, and the equation with its reference over the reals. -/
module

public import proofs.«01_k».proof.Defs
public import proofs.«01_k».proof.Proof.DeltaFold
public import proofs.«01_k».proof.Proof.DeltaRefValue
public import proofs.«01_k».proof.Proof.Gen.Delta.Frame
public import proofs.«01_k».proof.Proof.Gen.Pre_finite_delta
public import Idealize.ShloMosaic.Lib.Quiescent

@[expose] public section

set_option maxRecDepth 16384

noncomputable section

namespace Cert.DeltaClaim

open Idealize.ShloMosaic Idealize.ShloMosaic.TcCoe Idealize.SL.Sem

theorem frame_kernel : Cert.quiescent_Delta := fun m ρ _ => Cert.Delta.Gen.frame m ρ

theorem frame_ideal : Cert.quiescent_DeltaIdeal := fun m ρ _ => Cert.DeltaIdeal.Gen.frame m ρ

theorem frame_ideal_finite : Cert.quiescent_DeltaIdeal_pre_finite_delta := fun m ρ _ => Cert.DeltaIdeal.Gen.frame m ρ

theorem frame_reference : Cert.quiescent_DeltaRefIdeal := fun m ρ _ =>
  (θ_run Cert.DeltaRefIdeal.defs _ _).mono
    (fun r h => ⟨fun c => (h c).2.2, Idealize.ShloMosaic.sem_eq_zero_of_no_sems (by decide) r.2⟩)
    (Cert.DeltaRefIdeal.Value.run (F := Ideal) m ρ)

theorem frame_reference_finite : Cert.quiescent_DeltaRefIdeal_pre_finite_delta := fun m ρ _ => frame_reference m ρ trivial

/-- Above minus infinity and below plus infinity, an extended real is a real. -/
theorem eq_toReal {x : EReal} (h : IntOp.andi (FloatOps.cmpf (F := Ideal) (φ := .f32) .olt x (Ideal.ofBits .f32 0x7F800000#32))
    (FloatOps.cmpf (F := Ideal) (φ := .f32) .ogt x (Ideal.ofBits .f32 0xFF800000#32)) = 1#1) : x = ((x.toReal : ℝ) : EReal) := by
  have hp : Ideal.ofBits .f32 0x7F800000#32 = ⊤ := by simp [Ideal.ofBits, Ideal.ieee]
  have hn : Ideal.ofBits .f32 0xFF800000#32 = ⊥ := Cert.DeltaReal.ofBits_neg_inf
  rw [hp, hn] at h
  refine (EReal.coe_toReal (fun ht => ?_) (fun hb => ?_)).symm
  · subst ht
    change IntOp.andi (Ideal.cmp .olt ⊤ ⊤) (Ideal.cmp .ogt ⊤ ⊥) = 1#1 at h
    simp [Ideal.cmp, IntOp.andi] at h
  · subst hb
    change IntOp.andi (Ideal.cmp .olt ⊥ ⊤) (Ideal.cmp .ogt ⊥ ⊥) = 1#1 at h
    simp [Ideal.cmp, IntOp.andi] at h

/-- Arguments that meet the precondition are real. -/
theorem real_of_finite (m : (ℓ : Loc Cert.DeltaIdeal.nD Cert.DeltaIdeal.τ Cert.DeltaIdeal.sig) → Buf (Elt Ideal) ℓ)
    (h : Cert.Pre_DeltaIdeal_finite_delta m) (c : Dev Cert.DeltaIdeal.nD) :
    Cert.DeltaIdeal.Blocks.Real m c (fun R j => (Cert.DeltaIdeal.Blocks.argQkv m c (ix2 R j)).toReal)
      (fun R j => (Cert.DeltaIdeal.Blocks.argGb m c (ix2 R j)).toReal)
      (fun b h d e => (Cert.DeltaIdeal.Blocks.argS0 m c (ix4 b h d e)).toReal) where
  qkv R j := eq_toReal (congrFun (h c).1 (ix2 R j))
  gb R j := eq_toReal (congrFun (h c).2.1 (ix2 R j))
  s0 b n d e := eq_toReal (congrFun (h c).2.2 (ix4 b n d e))

/-- The same arguments are real for the reference. -/
theorem real_reference (m : (ℓ : Loc Cert.DeltaIdeal.nD Cert.DeltaIdeal.τ Cert.DeltaIdeal.sig) → Buf (Elt Ideal) ℓ)
    (m' : (ℓ : Loc Cert.DeltaRefIdeal.nD Cert.DeltaRefIdeal.τ Cert.DeltaRefIdeal.sig) → Buf (Elt Ideal) ℓ) (c : Dev Cert.DeltaIdeal.nD)
    {X : Fin 16384 → Fin 1536 → ℝ} {G : Fin 16384 → Fin 128 → ℝ} {s0 : Fin 8 → Fin 4 → Fin 128 → Fin 128 → ℝ}
    (h : Cert.DeltaIdeal.Blocks.Real m c X G s0)
    (h0 : Cert.DeltaRefIdeal.RefValue.argQkv m' c = Cert.DeltaIdeal.Blocks.argQkv m c)
    (h1 : Cert.DeltaRefIdeal.RefValue.argGb m' c = Cert.DeltaIdeal.Blocks.argGb m c)
    (h2 : Cert.DeltaRefIdeal.RefValue.argS0 m' c = Cert.DeltaIdeal.Blocks.argS0 m c) :
    Cert.DeltaRefIdeal.RefValue.Real m' c X G s0 where
  qkv R j := (congrFun h0 _).trans (h.qkv R j)
  gb R j := (congrFun h1 _).trans (h.gb R j)
  s0 b n d e := (congrFun h2 _).trans (h.s0 b n d e)

/-- On arguments that are the same reals, both outputs are the recurrence's outputs. -/
theorem outputs_agree (m : (ℓ : Loc Cert.DeltaIdeal.nD Cert.DeltaIdeal.τ Cert.DeltaIdeal.sig) → Buf (Elt Ideal) ℓ)
    (m' : (ℓ : Loc Cert.DeltaRefIdeal.nD Cert.DeltaRefIdeal.τ Cert.DeltaRefIdeal.sig) → Buf (Elt Ideal) ℓ) (c : Dev Cert.DeltaIdeal.nD)
    {X : Fin 16384 → Fin 1536 → ℝ} {G : Fin 16384 → Fin 128 → ℝ} {s0 : Fin 8 → Fin 4 → Fin 128 → Fin 128 → ℝ}
    (h : Cert.DeltaIdeal.Blocks.Real m c X G s0) (h' : Cert.DeltaRefIdeal.RefValue.Real m' c X G s0) :
    (Cert.DeltaRefIdeal.Value.out_main_v18 (Cert.DeltaRefIdeal.Value.STEP^[2048]
        (StableHlo.entryContents Cert.DeltaRefIdeal.Value.preI m' c)) : Vec Ideal Cert.DeltaIdeal.S16384x512 .f32)
      = Cert.DeltaIdeal.Value.G3 m c := by
  funext i
  have hR : (i 0).val < 16384 := (i 0).isLt
  have hC : (i 1).val < 512 := (i 1).isLt
  have hi : i = ix2 (⟨2048 * ((i 0).val / 2048) + (i 0).val % 2048, by omega⟩ : Fin 16384)
      (⟨128 * ((i 1).val / 128) + (i 1).val % 128, by omega⟩ : Fin 512) := by
    funext a
    apply Fin.ext
    match a with
    | ⟨0, _⟩ => show (i 0).val = 2048 * ((i 0).val / 2048) + (i 0).val % 2048; omega
    | ⟨1, _⟩ => show (i 1).val = 128 * ((i 1).val / 128) + (i 1).val % 128; omega
  rw [hi]
  exact (Cert.DeltaRefIdeal.RefValue.output_apply m' c h' ⟨(i 0).val / 2048, by omega⟩ ⟨(i 0).val % 2048, by omega⟩
      ⟨(i 1).val / 128, by omega⟩ ⟨(i 1).val % 128, by omega⟩).trans
    (Cert.DeltaIdeal.Fold.output_apply h ⟨(i 0).val / 2048, by omega⟩ ⟨(i 0).val % 2048, by omega⟩
      ⟨(i 1).val / 128, by omega⟩ ⟨(i 1).val % 128, by omega⟩).symm

/-- On arguments that are the same reals, both last memories are the recurrence's memories after every token. -/
theorem memories_agree (m : (ℓ : Loc Cert.DeltaIdeal.nD Cert.DeltaIdeal.τ Cert.DeltaIdeal.sig) → Buf (Elt Ideal) ℓ)
    (m' : (ℓ : Loc Cert.DeltaRefIdeal.nD Cert.DeltaRefIdeal.τ Cert.DeltaRefIdeal.sig) → Buf (Elt Ideal) ℓ) (c : Dev Cert.DeltaIdeal.nD)
    {X : Fin 16384 → Fin 1536 → ℝ} {G : Fin 16384 → Fin 128 → ℝ} {s0 : Fin 8 → Fin 4 → Fin 128 → Fin 128 → ℝ}
    (h : Cert.DeltaIdeal.Blocks.Real m c X G s0) (h' : Cert.DeltaRefIdeal.RefValue.Real m' c X G s0) :
    ((Cert.DeltaRefIdeal.Value.STEP^[2048] (StableHlo.entryContents Cert.DeltaRefIdeal.Value.preI m' c))
        (Proc.devRef .tc Cert.DeltaRefIdeal.main_v16_6) : Vec Ideal Cert.DeltaIdeal.S8x4x128x128 .f32)
      = Cert.DeltaIdeal.Value.G4 m c := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  exact (Cert.DeltaRefIdeal.RefValue.memory_apply m' c h' (i 0) (i 1) (i 2) (i 3)).trans
    (Cert.DeltaIdeal.Fold.memory_apply h (i 0) (i 1) (i 2) (i 3)).symm

theorem algebraic : Cert.algebraic_DeltaIdeal_DeltaRefIdeal_pre_finite_delta := by
  intro m ρ m' ρ' hfin hag
  refine ⟨fun c => Cert.DeltaIdeal.Value.G3 m c, fun c => Cert.DeltaIdeal.Value.G4 m c, Cert.DeltaIdeal.Value.run (F := Ideal) m ρ, ?_⟩
  refine (θ_run Cert.DeltaRefIdeal.defs _ _).mono (fun _ h c => ⟨(h c).1.trans ?_, (h c).2.1.trans ?_, (h c).2.2⟩)
    (Cert.DeltaRefIdeal.Value.run (F := Ideal) m' ρ')
  · obtain ⟨h0, h1, h2⟩ := hag c
    exact outputs_agree m m' c (real_of_finite m hfin c) (real_reference m m' c (real_of_finite m hfin c) h0 h1 h2)
  · obtain ⟨h0, h1, h2⟩ := hag c
    exact memories_agree m m' c (real_of_finite m hfin c) (real_reference m m' c (real_of_finite m hfin c) h0 h1 h2)

end Cert.DeltaClaim

end
-- ==== Proof.InProjSpec.lean ====
/- The mathematics of the input projection on one token: its row, modulated, times one column of the weights. -/
module

public import proofs.«01_k».proof.Proof.Layer

@[expose] public section

set_option maxRecDepth 16384

noncomputable section

namespace Cert.Layer

open Idealize.ShloMosaic

/-- A row `x` modulated by `scale` and `shift`, times the column `w`. -/
def project (x scale shift w : Fin 1024 → EReal) : EReal := ∑ k, modulate (x k) (scale k) (shift k) * w k

end Cert.Layer

end
-- ==== Proof.InProjBlock.lean ====
/- What one grid point of the input projection's kernel computes from its blocks, element by element. -/
module

public import proofs.«01_k».proof.Proof.InProjSpec
public import proofs.«01_k».proof.Proof.DeltaReal
public import proofs.«01_k».proof.Proof.Gen.InProjIdeal.Frame

@[expose] public section

set_option maxRecDepth 16384

noncomputable section

namespace Cert.InProjIdeal.Block

open Cert.InProjIdeal Cert.InProjIdeal.Gen Idealize.ShloMosaic Cert.Layer

theorem hz2 : (![0, 0] : Fin 2 → Nat) = fun _ => 0 := funext fun a => by fin_cases a <;> rfl
theorem hz3 : (![0, 0, 0] : Fin 3 → Nat) = fun _ => 0 := funext fun a => by fin_cases a <;> rfl

variable (x : Vec Ideal S512x1024 .f32) (sc sh : Vec Ideal S1x1x1024 .f32)

/-- The tile's rows modulated. -/
theorem modulated_apply (r : Fin 512) (k : Fin 1024) :
    k0_pay1 (F := Ideal) x sc sh (ix2 r k) = modulate (x (ix2 r k)) (sc (ix3 0 0 k)) (sh (ix3 0 0 k)) := by
  pointwise [k0_pay1]
  rfl

/-- The product with the wide weights. -/
theorem wide_apply (w : Vec Ideal S1024x3584 .bf16) (r : Fin 512) (j : Fin 3584) :
    k0_pay2 (F := Ideal) x sc sh w (ix2 r j)
      = project (fun k => x (ix2 r k)) (fun k => sc (ix3 0 0 k)) (fun k => sh (ix3 0 0 k)) (fun k => w (ix2 k j)) := by
  pointwise [k0_pay2, k0_pay1]
  rfl

/-- The product with the narrow weights, as the kernel forms it from high and low parts. -/
theorem narrow_parts (w : Vec Ideal S1024x128 .f32) (r : Fin 512) (j : Fin 128) :
    k0_pay3 (F := Ideal) x sc sh w (ix2 r j)
      = ∑ k, modulate (x (ix2 r k)) (sc (ix3 0 0 k)) (sh (ix3 0 0 k)) * w (ix2 k j)
        + (∑ k, modulate (x (ix2 r k)) (sc (ix3 0 0 k)) (sh (ix3 0 0 k)) * (w (ix2 k j) - w (ix2 k j))
          + ∑ k, (modulate (x (ix2 r k)) (sc (ix3 0 0 k)) (sh (ix3 0 0 k))
              - modulate (x (ix2 r k)) (sc (ix3 0 0 k)) (sh (ix3 0 0 k))) * w (ix2 k j)) := by
  pointwise [k0_pay3, k0_pay1]
  rfl

theorem out_wide (w : Vec Ideal S1024x3584 .bf16) (w' : Vec Ideal S1024x128 .f32) :
    out0_5 (F := Ideal) x sc sh w w' = k0_pay2 x sc sh w := by
  unfold out0_5
  rw [View.canon_unit_zero hz2]
  simp only [View.ld_unit_zero (S := S512x1024) hz2, View.ld_unit_zero (S := S1x1x1024) hz3, View.ld_unit_zero (S := S1024x3584) hz2]

theorem out_narrow (w : Vec Ideal S1024x3584 .bf16) (w' : Vec Ideal S1024x128 .f32) :
    out0_6 (F := Ideal) x sc sh w w' = k0_pay3 x sc sh w' := by
  unfold out0_6
  rw [View.canon_unit_zero hz2]
  simp only [View.ld_unit_zero (S := S512x1024) hz2, View.ld_unit_zero (S := S1x1x1024) hz3, View.ld_unit_zero (S := S1024x128) hz2]

end Cert.InProjIdeal.Block

end
-- ==== Proof.InProjBlocks.lean ====
/- Where the blocks of the input projection's kernel lie in its arguments: point `t` of the grid is the tile of 512 rows
   number `t`, and four tiles make one sequence. -/
module

public import proofs.«01_k».proof.Proof.Layer
public import Idealize.ShloMosaic.Lib.StableHlo.ReadAt
public import proofs.«01_k».proof.Proof.Gen.InProjIdeal.Value

@[expose] public section

set_option maxRecDepth 16384

noncomputable section

namespace Cert.InProjIdeal.Blocks

open Cert.InProjIdeal Cert.InProjIdeal.Gen Idealize.ShloMosaic Idealize.ShloMosaic.TcCoe

variable (m : (ℓ : Loc nD τ sig) → Buf (Elt Ideal) ℓ) (c : Dev nD)

/-! ## The arguments by name -/

abbrev argX : Vec Ideal S16384x1024 .f32 := m ((c : Thread nD τ).loc main_arg0)
abbrev argMod : Vec Ideal S8x1x6144 .f32 := m ((c : Thread nD τ).loc main_arg1)
abbrev argW : Vec Ideal S1024x3592 .f32 := m ((c : Thread nD τ).loc main_arg2)

/-- The column of the weights that column `j` of the wide part is. -/
abbrev wideCol (j : Fin 3584) : Fin 3592 := ⟨j.val, by omega⟩
/-- The column of the weights that column `j` of the narrow part is. -/
abbrev narrowCol (j : Fin 128) : Fin 3592 := ⟨3464 + j.val, by omega⟩

/-- The wide part of the weights, converted: over the reals a conversion changes nothing. -/
theorem V_wide (k : Fin 1024) (j : Fin 3584) : (V m c main_v1 : Vec Ideal S1024x3584 .bf16) (ix2 k j) = argW m c (ix2 k (wideCol j)) := by
  unfold V
  after_reads_at

/-- The narrow part of the weights. -/
theorem V_narrow (k : Fin 1024) (j : Fin 128) : (V m c main_v2 : Vec Ideal S1024x128 .f32) (ix2 k j) = argW m c (ix2 k (narrowCol j)) := by
  unfold V
  after_reads_at

/-! ## The grid -/

theorem lt_N (t : Fin cfg0.N) : t.val < 32 := lt_of_lt_of_eq t.isLt Gen.N_0

/-- The row of the whole array that row `r` of the tile of point `n` is. -/
abbrev rowOf (n : ℕ) (hn : n < 32) (r : Fin 512) : Fin 16384 := ⟨512 * n + r.val, by omega⟩
/-- The sequence that the tile of point `n` belongs to. -/
abbrev seqOf (n : ℕ) (hn : n < 32) : Fin 8 := ⟨n / 4, by omega⟩
/-- The columns of the modulation that a chunk number names. -/
abbrev modCol (q : Fin 6) (k : Fin 1024) : Fin 6144 := ⟨1024 * q.val + k.val, by omega⟩

theorem idx0 : ∀ t : Fin grid0.N, win0_0.index t (0 : Fin 2) = t.val ∧ win0_0.index t (1 : Fin 2) = 0 := by decide +kernel
theorem idx1 : ∀ t : Fin grid0.N, win0_1.index t (0 : Fin 3) = t.val / 4 ∧ win0_1.index t (1 : Fin 3) = 0 ∧ win0_1.index t (2 : Fin 3) = 1 := by decide +kernel
theorem idx2 : ∀ t : Fin grid0.N, win0_2.index t (0 : Fin 3) = t.val / 4 ∧ win0_2.index t (1 : Fin 3) = 0 ∧ win0_2.index t (2 : Fin 3) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = t.val ∧ win0_5.index t (1 : Fin 2) = 0 := by decide +kernel
theorem idx6 : ∀ t : Fin grid0.N, win0_6.index t (0 : Fin 2) = t.val ∧ win0_6.index t (1 : Fin 2) = 0 := by decide +kernel

/-! ## The blocks at an index -/

theorem blk_x (t : Fin cfg0.N) (r : Fin 512) (k : Fin 1024) :
    (iblk m c 0 t : Vec Ideal S512x1024 .f32) (ix2 r k) = argX m c (ix2 (rowOf t.val (lt_N t) r) k) := by
  have hi := idx0 t
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 1024 + 1 * k.val = k.val; rw [hi.2]; omega

theorem blk_sc (t : Fin cfg0.N) (k : Fin 1024) :
    (iblk m c 1 t : Vec Ideal S1x1x1024 .f32) (ix3 0 0 k) = argMod m c (ix3 (seqOf t.val (lt_N t)) 0 (modCol 1 k)) := by
  have hi := idx1 t
  unfold iblk
  rw [View.read_apply]
  show V m c main_arg1 _ = _
  rw [V_main_arg1]
  congr 1
  funext a
  apply Fin.ext
  match a with
  | ⟨0, _⟩ => show win0_1.index t 0 * 1 + 1 * 0 = t.val / 4; rw [hi.1]; omega
  | ⟨1, _⟩ => show win0_1.index t 1 * 1 + 1 * 0 = 0; rw [hi.2.1]
  | ⟨2, _⟩ => show win0_1.index t 2 * 1024 + 1 * k.val = 1024 * 1 + k.val; rw [hi.2.2]; omega

theorem blk_sh (t : Fin cfg0.N) (k : Fin 1024) :
    (iblk m c 2 t : Vec Ideal S1x1x1024 .f32) (ix3 0 0 k) = argMod m c (ix3 (seqOf t.val (lt_N t)) 0 (modCol 0 k)) := by
  have hi := idx2 t
  unfold iblk
  rw [View.read_apply]
  show V m c main_arg1 _ = _
  rw [V_main_arg1]
  congr 1
  funext a
  apply Fin.ext
  match a with
  | ⟨0, _⟩ => show win0_2.index t 0 * 1 + 1 * 0 = t.val / 4; rw [hi.1]; omega
  | ⟨1, _⟩ => show win0_2.index t 1 * 1 + 1 * 0 = 0; rw [hi.2.1]
  | ⟨2, _⟩ => show win0_2.index t 2 * 1024 + 1 * k.val = 1024 * 0 + k.val; rw [hi.2.2]; omega

theorem blk_wide (t : Fin cfg0.N) (k : Fin 1024) (j : Fin 3584) :
    (iblk m c 3 t : Vec Ideal S1024x3584 .bf16) (ix2 k j) = argW m c (ix2 k (wideCol j)) := by
  have hi := idx3 t
  refine Eq.trans ?_ (V_wide m c k j)
  unfold iblk
  rw [View.read_apply]
  show V m c main_v1 _ = V m c main_v1 _
  congr 1
  funext a
  apply Fin.ext
  match a with
  | ⟨0, _⟩ => show win0_3.index t 0 * 1024 + 1 * k.val = k.val; rw [hi.1]; omega
  | ⟨1, _⟩ => show win0_3.index t 1 * 3584 + 1 * j.val = j.val; rw [hi.2]; omega

theorem blk_narrow (t : Fin cfg0.N) (k : Fin 1024) (j : Fin 128) :
    (iblk m c 4 t : Vec Ideal S1024x128 .f32) (ix2 k j) = argW m c (ix2 k (narrowCol j)) := by
  have hi := idx4 t
  refine Eq.trans ?_ (V_narrow m c k j)
  unfold iblk
  rw [View.read_apply]
  show V m c main_v2 _ = V m c main_v2 _
  congr 1
  funext a
  apply Fin.ext
  match a with
  | ⟨0, _⟩ => show win0_4.index t 0 * 1024 + 1 * k.val = k.val; rw [hi.1]; omega
  | ⟨1, _⟩ => show win0_4.index t 1 * 128 + 1 * j.val = j.val; rw [hi.2]; omega

end Cert.InProjIdeal.Blocks

end
-- ==== Proof.InProjFold.lean ====
/- The input projection's kernel over its grid: its two result arrays hold each token's projection, the narrow one where
   the arguments are real. -/
module

public import proofs.«01_k».proof.Proof.InProjBlock
public import proofs.«01_k».proof.Proof.InProjBlocks

@[expose] public section

set_option maxRecDepth 16384

noncomputable section

namespace Cert.InProjIdeal.Fold

open Cert.InProjIdeal Cert.InProjIdeal.Gen Cert.InProjIdeal.Blocks Cert.Layer Idealize.ShloMosaic Idealize.ShloMosaic.TcCoe
open Idealize.SL.Sem

variable (m : (ℓ : Loc nD τ sig) → Buf (Elt Ideal) ℓ) (ρ : Dev nD → PrngReg) (c : Dev nD)

/-- Row `R` of sequence `b`, modulated and projected on column `j` of the weights. -/
def target (b : Fin 8) (R : Fin 16384) (j : Fin 3592) : EReal :=
  project (fun k => argX m c (ix2 R k)) (fun k => argMod m c (ix3 b 0 (modCol 1 k))) (fun k => argMod m c (ix3 b 0 (modCol 0 k)))
    (fun k => argW m c (ix2 k j))

/-- The sequence that a row of the whole array belongs to. -/
abbrev seqAt (R : Fin 16384) : Fin 8 := ⟨R.val / 2048, by omega⟩

/-- The wide result. -/
def wide : Vec Ideal S16384x3584 .f32 := fun i => target m c (seqAt (i 0)) (i 0) (wideCol (i 1))
/-- The narrow result. -/
def narrow : Vec Ideal S16384x128 .f32 := fun i => target m c (seqAt (i 0)) (i 0) (narrowCol (i 1))

/-- Real arguments. -/
structure Real : Prop where
  x : ∀ i, argX m c i = ((argX m c i).toReal : EReal)
  md : ∀ i, argMod m c i = ((argMod m c i).toReal : EReal)
  w : ∀ i, argW m c i = ((argW m c i).toReal : EReal)

/-- A real number modulated by reals is real. -/
theorem modulate_real {x s h : EReal} (hx : x = (x.toReal : EReal)) (hs : s = (s.toReal : EReal)) (hh : h = (h.toReal : EReal)) :
    modulate x s h = ((x.toReal * (1 + s.toReal) + h.toReal : ℝ) : EReal) := by
  unfold modulate
  rw [EReal.coe_add, EReal.coe_mul, EReal.coe_add, ← hx, ← hs, ← hh, EReal.coe_one]

theorem seq_eq (t : Fin cfg0.N) (r : Fin 512) : seqOf t.val (lt_N t) = seqAt (rowOf t.val (lt_N t) r) :=
  Fin.ext (by show t.val / 4 = (512 * t.val + r.val) / 2048; omega)

/-- The wide block of a point. -/
theorem wide_block (t : Fin cfg0.N) (r : Fin 512) (j : Fin 3584) :
    out0_5 (F := Ideal) (iblk m c 0 t) (iblk m c 1 t) (iblk m c 2 t) (iblk m c 3 t) (iblk m c 4 t) (ix2 r j)
      = target m c (seqAt (rowOf t.val (lt_N t) r)) (rowOf t.val (lt_N t) r) (wideCol j) := by
  rw [Block.out_wide, Block.wide_apply, ← seq_eq]
  unfold target
  congr 1 <;> funext k
  · exact blk_x m c t r k
  · exact blk_sc m c t k
  · exact blk_sh m c t k
  · exact blk_wide m c t k j

/-- The narrow block of a point, on real arguments: the low parts are zero. -/
theorem narrow_block (h : Real m c) (t : Fin cfg0.N) (r : Fin 512) (j : Fin 128) :
    out0_6 (F := Ideal) (iblk m c 0 t) (iblk m c 1 t) (iblk m c 2 t) (iblk m c 3 t) (iblk m c 4 t) (ix2 r j)
      = target m c (seqAt (rowOf t.val (lt_N t) r)) (rowOf t.val (lt_N t) r) (narrowCol j) := by
  rw [Block.out_narrow, Block.narrow_parts, ← seq_eq]
  have hu : ∀ k, _ := fun k => (modulate_real (h.x (ix2 (rowOf t.val (lt_N t) r) k))
    (h.md (ix3 (seqOf t.val (lt_N t)) 0 (modCol 1 k))) (h.md (ix3 (seqOf t.val (lt_N t)) 0 (modCol 0 k))))
  have hw : ∀ k, _ := fun k => h.w (ix2 k (narrowCol j))
  have e : ∀ k, modulate ((iblk m c 0 t : Vec Ideal S512x1024 .f32) (ix2 r k)) ((iblk m c 1 t : Vec Ideal S1x1x1024 .f32) (ix3 0 0 k))
      ((iblk m c 2 t : Vec Ideal S1x1x1024 .f32) (ix3 0 0 k)) = _ := fun k => by rw [blk_x, blk_sc, blk_sh, hu k]
  have ew : ∀ k, (iblk m c 4 t : Vec Ideal S1024x128 .f32) (ix2 k j) = _ := fun k => (blk_narrow m c t k j).trans (hw k)
  refine (DeltaReal.sum_mul_split _ _ _ _ e ew).trans ?_
  exact (DeltaReal.sum_mul _ _ _ _ hu hw).symm

/-- What a point writes back to the wide array is its block of `wide`. -/
theorem flushed_wide (t : Fin cfg0.N) :
    (dats m 0 c).flushed 5 t = ((cfg0.win 5).blk t).view.read (Elt Ideal) (wide m c) := by
  rw [Value.flushed5]
  funext y
  have hi := idx5 t
  have e : ((cfg0.win 5).blk t).view.emb y = (ix2 (rowOf t.val (lt_N t) (y 0)) (y 1) : S16384x3584.Idx) := by
    funext a
    apply Fin.ext
    match a with
    | ⟨0, _⟩ => show win0_5.index t 0 * 512 + 1 * (y 0).val = 512 * t.val + (y 0).val; rw [hi.1]; omega
    | ⟨1, _⟩ => show win0_5.index t 1 * 3584 + 1 * (y 1).val = (y 1).val; rw [hi.2]; omega
  have ey : (cfg0.win 5).xinj (grid0.coords t) y = (ix2 (y 0) (y 1) : S512x3584.Idx) := by
    funext a
    match a with
    | ⟨0, _⟩ => rfl
    | ⟨1, _⟩ => rfl
  show out0_5 (F := Ideal) _ _ _ _ _ ((cfg0.win 5).xinj (grid0.coords t) y) = wide m c (((cfg0.win 5).blk t).view.emb y)
  rw [e, ey]
  exact wide_block m c t (y 0) (y 1)

/-- What a point writes back to the narrow array is its block of `narrow`. -/
theorem flushed_narrow (h : Real m c) (t : Fin cfg0.N) :
    (dats m 0 c).flushed 6 t = ((cfg0.win 6).blk t).view.read (Elt Ideal) (narrow m c) := by
  rw [Value.flushed6]
  funext y
  have hi := idx6 t
  have e : ((cfg0.win 6).blk t).view.emb y = (ix2 (rowOf t.val (lt_N t) (y 0)) (y 1) : S16384x128.Idx) := by
    funext a
    apply Fin.ext
    match a with
    | ⟨0, _⟩ => show win0_6.index t 0 * 512 + 1 * (y 0).val = 512 * t.val + (y 0).val; rw [hi.1]; omega
    | ⟨1, _⟩ => show win0_6.index t 1 * 128 + 1 * (y 1).val = (y 1).val; rw [hi.2]; omega
  have ey : (cfg0.win 6).xinj (grid0.coords t) y = (ix2 (y 0) (y 1) : S512x128.Idx) := by
    funext a
    match a with
    | ⟨0, _⟩ => rfl
    | ⟨1, _⟩ => rfl
  show out0_6 (F := Ideal) _ _ _ _ _ ((cfg0.win 6).xinj (grid0.coords t) y) = narrow m c (((cfg0.win 6).blk t).view.emb y)
  rw [e, ey]
  exact narrow_block m c h t (y 0) (y 1)

/-- The grid point whose tile holds row `R`. -/
abbrev pointOf (R : ℕ) (hR : R < 16384) : Fin cfg0.N := ⟨R / 512, lt_of_lt_of_eq (by omega) Gen.N_0.symm⟩

/-- The wide array after the run. -/
theorem final_wide : (dats m 0 c).arrAt 5 cfg0.N = wide m c :=
  (dats m 0 c).arrAt_eq_of_cover 5 (wide m c) (fun t _ => flushed_wide m c t) fun i => by
    have h0 : (i 0).val < 16384 := (i 0).isLt
    have h1 : (i 1).val < 3584 := (i 1).isLt
    refine ⟨pointOf (i 0).val h0, flush0_5 _, ?_⟩
    have hi := idx5 (pointOf (i 0).val h0)
    show i ∈ ((View.whole main_v3_0).slice (win0_5.rect (pointOf (i 0).val h0))).set
    rw [View.set_slice_whole, Rect.mem_set_unit]
    intro a
    match a with
    | ⟨0, _⟩ =>
      show win0_5.index (pointOf (i 0).val h0) (0 : Fin 2) * 512 ≤ (i 0).val ∧ (i 0).val < win0_5.index (pointOf (i 0).val h0) (0 : Fin 2) * 512 + 512
      rw [hi.1]; dsimp only; omega
    | ⟨1, _⟩ =>
      show win0_5.index (pointOf (i 0).val h0) (1 : Fin 2) * 3584 ≤ (i 1).val ∧ (i 1).val < win0_5.index (pointOf (i 0).val h0) (1 : Fin 2) * 3584 + 3584
      rw [hi.2]; omega

/-- The narrow array after the run. -/
theorem final_narrow (h : Real m c) : (dats m 0 c).arrAt 6 cfg0.N = narrow m c :=
  (dats m 0 c).arrAt_eq_of_cover 6 (narrow m c) (fun t _ => flushed_narrow m c h t) fun i => by
    have h0 : (i 0).val < 16384 := (i 0).isLt
    have h1 : (i 1).val < 128 := (i 1).isLt
    refine ⟨pointOf (i 0).val h0, flush0_6 _, ?_⟩
    have hi := idx6 (pointOf (i 0).val h0)
    show i ∈ ((View.whole main_v3_1).slice (win0_6.rect (pointOf (i 0).val h0))).set
    rw [View.set_slice_whole, Rect.mem_set_unit]
    intro a
    match a with
    | ⟨0, _⟩ =>
      show win0_6.index (pointOf (i 0).val h0) (0 : Fin 2) * 512 ≤ (i 0).val ∧ (i 0).val < win0_6.index (pointOf (i 0).val h0) (0 : Fin 2) * 512 + 512
      rw [hi.1]; dsimp only; omega
    | ⟨1, _⟩ =>
      show win0_6.index (pointOf (i 0).val h0) (1 : Fin 2) * 128 ≤ (i 1).val ∧ (i 1).val < win0_6.index (pointOf (i 0).val h0) (1 : Fin 2) * 128 + 128
      rw [hi.2]; omega

/-- The run, read: both result arrays at the projections, the arguments unchanged. -/
theorem run (h : ∀ c, Real m c) : θ_run defs (onTc (τ := τ) (main (F := Ideal))) ⟨m, fun _ => 0, ρ⟩ fun r => ∀ c : Dev nD,
      r.2.mem ((c : Thread nD τ).loc main_v3_0) = wide m c
      ∧ r.2.mem ((c : Thread nD τ).loc main_v3_1) = narrow m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ hr c => ⟨(hr c).1.trans (final_wide m c), (hr c).2.1.trans (final_narrow m c (h c)), (hr c).2.2⟩)
    (Value.run_blocks m ρ)

end Cert.InProjIdeal.Fold

end
-- ==== Proof.InProjRefValue.lean ====
/- What the input projection's reference computes, element by element: `project` of its arguments. -/
module

public import proofs.«01_k».proof.Proof.InProjSpec
public import proofs.«01_k».proof.Proof.Gen.InProjRefIdeal.Read

@[expose] public section

set_option maxRecDepth 16384

noncomputable section

namespace Cert.InProjRefIdeal.RefValue

open Cert.InProjRefIdeal Cert.InProjRefIdeal.Gen Cert.InProjRefIdeal.Read Cert.Layer Idealize.ShloMosaic

variable (x : Vec Ideal S16384x1024 .f32) (md : Vec Ideal S8x1x6144 .f32) (w : Vec Ideal S1024x3592 .f32)

/-- The row of the whole array that token `s` of sequence `b` is. -/
abbrev rowAt (b : Fin 8) (s : Fin 2048) : Fin 16384 := ⟨2048 * b.val + s.val, by omega⟩
/-- The columns of the modulation that a chunk number names. -/
abbrev modCol (q : Fin 6) (k : Fin 1024) : Fin 6144 := ⟨1024 * q.val + k.val, by omega⟩

theorem x_at (b : Fin 8) (s : Fin 2048) (k : Fin 1024) : val_main_v0 (F := Ideal) x (ix3 b s k) = x (ix2 (rowAt b s) k) := by
  rw [val_main_v0_apply]
  congr 1
  funext a
  apply Fin.ext
  match a with
  | ⟨0, _⟩ => show ((b.val * 2048 + s.val) * 1024 + k.val) / 1024 = 2048 * b.val + s.val; omega
  | ⟨1, _⟩ => show ((b.val * 2048 + s.val) * 1024 + k.val) % 1024 = k.val; omega

/-- A token's row, modulated. -/
theorem modulated_at (b : Fin 8) (s : Fin 2048) (k : Fin 1024) :
    val_main_v12 (F := Ideal) x md (ix3 b s k)
      = modulate (x (ix2 (rowAt b s) k)) (md (ix3 b 0 (modCol 1 k))) (md (ix3 b 0 (modCol 0 k))) := by
  rw [val_main_v12_apply, val_main_v10_apply, x_at, val_main_v9_apply, val_main_v8_apply, val_main_v7_apply, val_main_cst_apply,
    val_main_v2_apply, val_main_v11_apply, val_main_v1_apply]
  show x _ * (Ideal.ofBits .f32 0x3F800000#32 + md _) + md _ = _
  rw [Ideal.ofBits_one_f32]
  unfold modulate
  congr 3
  · congr 1
    funext a
    apply Fin.ext
    match a with
    | ⟨0, _⟩ => rfl
    | ⟨1, _⟩ => rfl
    | ⟨2, _⟩ => rfl
  · funext a
    apply Fin.ext
    match a with
    | ⟨0, _⟩ => rfl
    | ⟨1, _⟩ => rfl
    | ⟨2, _⟩ => show k.val = 1024 * 0 + k.val; omega

/-- The whole product on one token. -/
theorem product_at (b : Fin 8) (s : Fin 2048) (j : Fin 3592) :
    val_main_v13 (F := Ideal) x md w (ix3 b s j)
      = project (fun k => x (ix2 (rowAt b s) k)) (fun k => md (ix3 b 0 (modCol 1 k))) (fun k => md (ix3 b 0 (modCol 0 k)))
          (fun k => w (ix2 k j)) := by
  rw [val_main_v13_apply]
  unfold project
  refine Finset.sum_congr rfl fun k _ => ?_
  beta_reduce
  rw [← modulated_at]
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl

/-- The product's rows numbered through all sequences. -/
theorem row_at (b : Fin 8) (s : Fin 2048) (j : Fin 3592) :
    val_main_v14 (F := Ideal) x md w (ix2 (rowAt b s) j) = val_main_v13 (F := Ideal) x md w (ix3 b s j) := by
  rw [val_main_v14_apply]
  congr 1
  funext a
  apply Fin.ext
  match a with
  | ⟨0, _⟩ => show ((2048 * b.val + s.val) * 3592 + j.val) / 7356416 = b.val; omega
  | ⟨1, _⟩ => show ((2048 * b.val + s.val) * 3592 + j.val) / 3592 % 2048 = s.val; omega
  | ⟨2, _⟩ => show ((2048 * b.val + s.val) * 3592 + j.val) % 3592 = j.val; omega

theorem wide_apply (b : Fin 8) (s : Fin 2048) (j : Fin 3584) :
    val_main_v15 (F := Ideal) x md w (ix2 (rowAt b s) j)
      = project (fun k => x (ix2 (rowAt b s) k)) (fun k => md (ix3 b 0 (modCol 1 k))) (fun k => md (ix3 b 0 (modCol 0 k)))
          (fun k => w (ix2 k (⟨j.val, by omega⟩ : Fin 3592))) := by
  rw [val_main_v15_apply, ← product_at, ← row_at]
  congr 1
  funext a
  apply Fin.ext
  match a with
  | ⟨0, _⟩ => rfl
  | ⟨1, _⟩ => rfl

theorem narrow_apply (b : Fin 8) (s : Fin 2048) (j : Fin 128) :
    val_main_v16 (F := Ideal) x md w (ix2 (rowAt b s) j)
      = project (fun k => x (ix2 (rowAt b s) k)) (fun k => md (ix3 b 0 (modCol 1 k))) (fun k => md (ix3 b 0 (modCol 0 k)))
          (fun k => w (ix2 k (⟨3464 + j.val, by omega⟩ : Fin 3592))) := by
  rw [val_main_v16_apply, ← product_at, ← row_at]
  congr 1
  funext a
  apply Fin.ext
  match a with
  | ⟨0, _⟩ => rfl
  | ⟨1, _⟩ => rfl

/-- The sequence of a row of the whole array. -/
abbrev seqAt (R : Fin 16384) : Fin 8 := ⟨R.val / 2048, by omega⟩
/-- A row of the whole array as a token of its sequence. -/
theorem row_split (R : Fin 16384) : rowAt (seqAt R) ⟨R.val % 2048, by omega⟩ = R :=
  Fin.ext (by show 2048 * (R.val / 2048) + R.val % 2048 = R.val; omega)

/-- The wide result at row `R`. -/
theorem wide_row (R : Fin 16384) (j : Fin 3584) :
    val_main_v15 (F := Ideal) x md w (ix2 R j)
      = project (fun k => x (ix2 R k)) (fun k => md (ix3 (seqAt R) 0 (modCol 1 k))) (fun k => md (ix3 (seqAt R) 0 (modCol 0 k)))
          (fun k => w (ix2 k (⟨j.val, by omega⟩ : Fin 3592))) := by
  have h := wide_apply x md w (seqAt R) ⟨R.val % 2048, by omega⟩ j
  rwa [row_split] at h

/-- The narrow result at row `R`. -/
theorem narrow_row (R : Fin 16384) (j : Fin 128) :
    val_main_v16 (F := Ideal) x md w (ix2 R j)
      = project (fun k => x (ix2 R k)) (fun k => md (ix3 (seqAt R) 0 (modCol 1 k))) (fun k => md (ix3 (seqAt R) 0 (modCol 0 k)))
          (fun k => w (ix2 k (⟨3464 + j.val, by omega⟩ : Fin 3592))) := by
  have h := narrow_apply x md w (seqAt R) ⟨R.val % 2048, by omega⟩ j
  rwa [row_split] at h

end Cert.InProjRefIdeal.RefValue

end
-- ==== Proof.InProjClaim.lean ====
/- The claims about the input projection's kernel: the frames, and the equation with its reference over the reals. -/
module

public import proofs.«01_k».proof.Defs
public import proofs.«01_k».proof.Proof.DeltaClaim
public import proofs.«01_k».proof.Proof.InProjFold
public import proofs.«01_k».proof.Proof.InProjRefValue
public import proofs.«01_k».proof.Proof.Gen.InProj.Frame
public import proofs.«01_k».proof.Proof.Gen.InProjRefIdeal.Run
public import proofs.«01_k».proof.Proof.Gen.Pre_finite_in
public import Idealize.ShloMosaic.Lib.Quiescent

@[expose] public section

set_option maxRecDepth 16384

noncomputable section

namespace Cert.InProjClaim

open Idealize.ShloMosaic Idealize.ShloMosaic.TcCoe Idealize.SL.Sem

theorem frame_kernel : Cert.quiescent_InProj := fun m ρ _ => Cert.InProj.Gen.frame m ρ

theorem frame_ideal : Cert.quiescent_InProjIdeal := fun m ρ _ => Cert.InProjIdeal.Gen.frame m ρ

theorem frame_ideal_finite : Cert.quiescent_InProjIdeal_pre_finite_in := fun m ρ _ => Cert.InProjIdeal.Gen.frame m ρ

theorem frame_reference : Cert.quiescent_InProjRefIdeal := fun m ρ _ =>
  (θ_run Cert.InProjRefIdeal.defs _ _).mono
    (fun r h => ⟨fun c => (h c).2.2, Idealize.ShloMosaic.sem_eq_zero_of_no_sems (by decide) r.2⟩)
    (Cert.InProjRefIdeal.Value.run (F := Ideal) m ρ)

theorem frame_reference_finite : Cert.quiescent_InProjRefIdeal_pre_finite_in := fun m ρ _ => frame_reference m ρ trivial

/-- Arguments that meet the precondition are real. -/
theorem real_of_finite (m : (ℓ : Loc Cert.InProjIdeal.nD Cert.InProjIdeal.τ Cert.InProjIdeal.sig) → Buf (Elt Ideal) ℓ)
    (h : Cert.Pre_InProjIdeal_finite_in m) (c : Dev Cert.InProjIdeal.nD) : Cert.InProjIdeal.Fold.Real m c where
  x i := Cert.DeltaClaim.eq_toReal (congrFun (h c).1 i)
  md i := Cert.DeltaClaim.eq_toReal (congrFun (h c).2.1 i)
  w i := Cert.DeltaClaim.eq_toReal (congrFun (h c).2.2 i)

variable (m : (ℓ : Loc Cert.InProjIdeal.nD Cert.InProjIdeal.τ Cert.InProjIdeal.sig) → Buf (Elt Ideal) ℓ) (c : Dev Cert.InProjIdeal.nD)

/-- The reference's wide result is the kernel's: both are the token's projection. -/
theorem wide_agree :
    Cert.InProjRefIdeal.Read.val_main_v15 (F := Ideal) (Cert.InProjIdeal.Blocks.argX m c) (Cert.InProjIdeal.Blocks.argMod m c)
      (Cert.InProjIdeal.Blocks.argW m c) = Cert.InProjIdeal.Fold.wide m c := by
  funext i
  obtain ⟨R, j, rfl⟩ : ∃ (R : Fin 16384) (j : Fin 3584), i = ix2 R j := ⟨i 0, i 1, funext fun a => by
    match a with
    | ⟨0, _⟩ => rfl
    | ⟨1, _⟩ => rfl⟩
  exact Cert.InProjRefIdeal.RefValue.wide_row _ _ _ R j

/-- The reference's narrow result is the kernel's. -/
theorem narrow_agree :
    Cert.InProjRefIdeal.Read.val_main_v16 (F := Ideal) (Cert.InProjIdeal.Blocks.argX m c) (Cert.InProjIdeal.Blocks.argMod m c)
      (Cert.InProjIdeal.Blocks.argW m c) = Cert.InProjIdeal.Fold.narrow m c := by
  funext i
  obtain ⟨R, j, rfl⟩ : ∃ (R : Fin 16384) (j : Fin 128), i = ix2 R j := ⟨i 0, i 1, funext fun a => by
    match a with
    | ⟨0, _⟩ => rfl
    | ⟨1, _⟩ => rfl⟩
  exact Cert.InProjRefIdeal.RefValue.narrow_row _ _ _ R j

theorem algebraic : Cert.algebraic_InProjIdeal_InProjRefIdeal_pre_finite_in := by
  intro m ρ m' ρ' hfin hag
  refine ⟨fun c => Cert.InProjIdeal.Fold.wide m c, fun c => Cert.InProjIdeal.Fold.narrow m c,
    Cert.InProjIdeal.Fold.run m ρ (fun c => real_of_finite m hfin c), ?_⟩
  refine (θ_run Cert.InProjRefIdeal.defs _ _).mono (fun _ h c => ⟨(h c).1.trans ?_, (h c).2.1.trans ?_, (h c).2.2⟩)
    (Cert.InProjRefIdeal.Value.run (F := Ideal) m' ρ')
  · obtain ⟨h0, h1, h2⟩ := hag c
    rw [Cert.InProjRefIdeal.Read.val_main_v15_eq, h0, h1, h2]
    exact wide_agree m c
  · obtain ⟨h0, h1, h2⟩ := hag c
    rw [Cert.InProjRefIdeal.Read.val_main_v16_eq, h0, h1, h2]
    exact narrow_agree m c

end Cert.InProjClaim

end
-- ==== Proof.MoeSBlock.lean ====
/- What one grid point of the experts' kernel on the sample rows computes from its blocks, element by element. -/
module

public import proofs.«01_k».proof.Proof.Layer
public import proofs.«01_k».proof.Proof.Gen.MoeSIdeal.Skeleton

@[expose] public section

set_option maxRecDepth 16384

noncomputable section

namespace Cert.MoeSIdeal.Block

open Cert.MoeSIdeal Cert.MoeSIdeal.Gen Idealize.ShloMosaic Cert.Layer

/-- The block the first point of a tile keeps: the tile's rows modulated. -/
theorem modulated_apply (x : Vec Ideal S128x1024 .f32) (sc sh : Vec Ideal S1x128x1024 .f32) (r : Fin 128) (k : Fin 1024) :
    k0_pay3 (F := Ideal) x sc sh (ix2 r k) = modulate (x (ix2 r k)) (sc (ix3 0 r k)) (sh (ix3 0 r k)) := by
  pointwise [k0_pay3]
  rfl

theorem zeros_apply (r : Fin 128) (k : Fin 1024) : k0_pay4 (F := Ideal) (ix2 r k) = 0 := by
  pointwise [k0_pay4]

theorem sum_apply (a b : Vec Ideal S128x1024 .f32) (r : Fin 128) (k : Fin 1024) :
    k0_pay1 (F := Ideal) a b (ix2 r k) = b (ix2 r k) + a (ix2 r k) := by
  pointwise [k0_pay1]

theorem norm_apply (x : Vec Ideal S128x1024 .f32) (g : Vec Ideal S1x128x1024 .f32) (y : Vec Ideal S128x1024 .f32)
    (lg lb : Vec Ideal S1x1024 .f32) (r : Fin 128) (j : Fin 1024) :
    k0_pay2 (F := Ideal) x g y lg lb (ix2 r j)
      = layerNorm (fun k => resid (x (ix2 r k)) (g (ix3 0 r k)) (y (ix2 r k))) j (lg (ix2 0 j)) (lb (ix2 0 j)) := by
  pointwise [k0_pay2]
  rfl

theorem expert_apply (i : grid0.Coords) (u : Vec Ideal S128x1024 .bf16) (wg wu : Vec Ideal S1x1024x1408 .bf16)
    (wd : Vec Ideal S1x1408x1024 .bf16) (gates : Vec Ideal S128x128 .f32) (r : Fin 128) (j : Fin 1024)
    (e : Fin 128) (he : (i 1).val = e.val) :
    k0_pay5 (F := Ideal) i u wg wu wd gates (ix2 r j)
      = gates (ix2 r e) * ∑ f : Fin 1408, gated (fun k => u (ix2 r k)) (fun k => wg (ix3 0 k f)) (fun k => wu (ix3 0 k f)) * wd (ix3 0 f j) := by
  pointwise [k0_pay5]
  rw [sum_select_lane (fun l => gates (ix2 r l)) _ e he]
  rfl

end Cert.MoeSIdeal.Block

end
-- ==== Proof.MoeSBlocks.lean ====
/- Where the blocks of the experts' kernel on the sample rows lie in its arguments: point `t` of the grid is expert `t % 8`
   on the tile of 128 rows number `t / 8`; a tile is one time step, and row `r` of every tile takes row `r` of the modulation. -/
module

public import proofs.«01_k».proof.Proof.Layer
public import Idealize.ShloMosaic.Lib.StableHlo.ReadAt
public import proofs.«01_k».proof.Proof.Gen.MoeSIdeal.Value

@[expose] public section

set_option maxRecDepth 16384

noncomputable section

namespace Cert.MoeSIdeal.Blocks

open Cert.MoeSIdeal Cert.MoeSIdeal.Gen Idealize.ShloMosaic Idealize.ShloMosaic.TcCoe

variable (m : (ℓ : Loc nD τ sig) → Buf (Elt Ideal) ℓ) (c : Dev nD)

/-! ## The arguments by name -/

abbrev argX : Vec Ideal S512x1024 .f32 := m ((c : Thread nD τ).loc main_arg0)
abbrev argMod : Vec Ideal S1x128x6144 .f32 := m ((c : Thread nD τ).loc main_arg1)
abbrev argGates : Vec Ideal S512x128 .f32 := m ((c : Thread nD τ).loc main_arg2)
abbrev argWg : Vec Ideal S8x1024x1408 .f32 := m ((c : Thread nD τ).loc main_arg3)
abbrev argWu : Vec Ideal S8x1024x1408 .f32 := m ((c : Thread nD τ).loc main_arg4)
abbrev argWd : Vec Ideal S8x1408x1024 .f32 := m ((c : Thread nD τ).loc main_arg5)
abbrev argLg : Vec Ideal S1x1024 .f32 := m ((c : Thread nD τ).loc main_arg6)
abbrev argLb : Vec Ideal S1x1024 .f32 := m ((c : Thread nD τ).loc main_arg7)

/-- The converted weights are the weights: over the reals a conversion changes nothing. -/
theorem V_wg (j : S8x1024x1408.Idx) : (V m c main_v0 : Vec Ideal S8x1024x1408 .bf16) j = argWg m c j := by
  unfold V
  after_reads_at
theorem V_wu (j : S8x1024x1408.Idx) : (V m c main_v1 : Vec Ideal S8x1024x1408 .bf16) j = argWu m c j := by
  unfold V
  after_reads_at
theorem V_wd (j : S8x1408x1024.Idx) : (V m c main_v2 : Vec Ideal S8x1408x1024 .bf16) j = argWd m c j := by
  unfold V
  after_reads_at

/-! ## The grid -/

theorem lt_N (t : Fin cfg0.N) : t.val < 32 := lt_of_lt_of_eq t.isLt Gen.N_0

/-- The row of the whole array that row `r` of the tile of point `n` is. -/
abbrev rowOf (n : ℕ) (hn : n < 32) (r : Fin 128) : Fin 512 := ⟨128 * (n / 8) + r.val, by omega⟩
/-- The expert of point `n`. -/
abbrev expertOf (n : ℕ) : Fin 8 := ⟨n % 8, by omega⟩

theorem idx0 : ∀ t : Fin grid0.N, win0_0.index t (0 : Fin 2) = t.val / 8 ∧ win0_0.index t (1 : Fin 2) = 0 := by decide +kernel
theorem idx1 : ∀ t : Fin grid0.N, win0_1.index t (0 : Fin 3) = 0 ∧ win0_1.index t (1 : Fin 3) = 0 ∧ win0_1.index t (2 : Fin 3) = 4 := by decide +kernel
theorem idx2 : ∀ t : Fin grid0.N, win0_2.index t (0 : Fin 3) = 0 ∧ win0_2.index t (1 : Fin 3) = 0 ∧ win0_2.index t (2 : Fin 3) = 3 := by decide +kernel
theorem idx3 : ∀ t : Fin grid0.N, win0_3.index t (0 : Fin 3) = 0 ∧ win0_3.index t (1 : Fin 3) = 0 ∧ win0_3.index t (2 : Fin 3) = 5 := by decide +kernel
theorem idx4 : ∀ t : Fin grid0.N, win0_4.index t (0 : Fin 2) = t.val / 8 ∧ win0_4.index t (1 : Fin 2) = 0 := by decide +kernel
theorem idx5 : ∀ t : Fin grid0.N, win0_5.index t (0 : Fin 3) = t.val % 8 ∧ win0_5.index t (1 : Fin 3) = 0 ∧ win0_5.index t (2 : Fin 3) = 0 := by decide +kernel
theorem idx6 : ∀ t : Fin grid0.N, win0_6.index t (0 : Fin 3) = t.val % 8 ∧ win0_6.index t (1 : Fin 3) = 0 ∧ win0_6.index t (2 : Fin 3) = 0 := by decide +kernel
theorem idx7 : ∀ t : Fin grid0.N, win0_7.index t (0 : Fin 3) = t.val % 8 ∧ win0_7.index t (1 : Fin 3) = 0 ∧ win0_7.index t (2 : Fin 3) = 0 := by decide +kernel
theorem idx8 : ∀ t : Fin grid0.N, win0_8.index t (0 : Fin 2) = 0 ∧ win0_8.index t (1 : Fin 2) = 0 := by decide +kernel
theorem idx9 : ∀ t : Fin grid0.N, win0_9.index t (0 : Fin 2) = 0 ∧ win0_9.index t (1 : Fin 2) = 0 := by decide +kernel
/-- The second grid coordinate is the expert. -/
theorem coord1 : ∀ t : Fin grid0.N, (grid0.coords t 1).val = t.val % 8 := by decide +kernel

/-! ## The blocks at an index -/

theorem blk_x (t : Fin cfg0.N) (r : Fin 128) (k : Fin 1024) :
    (iblk m c 0 t : Vec Ideal S128x1024 .f32) (ix2 r k) = argX m c (ix2 (rowOf t.val (lt_N t) r) k) := by
  have hi := idx0 t
  unfold iblk
  rw [View.read_apply]
  show V m c main_arg0 _ = _
  rw [V_main_arg0]
  congr 1
  funext a
  apply Fin.ext
  match a with
  | ⟨0, _⟩ => show win0_0.index t 0 * 128 + 1 * r.val = 128 * (t.val / 8) + r.val; rw [hi.1]; omega
  | ⟨1, _⟩ => show win0_0.index t 1 * 1024 + 1 * k.val = k.val; rw [hi.2]; omega

/-- The columns of the modulation that a chunk number names. -/
abbrev modCol (q : Fin 6) (k : Fin 1024) : Fin 6144 := ⟨1024 * q.val + k.val, by omega⟩

theorem blk_sc (t : Fin cfg0.N) (r : Fin 128) (k : Fin 1024) :
    (iblk m c 1 t : Vec Ideal S1x128x1024 .f32) (ix3 0 r k) = argMod m c (ix3 0 r (modCol 4 k)) := by
  have hi := idx1 t
  unfold iblk
  rw [View.read_apply]
  show V m c main_arg1 _ = _
  rw [V_main_arg1]
  congr 1
  funext a
  apply Fin.ext
  match a with
  | ⟨0, _⟩ => show win0_1.index t 0 * 1 + 1 * 0 = 0; rw [hi.1]
  | ⟨1, _⟩ => show win0_1.index t 1 * 128 + 1 * r.val = r.val; rw [hi.2.1]; omega
  | ⟨2, _⟩ => show win0_1.index t 2 * 1024 + 1 * k.val = 1024 * 4 + k.val; rw [hi.2.2]; omega

theorem blk_sh (t : Fin cfg0.N) (r : Fin 128) (k : Fin 1024) :
    (iblk m c 2 t : Vec Ideal S1x128x1024 .f32) (ix3 0 r k) = argMod m c (ix3 0 r (modCol 3 k)) := by
  have hi := idx2 t
  unfold iblk
  rw [View.read_apply]
  show V m c main_arg1 _ = _
  rw [V_main_arg1]
  congr 1
  funext a
  apply Fin.ext
  match a with
  | ⟨0, _⟩ => show win0_2.index t 0 * 1 + 1 * 0 = 0; rw [hi.1]
  | ⟨1, _⟩ => show win0_2.index t 1 * 128 + 1 * r.val = r.val; rw [hi.2.1]; omega
  | ⟨2, _⟩ => show win0_2.index t 2 * 1024 + 1 * k.val = 1024 * 3 + k.val; rw [hi.2.2]; omega

theorem blk_g2 (t : Fin cfg0.N) (r : Fin 128) (k : Fin 1024) :
    (iblk m c 3 t : Vec Ideal S1x128x1024 .f32) (ix3 0 r k) = argMod m c (ix3 0 r (modCol 5 k)) := by
  have hi := idx3 t
  unfold iblk
  rw [View.read_apply]
  show V m c main_arg1 _ = _
  rw [V_main_arg1]
  congr 1
  funext a
  apply Fin.ext
  match a with
  | ⟨0, _⟩ => show win0_3.index t 0 * 1 + 1 * 0 = 0; rw [hi.1]
  | ⟨1, _⟩ => show win0_3.index t 1 * 128 + 1 * r.val = r.val; rw [hi.2.1]; omega
  | ⟨2, _⟩ => show win0_3.index t 2 * 1024 + 1 * k.val = 1024 * 5 + k.val; rw [hi.2.2]; omega

theorem blk_gates (t : Fin cfg0.N) (r : Fin 128) (e : Fin 128) :
    (iblk m c 4 t : Vec Ideal S128x128 .f32) (ix2 r e) = argGates m c (ix2 (rowOf t.val (lt_N t) r) e) := by
  have hi := idx4 t
  unfold iblk
  rw [View.read_apply]
  show V m c main_arg2 _ = _
  rw [V_main_arg2]
  congr 1
  funext a
  apply Fin.ext
  match a with
  | ⟨0, _⟩ => show win0_4.index t 0 * 128 + 1 * r.val = 128 * (t.val / 8) + r.val; rw [hi.1]; omega
  | ⟨1, _⟩ => show win0_4.index t 1 * 128 + 1 * e.val = e.val; rw [hi.2]; omega

theorem blk_wg (t : Fin cfg0.N) (k : Fin 1024) (f : Fin 1408) :
    (iblk m c 5 t : Vec Ideal S1x1024x1408 .bf16) (ix3 0 k f) = argWg m c (ix3 (expertOf t.val) k f) := by
  have hi := idx5 t
  unfold iblk
  rw [View.read_apply]
  refine (V_wg m c _).trans ?_
  congr 1
  funext a
  apply Fin.ext
  match a with
  | ⟨0, _⟩ => show win0_5.index t 0 * 1 + 1 * 0 = t.val % 8; rw [hi.1]; omega
  | ⟨1, _⟩ => show win0_5.index t 1 * 1024 + 1 * k.val = k.val; rw [hi.2.1]; omega
  | ⟨2, _⟩ => show win0_5.index t 2 * 1408 + 1 * f.val = f.val; rw [hi.2.2]; omega

theorem blk_wu (t : Fin cfg0.N) (k : Fin 1024) (f : Fin 1408) :
    (iblk m c 6 t : Vec Ideal S1x1024x1408 .bf16) (ix3 0 k f) = argWu m c (ix3 (expertOf t.val) k f) := by
  have hi := idx6 t
  unfold iblk
  rw [View.read_apply]
  refine (V_wu m c _).trans ?_
  congr 1
  funext a
  apply Fin.ext
  match a with
  | ⟨0, _⟩ => show win0_6.index t 0 * 1 + 1 * 0 = t.val % 8; rw [hi.1]; omega
  | ⟨1, _⟩ => show win0_6.index t 1 * 1024 + 1 * k.val = k.val; rw [hi.2.1]; omega
  | ⟨2, _⟩ => show win0_6.index t 2 * 1408 + 1 * f.val = f.val; rw [hi.2.2]; omega

theorem blk_wd (t : Fin cfg0.N) (f : Fin 1408) (j : Fin 1024) :
    (iblk m c 7 t : Vec Ideal S1x1408x1024 .bf16) (ix3 0 f j) = argWd m c (ix3 (expertOf t.val) f j) := by
  have hi := idx7 t
  unfold iblk
  rw [View.read_apply]
  refine (V_wd m c _).trans ?_
  congr 1
  funext a
  apply Fin.ext
  match a with
  | ⟨0, _⟩ => show win0_7.index t 0 * 1 + 1 * 0 = t.val % 8; rw [hi.1]; omega
  | ⟨1, _⟩ => show win0_7.index t 1 * 1408 + 1 * f.val = f.val; rw [hi.2.1]; omega
  | ⟨2, _⟩ => show win0_7.index t 2 * 1024 + 1 * j.val = j.val; rw [hi.2.2]; omega

theorem blk_lg (t : Fin cfg0.N) (j : Fin 1024) :
    (iblk m c 8 t : Vec Ideal S1x1024 .f32) (ix2 0 j) = argLg m c (ix2 0 j) := by
  have hi := idx8 t
  unfold iblk
  rw [View.read_apply]
  show V m c main_arg6 _ = _
  rw [V_main_arg6]
  congr 1
  funext a
  apply Fin.ext
  match a with
  | ⟨0, _⟩ => show win0_8.index t 0 * 1 + 1 * 0 = 0; rw [hi.1]
  | ⟨1, _⟩ => show win0_8.index t 1 * 1024 + 1 * j.val = j.val; rw [hi.2]; omega

theorem blk_lb (t : Fin cfg0.N) (j : Fin 1024) :
    (iblk m c 9 t : Vec Ideal S1x1024 .f32) (ix2 0 j) = argLb m c (ix2 0 j) := by
  have hi := idx9 t
  unfold iblk
  rw [View.read_apply]
  show V m c main_arg7 _ = _
  rw [V_main_arg7]
  congr 1
  funext a
  apply Fin.ext
  match a with
  | ⟨0, _⟩ => show win0_9.index t 0 * 1 + 1 * 0 = 0; rw [hi.1]
  | ⟨1, _⟩ => show win0_9.index t 1 * 1024 + 1 * j.val = j.val; rw [hi.2]; omega

end Cert.MoeSIdeal.Blocks

end
-- ==== Proof.MoeSTerms.lean ====
/- What the body of the experts' kernel leaves in its two scratch buffers and in its output block, case by case, as
   values of the blocks it read. -/
module

public import proofs.«01_k».proof.Proof.Gen.MoeSIdeal.Value

@[expose] public section

set_option maxRecDepth 16384

noncomputable section

namespace Cert.MoeSIdeal.Terms

open Cert.MoeSIdeal Cert.MoeSIdeal.Gen Idealize.ShloMosaic Idealize.ShloMosaic.TcCoe

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a3 : Memref sig .tc .vmem S128x1024 .f32) (h3 : a3.IsWhole)
  (a4 : Memref sig .tc .vmem S1x128x1024 .f32) (h4 : a4.IsWhole)
  (a5 : Memref sig .tc .vmem S1x128x1024 .f32) (h5 : a5.IsWhole)
  (a6 : Memref sig .tc .vmem S1x128x1024 .f32) (h6 : a6.IsWhole)
  (a7 : Memref sig .tc .vmem S128x128 .f32) (h7 : a7.IsWhole)
  (a8 : Memref sig .tc .vmem S1x1024x1408 .bf16) (h8 : a8.IsWhole)
  (a9 : Memref sig .tc .vmem S1x1024x1408 .bf16) (h9 : a9.IsWhole)
  (a10 : Memref sig .tc .vmem S1x1408x1024 .bf16) (h10 : a10.IsWhole)
  (a11 : Memref sig .tc .vmem S1x1024 .f32) (h11 : a11.IsWhole)
  (a12 : Memref sig .tc .vmem S1x1024 .f32) (h12 : a12.IsWhole)
  (a13 : Memref sig .tc .vmem S128x1024 .f32) (h13 : a13.IsWhole)
  (a14 : Memref sig .tc .vmem S128x1024 .bf16) (h14 : a14.IsWhole)
  (a15 : Memref sig .tc .vmem S128x1024 .f32) (h15 : a15.IsWhole)
  (x0 : Vec F S128x1024 .f32)
  (x1 : Vec F S1x128x1024 .f32)
  (x2 : Vec F S1x128x1024 .f32)
  (x3 : Vec F S1x128x1024 .f32)
  (x4 : Vec F S128x128 .f32)
  (x5 : Vec F S1x1024x1408 .bf16)
  (x6 : Vec F S1x1024x1408 .bf16)
  (x7 : Vec F S1x1408x1024 .bf16)
  (x8 : Vec F S1x1024 .f32)
  (x9 : Vec F S1x1024 .f32)

/-- First expert of a tile: the kept block is the tile's modulated rows. -/
theorem keep_first (hc0 : cond0_0 i) (hc1 : ¬cond0_1 i) :
    sout0_A_0 c i a3 h3 a4 h4 a5 h5 a6 h6 a7 h7 a8 h8 a9 h9 a10 h10 a11 h11 a12 h12 a13 h13 a14 h14 a15 h15 hc0 hc1 x0 x1 x2 x3 x4 x5 x6 x7 x8 x9 = k0_pay3 x0 x1 x2 := by
  unfold sout0_A_0
  rw [View.read_writes_eq_canon _ _ _ (scover0_A_0 c i a3 h3 a4 h4 a5 h5 a6 h6 a7 h7 a8 h8 a9 h9 a10 h10 a11 h11 a12 h12 a13 h13 a14 h14 a15 h15 hc0 hc1 x0 x1 x2 x3 x4 x5 x6 x7 x8 x9)]
  unfold kernelRun0_A
  dsimp only
  sl_unfold_words
  rw [View.canon_unit_zero hz2]
  unfold k0_pay3
  simp only [View.readAt_eq_ld, h3.read_unread, h4.read_unread, h5.read_unread, h6.read_unread, h7.read_unread, h8.read_unread, h9.read_unread, h10.read_unread, h11.read_unread, h12.read_unread, h13.read_unread, h14.read_unread, h15.read_unread, View.ld_unit_zero (S := S128x1024) hz2,
    View.ld_unit_zero (S := S128x128) hz2, View.ld_unit_zero (S := S1x1024) hz2, View.ld_unit_zero (S := S1x128x1024) hz3,
    View.ld_unit_zero (S := S1x1024x1408) hz3, View.ld_unit_zero (S := S1x1408x1024) hz3, shapeCast_self]

/-- First expert of a tile: the running sum starts from zeros and takes the expert's product in. -/
theorem sum_first (hc0 : cond0_0 i) (hc1 : ¬cond0_1 i) :
    sout0_A_1 c i a3 h3 a4 h4 a5 h5 a6 h6 a7 h7 a8 h8 a9 h9 a10 h10 a11 h11 a12 h12 a13 h13 a14 h14 a15 h15 hc0 hc1 x0 x1 x2 x3 x4 x5 x6 x7 x8 x9
      = k0_pay1 (k0_pay5 i (k0_pay3 x0 x1 x2) x5 x6 x7 x4) k0_pay4 := by
  unfold sout0_A_1
  rw [View.read_writes_eq_canon _ _ _ (scover0_A_1 c i a3 h3 a4 h4 a5 h5 a6 h6 a7 h7 a8 h8 a9 h9 a10 h10 a11 h11 a12 h12 a13 h13 a14 h14 a15 h15 hc0 hc1 x0 x1 x2 x3 x4 x5 x6 x7 x8 x9)]
  unfold kernelRun0_A
  dsimp only
  sl_unfold_words
  rw [View.canon_cons_unit_zero (S := S128x1024) hz2]
  simp only [View.readCov_unit_zero (S := S128x1024) _ hz2]
  unfold k0_pay1 k0_pay5 k0_pay4 k0_pay3
  simp only [View.readAt_eq_ld, h3.read_unread, h4.read_unread, h5.read_unread, h6.read_unread, h7.read_unread, h8.read_unread, h9.read_unread, h10.read_unread, h11.read_unread, h12.read_unread, h13.read_unread, h14.read_unread, h15.read_unread, View.ld_unit_zero (S := S128x1024) hz2,
    View.ld_unit_zero (S := S128x128) hz2, View.ld_unit_zero (S := S1x1024) hz2, View.ld_unit_zero (S := S1x128x1024) hz3,
    View.ld_unit_zero (S := S1x1024x1408) hz3, View.ld_unit_zero (S := S1x1408x1024) hz3, shapeCast_self]

/-- A middle expert leaves the kept block as it found it. -/
theorem keep_mid (hc0 : ¬cond0_0 i) (hc1 : ¬cond0_1 i) (s0 : Vec F S128x1024 .bf16) (s1 : Vec F S128x1024 .f32) :
    sout0_B_0 c i a3 h3 a4 h4 a5 h5 a6 h6 a7 h7 a8 h8 a9 h9 a10 h10 a11 h11 a12 h12 a13 h13 a14 h14 a15 h15 hc0 hc1 x0 x1 x2 x3 x4 x5 x6 x7 x8 x9 s0 s1 = s0 := rfl

/-- A middle expert adds its product to the running sum. -/
theorem sum_mid (hc0 : ¬cond0_0 i) (hc1 : ¬cond0_1 i) (s0 : Vec F S128x1024 .bf16) (s1 : Vec F S128x1024 .f32) :
    sout0_B_1 c i a3 h3 a4 h4 a5 h5 a6 h6 a7 h7 a8 h8 a9 h9 a10 h10 a11 h11 a12 h12 a13 h13 a14 h14 a15 h15 hc0 hc1 x0 x1 x2 x3 x4 x5 x6 x7 x8 x9 s0 s1 = k0_pay1 (k0_pay5 i s0 x5 x6 x7 x4) s1 := by
  unfold sout0_B_1
  rw [View.read_writes_eq_canon _ _ _ (scover0_B_1 c i a3 h3 a4 h4 a5 h5 a6 h6 a7 h7 a8 h8 a9 h9 a10 h10 a11 h11 a12 h12 a13 h13 a14 h14 a15 h15 hc0 hc1 x0 x1 x2 x3 x4 x5 x6 x7 x8 x9 s0 s1)]
  unfold kernelRun0_B
  dsimp only
  sl_unfold_words
  rw [View.canon_unit_zero hz2]
  unfold k0_pay1 k0_pay5
  simp only [View.readAt_eq_ld, h3.read_unread, h4.read_unread, h5.read_unread, h6.read_unread, h7.read_unread, h8.read_unread, h9.read_unread, h10.read_unread, h11.read_unread, h12.read_unread, h13.read_unread, h14.read_unread, h15.read_unread, View.ld_unit_zero (S := S128x1024) hz2,
    View.ld_unit_zero (S := S128x128) hz2, View.ld_unit_zero (S := S1x1024) hz2, View.ld_unit_zero (S := S1x128x1024) hz3,
    View.ld_unit_zero (S := S1x1024x1408) hz3, View.ld_unit_zero (S := S1x1408x1024) hz3, shapeCast_self]

/-- The last expert normalizes the running sum with its own product taken in. -/
theorem out_last (hc0 : ¬cond0_0 i) (hc1 : cond0_1 i) (s0 : Vec F S128x1024 .bf16) (s1 : Vec F S128x1024 .f32) :
    out0_C_10 c i a3 h3 a4 h4 a5 h5 a6 h6 a7 h7 a8 h8 a9 h9 a10 h10 a11 h11 a12 h12 a13 h13 a14 h14 a15 h15 hc0 hc1 x0 x1 x2 x3 x4 x5 x6 x7 x8 x9 s0 s1
      = k0_pay2 x0 x3 (k0_pay1 (k0_pay5 i s0 x5 x6 x7 x4) s1) x8 x9 := by
  unfold out0_C_10
  rw [View.read_writes_eq_canon _ _ _ (cover0_C_10 c i a3 h3 a4 h4 a5 h5 a6 h6 a7 h7 a8 h8 a9 h9 a10 h10 a11 h11 a12 h12 a13 h13 a14 h14 a15 h15 hc0 hc1 x0 x1 x2 x3 x4 x5 x6 x7 x8 x9 s0 s1)]
  unfold kernelRun0_C
  dsimp only
  sl_unfold_words
  rw [View.canon_unit_zero hz2]
  simp only [View.readCov_unit_zero (S := S128x1024) _ hz2]
  unfold k0_pay2 k0_pay1 k0_pay5
  simp only [View.readAt_eq_ld, h3.read_unread, h4.read_unread, h5.read_unread, h6.read_unread, h7.read_unread, h8.read_unread, h9.read_unread, h10.read_unread, h11.read_unread, h12.read_unread, h13.read_unread, h14.read_unread, h15.read_unread, View.ld_unit_zero (S := S128x1024) hz2,
    View.ld_unit_zero (S := S128x128) hz2, View.ld_unit_zero (S := S1x1024) hz2, View.ld_unit_zero (S := S1x128x1024) hz3,
    View.ld_unit_zero (S := S1x1024x1408) hz3, View.ld_unit_zero (S := S1x1408x1024) hz3, shapeCast_self]

end Cert.MoeSIdeal.Terms

end
-- ==== Proof.MoeSFold.lean ====
/- The experts' kernel on the sample rows over its grid: after the point of expert `e` on a tile, the kept block is the tile modulated and
   the running sum is the sum over the experts `0 … e`; so the result array holds the layer's output. -/
module

public import proofs.«01_k».proof.Proof.MoeSpec
public import proofs.«01_k».proof.Proof.MoeSBlock
public import proofs.«01_k».proof.Proof.MoeSBlocks
public import proofs.«01_k».proof.Proof.MoeSTerms

@[expose] public section

set_option maxRecDepth 16384

noncomputable section

namespace Cert.MoeSIdeal.Fold

open Cert.MoeSIdeal Cert.MoeSIdeal.Gen Cert.MoeSIdeal.Blocks Cert.Layer Idealize.ShloMosaic Idealize.ShloMosaic.TcCoe

variable (m : (ℓ : Loc nD τ sig) → Buf (Elt Ideal) ℓ) (c : Dev nD)

/-- Row `R`, which is row `s` of its tile, modulated. -/
def modRow (s : Fin 128) (R : Fin 512) (k : Fin 1024) : EReal :=
  modulate (argX m c (ix2 R k)) (argMod m c (ix3 0 s (modCol 4 k))) (argMod m c (ix3 0 s (modCol 3 k)))

/-- What expert `e` adds to row `R`, weighted by its gate. -/
def part (s : Fin 128) (R : Fin 512) (e : Fin 8) (j : Fin 1024) : EReal :=
  argGates m c (ix2 R (e.castLE (by decide)))
    * expert (modRow m c s R) (fun k f => argWg m c (ix3 e k f)) (fun k f => argWu m c (ix3 e k f)) (fun f => argWd m c (ix3 e f j))

/-- The product block of one point, at an index: the point's expert on the tile's row. -/
theorem product_apply (t : Fin cfg0.N) (u : Vec Ideal S128x1024 .bf16) (r : Fin 128) (j : Fin 1024)
    (hu : ∀ k, u (ix2 r k) = modRow m c r (rowOf t.val (lt_N t) r) k) :
    k0_pay5 (F := Ideal) (grid0.coords t) u (iblk m c 5 t) (iblk m c 6 t) (iblk m c 7 t) (iblk m c 4 t) (ix2 r j)
      = part m c r (rowOf t.val (lt_N t) r) (expertOf t.val) j := by
  rw [Block.expert_apply _ _ _ _ _ _ r j ((expertOf t.val).castLE (by decide)) (coord1 t), blk_gates]
  unfold part expert
  congr 1
  refine Finset.sum_congr rfl fun f _ => ?_
  rw [blk_wd]
  congr 2
  · exact funext hu
  · exact funext fun k => blk_wg m c t k f
  · exact funext fun k => blk_wu m c t k f

/-- What the two scratch buffers hold after point `n`. -/
def Holds (n : ℕ) (hn : n < cfg0.N) : Prop :=
  ∀ r : Fin 128, ∀ j : Fin 1024,
    (outsAt0 m c n hn).2.1 (ix2 r j) = modRow m c r (rowOf n (lt_N ⟨n, hn⟩) r) j
    ∧ (outsAt0 m c n hn).2.2 (ix2 r j)
        = ∑ e ∈ Finset.range (n % 8 + 1), part m c r (rowOf n (lt_N ⟨n, hn⟩) r) (expertOf e) j

theorem expertOf_mod (n : ℕ) : expertOf (n % 8) = expertOf n := Fin.ext (Nat.mod_mod n 8)

theorem holds_first (t : Fin cfg0.N) (h0 : t.val % 8 = 0) : Holds m c t.val t.isLt := by
  intro r j
  have h1 : ¬t.val % 8 = 7 := by omega
  have hu : ∀ k, k0_pay3 (F := Ideal) (iblk m c 0 t) (iblk m c 1 t) (iblk m c 2 t) (ix2 r k)
      = modRow m c r (rowOf t.val (lt_N t) r) k := fun k => by
    rw [Block.modulated_apply, blk_x, blk_sc, blk_sh]
    rfl
  rw [outsAt0_A m c t h0 h1]
  dsimp only
  rw [Terms.keep_first, Terms.sum_first, Block.sum_apply, Block.zeros_apply, product_apply m c t _ r j hu, h0, zero_add,
    zero_add, Finset.sum_range_one]
  exact ⟨hu j, by rw [← expertOf_mod t.val, h0]⟩

/-- The sum after a later expert, from the buffers before it. -/
theorem sum_next (n : ℕ) (hn : n + 1 < cfg0.N) (h0 : ¬(n + 1) % 8 = 0) (hp : Holds m c n (Nat.lt_of_succ_lt hn)) (r : Fin 128) (j : Fin 1024) :
    k0_pay1 (F := Ideal)
        (k0_pay5 (grid0.coords ⟨n + 1, hn⟩) (outsAt0 m c n (Nat.lt_of_succ_lt hn)).2.1 (iblk m c 5 ⟨n + 1, hn⟩) (iblk m c 6 ⟨n + 1, hn⟩) (iblk m c 7 ⟨n + 1, hn⟩) (iblk m c 4 ⟨n + 1, hn⟩))
        (outsAt0 m c n (Nat.lt_of_succ_lt hn)).2.2 (ix2 r j)
      = ∑ e ∈ Finset.range ((n + 1) % 8 + 1), part m c r (rowOf (n + 1) (lt_N ⟨n + 1, hn⟩) r) (expertOf e) j := by
  have hN := lt_N ⟨n + 1, hn⟩
  dsimp only at hN
  have hr : rowOf n (by omega) r = rowOf (n + 1) hN r := Fin.ext (by dsimp only; omega)
  have hm : (n + 1) % 8 = n % 8 + 1 := by omega
  rw [Block.sum_apply, product_apply m c ⟨n + 1, hn⟩ _ r j fun k => by rw [(hp r k).1, hr], (hp r j).2, hr,
    hm, Finset.sum_range_succ _ (n % 8 + 1)]
  congr 2
  exact Fin.ext (by dsimp only <;> omega)

theorem holds_next (n : ℕ) (hn : n + 1 < cfg0.N) (h0 : ¬(n + 1) % 8 = 0) (h1 : ¬(n + 1) % 8 = 7)
    (hp : Holds m c n (Nat.lt_of_succ_lt hn)) : Holds m c (n + 1) hn := by
  intro r j
  have hN := lt_N ⟨n + 1, hn⟩
  dsimp only at hN
  have hr : rowOf n (by omega) r = rowOf (n + 1) hN r := Fin.ext (by dsimp only; omega)
  have e := outsAt0_B m c ⟨n + 1, hn⟩ h0 h1
  dsimp only at e
  rw [e]
  dsimp only
  rw [Terms.keep_mid, Terms.sum_mid]
  refine ⟨?_, sum_next m c n hn h0 hp r j⟩
  rw [← hr]
  exact (hp r j).1

/-- Below the last expert of a tile the scratch buffers hold the modulated tile and the running sum. -/
theorem holds : ∀ (n : ℕ) (hn : n < cfg0.N), n % 8 ≠ 7 → Holds m c n hn
  | 0, hn, _ => holds_first m c ⟨0, hn⟩ rfl
  | n + 1, hn, h => by
    by_cases h0 : (n + 1) % 8 = 0
    · exact holds_first m c ⟨n + 1, hn⟩ h0
    · exact holds_next m c n hn h0 h (holds n (Nat.lt_of_succ_lt hn) (by omega))

/-- The layer's output at row `R`, which is row `s` of its tile, column `j`, from the arguments. -/
def target (s : Fin 128) (R : Fin 512) (j : Fin 1024) : EReal :=
  moe (fun k => argX m c (ix2 R k)) (fun k => argMod m c (ix3 0 s (modCol 4 k))) (fun k => argMod m c (ix3 0 s (modCol 3 k)))
    (fun k => argMod m c (ix3 0 s (modCol 5 k))) (fun e => argGates m c (ix2 R (e.castLE (by decide))))
    (fun e k f => argWg m c (ix3 e k f)) (fun e k f => argWu m c (ix3 e k f)) (fun e f j => argWd m c (ix3 e f j))
    (fun j => argLg m c (ix2 0 j)) (fun j => argLb m c (ix2 0 j)) j

/-- What the last expert's point leaves in its output block. -/
theorem out_last (t : Fin cfg0.N) (h1 : t.val % 8 = 7) (r : Fin 128) (j : Fin 1024) :
    (outsAt0 m c t.val t.isLt).1 (ix2 r j) = target m c r (rowOf t.val (lt_N t) r) j := by
  obtain ⟨n, hn⟩ := t
  obtain ⟨n, rfl⟩ : ∃ k, n = k + 1 := ⟨n - 1, by dsimp only at h1; omega⟩
  dsimp only at h1 ⊢
  have h0 : ¬(n + 1) % 8 = 0 := by omega
  have e := outsAt0_C m c ⟨n + 1, hn⟩ h0 h1
  dsimp only at e
  rw [e]
  dsimp only
  rw [Terms.out_last, Block.norm_apply, blk_lg, blk_lb]
  unfold target moe
  congr 1
  funext k
  rw [blk_x, blk_g2]
  congr 1
  refine (sum_next m c n hn h0 (holds m c n _ (by omega)) r k).trans ?_
  rw [h1, Finset.sum_range]
  refine Finset.sum_congr rfl fun e _ => ?_
  rw [show expertOf e.val = e from Fin.ext (Nat.mod_eq_of_lt e.isLt)]
  rfl

/-- The kernel's result array at an index. -/
theorem result_apply (s : Fin 128) (R : Fin 512) (j : Fin 1024) (hs : s.val = R.val % 128) :
    (Value.G10 m c : Vec Ideal S512x1024 .f32) (ix2 R j) = target m c s R j := by
  have hR := R.isLt
  have hj := j.isLt
  have hp : Value.pt10Of (ix2 R j) = 8 * (R.val / 128) + 7 := by
    show 8 * (1 * (R.val / 128 - 0) + 1 * (j.val / 1024 - 0)) + 7 = _
    omega
  have hlt : Value.pt10Of (ix2 R j) < cfg0.N := lt_of_lt_of_eq (by rw [hp]; omega) Gen.N_0.symm
  unfold Value.G10
  rw [dif_pos hlt, ← Value.outsAt0_sweep m c _ hlt]
  have hl : Value.loc10Of (ix2 R j) = ix2 (⟨R.val % 128, by omega⟩ : Fin 128) j := by
    funext a
    apply Fin.ext
    match a with
    | ⟨0, _⟩ => rfl
    | ⟨1, _⟩ => exact Nat.mod_eq_of_lt hj
  rw [hl]
  refine (out_last m c ⟨_, hlt⟩ (by dsimp only; rw [hp]; omega) _ j).trans ?_
  have e1 : (⟨R.val % 128, by omega⟩ : Fin 128) = s := Fin.ext hs.symm
  have e2 : rowOf (Value.pt10Of (ix2 R j)) (lt_N ⟨_, hlt⟩) ⟨R.val % 128, by omega⟩ = R := Fin.ext (by dsimp only; rw [hp]; omega)
  dsimp only at e1 e2 ⊢
  rw [e2, e1]

end Cert.MoeSIdeal.Fold

end
-- ==== Proof.MoeSRefValue.lean ====
/- What the experts' reference on the sample rows computes, element by element: the layer's output `moe` of its arguments. -/
module

public import proofs.«01_k».proof.Proof.MoeSpec
public import proofs.«01_k».proof.Proof.Gen.MoeSRefIdeal.Read

@[expose] public section

set_option maxRecDepth 16384

noncomputable section

namespace Cert.MoeSRefIdeal.RefValue

open Cert.MoeSRefIdeal Cert.MoeSRefIdeal.Gen Cert.MoeSRefIdeal.Read Cert.Layer Idealize.ShloMosaic

variable (x : Vec Ideal S512x1024 .f32) (md : Vec Ideal S1x128x6144 .f32) (gates : Vec Ideal S512x128 .f32)
  (wg wu : Vec Ideal S8x1024x1408 .f32) (wd : Vec Ideal S8x1408x1024 .f32) (lg lb : Vec Ideal S1x1024 .f32)

/-- The row of the whole array that row `s` of tile `b` is. -/
abbrev rowAt (b : Fin 4) (s : Fin 128) : Fin 512 := ⟨128 * b.val + s.val, by omega⟩
/-- The columns of the modulation that a chunk number names. -/
abbrev modCol (q : Fin 6) (k : Fin 1024) : Fin 6144 := ⟨1024 * q.val + k.val, by omega⟩

theorem x_at (b : Fin 4) (s : Fin 128) (k : Fin 1024) : val_main_v0 (F := Ideal) x (ix3 b s k) = x (ix2 (rowAt b s) k) := by
  rw [val_main_v0_apply]
  congr 1
  funext a
  apply Fin.ext
  match a with
  | ⟨0, _⟩ => show ((b.val * 128 + s.val) * 1024 + k.val) / 1024 = 128 * b.val + s.val; omega
  | ⟨1, _⟩ => show ((b.val * 128 + s.val) * 1024 + k.val) % 1024 = k.val; omega

theorem gate_at (b : Fin 4) (s : Fin 128) (e : Fin 8) :
    val_main_v2 (F := Ideal) gates (ix3 b s e) = gates (ix2 (rowAt b s) (e.castLE (by decide))) := by
  rw [val_main_v2_apply, val_main_v1_apply]
  congr 1
  funext a
  apply Fin.ext
  match a with
  | ⟨0, _⟩ => show ((b.val * 128 + s.val) * 128 + e.val) / 128 = 128 * b.val + s.val; omega
  | ⟨1, _⟩ => show ((b.val * 128 + s.val) * 128 + e.val) % 128 = e.val; omega

/-- A token's row, modulated. -/
theorem modulated_at (b : Fin 4) (s : Fin 128) (k : Fin 1024) :
    val_main_v14 (F := Ideal) x md (ix3 b s k)
      = modulate (x (ix2 (rowAt b s) k)) (md (ix3 0 s (modCol 4 k))) (md (ix3 0 s (modCol 3 k))) := by
  rw [val_main_v14_apply, val_main_v12_apply, x_at, val_main_v11_apply, val_main_v10_apply, val_main_v9_apply, val_main_cst_apply,
    val_main_v7_apply, val_main_v13_apply, val_main_v6_apply]
  show x _ * (Ideal.ofBits .f32 0x3F800000#32 + md _) + md _ = _
  rw [Ideal.ofBits_one_f32]
  unfold modulate
  congr 3
  · congr 1
    funext a
    apply Fin.ext
    match a with
    | ⟨0, _⟩ => rfl
    | ⟨1, _⟩ => rfl
    | ⟨2, _⟩ => rfl
  · funext a
    apply Fin.ext
    match a with
    | ⟨0, _⟩ => rfl
    | ⟨1, _⟩ => rfl
    | ⟨2, _⟩ => rfl

/-- The rows of the gate projection's product. -/
theorem gateProj_at (b : Fin 4) (s : Fin 128) (e : Fin 8) (f : Fin 1408) :
    val_main_v15 (F := Ideal) x md wg (ix4 b s e f) = ∑ k : Fin 1024, val_main_v14 (F := Ideal) x md (ix3 b s k) * wg (ix3 e k f) := by
  rw [val_main_v15_apply]
  refine Finset.sum_congr rfl fun k _ => ?_
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl
    | ⟨2, _⟩ => rfl

theorem upProj_at (b : Fin 4) (s : Fin 128) (e : Fin 8) (f : Fin 1408) :
    val_main_v17 (F := Ideal) x md wu (ix4 b s e f) = ∑ k : Fin 1024, val_main_v14 (F := Ideal) x md (ix3 b s k) * wu (ix3 e k f) := by
  rw [val_main_v17_apply]
  refine Finset.sum_congr rfl fun k _ => ?_
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The hidden layer of one expert: the gated units. -/
theorem hidden_at (b : Fin 4) (s : Fin 128) (e : Fin 8) (f : Fin 1408) :
    val_main_v18 (F := Ideal) x md wg wu (ix4 b s e f)
      = gated (fun k => val_main_v14 (F := Ideal) x md (ix3 b s k)) (fun k => wg (ix3 e k f)) (fun k => wu (ix3 e k f)) := by
  rw [val_main_v18_apply, val_main_v16_apply, val_main_call0_v5_apply, val_main_call0_v4_apply, val_main_call0_cst_0_apply,
    val_main_call0_v3_apply, val_main_call0_v2_apply, val_main_call0_cst_apply, val_main_call0_v1_apply, val_main_call0_v0_apply,
    upProj_at, gateProj_at]
  unfold gated silu
  generalize (∑ k : Fin 1024, val_main_v14 (F := Ideal) x md (ix3 b s k) * wg (ix3 e k f)) = p
  show p * Ideal.div (Ideal.ofBits .f32 0x3F800000#32) (Ideal.ofBits .f32 0x3F800000#32 + Ideal.exp (-p)) * _ = _
  rw [Ideal.ofBits_one_f32]
  rfl

/-- One expert on one token. -/
theorem expert_at (b : Fin 4) (s : Fin 128) (e : Fin 8) (j : Fin 1024) :
    val_main_v21 (F := Ideal) x md wg wu wd (ix4 b s e j)
      = expert (fun k => val_main_v14 (F := Ideal) x md (ix3 b s k)) (fun k f => wg (ix3 e k f)) (fun k f => wu (ix3 e k f)) (fun f => wd (ix3 e f j)) := by
  rw [val_main_v21_apply, val_main_v20_apply]
  unfold expert
  refine Finset.sum_congr rfl fun f _ => ?_
  rw [mul_comm, ← hidden_at]
  congr 2 <;> funext a <;> apply Fin.ext
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- All experts on one token, weighted by its gates. -/
theorem mixed_at (b : Fin 4) (s : Fin 128) (j : Fin 1024) :
    val_main_v24 (F := Ideal) x md gates wg wu wd (ix3 b s j)
      = ∑ e : Fin 8, gates (ix2 (rowAt b s) (e.castLE (by decide)))
          * expert (fun k => val_main_v14 (F := Ideal) x md (ix3 b s k)) (fun k f => wg (ix3 e k f)) (fun k f => wu (ix3 e k f)) (fun f => wd (ix3 e f j)) := by
  rw [val_main_v24_apply, val_main_cst_0_apply]
  show Ideal.ofBits .f32 0x00000000#32 + _ = _
  rw [Ideal.ofBits_zero_f32, zero_add]
  refine Finset.sum_congr rfl fun e _ => ?_
  rw [val_main_v23_apply, val_main_v22_apply, val_main_v19_apply, ← gate_at gates, ← expert_at]
  show _ * _ = _ * _
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl
    | ⟨2, _⟩ => rfl
    | ⟨3, _⟩ => rfl

/-- The residual sum of one token. -/
theorem resid_at (b : Fin 4) (s : Fin 128) (j : Fin 1024) :
    val_main_v31 (F := Ideal) x md gates wg wu wd (ix3 b s j)
      = resid (x (ix2 (rowAt b s) j)) (md (ix3 0 s (modCol 5 j))) (val_main_v24 (F := Ideal) x md gates wg wu wd (ix3 b s j)) := by
  rw [val_main_v31_apply, val_main_v26_apply, val_main_v25_apply, val_main_cst_1_apply, x_at, val_main_v30_apply, val_main_v29_apply,
    val_main_v28_apply, val_main_v27_apply, val_main_cst_2_apply, val_main_v8_apply]
  generalize val_main_v24 (F := Ideal) x md gates wg wu wd (ix3 b s j) = y
  show Ideal.ofBits .f32 0x3FB504F3#32 * _ + (Ideal.ofBits .f32 0x3F800000#32 + md _) * y = _
  rw [Ideal.ofBits_one_f32]
  unfold resid
  congr 3
  congr 1
  funext a
  apply Fin.ext
  match a with
  | ⟨0, _⟩ => rfl
  | ⟨1, _⟩ => rfl
  | ⟨2, _⟩ => rfl

/-- The mean of a token's residual sums. -/
theorem mean_at (b : Fin 4) (s : Fin 128) (o : Fin 1) :
    val_main_v37 (F := Ideal) x md gates wg wu wd (ix3 b s o) = mean (fun k => val_main_v31 (F := Ideal) x md gates wg wu wd (ix3 b s k)) := by
  rw [val_main_v37_apply, val_main_v36_apply, val_main_cst_4_apply, val_main_v35_apply, val_main_v34_apply, val_main_cst_3_apply]
  show Ideal.div (Ideal.ofBits .f32 0x00000000#32 + _) (Ideal.ofBits .f32 0x44800000#32) = _
  rw [Ideal.ofBits_zero_f32, zero_add]
  unfold mean
  congr 1
  refine Finset.sum_congr rfl fun k _ => ?_
  congr 1
  funext a
  apply Fin.ext
  match a with
  | ⟨0, _⟩ => rfl
  | ⟨1, _⟩ => rfl
  | ⟨2, _⟩ => rfl

/-- A token's residual sum less its mean. -/
theorem centred_at (b : Fin 4) (s : Fin 128) (j : Fin 1024) :
    val_main_v39 (F := Ideal) x md gates wg wu wd (ix3 b s j)
      = val_main_v31 (F := Ideal) x md gates wg wu wd (ix3 b s j) - mean (fun k => val_main_v31 (F := Ideal) x md gates wg wu wd (ix3 b s k)) := by
  rw [val_main_v39_apply, val_main_v38_apply, ← mean_at x md gates wg wu wd b s 0]
  show _ - _ = _ - _
  congr 2
  funext a
  apply Fin.ext
  match a with
  | ⟨0, _⟩ => rfl
  | ⟨1, _⟩ => rfl
  | ⟨2, _⟩ => rfl

/-- The inverse deviation of a token's residual sums. -/
theorem dev_at (b : Fin 4) (s : Fin 128) (o : Fin 1) :
    val_main_v47 (F := Ideal) x md gates wg wu wd (ix3 b s o)
      = Ideal.rsqrt (mean (fun k => val_main_v39 (F := Ideal) x md gates wg wu wd (ix3 b s k) * val_main_v39 (F := Ideal) x md gates wg wu wd (ix3 b s k)) + normEps) := by
  rw [val_main_v47_apply, val_main_v46_apply, val_main_v45_apply, val_main_cst_7_apply, val_main_v44_apply, val_main_v43_apply,
    val_main_cst_6_apply, val_main_v42_apply, val_main_v41_apply, val_main_cst_5_apply]
  show Ideal.rsqrt (Ideal.div (Ideal.ofBits .f32 0x00000000#32 + _) (Ideal.ofBits .f32 0x44800000#32) + Ideal.ofBits .f32 0x3727C5AC#32) = _
  rw [Ideal.ofBits_zero_f32, zero_add]
  unfold mean
  congr 3
  refine Finset.sum_congr rfl fun k _ => ?_
  rw [val_main_v40_apply]
  show _ * _ = _ * _
  congr 2 <;> funext a <;> apply Fin.ext
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The gain and the offset of the layer norm. -/
theorem gain_at (b : Fin 4) (s : Fin 128) (j : Fin 1024) : val_main_v51 (F := Ideal) lg (ix3 b s j) = lg (ix2 0 j) := by
  rw [val_main_v51_apply, val_main_v50_apply, val_main_v32_apply]
  congr 1
  funext a
  apply Fin.ext
  match a with
  | ⟨0, _⟩ => rfl
  | ⟨1, _⟩ => show j.val % 1024 = j.val; omega
theorem offset_at (b : Fin 4) (s : Fin 128) (j : Fin 1024) : val_main_v54 (F := Ideal) lb (ix3 b s j) = lb (ix2 0 j) := by
  rw [val_main_v54_apply, val_main_v53_apply, val_main_v33_apply]
  congr 1
  funext a
  apply Fin.ext
  match a with
  | ⟨0, _⟩ => rfl
  | ⟨1, _⟩ => show j.val % 1024 = j.val; omega

/-- The reference's result at an index. -/
theorem result_apply (b : Fin 4) (s : Fin 128) (j : Fin 1024) :
    val_main_v56 (F := Ideal) x md gates wg wu wd lg lb (ix2 (rowAt b s) j)
      = moe (fun k => x (ix2 (rowAt b s) k)) (fun k => md (ix3 0 s (modCol 4 k))) (fun k => md (ix3 0 s (modCol 3 k)))
          (fun k => md (ix3 0 s (modCol 5 k))) (fun e => gates (ix2 (rowAt b s) (e.castLE (by decide))))
          (fun e k f => wg (ix3 e k f)) (fun e k f => wu (ix3 e k f)) (fun e f j => wd (ix3 e f j))
          (fun j => lg (ix2 0 j)) (fun j => lb (ix2 0 j)) j := by
  rw [val_main_v56_apply]
  have hi : idx_main_v56 (ix2 (rowAt b s) j) = ix3 b s j := by
    funext a
    apply Fin.ext
    match a with
    | ⟨0, _⟩ => show ((128 * b.val + s.val) * 1024 + j.val) / 131072 = b.val; omega
    | ⟨1, _⟩ => show ((128 * b.val + s.val) * 1024 + j.val) / 1024 % 128 = s.val; omega
    | ⟨2, _⟩ => show ((128 * b.val + s.val) * 1024 + j.val) % 1024 = j.val; omega
  have h48 : val_main_v48 (F := Ideal) x md gates wg wu wd (ix3 b s j) = val_main_v47 (F := Ideal) x md gates wg wu wd (ix3 b s 0) := by
    rw [val_main_v48_apply]
    congr 1
    funext a
    apply Fin.ext
    match a with
    | ⟨0, _⟩ => rfl
    | ⟨1, _⟩ => rfl
    | ⟨2, _⟩ => rfl
  rw [hi, val_main_v55_apply, val_main_v52_apply, val_main_v49_apply, gain_at, offset_at, h48, dev_at, centred_at]
  simp only [centred_at, resid_at, mixed_at, modulated_at]
  rfl

end Cert.MoeSRefIdeal.RefValue

end
-- ==== Proof.MoeSClaim.lean ====
/- The claims about the experts' kernel on the sample rows: the frames, and the equation with its reference over the reals. -/
module

public import proofs.«01_k».proof.Defs
public import proofs.«01_k».proof.Proof.MoeSFold
public import proofs.«01_k».proof.Proof.MoeSRefValue
public import proofs.«01_k».proof.Proof.Gen.MoeS.Frame
public import proofs.«01_k».proof.Proof.Gen.MoeSRefIdeal.Run
public import Idealize.ShloMosaic.Lib.Quiescent

@[expose] public section

set_option maxRecDepth 16384

noncomputable section

namespace Cert.MoeSClaim

open Idealize.ShloMosaic Idealize.ShloMosaic.TcCoe Idealize.SL.Sem

theorem frame_kernel : Cert.quiescent_MoeS := fun m ρ _ => Cert.MoeS.Gen.frame m ρ

theorem frame_ideal : Cert.quiescent_MoeSIdeal := fun m ρ _ => Cert.MoeSIdeal.Gen.frame m ρ

theorem frame_reference : Cert.quiescent_MoeSRefIdeal := fun m ρ _ =>
  (θ_run Cert.MoeSRefIdeal.defs _ _).mono
    (fun r h => ⟨fun c => (h c).2, Idealize.ShloMosaic.sem_eq_zero_of_no_sems (by decide) r.2⟩)
    (Cert.MoeSRefIdeal.Value.run (F := Ideal) m ρ)

/-- From arguments that agree, the reference's result is the kernel's, element by element: both are the layer's output
    `moe` on the token's row. -/
theorem results_agree (m : (ℓ : Loc Cert.MoeSIdeal.nD Cert.MoeSIdeal.τ Cert.MoeSIdeal.sig) → Buf (Elt Ideal) ℓ)
    (c : Dev Cert.MoeSIdeal.nD) :
    Cert.MoeSRefIdeal.Read.val_main_v56 (F := Ideal) (Cert.MoeSIdeal.Blocks.argX m c) (Cert.MoeSIdeal.Blocks.argMod m c)
        (Cert.MoeSIdeal.Blocks.argGates m c) (Cert.MoeSIdeal.Blocks.argWg m c) (Cert.MoeSIdeal.Blocks.argWu m c)
        (Cert.MoeSIdeal.Blocks.argWd m c) (Cert.MoeSIdeal.Blocks.argLg m c) (Cert.MoeSIdeal.Blocks.argLb m c)
      = (Cert.MoeSIdeal.Value.G10 m c : Vec Ideal Cert.MoeSIdeal.S512x1024 .f32) := by
  funext i
  have hR : (i 0).val < 512 := (i 0).isLt
  have hi : i = ix2 (Cert.MoeSRefIdeal.RefValue.rowAt ⟨(i 0).val / 128, by omega⟩ ⟨(i 0).val % 128, by omega⟩) (i 1) := by
    funext a
    apply Fin.ext
    match a with
    | ⟨0, _⟩ => show (i 0).val = 128 * ((i 0).val / 128) + (i 0).val % 128; omega
    | ⟨1, _⟩ => rfl
  rw [hi]
  refine (Cert.MoeSRefIdeal.RefValue.result_apply _ _ _ _ _ _ _ _ _ _ _).trans ?_
  refine Eq.symm ((Cert.MoeSIdeal.Fold.result_apply m c ⟨(i 0).val % 128, by omega⟩ _ _ ?_).trans ?_)
  · show (i 0).val % 128 = (128 * ((i 0).val / 128) + (i 0).val % 128) % 128
    omega
  · rfl

theorem algebraic : Cert.algebraic_MoeSIdeal_MoeSRefIdeal := by
  intro m ρ m' ρ' _ hag
  refine ⟨fun c => Cert.MoeSIdeal.Value.G10 m c, Cert.MoeSIdeal.Value.run (F := Ideal) m ρ, ?_⟩
  refine (θ_run Cert.MoeSRefIdeal.defs _ _).mono (fun _ h c => ⟨(h c).1.trans ?_, (h c).2⟩) (Cert.MoeSRefIdeal.Value.run (F := Ideal) m' ρ')
  obtain ⟨h0, h1, h2, h3, h4, h5, h6, h7⟩ := hag c
  rw [Cert.MoeSRefIdeal.Read.val_main_v56_eq, h0, h1, h2, h3, h4, h5, h6, h7]
  exact results_agree m c

end Cert.MoeSClaim

end
-- ==== Proof.PreTerms.lean ====
/- What the last tile of a sequence leaves in the two buffers of the prompt's convolutions, as values of the blocks it
   read: the last rows of the tile. -/
module

public import proofs.«01_k».proof.Proof.Layer
public import proofs.«01_k».proof.Proof.Gen.PreIdeal.Value

@[expose] public section

set_option maxRecDepth 16384

noncomputable section

namespace Cert.PreIdeal.Terms

open Cert.PreIdeal Cert.PreIdeal.Gen Idealize.ShloMosaic Idealize.ShloMosaic.TcCoe

theorem hz3 : (![0, 0, 0] : Fin 3 → Nat) = fun _ => 0 := funext fun a => by fin_cases a <;> rfl

variable (c : Dev nD) (i : grid0.Coords)
  (a2 : Memref sig .tc .vmem S256x3584 .f32) (h2 : a2.IsWhole)
  (a3 : Memref sig .tc .vmem S256x128 .f32) (h3 : a3.IsWhole)
  (a4 : Memref sig .tc .vmem S3x512 .f32) (h4 : a4.IsWhole)
  (a5 : Memref sig .tc .vmem S4x1536 .f32) (h5 : a5.IsWhole)
  (a6 : Memref sig .tc .vmem S2x128 .f32) (h6 : a6.IsWhole)
  (a7 : Memref sig .tc .vmem S1x2x512 .f32) (h7 : a7.IsWhole)
  (a8 : Memref sig .tc .vmem S1x3x1536 .f32) (h8 : a8.IsWhole)
  (a9 : Memref sig .tc .vmem S256x512 .f32) (h9 : a9.IsWhole)
  (a10 : Memref sig .tc .vmem S256x1536 .f32) (h10 : a10.IsWhole)
  (a11 : Memref sig .tc .vmem S256x128 .f32) (h11 : a11.IsWhole)
  (a12 : Memref sig .tc .vmem S1x2x512 .f32) (h12 : a12.IsWhole)
  (a13 : Memref sig .tc .vmem S1x3x1536 .f32) (h13 : a13.IsWhole)
  (a14 : Memref sig .tc .vmem S8x512 .f32) (h14 : a14.IsWhole)
  (a15 : Memref sig .tc .vmem S8x1536 .f32) (h15 : a15.IsWhole)
  (x0 : Vec Ideal S256x3584 .f32) (x1 : Vec Ideal S256x128 .f32) (x2 : Vec Ideal S3x512 .f32) (x3 : Vec Ideal S4x1536 .f32)
  (x4 : Vec Ideal S2x128 .f32) (x5 : Vec Ideal S1x2x512 .f32) (x6 : Vec Ideal S1x3x1536 .f32)
  (s0 : Vec Ideal S8x512 .f32) (s1 : Vec Ideal S8x1536 .f32)

/-- The short convolution's buffer: the gated products of the tile's last two rows. -/
theorem conv_last (hc0 : ¬cond0_0 i) (hc1 : cond0_1 i) (q : Fin 2) (j : Fin 512) :
    out0_C_10 c i a2 h2 a3 h3 a4 h4 a5 h5 a6 h6 a7 h7 a8 h8 a9 h9 a10 h10 a11 h11 a12 h12 a13 h13 a14 h14 a15 h15 hc0 hc1 x0 x1 x2 x3 x4 x5 x6 s0 s1 (ix3 0 q j)
      = x0 (ix2 ⟨254 + q.val, by omega⟩ ⟨512 + j.val, by omega⟩) * x0 (ix2 ⟨254 + q.val, by omega⟩ ⟨1024 + j.val, by omega⟩) := by
  unfold out0_C_10
  rw [View.read_writes_eq_canon _ _ _ (cover0_C_10 c i a2 h2 a3 h3 a4 h4 a5 h5 a6 h6 a7 h7 a8 h8 a9 h9 a10 h10 a11 h11 a12 h12 a13 h13 a14 h14 a15 h15 hc0 hc1 x0 x1 x2 x3 x4 x5 x6 s0 s1)]
  unfold kernelRun0_C
  dsimp only
  sl_unfold_words
  rw [View.canon_unit_zero hz3]
  simp only [View.readAt_eq_ld, h2.read_unread]
  pointwise [k0_pay3, k0_pay13, k0_pay9]

/-- The recurrence's buffer: the tile's last three rows of the columns that its convolution reads. -/
theorem delta_last (hc0 : ¬cond0_0 i) (hc1 : cond0_1 i) (q : Fin 3) (j : Fin 1536) :
    out0_C_11 c i a2 h2 a3 h3 a4 h4 a5 h5 a6 h6 a7 h7 a8 h8 a9 h9 a10 h10 a11 h11 a12 h12 a13 h13 a14 h14 a15 h15 hc0 hc1 x0 x1 x2 x3 x4 x5 x6 s0 s1 (ix3 0 q j)
      = x0 (ix2 ⟨253 + q.val, by omega⟩ ⟨1536 + j.val, by omega⟩) := by
  unfold out0_C_11
  rw [View.read_writes_eq_canon _ _ _ (cover0_C_11 c i a2 h2 a3 h3 a4 h4 a5 h5 a6 h6 a7 h7 a8 h8 a9 h9 a10 h10 a11 h11 a12 h12 a13 h13 a14 h14 a15 h15 hc0 hc1 x0 x1 x2 x3 x4 x5 x6 s0 s1)]
  unfold kernelRun0_C
  dsimp only
  sl_unfold_words
  rw [View.canon_unit_zero hz3]
  simp only [View.readAt_eq_ld, h2.read_unread]
  pointwise [k0_pay4, k0_pay33]

end Cert.PreIdeal.Terms

end
-- ==== Proof.PreFold.lean ====
/- The prompt's convolution buffers over the grid: eight tiles of 256 tokens make one sequence, and after the run the two
   buffer arrays hold the last tokens of every sequence. -/
module

public import proofs.«01_k».proof.Proof.PreTerms

@[expose] public section

set_option maxRecDepth 16384

noncomputable section

namespace Cert.PreIdeal.Fold

open Cert.PreIdeal Cert.PreIdeal.Gen Idealize.ShloMosaic Idealize.ShloMosaic.TcCoe
open Idealize.SL.Sem

variable (m : (ℓ : Loc nD τ sig) → Buf (Elt Ideal) ℓ) (ρ : Dev nD → PrngReg) (c : Dev nD)

/-- The projections, one row for a token. -/
abbrev argP : Vec Ideal S16384x3584 .f32 := m ((c : Thread nD τ).loc main_arg0)

/-- The row that token `s` of sequence `b` is. -/
abbrev rowAt (b : Fin 8) (s : Fin 2048) : Fin 16384 := ⟨2048 * b.val + s.val, by omega⟩

theorem lt_N (t : Fin cfg0.N) : t.val < 64 := lt_of_lt_of_eq t.isLt Gen.N_0

theorem idx0 : ∀ t : Fin grid0.N, win0_0.index t (0 : Fin 2) = t.val ∧ win0_0.index t (1 : Fin 2) = 0 := by decide +kernel

/-- A point's block of the projections. -/
theorem blk_rows (t : Fin cfg0.N) (r : Fin 256) (k : Fin 3584) :
    (iblk m c 0 t : Vec Ideal S256x3584 .f32) (ix2 r k) = argP m c (ix2 ⟨256 * t.val + r.val, by have := lt_N t; omega⟩ k) := by
  have hi := idx0 t
  unfold iblk
  rw [View.read_apply]
  show V m c main_arg0 _ = _
  rw [V_main_arg0]
  congr 1
  funext a
  apply Fin.ext
  match a with
  | ⟨0, _⟩ => show win0_0.index t 0 * 256 + 1 * r.val = 256 * t.val + r.val; rw [hi.1]; omega
  | ⟨1, _⟩ => show win0_0.index t 1 * 3584 + 1 * k.val = k.val; rw [hi.2]; omega

/-- The short convolution's buffer of all sequences. -/
def convBuf : Vec Ideal S8x2x512 .f32 := fun i =>
  argP m c (ix2 (rowAt (i 0) ⟨2046 + (i 1).val, Nat.add_lt_add_left (i 1).isLt 2046⟩) ⟨512 + (i 2).val, lt_trans (Nat.add_lt_add_left (i 2).isLt 512) (by decide)⟩)
    * argP m c (ix2 (rowAt (i 0) ⟨2046 + (i 1).val, Nat.add_lt_add_left (i 1).isLt 2046⟩) ⟨1024 + (i 2).val, lt_trans (Nat.add_lt_add_left (i 2).isLt 1024) (by decide)⟩)

/-- The recurrence's buffer of all sequences. -/
def deltaBuf : Vec Ideal S8x3x1536 .f32 := fun i =>
  argP m c (ix2 (rowAt (i 0) ⟨2045 + (i 1).val, Nat.add_lt_add_left (i 1).isLt 2045⟩) ⟨1536 + (i 2).val, lt_trans (Nat.add_lt_add_left (i 2).isLt 1536) (by decide)⟩)

/-- The last tile of a sequence leaves the sequence's block of the short convolution's buffer. -/
theorem conv_point (t : Fin cfg0.N) (b : Fin 8) (ht : t.val = 8 * b.val + 7) (q : Fin 2) (j : Fin 512) :
    (outsAt0 m c t.val t.isLt).2.2.2.1 (ix3 0 q j) = convBuf m c (ix3 b q j) := by
  rw [outsAt0_C m c t (by omega) (by omega)]
  dsimp only
  rw [Terms.conv_last, blk_rows, blk_rows]
  have e : (⟨256 * t.val + (254 + q.val), by have := lt_N t; omega⟩ : Fin 16384) = rowAt b ⟨2046 + q.val, by omega⟩ :=
    Fin.ext (by show 256 * t.val + (254 + q.val) = 2048 * b.val + (2046 + q.val); omega)
  dsimp only
  rw [e]
  rfl

/-- The last tile of a sequence leaves the sequence's block of the recurrence's buffer. -/
theorem delta_point (t : Fin cfg0.N) (b : Fin 8) (ht : t.val = 8 * b.val + 7) (q : Fin 3) (j : Fin 1536) :
    (outsAt0 m c t.val t.isLt).2.2.2.2.1 (ix3 0 q j) = deltaBuf m c (ix3 b q j) := by
  rw [outsAt0_C m c t (by omega) (by omega)]
  dsimp only
  rw [Terms.delta_last, blk_rows]
  have e : (⟨256 * t.val + (253 + q.val), by have := lt_N t; omega⟩ : Fin 16384) = rowAt b ⟨2045 + q.val, by omega⟩ :=
    Fin.ext (by show 256 * t.val + (253 + q.val) = 2048 * b.val + (2045 + q.val); omega)
  dsimp only
  rw [e]
  rfl

/-- The short convolution's buffer after the run. -/
theorem final_conv : (Value.G10 m c : Vec Ideal S8x2x512 .f32) = convBuf m c := by
  funext i
  obtain ⟨b, q, j, rfl⟩ : ∃ (b : Fin 8) (q : Fin 2) (j : Fin 512), i = ix3 b q j := ⟨i 0, i 1, i 2, (ix3_eta i).symm⟩
  have hp : Value.pt10Of (ix3 b q j) = 8 * b.val + 7 := by
    show 8 * (1 * (b.val / 1 - 0) + 1 * (q.val / 2 - 0) + 1 * (j.val / 512 - 0)) + 7 = _
    omega
  have hlt : Value.pt10Of (ix3 b q j) < cfg0.N := lt_of_lt_of_eq (by rw [hp]; omega) Gen.N_0.symm
  unfold Value.G10
  rw [dif_pos hlt, ← Value.outsAt0_sweep m c _ hlt]
  have hl : Value.loc10Of (ix3 b q j) = ix3 (0 : Fin 1) q j := by
    funext a
    apply Fin.ext
    match a with
    | ⟨0, _⟩ => exact Nat.mod_one _
    | ⟨1, _⟩ => exact Nat.mod_eq_of_lt q.isLt
    | ⟨2, _⟩ => exact Nat.mod_eq_of_lt j.isLt
  rw [hl]
  exact conv_point m c ⟨_, hlt⟩ b hp q j

/-- The recurrence's buffer after the run. -/
theorem final_delta : (Value.G11 m c : Vec Ideal S8x3x1536 .f32) = deltaBuf m c := by
  funext i
  obtain ⟨b, q, j, rfl⟩ : ∃ (b : Fin 8) (q : Fin 3) (j : Fin 1536), i = ix3 b q j := ⟨i 0, i 1, i 2, (ix3_eta i).symm⟩
  have hp : Value.pt11Of (ix3 b q j) = 8 * b.val + 7 := by
    show 8 * (1 * (b.val / 1 - 0) + 1 * (q.val / 3 - 0) + 1 * (j.val / 1536 - 0)) + 7 = _
    omega
  have hlt : Value.pt11Of (ix3 b q j) < cfg0.N := lt_of_lt_of_eq (by rw [hp]; omega) Gen.N_0.symm
  unfold Value.G11
  rw [dif_pos hlt, ← Value.outsAt0_sweep m c _ hlt]
  have hl : Value.loc11Of (ix3 b q j) = ix3 (0 : Fin 1) q j := by
    funext a
    apply Fin.ext
    match a with
    | ⟨0, _⟩ => exact Nat.mod_one _
    | ⟨1, _⟩ => exact Nat.mod_eq_of_lt q.isLt
    | ⟨2, _⟩ => exact Nat.mod_eq_of_lt j.isLt
  rw [hl]
  exact delta_point m c ⟨_, hlt⟩ b hp q j

/-- The run, read: both buffer arrays, the arguments unchanged. -/
theorem run : θ_run defs (onTc (τ := τ) (main (F := Ideal))) ⟨m, fun _ => 0, ρ⟩ fun r => ∀ c : Dev nD,
      r.2.mem ((c : Thread nD τ).loc main_v0_3) = convBuf m c
      ∧ r.2.mem ((c : Thread nD τ).loc main_v0_4) = deltaBuf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ hr c => by
    obtain ⟨_, _, _, h10, h11, h⟩ := hr c
    exact ⟨h10.trans (final_conv m c), h11.trans (final_delta m c), h⟩) (Value.run m ρ)

end Cert.PreIdeal.Fold

end
-- ==== Proof.PreRefValue.lean ====
/- What the reference of the prompt's buffers computes, element by element. -/
module

public import proofs.«01_k».proof.Proof.Layer
public import proofs.«01_k».proof.Proof.Gen.PreRefIdeal.Read

@[expose] public section

set_option maxRecDepth 16384

noncomputable section

namespace Cert.PreRefIdeal.RefValue

open Cert.PreRefIdeal Cert.PreRefIdeal.Gen Cert.PreRefIdeal.Read Idealize.ShloMosaic

variable (pm : Vec Ideal S16384x3584 .f32) (cb : Vec Ideal S8x2x512 .f32) (db : Vec Ideal S8x3x1536 .f32)

/-- The row that token `s` of sequence `b` is. -/
abbrev rowAt (b : Fin 8) (s : Fin 2048) : Fin 16384 := ⟨2048 * b.val + s.val, by omega⟩

theorem pm_at (b : Fin 8) (s : Fin 2048) (k : Fin 3584) :
    val_main_v0 (F := Ideal) pm (ix3 b s k) = pm (ix2 (rowAt b s) k) := by
  rw [val_main_v0_apply]
  congr 1
  funext a
  apply Fin.ext
  match a with
  | ⟨0, _⟩ => show ((b.val * 2048 + s.val) * 3584 + k.val) / 3584 = 2048 * b.val + s.val; omega
  | ⟨1, _⟩ => show ((b.val * 2048 + s.val) * 3584 + k.val) % 3584 = k.val; omega

/-- The new buffer of the short convolution: the gated products of the last two tokens. -/
theorem conv_apply (b : Fin 8) (q : Fin 2) (j : Fin 512) :
    val_main_v7 (F := Ideal) pm cb (ix3 b q j)
      = pm (ix2 (rowAt b ⟨2046 + q.val, by omega⟩) ⟨512 + j.val, by omega⟩) * pm (ix2 (rowAt b ⟨2046 + q.val, by omega⟩) ⟨1024 + j.val, by omega⟩) := by
  rw [← pm_at pm, ← pm_at pm]
  pointwise [val_main_v7, val_main_v4, val_main_v3, val_main_v1, val_main_v2]
  rw [dif_neg (by omega), show (⟨2048 + q.val - 2, by omega⟩ : Fin 2048) = ⟨2046 + q.val, by omega⟩ from Fin.ext (by show 2048 + q.val - 2 = 2046 + q.val; omega)]

/-- The new buffer of the recurrence's convolution: its columns at the last three tokens. -/
theorem delta_apply (b : Fin 8) (q : Fin 3) (j : Fin 1536) :
    val_main_v8 (F := Ideal) pm db (ix3 b q j) = pm (ix2 (rowAt b ⟨2045 + q.val, by omega⟩) ⟨1536 + j.val, by omega⟩) := by
  rw [← pm_at pm]
  pointwise [val_main_v8, val_main_v6, val_main_v5]
  rw [dif_neg (by omega), show (⟨2048 + q.val - 3, by omega⟩ : Fin 2048) = ⟨2045 + q.val, by omega⟩ from Fin.ext (by show 2048 + q.val - 3 = 2045 + q.val; omega)]

end Cert.PreRefIdeal.RefValue

end
-- ==== Proof.PreClaim.lean ====
/- The claims about the prompt's buffers: the frames, and the equation with their reference over the reals. -/
module

public import proofs.«01_k».proof.Defs
public import proofs.«01_k».proof.Proof.PreFold
public import proofs.«01_k».proof.Proof.PreRefValue
public import proofs.«01_k».proof.Proof.Gen.Pre.Frame
public import proofs.«01_k».proof.Proof.Gen.PreRefIdeal.Run
public import Idealize.ShloMosaic.Lib.Quiescent

@[expose] public section

set_option maxRecDepth 16384

noncomputable section

namespace Cert.PreClaim

open Idealize.ShloMosaic Idealize.ShloMosaic.TcCoe Idealize.SL.Sem

theorem frame_kernel : Cert.quiescent_Pre := fun m ρ _ => Cert.Pre.Gen.frame m ρ

theorem frame_ideal : Cert.quiescent_PreIdeal := fun m ρ _ => Cert.PreIdeal.Gen.frame m ρ

theorem frame_reference : Cert.quiescent_PreRefIdeal := fun m ρ _ =>
  (θ_run Cert.PreRefIdeal.defs _ _).mono
    (fun r h => ⟨fun c => (h c).2.2, Idealize.ShloMosaic.sem_eq_zero_of_no_sems (by decide) r.2⟩)
    (Cert.PreRefIdeal.Value.run (F := Ideal) m ρ)

variable (m : (ℓ : Loc Cert.PreIdeal.nD Cert.PreIdeal.τ Cert.PreIdeal.sig) → Buf (Elt Ideal) ℓ) (c : Dev Cert.PreIdeal.nD)

/-- The reference's buffer of the short convolution is the kernel's. -/
theorem conv_agree (b : Vec Ideal Cert.PreRefIdeal.S8x2x512 .f32) :
    Cert.PreRefIdeal.Read.val_main_v7 (F := Ideal) (Cert.PreIdeal.Fold.argP m c) b = Cert.PreIdeal.Fold.convBuf m c := by
  funext i
  obtain ⟨r, q, j, rfl⟩ : ∃ (r : Fin 8) (q : Fin 2) (j : Fin 512), i = ix3 r q j := ⟨i 0, i 1, i 2, (ix3_eta i).symm⟩
  exact Cert.PreRefIdeal.RefValue.conv_apply _ _ r q j

/-- The reference's buffer of the recurrence's convolution is the kernel's. -/
theorem delta_agree (b : Vec Ideal Cert.PreRefIdeal.S8x3x1536 .f32) :
    Cert.PreRefIdeal.Read.val_main_v8 (F := Ideal) (Cert.PreIdeal.Fold.argP m c) b = Cert.PreIdeal.Fold.deltaBuf m c := by
  funext i
  obtain ⟨r, q, j, rfl⟩ : ∃ (r : Fin 8) (q : Fin 3) (j : Fin 1536), i = ix3 r q j := ⟨i 0, i 1, i 2, (ix3_eta i).symm⟩
  exact Cert.PreRefIdeal.RefValue.delta_apply _ _ r q j

theorem algebraic : Cert.algebraic_PreIdeal_PreRefIdeal := by
  intro m ρ m' ρ' _ hag
  refine ⟨fun c => Cert.PreIdeal.Fold.convBuf m c, fun c => Cert.PreIdeal.Fold.deltaBuf m c, Cert.PreIdeal.Fold.run m ρ, ?_⟩
  refine (θ_run Cert.PreRefIdeal.defs _ _).mono (fun _ h c => ⟨(h c).1.trans ?_, (h c).2.1.trans ?_, (h c).2.2⟩)
    (Cert.PreRefIdeal.Value.run (F := Ideal) m' ρ')
  · obtain ⟨h0, _⟩ := hag c
    rw [Cert.PreRefIdeal.Read.val_main_v7_eq, h0]
    exact conv_agree m c _
  · obtain ⟨h0, _⟩ := hag c
    rw [Cert.PreRefIdeal.Read.val_main_v8_eq, h0]
    exact delta_agree m c _

end Cert.PreClaim

end
-- ==== Proof.PreSBlock.lean ====
/- The two buffers that one grid point of the sample group's convolution kernel writes, element by element, from its
   block of the projections. -/
module

public import proofs.«01_k».proof.Proof.Layer
public import proofs.«01_k».proof.Proof.Gen.PreSIdeal.Frame
public import Idealize.ShloMosaic.Lib.Pipeline.Value

@[expose] public section

set_option maxRecDepth 16384

noncomputable section

namespace Cert.PreSIdeal.Block

open Cert.PreSIdeal Cert.PreSIdeal.Gen Idealize.ShloMosaic

variable (x0 : Vec Ideal S4x32x3584 .f32) (x1 : Vec Ideal S4x32x128 .f32) (x2 : Vec Ideal S3x512 .f32) (x3 : Vec Ideal S4x1536 .f32)
  (x4 : Vec Ideal S2x128 .f32) (x5 : Vec Ideal S2x32x512 .f32) (x6 : Vec Ideal S3x32x1536 .f32)

/-- The gated product that the short convolution reads at step `s`, row `r`. -/
def product (s : Fin 4) (r : Fin 32) (j : Fin 512) : EReal :=
  x0 (ix3 s r ⟨512 + j.val, by omega⟩) * x0 (ix3 s r ⟨1024 + j.val, by omega⟩)

/-- An index of one step's store, placed in the buffer. -/
theorem place (K W : ℕ) (d : Fin K) (inb) (a : Fin 1) (s : Fin 32) (k : Fin W) :
    (Rect.unit (s := ⟨3, ![K, 32, W]⟩) ![d.val, 0, 0] ![1, 32, W] inb).emb (ix3 a s k) = ix3 d s k := by
  funext b
  apply Fin.ext
  match b with
  | ⟨0, _⟩ => show d.val + 1 * a.val = d.val; omega
  | ⟨1, _⟩ => show 0 + 1 * s.val = s.val; omega
  | ⟨2, _⟩ => show 0 + 1 * k.val = k.val; omega

/-- The short convolution's buffer: the products of the last two steps. -/
theorem conv_apply (q : Fin 2) (r : Fin 32) (j : Fin 512) :
    out0_10 (F := Ideal) x0 x1 x2 x3 x4 x5 x6 (ix3 q r j) = product x0 ⟨2 + q.val, by omega⟩ r j := by
  unfold out0_10
  refine (View.canon_apply_of_pieces (fun i : S2x32x512.Idx => product x0 ⟨2 + (i 0).val, Nat.add_lt_add_left (i 0).isLt 2⟩ (i 1) (i 2)) _ ?_ _
    (cover0_10 _ _ _)).trans rfl
  intro p hp
  simp only [List.mem_cons, List.not_mem_nil, or_false] at hp
  rcases hp with rfl | rfl <;> intro x <;>
    obtain ⟨a, s, k, rfl⟩ : ∃ (a : Fin 1) (s : Fin 32) (k : Fin 512), x = ix3 a s k := ⟨x 0, x 1, x 2, (ix3_eta x).symm⟩
  · have e := place 2 512 1 inb_S2x32x512_S1x32x512_1_0_0 a s k
    rw [show r0_9.emb (ix3 a s k) = ix3 1 s k from e]
    pointwise [k0_pay15, k0_pay119, k0_pay6]
    rfl
  · have e := place 2 512 0 inb_S2x32x512_S1x32x512_0_0_0 a s k
    rw [show r0_8.emb (ix3 a s k) = ix3 0 s k from e]
    pointwise [k0_pay14, k0_pay118, k0_pay5]
    rfl

/-- The recurrence's buffer: the last three steps of the columns that its convolution reads. -/
theorem delta_apply (q : Fin 3) (r : Fin 32) (j : Fin 1536) :
    out0_11 (F := Ideal) x0 x1 x2 x3 x4 x5 x6 (ix3 q r j) = x0 (ix3 ⟨1 + q.val, by omega⟩ r ⟨1536 + j.val, by omega⟩) := by
  unfold out0_11
  refine (View.canon_apply_of_pieces (fun i : S3x32x1536.Idx => x0 (ix3 (⟨1 + (i 0).val, Nat.add_lt_add_left (i 0).isLt 1⟩ : Fin 4) (i 1 : Fin 32)
    (⟨1536 + (i 2).val, lt_trans (Nat.add_lt_add_left (i 2).isLt 1536) (by decide)⟩ : Fin 3584))) _ ?_ _ (cover0_11 _ _ _ _)).trans rfl
  intro p hp
  simp only [List.mem_cons, List.not_mem_nil, or_false] at hp
  rcases hp with rfl | rfl | rfl <;> intro x <;>
    obtain ⟨a, s, k, rfl⟩ : ∃ (a : Fin 1) (s : Fin 32) (k : Fin 1536), x = ix3 a s k := ⟨x 0, x 1, x 2, (ix3_eta x).symm⟩
  · have e := place 3 1536 2 inb_S3x32x1536_S1x32x1536_2_0_0 a s k
    rw [show r0_27.emb (ix3 a s k) = ix3 2 s k from e]
    pointwise [k0_pay2, k0_pay124, k0_pay19]
  · have e := place 3 1536 1 inb_S3x32x1536_S1x32x1536_1_0_0 a s k
    rw [show r0_26.emb (ix3 a s k) = ix3 1 s k from e]
    pointwise [k0_pay1, k0_pay123, k0_pay18]
  · have e := place 3 1536 0 inb_S3x32x1536_S1x32x1536_0_0_0 a s k
    rw [show r0_25.emb (ix3 a s k) = ix3 0 s k from e]
    pointwise [k0_pay115, k0_pay122, k0_pay17]

end Cert.PreSIdeal.Block

end
-- ==== Proof.PreSFold.lean ====
/- The sample group's buffers over the grid: point `t` holds the 32 sequences from `32 * t` on, and after the run the two
   buffer arrays hold the last steps of every sequence. -/
module

public import proofs.«01_k».proof.Proof.PreSBlock
public import Idealize.ShloMosaic.Lib.StableHlo.ReadAt
public import proofs.«01_k».proof.Proof.Gen.PreSIdeal.Value

@[expose] public section

set_option maxRecDepth 16384

noncomputable section

namespace Cert.PreSIdeal.Fold

open Cert.PreSIdeal Cert.PreSIdeal.Gen Idealize.ShloMosaic Idealize.ShloMosaic.TcCoe
open Idealize.SL.Sem

variable (m : (ℓ : Loc nD τ sig) → Buf (Elt Ideal) ℓ) (ρ : Dev nD → PrngReg) (c : Dev nD)

/-- The projections, one row for a step of a sequence, the steps outermost. -/
abbrev argP : Vec Ideal S512x3584 .f32 := m ((c : Thread nD τ).loc main_arg0)

/-- The row that step `s` of sequence `b` is. -/
abbrev rowAt (s : Fin 4) (b : Fin 128) : Fin 512 := ⟨128 * s.val + b.val, by omega⟩

/-- The projections by step and sequence. -/
theorem V_steps (s : Fin 4) (b : Fin 128) (k : Fin 3584) :
    (V m c main_v0 : Vec Ideal S4x128x3584 .f32) (ix3 s b k) = argP m c (ix2 (rowAt s b) k) := by
  unfold V
  after_reads_at
  congr 1
  funext a
  apply Fin.ext
  match a with
  | ⟨0, _⟩ => show s.val * 128 + b.val = 128 * s.val + b.val; omega
  | ⟨1, _⟩ => rfl

theorem lt_N (t : Fin cfg0.N) : t.val < 4 := lt_of_lt_of_eq t.isLt Gen.N_0

/-- The sequence that row `r` of point `n` is. -/
abbrev seqOf (n : ℕ) (hn : n < 4) (r : Fin 32) : Fin 128 := ⟨32 * n + r.val, by omega⟩

theorem idx0 : ∀ t : Fin grid0.N, win0_0.index t (0 : Fin 3) = 0 ∧ win0_0.index t (1 : Fin 3) = t.val ∧ win0_0.index t (2 : Fin 3) = 0 := by decide +kernel
theorem idx10 : ∀ t : Fin grid0.N, win0_10.index t (0 : Fin 3) = 0 ∧ win0_10.index t (1 : Fin 3) = t.val ∧ win0_10.index t (2 : Fin 3) = 0 := by decide +kernel
theorem idx11 : ∀ t : Fin grid0.N, win0_11.index t (0 : Fin 3) = 0 ∧ win0_11.index t (1 : Fin 3) = t.val ∧ win0_11.index t (2 : Fin 3) = 0 := by decide +kernel

/-- A point's block of the projections. -/
theorem blk_steps (t : Fin cfg0.N) (s : Fin 4) (r : Fin 32) (k : Fin 3584) :
    (iblk m c 0 t : Vec Ideal S4x32x3584 .f32) (ix3 s r k) = argP m c (ix2 (rowAt s (seqOf t.val (lt_N t) r)) k) := by
  have hi := idx0 t
  refine Eq.trans ?_ (V_steps m c s (seqOf t.val (lt_N t) r) k)
  unfold iblk
  rw [View.read_apply]
  show V m c main_v0 _ = V m c main_v0 _
  congr 1
  funext a
  apply Fin.ext
  match a with
  | ⟨0, _⟩ => show win0_0.index t 0 * 4 + 1 * s.val = s.val; rw [hi.1]; omega
  | ⟨1, _⟩ => show win0_0.index t 1 * 32 + 1 * r.val = 32 * t.val + r.val; rw [hi.2.1]; omega
  | ⟨2, _⟩ => show win0_0.index t 2 * 3584 + 1 * k.val = k.val; rw [hi.2.2]; omega

/-- The short convolution's buffer of all sequences. -/
def convBuf : Vec Ideal S2x128x512 .f32 := fun i =>
  argP m c (ix2 (rowAt ⟨2 + (i 0).val, Nat.add_lt_add_left (i 0).isLt 2⟩ (i 1)) ⟨512 + (i 2).val, lt_trans (Nat.add_lt_add_left (i 2).isLt 512) (by decide)⟩)
    * argP m c (ix2 (rowAt ⟨2 + (i 0).val, Nat.add_lt_add_left (i 0).isLt 2⟩ (i 1)) ⟨1024 + (i 2).val, lt_trans (Nat.add_lt_add_left (i 2).isLt 1024) (by decide)⟩)

/-- The recurrence's buffer of all sequences. -/
def deltaBuf : Vec Ideal S3x128x1536 .f32 := fun i =>
  argP m c (ix2 (rowAt ⟨1 + (i 0).val, Nat.add_lt_add_left (i 0).isLt 1⟩ (i 1)) ⟨1536 + (i 2).val, lt_trans (Nat.add_lt_add_left (i 2).isLt 1536) (by decide)⟩)

/-- What a point writes back to the short convolution's buffer is its block of `convBuf`. -/
theorem flushed_conv (t : Fin cfg0.N) : (dats m 0 c).flushed 10 t = ((cfg0.win 10).blk t).view.read (Elt Ideal) (convBuf m c) := by
  rw [Value.flushed10]
  funext y
  have hi := idx10 t
  have e : ((cfg0.win 10).blk t).view.emb y = (ix3 (y 0) (seqOf t.val (lt_N t) (y 1)) (y 2) : S2x128x512.Idx) := by
    funext a
    apply Fin.ext
    match a with
    | ⟨0, _⟩ => show win0_10.index t 0 * 2 + 1 * (y 0).val = (y 0).val; rw [hi.1]; omega
    | ⟨1, _⟩ => show win0_10.index t 1 * 32 + 1 * (y 1).val = 32 * t.val + (y 1).val; rw [hi.2.1]; omega
    | ⟨2, _⟩ => show win0_10.index t 2 * 512 + 1 * (y 2).val = (y 2).val; rw [hi.2.2]; omega
  have ey : (cfg0.win 10).xinj (grid0.coords t) y = (ix3 (y 0) (y 1) (y 2) : S2x32x512.Idx) := by
    funext a
    match a with
    | ⟨0, _⟩ => rfl
    | ⟨1, _⟩ => rfl
    | ⟨2, _⟩ => rfl
  show out0_10 (F := Ideal) _ _ _ _ _ _ _ ((cfg0.win 10).xinj (grid0.coords t) y) = convBuf m c (((cfg0.win 10).blk t).view.emb y)
  rw [e, ey]
  refine (Block.conv_apply _ _ _ _ _ _ _ (y 0) (y 1) (y 2)).trans ?_
  exact congrArg₂ (· * ·) (blk_steps m c t _ (y 1) _) (blk_steps m c t _ (y 1) _)

/-- What a point writes back to the recurrence's buffer is its block of `deltaBuf`. -/
theorem flushed_delta (t : Fin cfg0.N) : (dats m 0 c).flushed 11 t = ((cfg0.win 11).blk t).view.read (Elt Ideal) (deltaBuf m c) := by
  rw [Value.flushed11]
  funext y
  have hi := idx11 t
  have e : ((cfg0.win 11).blk t).view.emb y = (ix3 (y 0) (seqOf t.val (lt_N t) (y 1)) (y 2) : S3x128x1536.Idx) := by
    funext a
    apply Fin.ext
    match a with
    | ⟨0, _⟩ => show win0_11.index t 0 * 3 + 1 * (y 0).val = (y 0).val; rw [hi.1]; omega
    | ⟨1, _⟩ => show win0_11.index t 1 * 32 + 1 * (y 1).val = 32 * t.val + (y 1).val; rw [hi.2.1]; omega
    | ⟨2, _⟩ => show win0_11.index t 2 * 1536 + 1 * (y 2).val = (y 2).val; rw [hi.2.2]; omega
  have ey : (cfg0.win 11).xinj (grid0.coords t) y = (ix3 (y 0) (y 1) (y 2) : S3x32x1536.Idx) := by
    funext a
    match a with
    | ⟨0, _⟩ => rfl
    | ⟨1, _⟩ => rfl
    | ⟨2, _⟩ => rfl
  show out0_11 (F := Ideal) _ _ _ _ _ _ _ ((cfg0.win 11).xinj (grid0.coords t) y) = deltaBuf m c (((cfg0.win 11).blk t).view.emb y)
  rw [e, ey]
  refine (Block.delta_apply _ _ _ _ _ _ _ (y 0) (y 1) (y 2)).trans ?_
  exact blk_steps m c t _ (y 1) _

/-- The grid point that holds sequence `b`. -/
abbrev pointOf (b : ℕ) (hb : b < 128) : Fin cfg0.N := ⟨b / 32, lt_of_lt_of_eq (by omega) Gen.N_0.symm⟩

/-- The short convolution's buffer after the run. -/
theorem final_conv : (dats m 0 c).arrAt 10 cfg0.N = convBuf m c :=
  (dats m 0 c).arrAt_eq_of_cover 10 (convBuf m c) (fun t _ => flushed_conv m c t) fun i => by
    have h0 : (i 0).val < 2 := (i 0).isLt
    have h1 : (i 1).val < 128 := (i 1).isLt
    have h2 : (i 2).val < 512 := (i 2).isLt
    refine ⟨pointOf (i 1).val h1, flush0_10 _, ?_⟩
    have hi := idx10 (pointOf (i 1).val h1)
    show i ∈ ((View.whole main_v2_3).slice (win0_10.rect (pointOf (i 1).val h1))).set
    rw [View.set_slice_whole, Rect.mem_set_unit]
    intro a
    match a with
    | ⟨0, _⟩ =>
      show win0_10.index (pointOf (i 1).val h1) (0 : Fin 3) * 2 ≤ (i 0).val ∧ (i 0).val < win0_10.index (pointOf (i 1).val h1) (0 : Fin 3) * 2 + 2
      rw [hi.1]; omega
    | ⟨1, _⟩ =>
      show win0_10.index (pointOf (i 1).val h1) (1 : Fin 3) * 32 ≤ (i 1).val ∧ (i 1).val < win0_10.index (pointOf (i 1).val h1) (1 : Fin 3) * 32 + 32
      rw [hi.2.1]; dsimp only; omega
    | ⟨2, _⟩ =>
      show win0_10.index (pointOf (i 1).val h1) (2 : Fin 3) * 512 ≤ (i 2).val ∧ (i 2).val < win0_10.index (pointOf (i 1).val h1) (2 : Fin 3) * 512 + 512
      rw [hi.2.2]; omega

/-- The recurrence's buffer after the run. -/
theorem final_delta : (dats m 0 c).arrAt 11 cfg0.N = deltaBuf m c :=
  (dats m 0 c).arrAt_eq_of_cover 11 (deltaBuf m c) (fun t _ => flushed_delta m c t) fun i => by
    have h0 : (i 0).val < 3 := (i 0).isLt
    have h1 : (i 1).val < 128 := (i 1).isLt
    have h2 : (i 2).val < 1536 := (i 2).isLt
    refine ⟨pointOf (i 1).val h1, flush0_11 _, ?_⟩
    have hi := idx11 (pointOf (i 1).val h1)
    show i ∈ ((View.whole main_v2_4).slice (win0_11.rect (pointOf (i 1).val h1))).set
    rw [View.set_slice_whole, Rect.mem_set_unit]
    intro a
    match a with
    | ⟨0, _⟩ =>
      show win0_11.index (pointOf (i 1).val h1) (0 : Fin 3) * 3 ≤ (i 0).val ∧ (i 0).val < win0_11.index (pointOf (i 1).val h1) (0 : Fin 3) * 3 + 3
      rw [hi.1]; omega
    | ⟨1, _⟩ =>
      show win0_11.index (pointOf (i 1).val h1) (1 : Fin 3) * 32 ≤ (i 1).val ∧ (i 1).val < win0_11.index (pointOf (i 1).val h1) (1 : Fin 3) * 32 + 32
      rw [hi.2.1]; dsimp only; omega
    | ⟨2, _⟩ =>
      show win0_11.index (pointOf (i 1).val h1) (2 : Fin 3) * 1536 ≤ (i 2).val ∧ (i 2).val < win0_11.index (pointOf (i 1).val h1) (2 : Fin 3) * 1536 + 1536
      rw [hi.2.2]; omega

/-- The run, read: both buffer arrays, the arguments unchanged. -/
theorem run : θ_run defs (onTc (τ := τ) (main (F := Ideal))) ⟨m, fun _ => 0, ρ⟩ fun r => ∀ c : Dev nD,
      r.2.mem ((c : Thread nD τ).loc main_v2_3) = convBuf m c
      ∧ r.2.mem ((c : Thread nD τ).loc main_v2_4) = deltaBuf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ hr c => by
    obtain ⟨_, _, _, h10, h11, h⟩ := hr c
    exact ⟨h10.trans (final_conv m c), h11.trans (final_delta m c), h⟩) (Value.run_blocks m ρ)

end Cert.PreSIdeal.Fold

end
-- ==== Proof.PreSRefValue.lean ====
/- What the reference of the sample group's buffers computes, element by element. -/
module

public import proofs.«01_k».proof.Proof.Layer
public import proofs.«01_k».proof.Proof.Gen.PreSRefIdeal.Read

@[expose] public section

set_option maxRecDepth 16384

noncomputable section

namespace Cert.PreSRefIdeal.RefValue

open Cert.PreSRefIdeal Cert.PreSRefIdeal.Gen Cert.PreSRefIdeal.Read Idealize.ShloMosaic

variable (pm : Vec Ideal S512x3584 .f32) (cb : Vec Ideal S2x128x512 .f32) (db : Vec Ideal S3x128x1536 .f32)

/-- The row that step `s` of sequence `b` is. -/
abbrev rowAt (s : Fin 4) (b : Fin 128) : Fin 512 := ⟨128 * s.val + b.val, by omega⟩

theorem pm_at (b : Fin 128) (s : Fin 4) (k : Fin 3584) :
    val_main_v1 (F := Ideal) pm (ix3 b s k) = pm (ix2 (rowAt s b) k) := by
  rw [val_main_v1_apply, val_main_v0_apply]
  congr 1
  funext a
  apply Fin.ext
  match a with
  | ⟨0, _⟩ => show ((s.val * 128 + b.val) * 3584 + k.val) / 3584 = 128 * s.val + b.val; omega
  | ⟨1, _⟩ => show ((s.val * 128 + b.val) * 3584 + k.val) % 3584 = k.val; omega

/-- The new buffer of the short convolution: the gated products of the last two steps. -/
theorem conv_apply (q : Fin 2) (b : Fin 128) (j : Fin 512) :
    val_main_v12 (F := Ideal) pm cb (ix3 q b j)
      = pm (ix2 (rowAt ⟨2 + q.val, by omega⟩ b) ⟨512 + j.val, by omega⟩) * pm (ix2 (rowAt ⟨2 + q.val, by omega⟩ b) ⟨1024 + j.val, by omega⟩) := by
  rw [← pm_at pm, ← pm_at pm]
  pointwise [val_main_v12, val_main_v10, val_main_v7, val_main_v6, val_main_v4, val_main_v5]
  rw [dif_neg (by omega), show (⟨4 + q.val - 2, by omega⟩ : Fin 4) = ⟨2 + q.val, by omega⟩ from Fin.ext (by show 4 + q.val - 2 = 2 + q.val; omega)]

/-- The new buffer of the recurrence's convolution: its columns at the last three steps. -/
theorem delta_apply (q : Fin 3) (b : Fin 128) (j : Fin 1536) :
    val_main_v13 (F := Ideal) pm db (ix3 q b j) = pm (ix2 (rowAt ⟨1 + q.val, by omega⟩ b) ⟨1536 + j.val, by omega⟩) := by
  rw [← pm_at pm]
  pointwise [val_main_v13, val_main_v11, val_main_v9, val_main_v8]
  rw [dif_neg (by omega), show (⟨4 + q.val - 3, by omega⟩ : Fin 4) = ⟨1 + q.val, by omega⟩ from Fin.ext (by show 4 + q.val - 3 = 1 + q.val; omega)]

end Cert.PreSRefIdeal.RefValue

end
-- ==== Proof.PreSClaim.lean ====
/- The claims about the sample group's buffers: the frames, and the equation with their reference over the reals. -/
module

public import proofs.«01_k».proof.Defs
public import proofs.«01_k».proof.Proof.PreSFold
public import proofs.«01_k».proof.Proof.PreSRefValue
public import proofs.«01_k».proof.Proof.Gen.PreS.Frame
public import proofs.«01_k».proof.Proof.Gen.PreSRefIdeal.Run
public import Idealize.ShloMosaic.Lib.Quiescent

@[expose] public section

set_option maxRecDepth 16384

noncomputable section

namespace Cert.PreSClaim

open Idealize.ShloMosaic Idealize.ShloMosaic.TcCoe Idealize.SL.Sem

theorem frame_kernel : Cert.quiescent_PreS := fun m ρ _ => Cert.PreS.Gen.frame m ρ

theorem frame_ideal : Cert.quiescent_PreSIdeal := fun m ρ _ => Cert.PreSIdeal.Gen.frame m ρ

theorem frame_reference : Cert.quiescent_PreSRefIdeal := fun m ρ _ =>
  (θ_run Cert.PreSRefIdeal.defs _ _).mono
    (fun r h => ⟨fun c => (h c).2.2, Idealize.ShloMosaic.sem_eq_zero_of_no_sems (by decide) r.2⟩)
    (Cert.PreSRefIdeal.Value.run (F := Ideal) m ρ)

variable (m : (ℓ : Loc Cert.PreSIdeal.nD Cert.PreSIdeal.τ Cert.PreSIdeal.sig) → Buf (Elt Ideal) ℓ) (c : Dev Cert.PreSIdeal.nD)

/-- The reference's buffer of the short convolution is the kernel's. -/
theorem conv_agree (b : Vec Ideal Cert.PreSRefIdeal.S2x128x512 .f32) :
    Cert.PreSRefIdeal.Read.val_main_v12 (F := Ideal) (Cert.PreSIdeal.Fold.argP m c) b = Cert.PreSIdeal.Fold.convBuf m c := by
  funext i
  obtain ⟨q, r, j, rfl⟩ : ∃ (q : Fin 2) (r : Fin 128) (j : Fin 512), i = ix3 q r j := ⟨i 0, i 1, i 2, (ix3_eta i).symm⟩
  exact Cert.PreSRefIdeal.RefValue.conv_apply _ _ q r j

/-- The reference's buffer of the recurrence's convolution is the kernel's. -/
theorem delta_agree (b : Vec Ideal Cert.PreSRefIdeal.S3x128x1536 .f32) :
    Cert.PreSRefIdeal.Read.val_main_v13 (F := Ideal) (Cert.PreSIdeal.Fold.argP m c) b = Cert.PreSIdeal.Fold.deltaBuf m c := by
  funext i
  obtain ⟨q, r, j, rfl⟩ : ∃ (q : Fin 3) (r : Fin 128) (j : Fin 1536), i = ix3 q r j := ⟨i 0, i 1, i 2, (ix3_eta i).symm⟩
  exact Cert.PreSRefIdeal.RefValue.delta_apply _ _ q r j

theorem algebraic : Cert.algebraic_PreSIdeal_PreSRefIdeal := by
  intro m ρ m' ρ' _ hag
  refine ⟨fun c => Cert.PreSIdeal.Fold.convBuf m c, fun c => Cert.PreSIdeal.Fold.deltaBuf m c, Cert.PreSIdeal.Fold.run m ρ, ?_⟩
  refine (θ_run Cert.PreSRefIdeal.defs _ _).mono (fun _ h c => ⟨(h c).1.trans ?_, (h c).2.1.trans ?_, (h c).2.2⟩)
    (Cert.PreSRefIdeal.Value.run (F := Ideal) m' ρ')
  · obtain ⟨h0, _⟩ := hag c
    rw [Cert.PreSRefIdeal.Read.val_main_v12_eq, h0]
    exact conv_agree m c _
  · obtain ⟨h0, _⟩ := hag c
    rw [Cert.PreSRefIdeal.Read.val_main_v13_eq, h0]
    exact delta_agree m c _

end Cert.PreSClaim

end
-- ==== Proof.lean ====
module

public import proofs.«01_k».proof.Defs
public import proofs.«01_k».proof.Proof.Gen.Moe
public import proofs.«01_k».proof.Proof.Gen.MoeIdeal
public import proofs.«01_k».proof.Proof.Gen.MoeRefIdeal
public import proofs.«01_k».proof.Proof.Gen.Dense
public import proofs.«01_k».proof.Proof.Gen.DenseIdeal
public import proofs.«01_k».proof.Proof.Gen.DenseRefIdeal
public import proofs.«01_k».proof.Proof.Gen.OutProj
public import proofs.«01_k».proof.Proof.Gen.OutProjIdeal
public import proofs.«01_k».proof.Proof.Gen.OutProjRefIdeal
public import proofs.«01_k».proof.Proof.Gen.InProj
public import proofs.«01_k».proof.Proof.Gen.InProjIdeal
public import proofs.«01_k».proof.Proof.Gen.InProjRefIdeal
public import proofs.«01_k».proof.Proof.Gen.Delta
public import proofs.«01_k».proof.Proof.Gen.DeltaIdeal
public import proofs.«01_k».proof.Proof.Gen.DeltaRefIdeal
public import proofs.«01_k».proof.Proof.Gen.MoeS
public import proofs.«01_k».proof.Proof.Gen.MoeSIdeal
public import proofs.«01_k».proof.Proof.Gen.MoeSRefIdeal
public import proofs.«01_k».proof.Proof.Gen.Pre
public import proofs.«01_k».proof.Proof.Gen.PreIdeal
public import proofs.«01_k».proof.Proof.Gen.PreRefIdeal
public import proofs.«01_k».proof.Proof.Gen.PreS
public import proofs.«01_k».proof.Proof.Gen.PreSIdeal
public import proofs.«01_k».proof.Proof.Gen.PreSRefIdeal
public import proofs.«01_k».proof.Proof.Gen.Pre_finite_in
public import proofs.«01_k».proof.Proof.Gen.Pre_finite_delta
public import proofs.«01_k».proof.Proof.MoeClaim
public import proofs.«01_k».proof.Proof.DenseClaim
public import proofs.«01_k».proof.Proof.OutProjClaim
public import proofs.«01_k».proof.Proof.InProjClaim
public import proofs.«01_k».proof.Proof.DeltaClaim
public import proofs.«01_k».proof.Proof.MoeSClaim
public import proofs.«01_k».proof.Proof.PreClaim
public import proofs.«01_k».proof.Proof.PreSClaim

@[expose] public section

namespace Cert.Proof

theorem claim : Cert.Claim :=
  ⟨Cert.Moe.Gen.facts, Cert.MoeIdeal.Gen.facts, Cert.MoeRefIdeal.Gen.facts,
   Cert.Dense.Gen.facts, Cert.DenseIdeal.Gen.facts, Cert.DenseRefIdeal.Gen.facts,
   Cert.OutProj.Gen.facts, Cert.OutProjIdeal.Gen.facts, Cert.OutProjRefIdeal.Gen.facts,
   Cert.InProj.Gen.facts, Cert.InProjIdeal.Gen.facts, Cert.InProjRefIdeal.Gen.facts,
   Cert.Delta.Gen.facts, Cert.DeltaIdeal.Gen.facts, Cert.DeltaRefIdeal.Gen.facts,
   Cert.MoeS.Gen.facts, Cert.MoeSIdeal.Gen.facts, Cert.MoeSRefIdeal.Gen.facts,
   Cert.Pre.Gen.facts, Cert.PreIdeal.Gen.facts, Cert.PreRefIdeal.Gen.facts,
   Cert.PreS.Gen.facts, Cert.PreSIdeal.Gen.facts, Cert.PreSRefIdeal.Gen.facts,
   Cert.Pre_finite_in.Gen.facts, Cert.Pre_finite_delta.Gen.facts,
   Cert.MoeClaim.frame_kernel, Cert.MoeClaim.frame_ideal, Cert.MoeClaim.frame_reference,
   Cert.DenseClaim.frame_kernel, Cert.DenseClaim.frame_ideal, Cert.DenseClaim.frame_reference,
   Cert.OutProjClaim.frame_kernel, Cert.OutProjClaim.frame_ideal, Cert.OutProjClaim.frame_reference,
   Cert.InProjClaim.frame_kernel, Cert.InProjClaim.frame_ideal, Cert.InProjClaim.frame_ideal_finite,
   Cert.InProjClaim.frame_reference, Cert.InProjClaim.frame_reference_finite,
   Cert.DeltaClaim.frame_kernel, Cert.DeltaClaim.frame_ideal, Cert.DeltaClaim.frame_ideal_finite,
   Cert.DeltaClaim.frame_reference, Cert.DeltaClaim.frame_reference_finite,
   Cert.MoeSClaim.frame_kernel, Cert.MoeSClaim.frame_ideal, Cert.MoeSClaim.frame_reference,
   Cert.PreClaim.frame_kernel, Cert.PreClaim.frame_ideal, Cert.PreClaim.frame_reference,
   Cert.PreSClaim.frame_kernel, Cert.PreSClaim.frame_ideal, Cert.PreSClaim.frame_reference,
   trivial, Cert.MoeClaim.algebraic,
   trivial, Cert.DenseClaim.algebraic,
   trivial, Cert.OutProjClaim.algebraic,
   trivial, Cert.InProjClaim.algebraic,
   trivial, Cert.DeltaClaim.algebraic,
   trivial, Cert.MoeSClaim.algebraic,
   trivial, Cert.PreClaim.algebraic,
   trivial, Cert.PreSClaim.algebraic⟩

end Cert.Proof

end
